-- ==== Defs.lean ====
def Pre_AttnC (m : (ℓ : Loc Cert.AttnC.nD Cert.AttnC.τ Cert.AttnC.sig) → Buf (Elt Bits) ℓ) : Prop :=
  True

def Pre_AttnCIdeal (m : (ℓ : Loc Cert.AttnCIdeal.nD Cert.AttnCIdeal.τ Cert.AttnCIdeal.sig) → Buf (Elt Ideal) ℓ) : Prop :=
  True

def Pre_AttnCIdeal_finite_c [hPre_finite_c : Cert.Pre_finite_c.Facts] (m : (ℓ : Loc Cert.AttnCIdeal.nD Cert.AttnCIdeal.τ Cert.AttnCIdeal.sig) → Buf (Elt Ideal) ℓ) : Prop :=
  ∀ c : Dev Cert.AttnCIdeal.nD,
    (Cert.Pre_finite_c.fn (F := Ideal) (m ((c.tc : Thread Cert.AttnCIdeal.nD Cert.AttnCIdeal.τ).loc Cert.AttnCIdeal.main_arg0)) (m ((c.tc : Thread Cert.AttnCIdeal.nD Cert.AttnCIdeal.τ).loc Cert.AttnCIdeal.main_arg1)) (m ((c.tc : Thread Cert.AttnCIdeal.nD Cert.AttnCIdeal.τ).loc Cert.AttnCIdeal.main_arg2)) (m ((c.tc : Thread Cert.AttnCIdeal.nD Cert.AttnCIdeal.τ).loc Cert.AttnCIdeal.main_arg3)) (m ((c.tc : Thread Cert.AttnCIdeal.nD Cert.AttnCIdeal.τ).loc Cert.AttnCIdeal.main_arg4))).1 = (fun _ => 1#1)
    ∧ (Cert.Pre_finite_c.fn (F := Ideal) (m ((c.tc : Thread Cert.AttnCIdeal.nD Cert.AttnCIdeal.τ).loc Cert.AttnCIdeal.main_arg0)) (m ((c.tc : Thread Cert.AttnCIdeal.nD Cert.AttnCIdeal.τ).loc Cert.AttnCIdeal.main_arg1)) (m ((c.tc : Thread Cert.AttnCIdeal.nD Cert.AttnCIdeal.τ).loc Cert.AttnCIdeal.main_arg2)) (m ((c.tc : Thread Cert.AttnCIdeal.nD Cert.AttnCIdeal.τ).loc Cert.AttnCIdeal.main_arg3)) (m ((c.tc : Thread Cert.AttnCIdeal.nD Cert.AttnCIdeal.τ).loc Cert.AttnCIdeal.main_arg4))).2.1 = (fun _ => 1#1)
    ∧ (Cert.Pre_finite_c.fn (F := Ideal) (m ((c.tc : Thread Cert.AttnCIdeal.nD Cert.AttnCIdeal.τ).loc Cert.AttnCIdeal.main_arg0)) (m ((c.tc : Thread Cert.AttnCIdeal.nD Cert.AttnCIdeal.τ).loc Cert.AttnCIdeal.main_arg1)) (m ((c.tc : Thread Cert.AttnCIdeal.nD Cert.AttnCIdeal.τ).loc Cert.AttnCIdeal.main_arg2)) (m ((c.tc : Thread Cert.AttnCIdeal.nD Cert.AttnCIdeal.τ).loc Cert.AttnCIdeal.main_arg3)) (m ((c.tc : Thread Cert.AttnCIdeal.nD Cert.AttnCIdeal.τ).loc Cert.AttnCIdeal.main_arg4))).2.2 = (fun _ => 1#1)

def Pre_AttnCRefIdeal (m : (ℓ : Loc Cert.AttnCRefIdeal.nD Cert.AttnCRefIdeal.τ Cert.AttnCRefIdeal.sig) → Buf (Elt Ideal) ℓ) : Prop :=
  True

def Pre_AttnCRefIdeal_finite_c [hPre_finite_c : Cert.Pre_finite_c.Facts] (m : (ℓ : Loc Cert.AttnCRefIdeal.nD Cert.AttnCRefIdeal.τ Cert.AttnCRefIdeal.sig) → Buf (Elt Ideal) ℓ) : Prop :=
  ∀ c : Dev Cert.AttnCRefIdeal.nD,
    (Cert.Pre_finite_c.fn (F := Ideal) (m ((c.tc : Thread Cert.AttnCRefIdeal.nD Cert.AttnCRefIdeal.τ).loc Cert.AttnCRefIdeal.main_arg0)) (m ((c.tc : Thread Cert.AttnCRefIdeal.nD Cert.AttnCRefIdeal.τ).loc Cert.AttnCRefIdeal.main_arg1)) (m ((c.tc : Thread Cert.AttnCRefIdeal.nD Cert.AttnCRefIdeal.τ).loc Cert.AttnCRefIdeal.main_arg2)) (m ((c.tc : Thread Cert.AttnCRefIdeal.nD Cert.AttnCRefIdeal.τ).loc Cert.AttnCRefIdeal.main_arg3)) (m ((c.tc : Thread Cert.AttnCRefIdeal.nD Cert.AttnCRefIdeal.τ).loc Cert.AttnCRefIdeal.main_arg4))).1 = (fun _ => 1#1)
    ∧ (Cert.Pre_finite_c.fn (F := Ideal) (m ((c.tc : Thread Cert.AttnCRefIdeal.nD Cert.AttnCRefIdeal.τ).loc Cert.AttnCRefIdeal.main_arg0)) (m ((c.tc : Thread Cert.AttnCRefIdeal.nD Cert.AttnCRefIdeal.τ).loc Cert.AttnCRefIdeal.main_arg1)) (m ((c.tc : Thread Cert.AttnCRefIdeal.nD Cert.AttnCRefIdeal.τ).loc Cert.AttnCRefIdeal.main_arg2)) (m ((c.tc : Thread Cert.AttnCRefIdeal.nD Cert.AttnCRefIdeal.τ).loc Cert.AttnCRefIdeal.main_arg3)) (m ((c.tc : Thread Cert.AttnCRefIdeal.nD Cert.AttnCRefIdeal.τ).loc Cert.AttnCRefIdeal.main_arg4))).2.1 = (fun _ => 1#1)
    ∧ (Cert.Pre_finite_c.fn (F := Ideal) (m ((c.tc : Thread Cert.AttnCRefIdeal.nD Cert.AttnCRefIdeal.τ).loc Cert.AttnCRefIdeal.main_arg0)) (m ((c.tc : Thread Cert.AttnCRefIdeal.nD Cert.AttnCRefIdeal.τ).loc Cert.AttnCRefIdeal.main_arg1)) (m ((c.tc : Thread Cert.AttnCRefIdeal.nD Cert.AttnCRefIdeal.τ).loc Cert.AttnCRefIdeal.main_arg2)) (m ((c.tc : Thread Cert.AttnCRefIdeal.nD Cert.AttnCRefIdeal.τ).loc Cert.AttnCRefIdeal.main_arg3)) (m ((c.tc : Thread Cert.AttnCRefIdeal.nD Cert.AttnCRefIdeal.τ).loc Cert.AttnCRefIdeal.main_arg4))).2.2 = (fun _ => 1#1)

def Pre_AttnD (m : (ℓ : Loc Cert.AttnD.nD Cert.AttnD.τ Cert.AttnD.sig) → Buf (Elt Bits) ℓ) : Prop :=
  True

def Pre_AttnDIdeal (m : (ℓ : Loc Cert.AttnDIdeal.nD Cert.AttnDIdeal.τ Cert.AttnDIdeal.sig) → Buf (Elt Ideal) ℓ) : Prop :=
  True

def Pre_AttnDIdeal_finite_d [hPre_finite_d : Cert.Pre_finite_d.Facts] (m : (ℓ : Loc Cert.AttnDIdeal.nD Cert.AttnDIdeal.τ Cert.AttnDIdeal.sig) → Buf (Elt Ideal) ℓ) : Prop :=
  ∀ c : Dev Cert.AttnDIdeal.nD,
    (Cert.Pre_finite_d.fn (F := Ideal) (m ((c.tc : Thread Cert.AttnDIdeal.nD Cert.AttnDIdeal.τ).loc Cert.AttnDIdeal.main_arg0)) (m ((c.tc : Thread Cert.AttnDIdeal.nD Cert.AttnDIdeal.τ).loc Cert.AttnDIdeal.main_arg1)) (m ((c.tc : Thread Cert.AttnDIdeal.nD Cert.AttnDIdeal.τ).loc Cert.AttnDIdeal.main_arg2)) (m ((c.tc : Thread Cert.AttnDIdeal.nD Cert.AttnDIdeal.τ).loc Cert.AttnDIdeal.main_arg3)) (m ((c.tc : Thread Cert.AttnDIdeal.nD Cert.AttnDIdeal.τ).loc Cert.AttnDIdeal.main_arg4))).1 = (fun _ => 1#1)
    ∧ (Cert.Pre_finite_d.fn (F := Ideal) (m ((c.tc : Thread Cert.AttnDIdeal.nD Cert.AttnDIdeal.τ).loc Cert.AttnDIdeal.main_arg0)) (m ((c.tc : Thread Cert.AttnDIdeal.nD Cert.AttnDIdeal.τ).loc Cert.AttnDIdeal.main_arg1)) (m ((c.tc : Thread Cert.AttnDIdeal.nD Cert.AttnDIdeal.τ).loc Cert.AttnDIdeal.main_arg2)) (m ((c.tc : Thread Cert.AttnDIdeal.nD Cert.AttnDIdeal.τ).loc Cert.AttnDIdeal.main_arg3)) (m ((c.tc : Thread Cert.AttnDIdeal.nD Cert.AttnDIdeal.τ).loc Cert.AttnDIdeal.main_arg4))).2.1 = (fun _ => 1#1)
    ∧ (Cert.Pre_finite_d.fn (F := Ideal) (m ((c.tc : Thread Cert.AttnDIdeal.nD Cert.AttnDIdeal.τ).loc Cert.AttnDIdeal.main_arg0)) (m ((c.tc : Thread Cert.AttnDIdeal.nD Cert.AttnDIdeal.τ).loc Cert.AttnDIdeal.main_arg1)) (m ((c.tc : Thread Cert.AttnDIdeal.nD Cert.AttnDIdeal.τ).loc Cert.AttnDIdeal.main_arg2)) (m ((c.tc : Thread Cert.AttnDIdeal.nD Cert.AttnDIdeal.τ).loc Cert.AttnDIdeal.main_arg3)) (m ((c.tc : Thread Cert.AttnDIdeal.nD Cert.AttnDIdeal.τ).loc Cert.AttnDIdeal.main_arg4))).2.2 = (fun _ => 1#1)

def Pre_AttnDRefIdeal (m : (ℓ : Loc Cert.AttnDRefIdeal.nD Cert.AttnDRefIdeal.τ Cert.AttnDRefIdeal.sig) → Buf (Elt Ideal) ℓ) : Prop :=
  True

def Pre_AttnDRefIdeal_finite_d [hPre_finite_d : Cert.Pre_finite_d.Facts] (m : (ℓ : Loc Cert.AttnDRefIdeal.nD Cert.AttnDRefIdeal.τ Cert.AttnDRefIdeal.sig) → Buf (Elt Ideal) ℓ) : Prop :=
  ∀ c : Dev Cert.AttnDRefIdeal.nD,
    (Cert.Pre_finite_d.fn (F := Ideal) (m ((c.tc : Thread Cert.AttnDRefIdeal.nD Cert.AttnDRefIdeal.τ).loc Cert.AttnDRefIdeal.main_arg0)) (m ((c.tc : Thread Cert.AttnDRefIdeal.nD Cert.AttnDRefIdeal.τ).loc Cert.AttnDRefIdeal.main_arg1)) (m ((c.tc : Thread Cert.AttnDRefIdeal.nD Cert.AttnDRefIdeal.τ).loc Cert.AttnDRefIdeal.main_arg2)) (m ((c.tc : Thread Cert.AttnDRefIdeal.nD Cert.AttnDRefIdeal.τ).loc Cert.AttnDRefIdeal.main_arg3)) (m ((c.tc : Thread Cert.AttnDRefIdeal.nD Cert.AttnDRefIdeal.τ).loc Cert.AttnDRefIdeal.main_arg4))).1 = (fun _ => 1#1)
    ∧ (Cert.Pre_finite_d.fn (F := Ideal) (m ((c.tc : Thread Cert.AttnDRefIdeal.nD Cert.AttnDRefIdeal.τ).loc Cert.AttnDRefIdeal.main_arg0)) (m ((c.tc : Thread Cert.AttnDRefIdeal.nD Cert.AttnDRefIdeal.τ).loc Cert.AttnDRefIdeal.main_arg1)) (m ((c.tc : Thread Cert.AttnDRefIdeal.nD Cert.AttnDRefIdeal.τ).loc Cert.AttnDRefIdeal.main_arg2)) (m ((c.tc : Thread Cert.AttnDRefIdeal.nD Cert.AttnDRefIdeal.τ).loc Cert.AttnDRefIdeal.main_arg3)) (m ((c.tc : Thread Cert.AttnDRefIdeal.nD Cert.AttnDRefIdeal.τ).loc Cert.AttnDRefIdeal.main_arg4))).2.1 = (fun _ => 1#1)
    ∧ (Cert.Pre_finite_d.fn (F := Ideal) (m ((c.tc : Thread Cert.AttnDRefIdeal.nD Cert.AttnDRefIdeal.τ).loc Cert.AttnDRefIdeal.main_arg0)) (m ((c.tc : Thread Cert.AttnDRefIdeal.nD Cert.AttnDRefIdeal.τ).loc Cert.AttnDRefIdeal.main_arg1)) (m ((c.tc : Thread Cert.AttnDRefIdeal.nD Cert.AttnDRefIdeal.τ).loc Cert.AttnDRefIdeal.main_arg2)) (m ((c.tc : Thread Cert.AttnDRefIdeal.nD Cert.AttnDRefIdeal.τ).loc Cert.AttnDRefIdeal.main_arg3)) (m ((c.tc : Thread Cert.AttnDRefIdeal.nD Cert.AttnDRefIdeal.τ).loc Cert.AttnDRefIdeal.main_arg4))).2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_TailFinal (m : (ℓ : Loc Cert.TailFinal.nD Cert.TailFinal.τ Cert.TailFinal.sig) → Buf (Elt Bits) ℓ) : Prop :=
  True

def Pre_TailFinalIdeal (m : (ℓ : Loc Cert.TailFinalIdeal.nD Cert.TailFinalIdeal.τ Cert.TailFinalIdeal.sig) → Buf (Elt Ideal) ℓ) : Prop :=
  True

def Pre_TailFinalRefIdeal (m : (ℓ : Loc Cert.TailFinalRefIdeal.nD Cert.TailFinalRefIdeal.τ Cert.TailFinalRefIdeal.sig) → Buf (Elt Ideal) ℓ) : Prop :=
  True

def Pre_TailCtx (m : (ℓ : Loc Cert.TailCtx.nD Cert.TailCtx.τ Cert.TailCtx.sig) → Buf (Elt Bits) ℓ) : Prop :=
  True

def Pre_TailCtxIdeal (m : (ℓ : Loc Cert.TailCtxIdeal.nD Cert.TailCtxIdeal.τ Cert.TailCtxIdeal.sig) → Buf (Elt Ideal) ℓ) : Prop :=
  True

def Pre_TailCtxRefIdeal (m : (ℓ : Loc Cert.TailCtxRefIdeal.nD Cert.TailCtxRefIdeal.τ Cert.TailCtxRefIdeal.sig) → Buf (Elt Ideal) ℓ) : Prop :=
  True

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_a [hPre_finite_a : Cert.Pre_finite_a.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6)) (m ((c.tc : Thread Cert.AttnAIdeal.nD Cert.AttnAIdeal.τ).loc Cert.AttnAIdeal.main_arg7)) (m ((c.tc : Thread Cert.AttnAIdeal.nD Cert.AttnAIdeal.τ).loc Cert.AttnAIdeal.main_arg8)) (m ((c.tc : Thread Cert.AttnAIdeal.nD Cert.AttnAIdeal.τ).loc Cert.AttnAIdeal.main_arg9))).1 = (fun _ => 1#1)
    ∧ (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6)) (m ((c.tc : Thread Cert.AttnAIdeal.nD Cert.AttnAIdeal.τ).loc Cert.AttnAIdeal.main_arg7)) (m ((c.tc : Thread Cert.AttnAIdeal.nD Cert.AttnAIdeal.τ).loc Cert.AttnAIdeal.main_arg8)) (m ((c.tc : Thread Cert.AttnAIdeal.nD Cert.AttnAIdeal.τ).loc Cert.AttnAIdeal.main_arg9))).2.1 = (fun _ => 1#1)
    ∧ (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6)) (m ((c.tc : Thread Cert.AttnAIdeal.nD Cert.AttnAIdeal.τ).loc Cert.AttnAIdeal.main_arg7)) (m ((c.tc : Thread Cert.AttnAIdeal.nD Cert.AttnAIdeal.τ).loc Cert.AttnAIdeal.main_arg8)) (m ((c.tc : Thread Cert.AttnAIdeal.nD Cert.AttnAIdeal.τ).loc Cert.AttnAIdeal.main_arg9))).2.2.1 = (fun _ => 1#1)
    ∧ (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6)) (m ((c.tc : Thread Cert.AttnAIdeal.nD Cert.AttnAIdeal.τ).loc Cert.AttnAIdeal.main_arg7)) (m ((c.tc : Thread Cert.AttnAIdeal.nD Cert.AttnAIdeal.τ).loc Cert.AttnAIdeal.main_arg8)) (m ((c.tc : Thread Cert.AttnAIdeal.nD Cert.AttnAIdeal.τ).loc Cert.AttnAIdeal.main_arg9))).2.2.2.1 = (fun _ => 1#1)
    ∧ (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6)) (m ((c.tc : Thread Cert.AttnAIdeal.nD Cert.AttnAIdeal.τ).loc Cert.AttnAIdeal.main_arg7)) (m ((c.tc : Thread Cert.AttnAIdeal.nD Cert.AttnAIdeal.τ).loc Cert.AttnAIdeal.main_arg8)) (m ((c.tc : Thread Cert.AttnAIdeal.nD Cert.AttnAIdeal.τ).loc Cert.AttnAIdeal.main_arg9))).2.2.2.2.1 = (fun _ => 1#1)
    ∧ (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6)) (m ((c.tc : Thread Cert.AttnAIdeal.nD Cert.AttnAIdeal.τ).loc Cert.AttnAIdeal.main_arg7)) (m ((c.tc : Thread Cert.AttnAIdeal.nD Cert.AttnAIdeal.τ).loc Cert.AttnAIdeal.main_arg8)) (m ((c.tc : Thread Cert.AttnAIdeal.nD Cert.AttnAIdeal.τ).loc Cert.AttnAIdeal.main_arg9))).2.2.2.2.2.1 = (fun _ => 1#1)
    ∧ (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6)) (m ((c.tc : Thread Cert.AttnAIdeal.nD Cert.AttnAIdeal.τ).loc Cert.AttnAIdeal.main_arg7)) (m ((c.tc : Thread Cert.AttnAIdeal.nD Cert.AttnAIdeal.τ).loc Cert.AttnAIdeal.main_arg8)) (m ((c.tc : Thread Cert.AttnAIdeal.nD Cert.AttnAIdeal.τ).loc Cert.AttnAIdeal.main_arg9))).2.2.2.2.2.2.1 = (fun _ => 1#1)
    ∧ (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6)) (m ((c.tc : Thread Cert.AttnAIdeal.nD Cert.AttnAIdeal.τ).loc Cert.AttnAIdeal.main_arg7)) (m ((c.tc : Thread Cert.AttnAIdeal.nD Cert.AttnAIdeal.τ).loc Cert.AttnAIdeal.main_arg8)) (m ((c.tc : Thread Cert.AttnAIdeal.nD Cert.AttnAIdeal.τ).loc Cert.AttnAIdeal.main_arg9))).2.2.2.2.2.2.2.1 = (fun _ => 1#1)
    ∧ (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6)) (m ((c.tc : Thread Cert.AttnAIdeal.nD Cert.AttnAIdeal.τ).loc Cert.AttnAIdeal.main_arg7)) (m ((c.tc : Thread Cert.AttnAIdeal.nD Cert.AttnAIdeal.τ).loc Cert.AttnAIdeal.main_arg8)) (m ((c.tc : Thread Cert.AttnAIdeal.nD Cert.AttnAIdeal.τ).loc Cert.AttnAIdeal.main_arg9))).2.2.2.2.2.2.2.2 = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_a [hPre_finite_a : Cert.Pre_finite_a.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6)) (m ((c.tc : Thread Cert.AttnARefIdeal.nD Cert.AttnARefIdeal.τ).loc Cert.AttnARefIdeal.main_arg7)) (m ((c.tc : Thread Cert.AttnARefIdeal.nD Cert.AttnARefIdeal.τ).loc Cert.AttnARefIdeal.main_arg8)) (m ((c.tc : Thread Cert.AttnARefIdeal.nD Cert.AttnARefIdeal.τ).loc Cert.AttnARefIdeal.main_arg9))).1 = (fun _ => 1#1)
    ∧ (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6)) (m ((c.tc : Thread Cert.AttnARefIdeal.nD Cert.AttnARefIdeal.τ).loc Cert.AttnARefIdeal.main_arg7)) (m ((c.tc : Thread Cert.AttnARefIdeal.nD Cert.AttnARefIdeal.τ).loc Cert.AttnARefIdeal.main_arg8)) (m ((c.tc : Thread Cert.AttnARefIdeal.nD Cert.AttnARefIdeal.τ).loc Cert.AttnARefIdeal.main_arg9))).2.1 = (fun _ => 1#1)
    ∧ (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6)) (m ((c.tc : Thread Cert.AttnARefIdeal.nD Cert.AttnARefIdeal.τ).loc Cert.AttnARefIdeal.main_arg7)) (m ((c.tc : Thread Cert.AttnARefIdeal.nD Cert.AttnARefIdeal.τ).loc Cert.AttnARefIdeal.main_arg8)) (m ((c.tc : Thread Cert.AttnARefIdeal.nD Cert.AttnARefIdeal.τ).loc Cert.AttnARefIdeal.main_arg9))).2.2.1 = (fun _ => 1#1)
    ∧ (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6)) (m ((c.tc : Thread Cert.AttnARefIdeal.nD Cert.AttnARefIdeal.τ).loc Cert.AttnARefIdeal.main_arg7)) (m ((c.tc : Thread Cert.AttnARefIdeal.nD Cert.AttnARefIdeal.τ).loc Cert.AttnARefIdeal.main_arg8)) (m ((c.tc : Thread Cert.AttnARefIdeal.nD Cert.AttnARefIdeal.τ).loc Cert.AttnARefIdeal.main_arg9))).2.2.2.1 = (fun _ => 1#1)
    ∧ (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6)) (m ((c.tc : Thread Cert.AttnARefIdeal.nD Cert.AttnARefIdeal.τ).loc Cert.AttnARefIdeal.main_arg7)) (m ((c.tc : Thread Cert.AttnARefIdeal.nD Cert.AttnARefIdeal.τ).loc Cert.AttnARefIdeal.main_arg8)) (m ((c.tc : Thread Cert.AttnARefIdeal.nD Cert.AttnARefIdeal.τ).loc Cert.AttnARefIdeal.main_arg9))).2.2.2.2.1 = (fun _ => 1#1)
    ∧ (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6)) (m ((c.tc : Thread Cert.AttnARefIdeal.nD Cert.AttnARefIdeal.τ).loc Cert.AttnARefIdeal.main_arg7)) (m ((c.tc : Thread Cert.AttnARefIdeal.nD Cert.AttnARefIdeal.τ).loc Cert.AttnARefIdeal.main_arg8)) (m ((c.tc : Thread Cert.AttnARefIdeal.nD Cert.AttnARefIdeal.τ).loc Cert.AttnARefIdeal.main_arg9))).2.2.2.2.2.1 = (fun _ => 1#1)
    ∧ (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6)) (m ((c.tc : Thread Cert.AttnARefIdeal.nD Cert.AttnARefIdeal.τ).loc Cert.AttnARefIdeal.main_arg7)) (m ((c.tc : Thread Cert.AttnARefIdeal.nD Cert.AttnARefIdeal.τ).loc Cert.AttnARefIdeal.main_arg8)) (m ((c.tc : Thread Cert.AttnARefIdeal.nD Cert.AttnARefIdeal.τ).loc Cert.AttnARefIdeal.main_arg9))).2.2.2.2.2.2.1 = (fun _ => 1#1)
    ∧ (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6)) (m ((c.tc : Thread Cert.AttnARefIdeal.nD Cert.AttnARefIdeal.τ).loc Cert.AttnARefIdeal.main_arg7)) (m ((c.tc : Thread Cert.AttnARefIdeal.nD Cert.AttnARefIdeal.τ).loc Cert.AttnARefIdeal.main_arg8)) (m ((c.tc : Thread Cert.AttnARefIdeal.nD Cert.AttnARefIdeal.τ).loc Cert.AttnARefIdeal.main_arg9))).2.2.2.2.2.2.2.1 = (fun _ => 1#1)
    ∧ (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6)) (m ((c.tc : Thread Cert.AttnARefIdeal.nD Cert.AttnARefIdeal.τ).loc Cert.AttnARefIdeal.main_arg7)) (m ((c.tc : Thread Cert.AttnARefIdeal.nD Cert.AttnARefIdeal.τ).loc Cert.AttnARefIdeal.main_arg8)) (m ((c.tc : Thread Cert.AttnARefIdeal.nD Cert.AttnARefIdeal.τ).loc Cert.AttnARefIdeal.main_arg9))).2.2.2.2.2.2.2.2 = (fun _ => 1#1)

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def quiescent_AttnC [hAttnC : Cert.AttnC.Facts] : Prop :=
  ∀ (m : (ℓ : Loc Cert.AttnC.nD Cert.AttnC.τ Cert.AttnC.sig) → Buf (Elt Bits) ℓ) (g : Dev Cert.AttnC.nD → PrngReg), Pre_AttnC m →
    θ_run (Cert.AttnC.defs (F := Bits)) (onTc (τ := Cert.AttnC.τ) (Cert.AttnC.main (F := Bits))) ⟨m, fun _ => 0, g⟩ (fun r => (∀ c : Dev Cert.AttnC.nD,
      r.2.mem ((c.tc : Thread Cert.AttnC.nD Cert.AttnC.τ).loc Cert.AttnC.main_arg0) = m ((c.tc : Thread Cert.AttnC.nD Cert.AttnC.τ).loc Cert.AttnC.main_arg0)
      ∧ r.2.mem ((c.tc : Thread Cert.AttnC.nD Cert.AttnC.τ).loc Cert.AttnC.main_arg1) = m ((c.tc : Thread Cert.AttnC.nD Cert.AttnC.τ).loc Cert.AttnC.main_arg1)
      ∧ r.2.mem ((c.tc : Thread Cert.AttnC.nD Cert.AttnC.τ).loc Cert.AttnC.main_arg2) = m ((c.tc : Thread Cert.AttnC.nD Cert.AttnC.τ).loc Cert.AttnC.main_arg2)
      ∧ r.2.mem ((c.tc : Thread Cert.AttnC.nD Cert.AttnC.τ).loc Cert.AttnC.main_arg3) = m ((c.tc : Thread Cert.AttnC.nD Cert.AttnC.τ).loc Cert.AttnC.main_arg3)
      ∧ r.2.mem ((c.tc : Thread Cert.AttnC.nD Cert.AttnC.τ).loc Cert.AttnC.main_arg4) = m ((c.tc : Thread Cert.AttnC.nD Cert.AttnC.τ).loc Cert.AttnC.main_arg4))
      ∧ r.2.sem = fun _ => 0)

def quiescent_AttnCIdeal [hAttnCIdeal : Cert.AttnCIdeal.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
      ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2)
      ∧ r.2.mem ((c.tc : Thread Cert.AttnCIdeal.nD Cert.AttnCIdeal.τ).loc Cert.AttnCIdeal.main_arg3) = m ((c.tc : Thread Cert.AttnCIdeal.nD Cert.AttnCIdeal.τ).loc Cert.AttnCIdeal.main_arg3)
      ∧ r.2.mem ((c.tc : Thread Cert.AttnCIdeal.nD Cert.AttnCIdeal.τ).loc Cert.AttnCIdeal.main_arg4) = m ((c.tc : Thread Cert.AttnCIdeal.nD Cert.AttnCIdeal.τ).loc Cert.AttnCIdeal.main_arg4))
      ∧ r.2.sem = fun _ => 0)

def quiescent_AttnCIdeal_pre_finite_c [hAttnCIdeal : Cert.AttnCIdeal.Facts] [hPre_finite_c : Cert.Pre_finite_c.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal_finite_c m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
      ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2)
      ∧ r.2.mem ((c.tc : Thread Cert.AttnCIdeal.nD Cert.AttnCIdeal.τ).loc Cert.AttnCIdeal.main_arg3) = m ((c.tc : Thread Cert.AttnCIdeal.nD Cert.AttnCIdeal.τ).loc Cert.AttnCIdeal.main_arg3)
      ∧ r.2.mem ((c.tc : Thread Cert.AttnCIdeal.nD Cert.AttnCIdeal.τ).loc Cert.AttnCIdeal.main_arg4) = m ((c.tc : Thread Cert.AttnCIdeal.nD Cert.AttnCIdeal.τ).loc Cert.AttnCIdeal.main_arg4))
      ∧ r.2.sem = fun _ => 0)

def quiescent_AttnCRefIdeal [hAttnCRefIdeal : Cert.AttnCRefIdeal.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1)
      ∧ r.2.mem ((c.tc : Thread Cert.AttnCRefIdeal.nD Cert.AttnCRefIdeal.τ).loc Cert.AttnCRefIdeal.main_arg2) = m ((c.tc : Thread Cert.AttnCRefIdeal.nD Cert.AttnCRefIdeal.τ).loc Cert.AttnCRefIdeal.main_arg2)
      ∧ r.2.mem ((c.tc : Thread Cert.AttnCRefIdeal.nD Cert.AttnCRefIdeal.τ).loc Cert.AttnCRefIdeal.main_arg3) = m ((c.tc : Thread Cert.AttnCRefIdeal.nD Cert.AttnCRefIdeal.τ).loc Cert.AttnCRefIdeal.main_arg3)
      ∧ r.2.mem ((c.tc : Thread Cert.AttnCRefIdeal.nD Cert.AttnCRefIdeal.τ).loc Cert.AttnCRefIdeal.main_arg4) = m ((c.tc : Thread Cert.AttnCRefIdeal.nD Cert.AttnCRefIdeal.τ).loc Cert.AttnCRefIdeal.main_arg4))
      ∧ r.2.sem = fun _ => 0)

def quiescent_AttnCRefIdeal_pre_finite_c [hAttnCRefIdeal : Cert.AttnCRefIdeal.Facts] [hPre_finite_c : Cert.Pre_finite_c.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal_finite_c m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1)
      ∧ r.2.mem ((c.tc : Thread Cert.AttnCRefIdeal.nD Cert.AttnCRefIdeal.τ).loc Cert.AttnCRefIdeal.main_arg2) = m ((c.tc : Thread Cert.AttnCRefIdeal.nD Cert.AttnCRefIdeal.τ).loc Cert.AttnCRefIdeal.main_arg2)
      ∧ r.2.mem ((c.tc : Thread Cert.AttnCRefIdeal.nD Cert.AttnCRefIdeal.τ).loc Cert.AttnCRefIdeal.main_arg3) = m ((c.tc : Thread Cert.AttnCRefIdeal.nD Cert.AttnCRefIdeal.τ).loc Cert.AttnCRefIdeal.main_arg3)
      ∧ r.2.mem ((c.tc : Thread Cert.AttnCRefIdeal.nD Cert.AttnCRefIdeal.τ).loc Cert.AttnCRefIdeal.main_arg4) = m ((c.tc : Thread Cert.AttnCRefIdeal.nD Cert.AttnCRefIdeal.τ).loc Cert.AttnCRefIdeal.main_arg4))
      ∧ r.2.sem = fun _ => 0)

def quiescent_AttnD [hAttnD : Cert.AttnD.Facts] : Prop :=
  ∀ (m : (ℓ : Loc Cert.AttnD.nD Cert.AttnD.τ Cert.AttnD.sig) → Buf (Elt Bits) ℓ) (g : Dev Cert.AttnD.nD → PrngReg), Pre_AttnD m →
    θ_run (Cert.AttnD.defs (F := Bits)) (onTc (τ := Cert.AttnD.τ) (Cert.AttnD.main (F := Bits))) ⟨m, fun _ => 0, g⟩ (fun r => (∀ c : Dev Cert.AttnD.nD,
      r.2.mem ((c.tc : Thread Cert.AttnD.nD Cert.AttnD.τ).loc Cert.AttnD.main_arg0) = m ((c.tc : Thread Cert.AttnD.nD Cert.AttnD.τ).loc Cert.AttnD.main_arg0)
      ∧ r.2.mem ((c.tc : Thread Cert.AttnD.nD Cert.AttnD.τ).loc Cert.AttnD.main_arg1) = m ((c.tc : Thread Cert.AttnD.nD Cert.AttnD.τ).loc Cert.AttnD.main_arg1)
      ∧ r.2.mem ((c.tc : Thread Cert.AttnD.nD Cert.AttnD.τ).loc Cert.AttnD.main_arg2) = m ((c.tc : Thread Cert.AttnD.nD Cert.AttnD.τ).loc Cert.AttnD.main_arg2)
      ∧ r.2.mem ((c.tc : Thread Cert.AttnD.nD Cert.AttnD.τ).loc Cert.AttnD.main_arg3) = m ((c.tc : Thread Cert.AttnD.nD Cert.AttnD.τ).loc Cert.AttnD.main_arg3)
      ∧ r.2.mem ((c.tc : Thread Cert.AttnD.nD Cert.AttnD.τ).loc Cert.AttnD.main_arg4) = m ((c.tc : Thread Cert.AttnD.nD Cert.AttnD.τ).loc Cert.AttnD.main_arg4))
      ∧ r.2.sem = fun _ => 0)

def quiescent_AttnDIdeal [hAttnDIdeal : Cert.AttnDIdeal.Facts] : Prop :=
  ∀ (m : (ℓ : Loc Cert.AttnDIdeal.nD Cert.AttnDIdeal.τ Cert.AttnDIdeal.sig) → Buf (Elt Ideal) ℓ) (g : Dev Cert.AttnDIdeal.nD → PrngReg), Pre_AttnDIdeal m →
    θ_run (Cert.AttnDIdeal.defs (F := Ideal)) (onTc (τ := Cert.AttnDIdeal.τ) (Cert.AttnDIdeal.main (F := Ideal))) ⟨m, fun _ => 0, g⟩ (fun r => (∀ c : Dev Cert.AttnDIdeal.nD,
      r.2.mem ((c.tc : Thread Cert.AttnDIdeal.nD Cert.AttnDIdeal.τ).loc Cert.AttnDIdeal.main_arg0) = m ((c.tc : Thread Cert.AttnDIdeal.nD Cert.AttnDIdeal.τ).loc Cert.AttnDIdeal.main_arg0)
      ∧ r.2.mem ((c.tc : Thread Cert.AttnDIdeal.nD Cert.AttnDIdeal.τ).loc Cert.AttnDIdeal.main_arg1) = m ((c.tc : Thread Cert.AttnDIdeal.nD Cert.AttnDIdeal.τ).loc Cert.AttnDIdeal.main_arg1)
      ∧ r.2.mem ((c.tc : Thread Cert.AttnDIdeal.nD Cert.AttnDIdeal.τ).loc Cert.AttnDIdeal.main_arg2) = m ((c.tc : Thread Cert.AttnDIdeal.nD Cert.AttnDIdeal.τ).loc Cert.AttnDIdeal.main_arg2)
      ∧ r.2.mem ((c.tc : Thread Cert.AttnDIdeal.nD Cert.AttnDIdeal.τ).loc Cert.AttnDIdeal.main_arg3) = m ((c.tc : Thread Cert.AttnDIdeal.nD Cert.AttnDIdeal.τ).loc Cert.AttnDIdeal.main_arg3)
      ∧ r.2.mem ((c.tc : Thread Cert.AttnDIdeal.nD Cert.AttnDIdeal.τ).loc Cert.AttnDIdeal.main_arg4) = m ((c.tc : Thread Cert.AttnDIdeal.nD Cert.AttnDIdeal.τ).loc Cert.AttnDIdeal.main_arg4))
      ∧ r.2.sem = fun _ => 0)

def quiescent_AttnDIdeal_pre_finite_d [hAttnDIdeal : Cert.AttnDIdeal.Facts] [hPre_finite_d : Cert.Pre_finite_d.Facts] : Prop :=
  ∀ (m : (ℓ : Loc Cert.AttnDIdeal.nD Cert.AttnDIdeal.τ Cert.AttnDIdeal.sig) → Buf (Elt Ideal) ℓ) (g : Dev Cert.AttnDIdeal.nD → PrngReg), Pre_AttnDIdeal_finite_d m →
    θ_run (Cert.AttnDIdeal.defs (F := Ideal)) (onTc (τ := Cert.AttnDIdeal.τ) (Cert.AttnDIdeal.main (F := Ideal))) ⟨m, fun _ => 0, g⟩ (fun r => (∀ c : Dev Cert.AttnDIdeal.nD,
      r.2.mem ((c.tc : Thread Cert.AttnDIdeal.nD Cert.AttnDIdeal.τ).loc Cert.AttnDIdeal.main_arg0) = m ((c.tc : Thread Cert.AttnDIdeal.nD Cert.AttnDIdeal.τ).loc Cert.AttnDIdeal.main_arg0)
      ∧ r.2.mem ((c.tc : Thread Cert.AttnDIdeal.nD Cert.AttnDIdeal.τ).loc Cert.AttnDIdeal.main_arg1) = m ((c.tc : Thread Cert.AttnDIdeal.nD Cert.AttnDIdeal.τ).loc Cert.AttnDIdeal.main_arg1)
      ∧ r.2.mem ((c.tc : Thread Cert.AttnDIdeal.nD Cert.AttnDIdeal.τ).loc Cert.AttnDIdeal.main_arg2) = m ((c.tc : Thread Cert.AttnDIdeal.nD Cert.AttnDIdeal.τ).loc Cert.AttnDIdeal.main_arg2)
      ∧ r.2.mem ((c.tc : Thread Cert.AttnDIdeal.nD Cert.AttnDIdeal.τ).loc Cert.AttnDIdeal.main_arg3) = m ((c.tc : Thread Cert.AttnDIdeal.nD Cert.AttnDIdeal.τ).loc Cert.AttnDIdeal.main_arg3)
      ∧ r.2.mem ((c.tc : Thread Cert.AttnDIdeal.nD Cert.AttnDIdeal.τ).loc Cert.AttnDIdeal.main_arg4) = m ((c.tc : Thread Cert.AttnDIdeal.nD Cert.AttnDIdeal.τ).loc Cert.AttnDIdeal.main_arg4))
      ∧ r.2.sem = fun _ => 0)

def quiescent_AttnDRefIdeal [hAttnDRefIdeal : Cert.AttnDRefIdeal.Facts] : Prop :=
  ∀ (m : (ℓ : Loc Cert.AttnDRefIdeal.nD Cert.AttnDRefIdeal.τ Cert.AttnDRefIdeal.sig) → Buf (Elt Ideal) ℓ) (g : Dev Cert.AttnDRefIdeal.nD → PrngReg), Pre_AttnDRefIdeal m →
    θ_run (Cert.AttnDRefIdeal.defs (F := Ideal)) (onTc (τ := Cert.AttnDRefIdeal.τ) (Cert.AttnDRefIdeal.main (F := Ideal))) ⟨m, fun _ => 0, g⟩ (fun r => (∀ c : Dev Cert.AttnDRefIdeal.nD,
      r.2.mem ((c.tc : Thread Cert.AttnDRefIdeal.nD Cert.AttnDRefIdeal.τ).loc Cert.AttnDRefIdeal.main_arg0) = m ((c.tc : Thread Cert.AttnDRefIdeal.nD Cert.AttnDRefIdeal.τ).loc Cert.AttnDRefIdeal.main_arg0)
      ∧ r.2.mem ((c.tc : Thread Cert.AttnDRefIdeal.nD Cert.AttnDRefIdeal.τ).loc Cert.AttnDRefIdeal.main_arg1) = m ((c.tc : Thread Cert.AttnDRefIdeal.nD Cert.AttnDRefIdeal.τ).loc Cert.AttnDRefIdeal.main_arg1)
      ∧ r.2.mem ((c.tc : Thread Cert.AttnDRefIdeal.nD Cert.AttnDRefIdeal.τ).loc Cert.AttnDRefIdeal.main_arg2) = m ((c.tc : Thread Cert.AttnDRefIdeal.nD Cert.AttnDRefIdeal.τ).loc Cert.AttnDRefIdeal.main_arg2)
      ∧ r.2.mem ((c.tc : Thread Cert.AttnDRefIdeal.nD Cert.AttnDRefIdeal.τ).loc Cert.AttnDRefIdeal.main_arg3) = m ((c.tc : Thread Cert.AttnDRefIdeal.nD Cert.AttnDRefIdeal.τ).loc Cert.AttnDRefIdeal.main_arg3)
      ∧ r.2.mem ((c.tc : Thread Cert.AttnDRefIdeal.nD Cert.AttnDRefIdeal.τ).loc Cert.AttnDRefIdeal.main_arg4) = m ((c.tc : Thread Cert.AttnDRefIdeal.nD Cert.AttnDRefIdeal.τ).loc Cert.AttnDRefIdeal.main_arg4))
      ∧ r.2.sem = fun _ => 0)

def quiescent_AttnDRefIdeal_pre_finite_d [hAttnDRefIdeal : Cert.AttnDRefIdeal.Facts] [hPre_finite_d : Cert.Pre_finite_d.Facts] : Prop :=
  ∀ (m : (ℓ : Loc Cert.AttnDRefIdeal.nD Cert.AttnDRefIdeal.τ Cert.AttnDRefIdeal.sig) → Buf (Elt Ideal) ℓ) (g : Dev Cert.AttnDRefIdeal.nD → PrngReg), Pre_AttnDRefIdeal_finite_d m →
    θ_run (Cert.AttnDRefIdeal.defs (F := Ideal)) (onTc (τ := Cert.AttnDRefIdeal.τ) (Cert.AttnDRefIdeal.main (F := Ideal))) ⟨m, fun _ => 0, g⟩ (fun r => (∀ c : Dev Cert.AttnDRefIdeal.nD,
      r.2.mem ((c.tc : Thread Cert.AttnDRefIdeal.nD Cert.AttnDRefIdeal.τ).loc Cert.AttnDRefIdeal.main_arg0) = m ((c.tc : Thread Cert.AttnDRefIdeal.nD Cert.AttnDRefIdeal.τ).loc Cert.AttnDRefIdeal.main_arg0)
      ∧ r.2.mem ((c.tc : Thread Cert.AttnDRefIdeal.nD Cert.AttnDRefIdeal.τ).loc Cert.AttnDRefIdeal.main_arg1) = m ((c.tc : Thread Cert.AttnDRefIdeal.nD Cert.AttnDRefIdeal.τ).loc Cert.AttnDRefIdeal.main_arg1)
      ∧ r.2.mem ((c.tc : Thread Cert.AttnDRefIdeal.nD Cert.AttnDRefIdeal.τ).loc Cert.AttnDRefIdeal.main_arg2) = m ((c.tc : Thread Cert.AttnDRefIdeal.nD Cert.AttnDRefIdeal.τ).loc Cert.AttnDRefIdeal.main_arg2)
      ∧ r.2.mem ((c.tc : Thread Cert.AttnDRefIdeal.nD Cert.AttnDRefIdeal.τ).loc Cert.AttnDRefIdeal.main_arg3) = m ((c.tc : Thread Cert.AttnDRefIdeal.nD Cert.AttnDRefIdeal.τ).loc Cert.AttnDRefIdeal.main_arg3)
      ∧ r.2.mem ((c.tc : Thread Cert.AttnDRefIdeal.nD Cert.AttnDRefIdeal.τ).loc Cert.AttnDRefIdeal.main_arg4) = m ((c.tc : Thread Cert.AttnDRefIdeal.nD Cert.AttnDRefIdeal.τ).loc Cert.AttnDRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_TailFinal [hTailFinal : Cert.TailFinal.Facts] : Prop :=
  ∀ (m : (ℓ : Loc Cert.TailFinal.nD Cert.TailFinal.τ Cert.TailFinal.sig) → Buf (Elt Bits) ℓ) (g : Dev Cert.TailFinal.nD → PrngReg), Pre_TailFinal m →
    θ_run (Cert.TailFinal.defs (F := Bits)) (onTc (τ := Cert.TailFinal.τ) (Cert.TailFinal.main (F := Bits))) ⟨m, fun _ => 0, g⟩ (fun r => (∀ c : Dev Cert.TailFinal.nD,
      r.2.mem ((c.tc : Thread Cert.TailFinal.nD Cert.TailFinal.τ).loc Cert.TailFinal.main_arg0) = m ((c.tc : Thread Cert.TailFinal.nD Cert.TailFinal.τ).loc Cert.TailFinal.main_arg0)
      ∧ r.2.mem ((c.tc : Thread Cert.TailFinal.nD Cert.TailFinal.τ).loc Cert.TailFinal.main_arg1) = m ((c.tc : Thread Cert.TailFinal.nD Cert.TailFinal.τ).loc Cert.TailFinal.main_arg1)
      ∧ r.2.mem ((c.tc : Thread Cert.TailFinal.nD Cert.TailFinal.τ).loc Cert.TailFinal.main_arg2) = m ((c.tc : Thread Cert.TailFinal.nD Cert.TailFinal.τ).loc Cert.TailFinal.main_arg2)
      ∧ r.2.mem ((c.tc : Thread Cert.TailFinal.nD Cert.TailFinal.τ).loc Cert.TailFinal.main_arg3) = m ((c.tc : Thread Cert.TailFinal.nD Cert.TailFinal.τ).loc Cert.TailFinal.main_arg3)
      ∧ r.2.mem ((c.tc : Thread Cert.TailFinal.nD Cert.TailFinal.τ).loc Cert.TailFinal.main_arg4) = m ((c.tc : Thread Cert.TailFinal.nD Cert.TailFinal.τ).loc Cert.TailFinal.main_arg4)
      ∧ r.2.mem ((c.tc : Thread Cert.TailFinal.nD Cert.TailFinal.τ).loc Cert.TailFinal.main_arg5) = m ((c.tc : Thread Cert.TailFinal.nD Cert.TailFinal.τ).loc Cert.TailFinal.main_arg5)
      ∧ r.2.mem ((c.tc : Thread Cert.TailFinal.nD Cert.TailFinal.τ).loc Cert.TailFinal.main_arg6) = m ((c.tc : Thread Cert.TailFinal.nD Cert.TailFinal.τ).loc Cert.TailFinal.main_arg6)
      ∧ r.2.mem ((c.tc : Thread Cert.TailFinal.nD Cert.TailFinal.τ).loc Cert.TailFinal.main_arg7) = m ((c.tc : Thread Cert.TailFinal.nD Cert.TailFinal.τ).loc Cert.TailFinal.main_arg7)
      ∧ r.2.mem ((c.tc : Thread Cert.TailFinal.nD Cert.TailFinal.τ).loc Cert.TailFinal.main_arg8) = m ((c.tc : Thread Cert.TailFinal.nD Cert.TailFinal.τ).loc Cert.TailFinal.main_arg8)
      ∧ r.2.mem ((c.tc : Thread Cert.TailFinal.nD Cert.TailFinal.τ).loc Cert.TailFinal.main_arg9) = m ((c.tc : Thread Cert.TailFinal.nD Cert.TailFinal.τ).loc Cert.TailFinal.main_arg9))
      ∧ r.2.sem = fun _ => 0)

def quiescent_TailFinalIdeal [hTailFinalIdeal : Cert.TailFinalIdeal.Facts] : Prop :=
  ∀ (m : (ℓ : Loc Cert.TailFinalIdeal.nD Cert.TailFinalIdeal.τ Cert.TailFinalIdeal.sig) → Buf (Elt Ideal) ℓ) (g : Dev Cert.TailFinalIdeal.nD → PrngReg), Pre_TailFinalIdeal m →
    θ_run (Cert.TailFinalIdeal.defs (F := Ideal)) (onTc (τ := Cert.TailFinalIdeal.τ) (Cert.TailFinalIdeal.main (F := Ideal))) ⟨m, fun _ => 0, g⟩ (fun r => (∀ c : Dev Cert.TailFinalIdeal.nD,
      r.2.mem ((c.tc : Thread Cert.TailFinalIdeal.nD Cert.TailFinalIdeal.τ).loc Cert.TailFinalIdeal.main_arg0) = m ((c.tc : Thread Cert.TailFinalIdeal.nD Cert.TailFinalIdeal.τ).loc Cert.TailFinalIdeal.main_arg0)
      ∧ r.2.mem ((c.tc : Thread Cert.TailFinalIdeal.nD Cert.TailFinalIdeal.τ).loc Cert.TailFinalIdeal.main_arg1) = m ((c.tc : Thread Cert.TailFinalIdeal.nD Cert.TailFinalIdeal.τ).loc Cert.TailFinalIdeal.main_arg1)
      ∧ r.2.mem ((c.tc : Thread Cert.TailFinalIdeal.nD Cert.TailFinalIdeal.τ).loc Cert.TailFinalIdeal.main_arg2) = m ((c.tc : Thread Cert.TailFinalIdeal.nD Cert.TailFinalIdeal.τ).loc Cert.TailFinalIdeal.main_arg2)
      ∧ r.2.mem ((c.tc : Thread Cert.TailFinalIdeal.nD Cert.TailFinalIdeal.τ).loc Cert.TailFinalIdeal.main_arg3) = m ((c.tc : Thread Cert.TailFinalIdeal.nD Cert.TailFinalIdeal.τ).loc Cert.TailFinalIdeal.main_arg3)
      ∧ r.2.mem ((c.tc : Thread Cert.TailFinalIdeal.nD Cert.TailFinalIdeal.τ).loc Cert.TailFinalIdeal.main_arg4) = m ((c.tc : Thread Cert.TailFinalIdeal.nD Cert.TailFinalIdeal.τ).loc Cert.TailFinalIdeal.main_arg4)
      ∧ r.2.mem ((c.tc : Thread Cert.TailFinalIdeal.nD Cert.TailFinalIdeal.τ).loc Cert.TailFinalIdeal.main_arg5) = m ((c.tc : Thread Cert.TailFinalIdeal.nD Cert.TailFinalIdeal.τ).loc Cert.TailFinalIdeal.main_arg5)
      ∧ r.2.mem ((c.tc : Thread Cert.TailFinalIdeal.nD Cert.TailFinalIdeal.τ).loc Cert.TailFinalIdeal.main_arg6) = m ((c.tc : Thread Cert.TailFinalIdeal.nD Cert.TailFinalIdeal.τ).loc Cert.TailFinalIdeal.main_arg6)
      ∧ r.2.mem ((c.tc : Thread Cert.TailFinalIdeal.nD Cert.TailFinalIdeal.τ).loc Cert.TailFinalIdeal.main_arg7) = m ((c.tc : Thread Cert.TailFinalIdeal.nD Cert.TailFinalIdeal.τ).loc Cert.TailFinalIdeal.main_arg7)
      ∧ r.2.mem ((c.tc : Thread Cert.TailFinalIdeal.nD Cert.TailFinalIdeal.τ).loc Cert.TailFinalIdeal.main_arg8) = m ((c.tc : Thread Cert.TailFinalIdeal.nD Cert.TailFinalIdeal.τ).loc Cert.TailFinalIdeal.main_arg8)
      ∧ r.2.mem ((c.tc : Thread Cert.TailFinalIdeal.nD Cert.TailFinalIdeal.τ).loc Cert.TailFinalIdeal.main_arg9) = m ((c.tc : Thread Cert.TailFinalIdeal.nD Cert.TailFinalIdeal.τ).loc Cert.TailFinalIdeal.main_arg9))
      ∧ r.2.sem = fun _ => 0)

def quiescent_TailFinalRefIdeal [hTailFinalRefIdeal : Cert.TailFinalRefIdeal.Facts] : Prop :=
  ∀ (m : (ℓ : Loc Cert.TailFinalRefIdeal.nD Cert.TailFinalRefIdeal.τ Cert.TailFinalRefIdeal.sig) → Buf (Elt Ideal) ℓ) (g : Dev Cert.TailFinalRefIdeal.nD → PrngReg), Pre_TailFinalRefIdeal m →
    θ_run (Cert.TailFinalRefIdeal.defs (F := Ideal)) (onTc (τ := Cert.TailFinalRefIdeal.τ) (Cert.TailFinalRefIdeal.main (F := Ideal))) ⟨m, fun _ => 0, g⟩ (fun r => (∀ c : Dev Cert.TailFinalRefIdeal.nD,
      r.2.mem ((c.tc : Thread Cert.TailFinalRefIdeal.nD Cert.TailFinalRefIdeal.τ).loc Cert.TailFinalRefIdeal.main_arg0) = m ((c.tc : Thread Cert.TailFinalRefIdeal.nD Cert.TailFinalRefIdeal.τ).loc Cert.TailFinalRefIdeal.main_arg0)
      ∧ r.2.mem ((c.tc : Thread Cert.TailFinalRefIdeal.nD Cert.TailFinalRefIdeal.τ).loc Cert.TailFinalRefIdeal.main_arg1) = m ((c.tc : Thread Cert.TailFinalRefIdeal.nD Cert.TailFinalRefIdeal.τ).loc Cert.TailFinalRefIdeal.main_arg1)
      ∧ r.2.mem ((c.tc : Thread Cert.TailFinalRefIdeal.nD Cert.TailFinalRefIdeal.τ).loc Cert.TailFinalRefIdeal.main_arg2) = m ((c.tc : Thread Cert.TailFinalRefIdeal.nD Cert.TailFinalRefIdeal.τ).loc Cert.TailFinalRefIdeal.main_arg2)
      ∧ r.2.mem ((c.tc : Thread Cert.TailFinalRefIdeal.nD Cert.TailFinalRefIdeal.τ).loc Cert.TailFinalRefIdeal.main_arg3) = m ((c.tc : Thread Cert.TailFinalRefIdeal.nD Cert.TailFinalRefIdeal.τ).loc Cert.TailFinalRefIdeal.main_arg3)
      ∧ r.2.mem ((c.tc : Thread Cert.TailFinalRefIdeal.nD Cert.TailFinalRefIdeal.τ).loc Cert.TailFinalRefIdeal.main_arg4) = m ((c.tc : Thread Cert.TailFinalRefIdeal.nD Cert.TailFinalRefIdeal.τ).loc Cert.TailFinalRefIdeal.main_arg4)
      ∧ r.2.mem ((c.tc : Thread Cert.TailFinalRefIdeal.nD Cert.TailFinalRefIdeal.τ).loc Cert.TailFinalRefIdeal.main_arg5) = m ((c.tc : Thread Cert.TailFinalRefIdeal.nD Cert.TailFinalRefIdeal.τ).loc Cert.TailFinalRefIdeal.main_arg5)
      ∧ r.2.mem ((c.tc : Thread Cert.TailFinalRefIdeal.nD Cert.TailFinalRefIdeal.τ).loc Cert.TailFinalRefIdeal.main_arg6) = m ((c.tc : Thread Cert.TailFinalRefIdeal.nD Cert.TailFinalRefIdeal.τ).loc Cert.TailFinalRefIdeal.main_arg6)
      ∧ r.2.mem ((c.tc : Thread Cert.TailFinalRefIdeal.nD Cert.TailFinalRefIdeal.τ).loc Cert.TailFinalRefIdeal.main_arg7) = m ((c.tc : Thread Cert.TailFinalRefIdeal.nD Cert.TailFinalRefIdeal.τ).loc Cert.TailFinalRefIdeal.main_arg7)
      ∧ r.2.mem ((c.tc : Thread Cert.TailFinalRefIdeal.nD Cert.TailFinalRefIdeal.τ).loc Cert.TailFinalRefIdeal.main_arg8) = m ((c.tc : Thread Cert.TailFinalRefIdeal.nD Cert.TailFinalRefIdeal.τ).loc Cert.TailFinalRefIdeal.main_arg8)
      ∧ r.2.mem ((c.tc : Thread Cert.TailFinalRefIdeal.nD Cert.TailFinalRefIdeal.τ).loc Cert.TailFinalRefIdeal.main_arg9) = m ((c.tc : Thread Cert.TailFinalRefIdeal.nD Cert.TailFinalRefIdeal.τ).loc Cert.TailFinalRefIdeal.main_arg9))
      ∧ r.2.sem = fun _ => 0)

def quiescent_TailCtx [hTailCtx : Cert.TailCtx.Facts] : Prop :=
  ∀ (m : (ℓ : Loc Cert.TailCtx.nD Cert.TailCtx.τ Cert.TailCtx.sig) → Buf (Elt Bits) ℓ) (g : Dev Cert.TailCtx.nD → PrngReg), Pre_TailCtx m →
    θ_run (Cert.TailCtx.defs (F := Bits)) (onTc (τ := Cert.TailCtx.τ) (Cert.TailCtx.main (F := Bits))) ⟨m, fun _ => 0, g⟩ (fun r => (∀ c : Dev Cert.TailCtx.nD,
      r.2.mem ((c.tc : Thread Cert.TailCtx.nD Cert.TailCtx.τ).loc Cert.TailCtx.main_arg0) = m ((c.tc : Thread Cert.TailCtx.nD Cert.TailCtx.τ).loc Cert.TailCtx.main_arg0)
      ∧ r.2.mem ((c.tc : Thread Cert.TailCtx.nD Cert.TailCtx.τ).loc Cert.TailCtx.main_arg1) = m ((c.tc : Thread Cert.TailCtx.nD Cert.TailCtx.τ).loc Cert.TailCtx.main_arg1)
      ∧ r.2.mem ((c.tc : Thread Cert.TailCtx.nD Cert.TailCtx.τ).loc Cert.TailCtx.main_arg2) = m ((c.tc : Thread Cert.TailCtx.nD Cert.TailCtx.τ).loc Cert.TailCtx.main_arg2)
      ∧ r.2.mem ((c.tc : Thread Cert.TailCtx.nD Cert.TailCtx.τ).loc Cert.TailCtx.main_arg3) = m ((c.tc : Thread Cert.TailCtx.nD Cert.TailCtx.τ).loc Cert.TailCtx.main_arg3)
      ∧ r.2.mem ((c.tc : Thread Cert.TailCtx.nD Cert.TailCtx.τ).loc Cert.TailCtx.main_arg4) = m ((c.tc : Thread Cert.TailCtx.nD Cert.TailCtx.τ).loc Cert.TailCtx.main_arg4)
      ∧ r.2.mem ((c.tc : Thread Cert.TailCtx.nD Cert.TailCtx.τ).loc Cert.TailCtx.main_arg5) = m ((c.tc : Thread Cert.TailCtx.nD Cert.TailCtx.τ).loc Cert.TailCtx.main_arg5)
      ∧ r.2.mem ((c.tc : Thread Cert.TailCtx.nD Cert.TailCtx.τ).loc Cert.TailCtx.main_arg6) = m ((c.tc : Thread Cert.TailCtx.nD Cert.TailCtx.τ).loc Cert.TailCtx.main_arg6)
      ∧ r.2.mem ((c.tc : Thread Cert.TailCtx.nD Cert.TailCtx.τ).loc Cert.TailCtx.main_arg7) = m ((c.tc : Thread Cert.TailCtx.nD Cert.TailCtx.τ).loc Cert.TailCtx.main_arg7)
      ∧ r.2.mem ((c.tc : Thread Cert.TailCtx.nD Cert.TailCtx.τ).loc Cert.TailCtx.main_arg8) = m ((c.tc : Thread Cert.TailCtx.nD Cert.TailCtx.τ).loc Cert.TailCtx.main_arg8))
      ∧ r.2.sem = fun _ => 0)

def quiescent_TailCtxIdeal [hTailCtxIdeal : Cert.TailCtxIdeal.Facts] : Prop :=
  ∀ (m : (ℓ : Loc Cert.TailCtxIdeal.nD Cert.TailCtxIdeal.τ Cert.TailCtxIdeal.sig) → Buf (Elt Ideal) ℓ) (g : Dev Cert.TailCtxIdeal.nD → PrngReg), Pre_TailCtxIdeal m →
    θ_run (Cert.TailCtxIdeal.defs (F := Ideal)) (onTc (τ := Cert.TailCtxIdeal.τ) (Cert.TailCtxIdeal.main (F := Ideal))) ⟨m, fun _ => 0, g⟩ (fun r => (∀ c : Dev Cert.TailCtxIdeal.nD,
      r.2.mem ((c.tc : Thread Cert.TailCtxIdeal.nD Cert.TailCtxIdeal.τ).loc Cert.TailCtxIdeal.main_arg0) = m ((c.tc : Thread Cert.TailCtxIdeal.nD Cert.TailCtxIdeal.τ).loc Cert.TailCtxIdeal.main_arg0)
      ∧ r.2.mem ((c.tc : Thread Cert.TailCtxIdeal.nD Cert.TailCtxIdeal.τ).loc Cert.TailCtxIdeal.main_arg1) = m ((c.tc : Thread Cert.TailCtxIdeal.nD Cert.TailCtxIdeal.τ).loc Cert.TailCtxIdeal.main_arg1)
      ∧ r.2.mem ((c.tc : Thread Cert.TailCtxIdeal.nD Cert.TailCtxIdeal.τ).loc Cert.TailCtxIdeal.main_arg2) = m ((c.tc : Thread Cert.TailCtxIdeal.nD Cert.TailCtxIdeal.τ).loc Cert.TailCtxIdeal.main_arg2)
      ∧ r.2.mem ((c.tc : Thread Cert.TailCtxIdeal.nD Cert.TailCtxIdeal.τ).loc Cert.TailCtxIdeal.main_arg3) = m ((c.tc : Thread Cert.TailCtxIdeal.nD Cert.TailCtxIdeal.τ).loc Cert.TailCtxIdeal.main_arg3)
      ∧ r.2.mem ((c.tc : Thread Cert.TailCtxIdeal.nD Cert.TailCtxIdeal.τ).loc Cert.TailCtxIdeal.main_arg4) = m ((c.tc : Thread Cert.TailCtxIdeal.nD Cert.TailCtxIdeal.τ).loc Cert.TailCtxIdeal.main_arg4)
      ∧ r.2.mem ((c.tc : Thread Cert.TailCtxIdeal.nD Cert.TailCtxIdeal.τ).loc Cert.TailCtxIdeal.main_arg5) = m ((c.tc : Thread Cert.TailCtxIdeal.nD Cert.TailCtxIdeal.τ).loc Cert.TailCtxIdeal.main_arg5)
      ∧ r.2.mem ((c.tc : Thread Cert.TailCtxIdeal.nD Cert.TailCtxIdeal.τ).loc Cert.TailCtxIdeal.main_arg6) = m ((c.tc : Thread Cert.TailCtxIdeal.nD Cert.TailCtxIdeal.τ).loc Cert.TailCtxIdeal.main_arg6)
      ∧ r.2.mem ((c.tc : Thread Cert.TailCtxIdeal.nD Cert.TailCtxIdeal.τ).loc Cert.TailCtxIdeal.main_arg7) = m ((c.tc : Thread Cert.TailCtxIdeal.nD Cert.TailCtxIdeal.τ).loc Cert.TailCtxIdeal.main_arg7)
      ∧ r.2.mem ((c.tc : Thread Cert.TailCtxIdeal.nD Cert.TailCtxIdeal.τ).loc Cert.TailCtxIdeal.main_arg8) = m ((c.tc : Thread Cert.TailCtxIdeal.nD Cert.TailCtxIdeal.τ).loc Cert.TailCtxIdeal.main_arg8))
      ∧ r.2.sem = fun _ => 0)

def quiescent_TailCtxRefIdeal [hTailCtxRefIdeal : Cert.TailCtxRefIdeal.Facts] : Prop :=
  ∀ (m : (ℓ : Loc Cert.TailCtxRefIdeal.nD Cert.TailCtxRefIdeal.τ Cert.TailCtxRefIdeal.sig) → Buf (Elt Ideal) ℓ) (g : Dev Cert.TailCtxRefIdeal.nD → PrngReg), Pre_TailCtxRefIdeal m →
    θ_run (Cert.TailCtxRefIdeal.defs (F := Ideal)) (onTc (τ := Cert.TailCtxRefIdeal.τ) (Cert.TailCtxRefIdeal.main (F := Ideal))) ⟨m, fun _ => 0, g⟩ (fun r => (∀ c : Dev Cert.TailCtxRefIdeal.nD,
      r.2.mem ((c.tc : Thread Cert.TailCtxRefIdeal.nD Cert.TailCtxRefIdeal.τ).loc Cert.TailCtxRefIdeal.main_arg0) = m ((c.tc : Thread Cert.TailCtxRefIdeal.nD Cert.TailCtxRefIdeal.τ).loc Cert.TailCtxRefIdeal.main_arg0)
      ∧ r.2.mem ((c.tc : Thread Cert.TailCtxRefIdeal.nD Cert.TailCtxRefIdeal.τ).loc Cert.TailCtxRefIdeal.main_arg1) = m ((c.tc : Thread Cert.TailCtxRefIdeal.nD Cert.TailCtxRefIdeal.τ).loc Cert.TailCtxRefIdeal.main_arg1)
      ∧ r.2.mem ((c.tc : Thread Cert.TailCtxRefIdeal.nD Cert.TailCtxRefIdeal.τ).loc Cert.TailCtxRefIdeal.main_arg2) = m ((c.tc : Thread Cert.TailCtxRefIdeal.nD Cert.TailCtxRefIdeal.τ).loc Cert.TailCtxRefIdeal.main_arg2)
      ∧ r.2.mem ((c.tc : Thread Cert.TailCtxRefIdeal.nD Cert.TailCtxRefIdeal.τ).loc Cert.TailCtxRefIdeal.main_arg3) = m ((c.tc : Thread Cert.TailCtxRefIdeal.nD Cert.TailCtxRefIdeal.τ).loc Cert.TailCtxRefIdeal.main_arg3)
      ∧ r.2.mem ((c.tc : Thread Cert.TailCtxRefIdeal.nD Cert.TailCtxRefIdeal.τ).loc Cert.TailCtxRefIdeal.main_arg4) = m ((c.tc : Thread Cert.TailCtxRefIdeal.nD Cert.TailCtxRefIdeal.τ).loc Cert.TailCtxRefIdeal.main_arg4)
      ∧ r.2.mem ((c.tc : Thread Cert.TailCtxRefIdeal.nD Cert.TailCtxRefIdeal.τ).loc Cert.TailCtxRefIdeal.main_arg5) = m ((c.tc : Thread Cert.TailCtxRefIdeal.nD Cert.TailCtxRefIdeal.τ).loc Cert.TailCtxRefIdeal.main_arg5)
      ∧ r.2.mem ((c.tc : Thread Cert.TailCtxRefIdeal.nD Cert.TailCtxRefIdeal.τ).loc Cert.TailCtxRefIdeal.main_arg6) = m ((c.tc : Thread Cert.TailCtxRefIdeal.nD Cert.TailCtxRefIdeal.τ).loc Cert.TailCtxRefIdeal.main_arg6)
      ∧ r.2.mem ((c.tc : Thread Cert.TailCtxRefIdeal.nD Cert.TailCtxRefIdeal.τ).loc Cert.TailCtxRefIdeal.main_arg7) = m ((c.tc : Thread Cert.TailCtxRefIdeal.nD Cert.TailCtxRefIdeal.τ).loc Cert.TailCtxRefIdeal.main_arg7)
      ∧ r.2.mem ((c.tc : Thread Cert.TailCtxRefIdeal.nD Cert.TailCtxRefIdeal.τ).loc Cert.TailCtxRefIdeal.main_arg8) = m ((c.tc : Thread Cert.TailCtxRefIdeal.nD Cert.TailCtxRefIdeal.τ).loc Cert.TailCtxRefIdeal.main_arg8))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2)
      ∧ r.2.mem ((c.tc : Thread Cert.AttnA.nD Cert.AttnA.τ).loc Cert.AttnA.main_arg3) = m ((c.tc : Thread Cert.AttnA.nD Cert.AttnA.τ).loc Cert.AttnA.main_arg3)
      ∧ r.2.mem ((c.tc : Thread Cert.AttnA.nD Cert.AttnA.τ).loc Cert.AttnA.main_arg4) = m ((c.tc : Thread Cert.AttnA.nD Cert.AttnA.τ).loc Cert.AttnA.main_arg4)
      ∧ r.2.mem ((c.tc : Thread Cert.AttnA.nD Cert.AttnA.τ).loc Cert.AttnA.main_arg5) = m ((c.tc : Thread Cert.AttnA.nD Cert.AttnA.τ).loc Cert.AttnA.main_arg5)
      ∧ r.2.mem ((c.tc : Thread Cert.AttnA.nD Cert.AttnA.τ).loc Cert.AttnA.main_arg6) = m ((c.tc : Thread Cert.AttnA.nD Cert.AttnA.τ).loc Cert.AttnA.main_arg6)
      ∧ r.2.mem ((c.tc : Thread Cert.AttnA.nD Cert.AttnA.τ).loc Cert.AttnA.main_arg7) = m ((c.tc : Thread Cert.AttnA.nD Cert.AttnA.τ).loc Cert.AttnA.main_arg7)
      ∧ r.2.mem ((c.tc : Thread Cert.AttnA.nD Cert.AttnA.τ).loc Cert.AttnA.main_arg8) = m ((c.tc : Thread Cert.AttnA.nD Cert.AttnA.τ).loc Cert.AttnA.main_arg8)
      ∧ r.2.mem ((c.tc : Thread Cert.AttnA.nD Cert.AttnA.τ).loc Cert.AttnA.main_arg9) = m ((c.tc : Thread Cert.AttnA.nD Cert.AttnA.τ).loc Cert.AttnA.main_arg9))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
      ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4)
      ∧ r.2.mem ((c.tc : Thread Cert.AttnAIdeal.nD Cert.AttnAIdeal.τ).loc Cert.AttnAIdeal.main_arg5) = m ((c.tc : Thread Cert.AttnAIdeal.nD Cert.AttnAIdeal.τ).loc Cert.AttnAIdeal.main_arg5)
      ∧ r.2.mem ((c.tc : Thread Cert.AttnAIdeal.nD Cert.AttnAIdeal.τ).loc Cert.AttnAIdeal.main_arg6) = m ((c.tc : Thread Cert.AttnAIdeal.nD Cert.AttnAIdeal.τ).loc Cert.AttnAIdeal.main_arg6)
      ∧ r.2.mem ((c.tc : Thread Cert.AttnAIdeal.nD Cert.AttnAIdeal.τ).loc Cert.AttnAIdeal.main_arg7) = m ((c.tc : Thread Cert.AttnAIdeal.nD Cert.AttnAIdeal.τ).loc Cert.AttnAIdeal.main_arg7)
      ∧ r.2.mem ((c.tc : Thread Cert.AttnAIdeal.nD Cert.AttnAIdeal.τ).loc Cert.AttnAIdeal.main_arg8) = m ((c.tc : Thread Cert.AttnAIdeal.nD Cert.AttnAIdeal.τ).loc Cert.AttnAIdeal.main_arg8)
      ∧ r.2.mem ((c.tc : Thread Cert.AttnAIdeal.nD Cert.AttnAIdeal.τ).loc Cert.AttnAIdeal.main_arg9) = m ((c.tc : Thread Cert.AttnAIdeal.nD Cert.AttnAIdeal.τ).loc Cert.AttnAIdeal.main_arg9))
      ∧ r.2.sem = fun _ => 0)

def quiescent_AttnAIdeal_pre_finite_a [hAttnAIdeal : Cert.AttnAIdeal.Facts] [hPre_finite_a : Cert.Pre_finite_a.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_a m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
      ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4)
      ∧ r.2.mem ((c.tc : Thread Cert.AttnAIdeal.nD Cert.AttnAIdeal.τ).loc Cert.AttnAIdeal.main_arg5) = m ((c.tc : Thread Cert.AttnAIdeal.nD Cert.AttnAIdeal.τ).loc Cert.AttnAIdeal.main_arg5)
      ∧ r.2.mem ((c.tc : Thread Cert.AttnAIdeal.nD Cert.AttnAIdeal.τ).loc Cert.AttnAIdeal.main_arg6) = m ((c.tc : Thread Cert.AttnAIdeal.nD Cert.AttnAIdeal.τ).loc Cert.AttnAIdeal.main_arg6)
      ∧ r.2.mem ((c.tc : Thread Cert.AttnAIdeal.nD Cert.AttnAIdeal.τ).loc Cert.AttnAIdeal.main_arg7) = m ((c.tc : Thread Cert.AttnAIdeal.nD Cert.AttnAIdeal.τ).loc Cert.AttnAIdeal.main_arg7)
      ∧ r.2.mem ((c.tc : Thread Cert.AttnAIdeal.nD Cert.AttnAIdeal.τ).loc Cert.AttnAIdeal.main_arg8) = m ((c.tc : Thread Cert.AttnAIdeal.nD Cert.AttnAIdeal.τ).loc Cert.AttnAIdeal.main_arg8)
      ∧ r.2.mem ((c.tc : Thread Cert.AttnAIdeal.nD Cert.AttnAIdeal.τ).loc Cert.AttnAIdeal.main_arg9) = m ((c.tc : Thread Cert.AttnAIdeal.nD Cert.AttnAIdeal.τ).loc Cert.AttnAIdeal.main_arg9))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3)
      ∧ r.2.mem ((c.tc : Thread Cert.AttnARefIdeal.nD Cert.AttnARefIdeal.τ).loc Cert.AttnARefIdeal.main_arg4) = m ((c.tc : Thread Cert.AttnARefIdeal.nD Cert.AttnARefIdeal.τ).loc Cert.AttnARefIdeal.main_arg4)
      ∧ r.2.mem ((c.tc : Thread Cert.AttnARefIdeal.nD Cert.AttnARefIdeal.τ).loc Cert.AttnARefIdeal.main_arg5) = m ((c.tc : Thread Cert.AttnARefIdeal.nD Cert.AttnARefIdeal.τ).loc Cert.AttnARefIdeal.main_arg5)
      ∧ r.2.mem ((c.tc : Thread Cert.AttnARefIdeal.nD Cert.AttnARefIdeal.τ).loc Cert.AttnARefIdeal.main_arg6) = m ((c.tc : Thread Cert.AttnARefIdeal.nD Cert.AttnARefIdeal.τ).loc Cert.AttnARefIdeal.main_arg6)
      ∧ r.2.mem ((c.tc : Thread Cert.AttnARefIdeal.nD Cert.AttnARefIdeal.τ).loc Cert.AttnARefIdeal.main_arg7) = m ((c.tc : Thread Cert.AttnARefIdeal.nD Cert.AttnARefIdeal.τ).loc Cert.AttnARefIdeal.main_arg7)
      ∧ r.2.mem ((c.tc : Thread Cert.AttnARefIdeal.nD Cert.AttnARefIdeal.τ).loc Cert.AttnARefIdeal.main_arg8) = m ((c.tc : Thread Cert.AttnARefIdeal.nD Cert.AttnARefIdeal.τ).loc Cert.AttnARefIdeal.main_arg8)
      ∧ r.2.mem ((c.tc : Thread Cert.AttnARefIdeal.nD Cert.AttnARefIdeal.τ).loc Cert.AttnARefIdeal.main_arg9) = m ((c.tc : Thread Cert.AttnARefIdeal.nD Cert.AttnARefIdeal.τ).loc Cert.AttnARefIdeal.main_arg9))
      ∧ r.2.sem = fun _ => 0)

def quiescent_AttnARefIdeal_pre_finite_a [hAttnARefIdeal : Cert.AttnARefIdeal.Facts] [hPre_finite_a : Cert.Pre_finite_a.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_a m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3)
      ∧ r.2.mem ((c.tc : Thread Cert.AttnARefIdeal.nD Cert.AttnARefIdeal.τ).loc Cert.AttnARefIdeal.main_arg4) = m ((c.tc : Thread Cert.AttnARefIdeal.nD Cert.AttnARefIdeal.τ).loc Cert.AttnARefIdeal.main_arg4)
      ∧ r.2.mem ((c.tc : Thread Cert.AttnARefIdeal.nD Cert.AttnARefIdeal.τ).loc Cert.AttnARefIdeal.main_arg5) = m ((c.tc : Thread Cert.AttnARefIdeal.nD Cert.AttnARefIdeal.τ).loc Cert.AttnARefIdeal.main_arg5)
      ∧ r.2.mem ((c.tc : Thread Cert.AttnARefIdeal.nD Cert.AttnARefIdeal.τ).loc Cert.AttnARefIdeal.main_arg6) = m ((c.tc : Thread Cert.AttnARefIdeal.nD Cert.AttnARefIdeal.τ).loc Cert.AttnARefIdeal.main_arg6)
      ∧ r.2.mem ((c.tc : Thread Cert.AttnARefIdeal.nD Cert.AttnARefIdeal.τ).loc Cert.AttnARefIdeal.main_arg7) = m ((c.tc : Thread Cert.AttnARefIdeal.nD Cert.AttnARefIdeal.τ).loc Cert.AttnARefIdeal.main_arg7)
      ∧ r.2.mem ((c.tc : Thread Cert.AttnARefIdeal.nD Cert.AttnARefIdeal.τ).loc Cert.AttnARefIdeal.main_arg8) = m ((c.tc : Thread Cert.AttnARefIdeal.nD Cert.AttnARefIdeal.τ).loc Cert.AttnARefIdeal.main_arg8)
      ∧ r.2.mem ((c.tc : Thread Cert.AttnARefIdeal.nD Cert.AttnARefIdeal.τ).loc Cert.AttnARefIdeal.main_arg9) = m ((c.tc : Thread Cert.AttnARefIdeal.nD Cert.AttnARefIdeal.τ).loc Cert.AttnARefIdeal.main_arg9))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4)
      ∧ r.2.mem ((c.tc : Thread Cert.ProjA.nD Cert.ProjA.τ).loc Cert.ProjA.main_arg5) = m ((c.tc : Thread Cert.ProjA.nD Cert.ProjA.τ).loc Cert.ProjA.main_arg5))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
      ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2)
      ∧ r.2.mem ((c.tc : Thread Cert.ProjARefIdeal.nD Cert.ProjARefIdeal.τ).loc Cert.ProjARefIdeal.main_arg3) = m ((c.tc : Thread Cert.ProjARefIdeal.nD Cert.ProjARefIdeal.τ).loc Cert.ProjARefIdeal.main_arg3)
      ∧ r.2.mem ((c.tc : Thread Cert.ProjARefIdeal.nD Cert.ProjARefIdeal.τ).loc Cert.ProjARefIdeal.main_arg4) = m ((c.tc : Thread Cert.ProjARefIdeal.nD Cert.ProjARefIdeal.τ).loc Cert.ProjARefIdeal.main_arg4)
      ∧ r.2.mem ((c.tc : Thread Cert.ProjARefIdeal.nD Cert.ProjARefIdeal.τ).loc Cert.ProjARefIdeal.main_arg5) = m ((c.tc : Thread Cert.ProjARefIdeal.nD Cert.ProjARefIdeal.τ).loc Cert.ProjARefIdeal.main_arg5))
      ∧ r.2.sem = fun _ => 0)

def preserves_AttnC_AttnCIdeal : Prop :=
  True

def algebraic_AttnCIdeal_AttnCRefIdeal_pre_finite_c [hAttnCIdeal : Cert.AttnCIdeal.Facts] [hAttnCRefIdeal : Cert.AttnCRefIdeal.Facts] [hPre_finite_c : Cert.Pre_finite_c.Facts] : Prop :=
  ∀ (m : (ℓ : Loc Cert.AttnCIdeal.nD Cert.AttnCIdeal.τ Cert.AttnCIdeal.sig) → Buf (Elt Ideal) ℓ) (g : Dev Cert.AttnCIdeal.nD → PrngReg)
    (m' : (ℓ : Loc Cert.AttnCRefIdeal.nD Cert.AttnCRefIdeal.τ Cert.AttnCRefIdeal.sig) → Buf (Elt Ideal) ℓ) (g' : Dev Cert.AttnCRefIdeal.nD → PrngReg), Pre_AttnCIdeal_finite_c m →
    (∀ c : Dev Cert.AttnCIdeal.nD,
      m' ((c.tc : Thread Cert.AttnCRefIdeal.nD Cert.AttnCRefIdeal.τ).loc Cert.AttnCRefIdeal.main_arg0) = m ((c.tc : Thread Cert.AttnCIdeal.nD Cert.AttnCIdeal.τ).loc Cert.AttnCIdeal.main_arg0)
      ∧ m' ((c.tc : Thread Cert.AttnCRefIdeal.nD Cert.AttnCRefIdeal.τ).loc Cert.AttnCRefIdeal.main_arg1) = m ((c.tc : Thread Cert.AttnCIdeal.nD Cert.AttnCIdeal.τ).loc Cert.AttnCIdeal.main_arg1)
      ∧ m' ((c.tc : Thread Cert.AttnCRefIdeal.nD Cert.AttnCRefIdeal.τ).loc Cert.AttnCRefIdeal.main_arg2) = m ((c.tc : Thread Cert.AttnCIdeal.nD Cert.AttnCIdeal.τ).loc Cert.AttnCIdeal.main_arg2)
      ∧ m' ((c.tc : Thread Cert.AttnCRefIdeal.nD Cert.AttnCRefIdeal.τ).loc Cert.AttnCRefIdeal.main_arg3) = m ((c.tc : Thread Cert.AttnCIdeal.nD Cert.AttnCIdeal.τ).loc Cert.AttnCIdeal.main_arg3)
      ∧ m' ((c.tc : Thread Cert.AttnCRefIdeal.nD Cert.AttnCRefIdeal.τ).loc Cert.AttnCRefIdeal.main_arg4) = m ((c.tc : Thread Cert.AttnCIdeal.nD Cert.AttnCIdeal.τ).loc Cert.AttnCIdeal.main_arg4)) →
    ∃ (v0 : (c : Dev Cert.AttnCIdeal.nD) → Buf (Elt Ideal) ((c.tc : Thread Cert.AttnCIdeal.nD Cert.AttnCIdeal.τ).loc Cert.AttnCIdeal.main_v0)),
      θ_run (Cert.AttnCIdeal.defs (F := Ideal)) (onTc (τ := Cert.AttnCIdeal.τ) (Cert.AttnCIdeal.main (F := Ideal))) ⟨m, fun _ => 0, g⟩ (fun r => ∀ c : Dev Cert.AttnCIdeal.nD,
          r.2.mem ((c.tc : Thread Cert.AttnCIdeal.nD Cert.AttnCIdeal.τ).loc Cert.AttnCIdeal.main_v0) = v0 c
          ∧ r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
          ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
          ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2)
          ∧ r.2.mem ((c.tc : Thread Cert.AttnCIdeal.nD Cert.AttnCIdeal.τ).loc Cert.AttnCIdeal.main_arg3) = m ((c.tc : Thread Cert.AttnCIdeal.nD Cert.AttnCIdeal.τ).loc Cert.AttnCIdeal.main_arg3)
          ∧ r.2.mem ((c.tc : Thread Cert.AttnCIdeal.nD Cert.AttnCIdeal.τ).loc Cert.AttnCIdeal.main_arg4) = m ((c.tc : Thread Cert.AttnCIdeal.nD Cert.AttnCIdeal.τ).loc Cert.AttnCIdeal.main_arg4))
      ∧ θ_run (Cert.AttnCRefIdeal.defs (F := Ideal)) (onTc (τ := Cert.AttnCRefIdeal.τ) (Cert.AttnCRefIdeal.main (F := Ideal))) ⟨m', fun _ => 0, g'⟩ (fun r => ∀ c : Dev Cert.AttnCRefIdeal.nD,
          r.2.mem ((c.tc : Thread Cert.AttnCRefIdeal.nD Cert.AttnCRefIdeal.τ).loc Cert.AttnCRefIdeal.main_v27) = v0 c
          ∧ r.2.mem ((c.tc : Thread Cert.AttnCRefIdeal.nD Cert.AttnCRefIdeal.τ).loc Cert.AttnCRefIdeal.main_arg0) = m' ((c.tc : Thread Cert.AttnCRefIdeal.nD Cert.AttnCRefIdeal.τ).loc Cert.AttnCRefIdeal.main_arg0)
          ∧ r.2.mem ((c.tc : Thread Cert.AttnCRefIdeal.nD Cert.AttnCRefIdeal.τ).loc Cert.AttnCRefIdeal.main_arg1) = m' ((c.tc : Thread Cert.AttnCRefIdeal.nD Cert.AttnCRefIdeal.τ).loc Cert.AttnCRefIdeal.main_arg1)
          ∧ r.2.mem ((c.tc : Thread Cert.AttnCRefIdeal.nD Cert.AttnCRefIdeal.τ).loc Cert.AttnCRefIdeal.main_arg2) = m' ((c.tc : Thread Cert.AttnCRefIdeal.nD Cert.AttnCRefIdeal.τ).loc Cert.AttnCRefIdeal.main_arg2)
          ∧ r.2.mem ((c.tc : Thread Cert.AttnCRefIdeal.nD Cert.AttnCRefIdeal.τ).loc Cert.AttnCRefIdeal.main_arg3) = m' ((c.tc : Thread Cert.AttnCRefIdeal.nD Cert.AttnCRefIdeal.τ).loc Cert.AttnCRefIdeal.main_arg3)
          ∧ r.2.mem ((c.tc : Thread Cert.AttnCRefIdeal.nD Cert.AttnCRefIdeal.τ).loc Cert.AttnCRefIdeal.main_arg4) = m' ((c.tc : Thread Cert.AttnCRefIdeal.nD Cert.AttnCRefIdeal.τ).loc Cert.AttnCRefIdeal.main_arg4))

def preserves_AttnD_AttnDIdeal : Prop :=
  True

def algebraic_AttnDIdeal_AttnDRefIdeal_pre_finite_d [hAttnDIdeal : Cert.AttnDIdeal.Facts] [hAttnDRefIdeal : Cert.AttnDRefIdeal.Facts] [hPre_finite_d : Cert.Pre_finite_d.Facts] : Prop :=
  ∀ (m : (ℓ : Loc Cert.AttnDIdeal.nD Cert.AttnDIdeal.τ Cert.AttnDIdeal.sig) → Buf (Elt Ideal) ℓ) (g : Dev Cert.AttnDIdeal.nD → PrngReg)
    (m' : (ℓ : Loc Cert.AttnDRefIdeal.nD Cert.AttnDRefIdeal.τ Cert.AttnDRefIdeal.sig) → Buf (Elt Ideal) ℓ) (g' : Dev Cert.AttnDRefIdeal.nD → PrngReg), Pre_AttnDIdeal_finite_d m →
    (∀ c : Dev Cert.AttnDIdeal.nD,
      m' ((c.tc : Thread Cert.AttnDRefIdeal.nD Cert.AttnDRefIdeal.τ).loc Cert.AttnDRefIdeal.main_arg0) = m ((c.tc : Thread Cert.AttnDIdeal.nD Cert.AttnDIdeal.τ).loc Cert.AttnDIdeal.main_arg0)
      ∧ m' ((c.tc : Thread Cert.AttnDRefIdeal.nD Cert.AttnDRefIdeal.τ).loc Cert.AttnDRefIdeal.main_arg1) = m ((c.tc : Thread Cert.AttnDIdeal.nD Cert.AttnDIdeal.τ).loc Cert.AttnDIdeal.main_arg1)
      ∧ m' ((c.tc : Thread Cert.AttnDRefIdeal.nD Cert.AttnDRefIdeal.τ).loc Cert.AttnDRefIdeal.main_arg2) = m ((c.tc : Thread Cert.AttnDIdeal.nD Cert.AttnDIdeal.τ).loc Cert.AttnDIdeal.main_arg2)
      ∧ m' ((c.tc : Thread Cert.AttnDRefIdeal.nD Cert.AttnDRefIdeal.τ).loc Cert.AttnDRefIdeal.main_arg3) = m ((c.tc : Thread Cert.AttnDIdeal.nD Cert.AttnDIdeal.τ).loc Cert.AttnDIdeal.main_arg3)
      ∧ m' ((c.tc : Thread Cert.AttnDRefIdeal.nD Cert.AttnDRefIdeal.τ).loc Cert.AttnDRefIdeal.main_arg4) = m ((c.tc : Thread Cert.AttnDIdeal.nD Cert.AttnDIdeal.τ).loc Cert.AttnDIdeal.main_arg4)) →
    ∃ (v0 : (c : Dev Cert.AttnDIdeal.nD) → Buf (Elt Ideal) ((c.tc : Thread Cert.AttnDIdeal.nD Cert.AttnDIdeal.τ).loc Cert.AttnDIdeal.main_v0)),
      θ_run (Cert.AttnDIdeal.defs (F := Ideal)) (onTc (τ := Cert.AttnDIdeal.τ) (Cert.AttnDIdeal.main (F := Ideal))) ⟨m, fun _ => 0, g⟩ (fun r => ∀ c : Dev Cert.AttnDIdeal.nD,
          r.2.mem ((c.tc : Thread Cert.AttnDIdeal.nD Cert.AttnDIdeal.τ).loc Cert.AttnDIdeal.main_v0) = v0 c
          ∧ r.2.mem ((c.tc : Thread Cert.AttnDIdeal.nD Cert.AttnDIdeal.τ).loc Cert.AttnDIdeal.main_arg0) = m ((c.tc : Thread Cert.AttnDIdeal.nD Cert.AttnDIdeal.τ).loc Cert.AttnDIdeal.main_arg0)
          ∧ r.2.mem ((c.tc : Thread Cert.AttnDIdeal.nD Cert.AttnDIdeal.τ).loc Cert.AttnDIdeal.main_arg1) = m ((c.tc : Thread Cert.AttnDIdeal.nD Cert.AttnDIdeal.τ).loc Cert.AttnDIdeal.main_arg1)
          ∧ r.2.mem ((c.tc : Thread Cert.AttnDIdeal.nD Cert.AttnDIdeal.τ).loc Cert.AttnDIdeal.main_arg2) = m ((c.tc : Thread Cert.AttnDIdeal.nD Cert.AttnDIdeal.τ).loc Cert.AttnDIdeal.main_arg2)
          ∧ r.2.mem ((c.tc : Thread Cert.AttnDIdeal.nD Cert.AttnDIdeal.τ).loc Cert.AttnDIdeal.main_arg3) = m ((c.tc : Thread Cert.AttnDIdeal.nD Cert.AttnDIdeal.τ).loc Cert.AttnDIdeal.main_arg3)
          ∧ r.2.mem ((c.tc : Thread Cert.AttnDIdeal.nD Cert.AttnDIdeal.τ).loc Cert.AttnDIdeal.main_arg4) = m ((c.tc : Thread Cert.AttnDIdeal.nD Cert.AttnDIdeal.τ).loc Cert.AttnDIdeal.main_arg4))
      ∧ θ_run (Cert.AttnDRefIdeal.defs (F := Ideal)) (onTc (τ := Cert.AttnDRefIdeal.τ) (Cert.AttnDRefIdeal.main (F := Ideal))) ⟨m', fun _ => 0, g'⟩ (fun r => ∀ c : Dev Cert.AttnDRefIdeal.nD,
          r.2.mem ((c.tc : Thread Cert.AttnDRefIdeal.nD Cert.AttnDRefIdeal.τ).loc Cert.AttnDRefIdeal.main_v27) = v0 c
          ∧ r.2.mem ((c.tc : Thread Cert.AttnDRefIdeal.nD Cert.AttnDRefIdeal.τ).loc Cert.AttnDRefIdeal.main_arg0) = m' ((c.tc : Thread Cert.AttnDRefIdeal.nD Cert.AttnDRefIdeal.τ).loc Cert.AttnDRefIdeal.main_arg0)
          ∧ r.2.mem ((c.tc : Thread Cert.AttnDRefIdeal.nD Cert.AttnDRefIdeal.τ).loc Cert.AttnDRefIdeal.main_arg1) = m' ((c.tc : Thread Cert.AttnDRefIdeal.nD Cert.AttnDRefIdeal.τ).loc Cert.AttnDRefIdeal.main_arg1)
          ∧ r.2.mem ((c.tc : Thread Cert.AttnDRefIdeal.nD Cert.AttnDRefIdeal.τ).loc Cert.AttnDRefIdeal.main_arg2) = m' ((c.tc : Thread Cert.AttnDRefIdeal.nD Cert.AttnDRefIdeal.τ).loc Cert.AttnDRefIdeal.main_arg2)
          ∧ r.2.mem ((c.tc : Thread Cert.AttnDRefIdeal.nD Cert.AttnDRefIdeal.τ).loc Cert.AttnDRefIdeal.main_arg3) = m' ((c.tc : Thread Cert.AttnDRefIdeal.nD Cert.AttnDRefIdeal.τ).loc Cert.AttnDRefIdeal.main_arg3)
          ∧ r.2.mem ((c.tc : Thread Cert.AttnDRefIdeal.nD Cert.AttnDRefIdeal.τ).loc Cert.AttnDRefIdeal.main_arg4) = m' ((c.tc : Thread Cert.AttnDRefIdeal.nD Cert.AttnDRefIdeal.τ).loc Cert.AttnDRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v77) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_TailFinal_TailFinalIdeal : Prop :=
  True

def algebraic_TailFinalIdeal_TailFinalRefIdeal [hTailFinalIdeal : Cert.TailFinalIdeal.Facts] [hTailFinalRefIdeal : Cert.TailFinalRefIdeal.Facts] : Prop :=
  ∀ (m : (ℓ : Loc Cert.TailFinalIdeal.nD Cert.TailFinalIdeal.τ Cert.TailFinalIdeal.sig) → Buf (Elt Ideal) ℓ) (g : Dev Cert.TailFinalIdeal.nD → PrngReg)
    (m' : (ℓ : Loc Cert.TailFinalRefIdeal.nD Cert.TailFinalRefIdeal.τ Cert.TailFinalRefIdeal.sig) → Buf (Elt Ideal) ℓ) (g' : Dev Cert.TailFinalRefIdeal.nD → PrngReg), Pre_TailFinalIdeal m →
    (∀ c : Dev Cert.TailFinalIdeal.nD,
      m' ((c.tc : Thread Cert.TailFinalRefIdeal.nD Cert.TailFinalRefIdeal.τ).loc Cert.TailFinalRefIdeal.main_arg0) = m ((c.tc : Thread Cert.TailFinalIdeal.nD Cert.TailFinalIdeal.τ).loc Cert.TailFinalIdeal.main_arg0)
      ∧ m' ((c.tc : Thread Cert.TailFinalRefIdeal.nD Cert.TailFinalRefIdeal.τ).loc Cert.TailFinalRefIdeal.main_arg1) = m ((c.tc : Thread Cert.TailFinalIdeal.nD Cert.TailFinalIdeal.τ).loc Cert.TailFinalIdeal.main_arg1)
      ∧ m' ((c.tc : Thread Cert.TailFinalRefIdeal.nD Cert.TailFinalRefIdeal.τ).loc Cert.TailFinalRefIdeal.main_arg2) = m ((c.tc : Thread Cert.TailFinalIdeal.nD Cert.TailFinalIdeal.τ).loc Cert.TailFinalIdeal.main_arg2)
      ∧ m' ((c.tc : Thread Cert.TailFinalRefIdeal.nD Cert.TailFinalRefIdeal.τ).loc Cert.TailFinalRefIdeal.main_arg3) = m ((c.tc : Thread Cert.TailFinalIdeal.nD Cert.TailFinalIdeal.τ).loc Cert.TailFinalIdeal.main_arg3)
      ∧ m' ((c.tc : Thread Cert.TailFinalRefIdeal.nD Cert.TailFinalRefIdeal.τ).loc Cert.TailFinalRefIdeal.main_arg4) = m ((c.tc : Thread Cert.TailFinalIdeal.nD Cert.TailFinalIdeal.τ).loc Cert.TailFinalIdeal.main_arg4)
      ∧ m' ((c.tc : Thread Cert.TailFinalRefIdeal.nD Cert.TailFinalRefIdeal.τ).loc Cert.TailFinalRefIdeal.main_arg5) = m ((c.tc : Thread Cert.TailFinalIdeal.nD Cert.TailFinalIdeal.τ).loc Cert.TailFinalIdeal.main_arg5)
      ∧ m' ((c.tc : Thread Cert.TailFinalRefIdeal.nD Cert.TailFinalRefIdeal.τ).loc Cert.TailFinalRefIdeal.main_arg6) = m ((c.tc : Thread Cert.TailFinalIdeal.nD Cert.TailFinalIdeal.τ).loc Cert.TailFinalIdeal.main_arg6)
      ∧ m' ((c.tc : Thread Cert.TailFinalRefIdeal.nD Cert.TailFinalRefIdeal.τ).loc Cert.TailFinalRefIdeal.main_arg7) = m ((c.tc : Thread Cert.TailFinalIdeal.nD Cert.TailFinalIdeal.τ).loc Cert.TailFinalIdeal.main_arg7)
      ∧ m' ((c.tc : Thread Cert.TailFinalRefIdeal.nD Cert.TailFinalRefIdeal.τ).loc Cert.TailFinalRefIdeal.main_arg8) = m ((c.tc : Thread Cert.TailFinalIdeal.nD Cert.TailFinalIdeal.τ).loc Cert.TailFinalIdeal.main_arg8)
      ∧ m' ((c.tc : Thread Cert.TailFinalRefIdeal.nD Cert.TailFinalRefIdeal.τ).loc Cert.TailFinalRefIdeal.main_arg9) = m ((c.tc : Thread Cert.TailFinalIdeal.nD Cert.TailFinalIdeal.τ).loc Cert.TailFinalIdeal.main_arg9)) →
    ∃ (v0 : (c : Dev Cert.TailFinalIdeal.nD) → Buf (Elt Ideal) ((c.tc : Thread Cert.TailFinalIdeal.nD Cert.TailFinalIdeal.τ).loc Cert.TailFinalIdeal.main_v6)),
      θ_run (Cert.TailFinalIdeal.defs (F := Ideal)) (onTc (τ := Cert.TailFinalIdeal.τ) (Cert.TailFinalIdeal.main (F := Ideal))) ⟨m, fun _ => 0, g⟩ (fun r => ∀ c : Dev Cert.TailFinalIdeal.nD,
          r.2.mem ((c.tc : Thread Cert.TailFinalIdeal.nD Cert.TailFinalIdeal.τ).loc Cert.TailFinalIdeal.main_v6) = v0 c
          ∧ r.2.mem ((c.tc : Thread Cert.TailFinalIdeal.nD Cert.TailFinalIdeal.τ).loc Cert.TailFinalIdeal.main_arg0) = m ((c.tc : Thread Cert.TailFinalIdeal.nD Cert.TailFinalIdeal.τ).loc Cert.TailFinalIdeal.main_arg0)
          ∧ r.2.mem ((c.tc : Thread Cert.TailFinalIdeal.nD Cert.TailFinalIdeal.τ).loc Cert.TailFinalIdeal.main_arg1) = m ((c.tc : Thread Cert.TailFinalIdeal.nD Cert.TailFinalIdeal.τ).loc Cert.TailFinalIdeal.main_arg1)
          ∧ r.2.mem ((c.tc : Thread Cert.TailFinalIdeal.nD Cert.TailFinalIdeal.τ).loc Cert.TailFinalIdeal.main_arg2) = m ((c.tc : Thread Cert.TailFinalIdeal.nD Cert.TailFinalIdeal.τ).loc Cert.TailFinalIdeal.main_arg2)
          ∧ r.2.mem ((c.tc : Thread Cert.TailFinalIdeal.nD Cert.TailFinalIdeal.τ).loc Cert.TailFinalIdeal.main_arg3) = m ((c.tc : Thread Cert.TailFinalIdeal.nD Cert.TailFinalIdeal.τ).loc Cert.TailFinalIdeal.main_arg3)
          ∧ r.2.mem ((c.tc : Thread Cert.TailFinalIdeal.nD Cert.TailFinalIdeal.τ).loc Cert.TailFinalIdeal.main_arg4) = m ((c.tc : Thread Cert.TailFinalIdeal.nD Cert.TailFinalIdeal.τ).loc Cert.TailFinalIdeal.main_arg4)
          ∧ r.2.mem ((c.tc : Thread Cert.TailFinalIdeal.nD Cert.TailFinalIdeal.τ).loc Cert.TailFinalIdeal.main_arg5) = m ((c.tc : Thread Cert.TailFinalIdeal.nD Cert.TailFinalIdeal.τ).loc Cert.TailFinalIdeal.main_arg5)
          ∧ r.2.mem ((c.tc : Thread Cert.TailFinalIdeal.nD Cert.TailFinalIdeal.τ).loc Cert.TailFinalIdeal.main_arg6) = m ((c.tc : Thread Cert.TailFinalIdeal.nD Cert.TailFinalIdeal.τ).loc Cert.TailFinalIdeal.main_arg6)
          ∧ r.2.mem ((c.tc : Thread Cert.TailFinalIdeal.nD Cert.TailFinalIdeal.τ).loc Cert.TailFinalIdeal.main_arg7) = m ((c.tc : Thread Cert.TailFinalIdeal.nD Cert.TailFinalIdeal.τ).loc Cert.TailFinalIdeal.main_arg7)
          ∧ r.2.mem ((c.tc : Thread Cert.TailFinalIdeal.nD Cert.TailFinalIdeal.τ).loc Cert.TailFinalIdeal.main_arg8) = m ((c.tc : Thread Cert.TailFinalIdeal.nD Cert.TailFinalIdeal.τ).loc Cert.TailFinalIdeal.main_arg8)
          ∧ r.2.mem ((c.tc : Thread Cert.TailFinalIdeal.nD Cert.TailFinalIdeal.τ).loc Cert.TailFinalIdeal.main_arg9) = m ((c.tc : Thread Cert.TailFinalIdeal.nD Cert.TailFinalIdeal.τ).loc Cert.TailFinalIdeal.main_arg9))
      ∧ θ_run (Cert.TailFinalRefIdeal.defs (F := Ideal)) (onTc (τ := Cert.TailFinalRefIdeal.τ) (Cert.TailFinalRefIdeal.main (F := Ideal))) ⟨m', fun _ => 0, g'⟩ (fun r => ∀ c : Dev Cert.TailFinalRefIdeal.nD,
          r.2.mem ((c.tc : Thread Cert.TailFinalRefIdeal.nD Cert.TailFinalRefIdeal.τ).loc Cert.TailFinalRefIdeal.main_v92) = v0 c
          ∧ r.2.mem ((c.tc : Thread Cert.TailFinalRefIdeal.nD Cert.TailFinalRefIdeal.τ).loc Cert.TailFinalRefIdeal.main_arg0) = m' ((c.tc : Thread Cert.TailFinalRefIdeal.nD Cert.TailFinalRefIdeal.τ).loc Cert.TailFinalRefIdeal.main_arg0)
          ∧ r.2.mem ((c.tc : Thread Cert.TailFinalRefIdeal.nD Cert.TailFinalRefIdeal.τ).loc Cert.TailFinalRefIdeal.main_arg1) = m' ((c.tc : Thread Cert.TailFinalRefIdeal.nD Cert.TailFinalRefIdeal.τ).loc Cert.TailFinalRefIdeal.main_arg1)
          ∧ r.2.mem ((c.tc : Thread Cert.TailFinalRefIdeal.nD Cert.TailFinalRefIdeal.τ).loc Cert.TailFinalRefIdeal.main_arg2) = m' ((c.tc : Thread Cert.TailFinalRefIdeal.nD Cert.TailFinalRefIdeal.τ).loc Cert.TailFinalRefIdeal.main_arg2)
          ∧ r.2.mem ((c.tc : Thread Cert.TailFinalRefIdeal.nD Cert.TailFinalRefIdeal.τ).loc Cert.TailFinalRefIdeal.main_arg3) = m' ((c.tc : Thread Cert.TailFinalRefIdeal.nD Cert.TailFinalRefIdeal.τ).loc Cert.TailFinalRefIdeal.main_arg3)
          ∧ r.2.mem ((c.tc : Thread Cert.TailFinalRefIdeal.nD Cert.TailFinalRefIdeal.τ).loc Cert.TailFinalRefIdeal.main_arg4) = m' ((c.tc : Thread Cert.TailFinalRefIdeal.nD Cert.TailFinalRefIdeal.τ).loc Cert.TailFinalRefIdeal.main_arg4)
          ∧ r.2.mem ((c.tc : Thread Cert.TailFinalRefIdeal.nD Cert.TailFinalRefIdeal.τ).loc Cert.TailFinalRefIdeal.main_arg5) = m' ((c.tc : Thread Cert.TailFinalRefIdeal.nD Cert.TailFinalRefIdeal.τ).loc Cert.TailFinalRefIdeal.main_arg5)
          ∧ r.2.mem ((c.tc : Thread Cert.TailFinalRefIdeal.nD Cert.TailFinalRefIdeal.τ).loc Cert.TailFinalRefIdeal.main_arg6) = m' ((c.tc : Thread Cert.TailFinalRefIdeal.nD Cert.TailFinalRefIdeal.τ).loc Cert.TailFinalRefIdeal.main_arg6)
          ∧ r.2.mem ((c.tc : Thread Cert.TailFinalRefIdeal.nD Cert.TailFinalRefIdeal.τ).loc Cert.TailFinalRefIdeal.main_arg7) = m' ((c.tc : Thread Cert.TailFinalRefIdeal.nD Cert.TailFinalRefIdeal.τ).loc Cert.TailFinalRefIdeal.main_arg7)
          ∧ r.2.mem ((c.tc : Thread Cert.TailFinalRefIdeal.nD Cert.TailFinalRefIdeal.τ).loc Cert.TailFinalRefIdeal.main_arg8) = m' ((c.tc : Thread Cert.TailFinalRefIdeal.nD Cert.TailFinalRefIdeal.τ).loc Cert.TailFinalRefIdeal.main_arg8)
          ∧ r.2.mem ((c.tc : Thread Cert.TailFinalRefIdeal.nD Cert.TailFinalRefIdeal.τ).loc Cert.TailFinalRefIdeal.main_arg9) = m' ((c.tc : Thread Cert.TailFinalRefIdeal.nD Cert.TailFinalRefIdeal.τ).loc Cert.TailFinalRefIdeal.main_arg9))

def preserves_TailCtx_TailCtxIdeal : Prop :=
  True

def algebraic_TailCtxIdeal_TailCtxRefIdeal [hTailCtxIdeal : Cert.TailCtxIdeal.Facts] [hTailCtxRefIdeal : Cert.TailCtxRefIdeal.Facts] : Prop :=
  ∀ (m : (ℓ : Loc Cert.TailCtxIdeal.nD Cert.TailCtxIdeal.τ Cert.TailCtxIdeal.sig) → Buf (Elt Ideal) ℓ) (g : Dev Cert.TailCtxIdeal.nD → PrngReg)
    (m' : (ℓ : Loc Cert.TailCtxRefIdeal.nD Cert.TailCtxRefIdeal.τ Cert.TailCtxRefIdeal.sig) → Buf (Elt Ideal) ℓ) (g' : Dev Cert.TailCtxRefIdeal.nD → PrngReg), Pre_TailCtxIdeal m →
    (∀ c : Dev Cert.TailCtxIdeal.nD,
      m' ((c.tc : Thread Cert.TailCtxRefIdeal.nD Cert.TailCtxRefIdeal.τ).loc Cert.TailCtxRefIdeal.main_arg0) = m ((c.tc : Thread Cert.TailCtxIdeal.nD Cert.TailCtxIdeal.τ).loc Cert.TailCtxIdeal.main_arg0)
      ∧ m' ((c.tc : Thread Cert.TailCtxRefIdeal.nD Cert.TailCtxRefIdeal.τ).loc Cert.TailCtxRefIdeal.main_arg1) = m ((c.tc : Thread Cert.TailCtxIdeal.nD Cert.TailCtxIdeal.τ).loc Cert.TailCtxIdeal.main_arg1)
      ∧ m' ((c.tc : Thread Cert.TailCtxRefIdeal.nD Cert.TailCtxRefIdeal.τ).loc Cert.TailCtxRefIdeal.main_arg2) = m ((c.tc : Thread Cert.TailCtxIdeal.nD Cert.TailCtxIdeal.τ).loc Cert.TailCtxIdeal.main_arg2)
      ∧ m' ((c.tc : Thread Cert.TailCtxRefIdeal.nD Cert.TailCtxRefIdeal.τ).loc Cert.TailCtxRefIdeal.main_arg3) = m ((c.tc : Thread Cert.TailCtxIdeal.nD Cert.TailCtxIdeal.τ).loc Cert.TailCtxIdeal.main_arg3)
      ∧ m' ((c.tc : Thread Cert.TailCtxRefIdeal.nD Cert.TailCtxRefIdeal.τ).loc Cert.TailCtxRefIdeal.main_arg4) = m ((c.tc : Thread Cert.TailCtxIdeal.nD Cert.TailCtxIdeal.τ).loc Cert.TailCtxIdeal.main_arg4)
      ∧ m' ((c.tc : Thread Cert.TailCtxRefIdeal.nD Cert.TailCtxRefIdeal.τ).loc Cert.TailCtxRefIdeal.main_arg5) = m ((c.tc : Thread Cert.TailCtxIdeal.nD Cert.TailCtxIdeal.τ).loc Cert.TailCtxIdeal.main_arg5)
      ∧ m' ((c.tc : Thread Cert.TailCtxRefIdeal.nD Cert.TailCtxRefIdeal.τ).loc Cert.TailCtxRefIdeal.main_arg6) = m ((c.tc : Thread Cert.TailCtxIdeal.nD Cert.TailCtxIdeal.τ).loc Cert.TailCtxIdeal.main_arg6)
      ∧ m' ((c.tc : Thread Cert.TailCtxRefIdeal.nD Cert.TailCtxRefIdeal.τ).loc Cert.TailCtxRefIdeal.main_arg7) = m ((c.tc : Thread Cert.TailCtxIdeal.nD Cert.TailCtxIdeal.τ).loc Cert.TailCtxIdeal.main_arg7)
      ∧ m' ((c.tc : Thread Cert.TailCtxRefIdeal.nD Cert.TailCtxRefIdeal.τ).loc Cert.TailCtxRefIdeal.main_arg8) = m ((c.tc : Thread Cert.TailCtxIdeal.nD Cert.TailCtxIdeal.τ).loc Cert.TailCtxIdeal.main_arg8)) →
    ∃ (v0 : (c : Dev Cert.TailCtxIdeal.nD) → Buf (Elt Ideal) ((c.tc : Thread Cert.TailCtxIdeal.nD Cert.TailCtxIdeal.τ).loc Cert.TailCtxIdeal.main_v5)),
      θ_run (Cert.TailCtxIdeal.defs (F := Ideal)) (onTc (τ := Cert.TailCtxIdeal.τ) (Cert.TailCtxIdeal.main (F := Ideal))) ⟨m, fun _ => 0, g⟩ (fun r => ∀ c : Dev Cert.TailCtxIdeal.nD,
          r.2.mem ((c.tc : Thread Cert.TailCtxIdeal.nD Cert.TailCtxIdeal.τ).loc Cert.TailCtxIdeal.main_v5) = v0 c
          ∧ r.2.mem ((c.tc : Thread Cert.TailCtxIdeal.nD Cert.TailCtxIdeal.τ).loc Cert.TailCtxIdeal.main_arg0) = m ((c.tc : Thread Cert.TailCtxIdeal.nD Cert.TailCtxIdeal.τ).loc Cert.TailCtxIdeal.main_arg0)
          ∧ r.2.mem ((c.tc : Thread Cert.TailCtxIdeal.nD Cert.TailCtxIdeal.τ).loc Cert.TailCtxIdeal.main_arg1) = m ((c.tc : Thread Cert.TailCtxIdeal.nD Cert.TailCtxIdeal.τ).loc Cert.TailCtxIdeal.main_arg1)
          ∧ r.2.mem ((c.tc : Thread Cert.TailCtxIdeal.nD Cert.TailCtxIdeal.τ).loc Cert.TailCtxIdeal.main_arg2) = m ((c.tc : Thread Cert.TailCtxIdeal.nD Cert.TailCtxIdeal.τ).loc Cert.TailCtxIdeal.main_arg2)
          ∧ r.2.mem ((c.tc : Thread Cert.TailCtxIdeal.nD Cert.TailCtxIdeal.τ).loc Cert.TailCtxIdeal.main_arg3) = m ((c.tc : Thread Cert.TailCtxIdeal.nD Cert.TailCtxIdeal.τ).loc Cert.TailCtxIdeal.main_arg3)
          ∧ r.2.mem ((c.tc : Thread Cert.TailCtxIdeal.nD Cert.TailCtxIdeal.τ).loc Cert.TailCtxIdeal.main_arg4) = m ((c.tc : Thread Cert.TailCtxIdeal.nD Cert.TailCtxIdeal.τ).loc Cert.TailCtxIdeal.main_arg4)
          ∧ r.2.mem ((c.tc : Thread Cert.TailCtxIdeal.nD Cert.TailCtxIdeal.τ).loc Cert.TailCtxIdeal.main_arg5) = m ((c.tc : Thread Cert.TailCtxIdeal.nD Cert.TailCtxIdeal.τ).loc Cert.TailCtxIdeal.main_arg5)
          ∧ r.2.mem ((c.tc : Thread Cert.TailCtxIdeal.nD Cert.TailCtxIdeal.τ).loc Cert.TailCtxIdeal.main_arg6) = m ((c.tc : Thread Cert.TailCtxIdeal.nD Cert.TailCtxIdeal.τ).loc Cert.TailCtxIdeal.main_arg6)
          ∧ r.2.mem ((c.tc : Thread Cert.TailCtxIdeal.nD Cert.TailCtxIdeal.τ).loc Cert.TailCtxIdeal.main_arg7) = m ((c.tc : Thread Cert.TailCtxIdeal.nD Cert.TailCtxIdeal.τ).loc Cert.TailCtxIdeal.main_arg7)
          ∧ r.2.mem ((c.tc : Thread Cert.TailCtxIdeal.nD Cert.TailCtxIdeal.τ).loc Cert.TailCtxIdeal.main_arg8) = m ((c.tc : Thread Cert.TailCtxIdeal.nD Cert.TailCtxIdeal.τ).loc Cert.TailCtxIdeal.main_arg8))
      ∧ θ_run (Cert.TailCtxRefIdeal.defs (F := Ideal)) (onTc (τ := Cert.TailCtxRefIdeal.τ) (Cert.TailCtxRefIdeal.main (F := Ideal))) ⟨m', fun _ => 0, g'⟩ (fun r => ∀ c : Dev Cert.TailCtxRefIdeal.nD,
          r.2.mem ((c.tc : Thread Cert.TailCtxRefIdeal.nD Cert.TailCtxRefIdeal.τ).loc Cert.TailCtxRefIdeal.main_v73) = v0 c
          ∧ r.2.mem ((c.tc : Thread Cert.TailCtxRefIdeal.nD Cert.TailCtxRefIdeal.τ).loc Cert.TailCtxRefIdeal.main_arg0) = m' ((c.tc : Thread Cert.TailCtxRefIdeal.nD Cert.TailCtxRefIdeal.τ).loc Cert.TailCtxRefIdeal.main_arg0)
          ∧ r.2.mem ((c.tc : Thread Cert.TailCtxRefIdeal.nD Cert.TailCtxRefIdeal.τ).loc Cert.TailCtxRefIdeal.main_arg1) = m' ((c.tc : Thread Cert.TailCtxRefIdeal.nD Cert.TailCtxRefIdeal.τ).loc Cert.TailCtxRefIdeal.main_arg1)
          ∧ r.2.mem ((c.tc : Thread Cert.TailCtxRefIdeal.nD Cert.TailCtxRefIdeal.τ).loc Cert.TailCtxRefIdeal.main_arg2) = m' ((c.tc : Thread Cert.TailCtxRefIdeal.nD Cert.TailCtxRefIdeal.τ).loc Cert.TailCtxRefIdeal.main_arg2)
          ∧ r.2.mem ((c.tc : Thread Cert.TailCtxRefIdeal.nD Cert.TailCtxRefIdeal.τ).loc Cert.TailCtxRefIdeal.main_arg3) = m' ((c.tc : Thread Cert.TailCtxRefIdeal.nD Cert.TailCtxRefIdeal.τ).loc Cert.TailCtxRefIdeal.main_arg3)
          ∧ r.2.mem ((c.tc : Thread Cert.TailCtxRefIdeal.nD Cert.TailCtxRefIdeal.τ).loc Cert.TailCtxRefIdeal.main_arg4) = m' ((c.tc : Thread Cert.TailCtxRefIdeal.nD Cert.TailCtxRefIdeal.τ).loc Cert.TailCtxRefIdeal.main_arg4)
          ∧ r.2.mem ((c.tc : Thread Cert.TailCtxRefIdeal.nD Cert.TailCtxRefIdeal.τ).loc Cert.TailCtxRefIdeal.main_arg5) = m' ((c.tc : Thread Cert.TailCtxRefIdeal.nD Cert.TailCtxRefIdeal.τ).loc Cert.TailCtxRefIdeal.main_arg5)
          ∧ r.2.mem ((c.tc : Thread Cert.TailCtxRefIdeal.nD Cert.TailCtxRefIdeal.τ).loc Cert.TailCtxRefIdeal.main_arg6) = m' ((c.tc : Thread Cert.TailCtxRefIdeal.nD Cert.TailCtxRefIdeal.τ).loc Cert.TailCtxRefIdeal.main_arg6)
          ∧ r.2.mem ((c.tc : Thread Cert.TailCtxRefIdeal.nD Cert.TailCtxRefIdeal.τ).loc Cert.TailCtxRefIdeal.main_arg7) = m' ((c.tc : Thread Cert.TailCtxRefIdeal.nD Cert.TailCtxRefIdeal.τ).loc Cert.TailCtxRefIdeal.main_arg7)
          ∧ r.2.mem ((c.tc : Thread Cert.TailCtxRefIdeal.nD Cert.TailCtxRefIdeal.τ).loc Cert.TailCtxRefIdeal.main_arg8) = m' ((c.tc : Thread Cert.TailCtxRefIdeal.nD Cert.TailCtxRefIdeal.τ).loc Cert.TailCtxRefIdeal.main_arg8))

def preserves_AttnA_AttnAIdeal : Prop :=
  True

def algebraic_AttnAIdeal_AttnARefIdeal_pre_finite_a [hAttnAIdeal : Cert.AttnAIdeal.Facts] [hAttnARefIdeal : Cert.AttnARefIdeal.Facts] [hPre_finite_a : Cert.Pre_finite_a.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_a m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)
      ∧ m' ((c.tc : Thread Cert.AttnARefIdeal.nD Cert.AttnARefIdeal.τ).loc Cert.AttnARefIdeal.main_arg3) = m ((c.tc : Thread Cert.AttnAIdeal.nD Cert.AttnAIdeal.τ).loc Cert.AttnAIdeal.main_arg3)
      ∧ m' ((c.tc : Thread Cert.AttnARefIdeal.nD Cert.AttnARefIdeal.τ).loc Cert.AttnARefIdeal.main_arg4) = m ((c.tc : Thread Cert.AttnAIdeal.nD Cert.AttnAIdeal.τ).loc Cert.AttnAIdeal.main_arg4)
      ∧ m' ((c.tc : Thread Cert.AttnARefIdeal.nD Cert.AttnARefIdeal.τ).loc Cert.AttnARefIdeal.main_arg5) = m ((c.tc : Thread Cert.AttnAIdeal.nD Cert.AttnAIdeal.τ).loc Cert.AttnAIdeal.main_arg5)
      ∧ m' ((c.tc : Thread Cert.AttnARefIdeal.nD Cert.AttnARefIdeal.τ).loc Cert.AttnARefIdeal.main_arg6) = m ((c.tc : Thread Cert.AttnAIdeal.nD Cert.AttnAIdeal.τ).loc Cert.AttnAIdeal.main_arg6)
      ∧ m' ((c.tc : Thread Cert.AttnARefIdeal.nD Cert.AttnARefIdeal.τ).loc Cert.AttnARefIdeal.main_arg7) = m ((c.tc : Thread Cert.AttnAIdeal.nD Cert.AttnAIdeal.τ).loc Cert.AttnAIdeal.main_arg7)
      ∧ m' ((c.tc : Thread Cert.AttnARefIdeal.nD Cert.AttnARefIdeal.τ).loc Cert.AttnARefIdeal.main_arg8) = m ((c.tc : Thread Cert.AttnAIdeal.nD Cert.AttnAIdeal.τ).loc Cert.AttnAIdeal.main_arg8)
      ∧ m' ((c.tc : Thread Cert.AttnARefIdeal.nD Cert.AttnARefIdeal.τ).loc Cert.AttnARefIdeal.main_arg9) = m ((c.tc : Thread Cert.AttnAIdeal.nD Cert.AttnAIdeal.τ).loc Cert.AttnAIdeal.main_arg9)) →
    ∃ (v0 : (c : Dev Cert.AttnAIdeal.nD) → Buf (Elt Ideal) ((c.tc : Thread Cert.AttnAIdeal.nD Cert.AttnAIdeal.τ).loc Cert.AttnAIdeal.main_v5)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v5) = v0 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
          ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
          ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4)
          ∧ r.2.mem ((c.tc : Thread Cert.AttnAIdeal.nD Cert.AttnAIdeal.τ).loc Cert.AttnAIdeal.main_arg5) = m ((c.tc : Thread Cert.AttnAIdeal.nD Cert.AttnAIdeal.τ).loc Cert.AttnAIdeal.main_arg5)
          ∧ r.2.mem ((c.tc : Thread Cert.AttnAIdeal.nD Cert.AttnAIdeal.τ).loc Cert.AttnAIdeal.main_arg6) = m ((c.tc : Thread Cert.AttnAIdeal.nD Cert.AttnAIdeal.τ).loc Cert.AttnAIdeal.main_arg6)
          ∧ r.2.mem ((c.tc : Thread Cert.AttnAIdeal.nD Cert.AttnAIdeal.τ).loc Cert.AttnAIdeal.main_arg7) = m ((c.tc : Thread Cert.AttnAIdeal.nD Cert.AttnAIdeal.τ).loc Cert.AttnAIdeal.main_arg7)
          ∧ r.2.mem ((c.tc : Thread Cert.AttnAIdeal.nD Cert.AttnAIdeal.τ).loc Cert.AttnAIdeal.main_arg8) = m ((c.tc : Thread Cert.AttnAIdeal.nD Cert.AttnAIdeal.τ).loc Cert.AttnAIdeal.main_arg8)
          ∧ r.2.mem ((c.tc : Thread Cert.AttnAIdeal.nD Cert.AttnAIdeal.τ).loc Cert.AttnAIdeal.main_arg9) = m ((c.tc : Thread Cert.AttnAIdeal.nD Cert.AttnAIdeal.τ).loc Cert.AttnAIdeal.main_arg9))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v55) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2)
          ∧ r.2.mem ((c.tc : Thread Cert.AttnARefIdeal.nD Cert.AttnARefIdeal.τ).loc Cert.AttnARefIdeal.main_arg3) = m' ((c.tc : Thread Cert.AttnARefIdeal.nD Cert.AttnARefIdeal.τ).loc Cert.AttnARefIdeal.main_arg3)
          ∧ r.2.mem ((c.tc : Thread Cert.AttnARefIdeal.nD Cert.AttnARefIdeal.τ).loc Cert.AttnARefIdeal.main_arg4) = m' ((c.tc : Thread Cert.AttnARefIdeal.nD Cert.AttnARefIdeal.τ).loc Cert.AttnARefIdeal.main_arg4)
          ∧ r.2.mem ((c.tc : Thread Cert.AttnARefIdeal.nD Cert.AttnARefIdeal.τ).loc Cert.AttnARefIdeal.main_arg5) = m' ((c.tc : Thread Cert.AttnARefIdeal.nD Cert.AttnARefIdeal.τ).loc Cert.AttnARefIdeal.main_arg5)
          ∧ r.2.mem ((c.tc : Thread Cert.AttnARefIdeal.nD Cert.AttnARefIdeal.τ).loc Cert.AttnARefIdeal.main_arg6) = m' ((c.tc : Thread Cert.AttnARefIdeal.nD Cert.AttnARefIdeal.τ).loc Cert.AttnARefIdeal.main_arg6)
          ∧ r.2.mem ((c.tc : Thread Cert.AttnARefIdeal.nD Cert.AttnARefIdeal.τ).loc Cert.AttnARefIdeal.main_arg7) = m' ((c.tc : Thread Cert.AttnARefIdeal.nD Cert.AttnARefIdeal.τ).loc Cert.AttnARefIdeal.main_arg7)
          ∧ r.2.mem ((c.tc : Thread Cert.AttnARefIdeal.nD Cert.AttnARefIdeal.τ).loc Cert.AttnARefIdeal.main_arg8) = m' ((c.tc : Thread Cert.AttnARefIdeal.nD Cert.AttnARefIdeal.τ).loc Cert.AttnARefIdeal.main_arg8)
          ∧ r.2.mem ((c.tc : Thread Cert.AttnARefIdeal.nD Cert.AttnARefIdeal.τ).loc Cert.AttnARefIdeal.main_arg9) = m' ((c.tc : Thread Cert.AttnARefIdeal.nD Cert.AttnARefIdeal.τ).loc Cert.AttnARefIdeal.main_arg9))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)
      ∧ m' ((c.tc : Thread Cert.ProjARefIdeal.nD Cert.ProjARefIdeal.τ).loc Cert.ProjARefIdeal.main_arg3) = m ((c.tc : Thread Cert.ProjAIdeal.nD Cert.ProjAIdeal.τ).loc Cert.ProjAIdeal.main_arg3)
      ∧ m' ((c.tc : Thread Cert.ProjARefIdeal.nD Cert.ProjARefIdeal.τ).loc Cert.ProjARefIdeal.main_arg4) = m ((c.tc : Thread Cert.ProjAIdeal.nD Cert.ProjAIdeal.τ).loc Cert.ProjAIdeal.main_arg4)
      ∧ m' ((c.tc : Thread Cert.ProjARefIdeal.nD Cert.ProjARefIdeal.τ).loc Cert.ProjARefIdeal.main_arg5) = m ((c.tc : Thread Cert.ProjAIdeal.nD Cert.ProjAIdeal.τ).loc Cert.ProjAIdeal.main_arg5)) →
    ∃ (v0 : (c : Dev Cert.ProjAIdeal.nD) → Buf (Elt Ideal) ((c.tc : Thread Cert.ProjAIdeal.nD Cert.ProjAIdeal.τ).loc Cert.ProjAIdeal.main_v11_0)) (v1 : (c : Dev Cert.ProjAIdeal.nD) → Buf (Elt Ideal) ((c.tc : Thread Cert.ProjAIdeal.nD Cert.ProjAIdeal.τ).loc Cert.ProjAIdeal.main_v11_1)) (v2 : (c : Dev Cert.ProjAIdeal.nD) → Buf (Elt Ideal) ((c.tc : Thread Cert.ProjAIdeal.nD Cert.ProjAIdeal.τ).loc Cert.ProjAIdeal.main_v11_2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v11_0) = v0 c
          ∧ r.2.mem ((c.tc : Thread Cert.ProjAIdeal.nD Cert.ProjAIdeal.τ).loc Cert.ProjAIdeal.main_v11_1) = v1 c
          ∧ r.2.mem ((c.tc : Thread Cert.ProjAIdeal.nD Cert.ProjAIdeal.τ).loc Cert.ProjAIdeal.main_v11_2) = v2 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
          ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v73) = v0 c
          ∧ r.2.mem ((c.tc : Thread Cert.ProjARefIdeal.nD Cert.ProjARefIdeal.τ).loc Cert.ProjARefIdeal.main_v75) = v1 c
          ∧ r.2.mem ((c.tc : Thread Cert.ProjARefIdeal.nD Cert.ProjARefIdeal.τ).loc Cert.ProjARefIdeal.main_v77) = v2 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2)
          ∧ r.2.mem ((c.tc : Thread Cert.ProjARefIdeal.nD Cert.ProjARefIdeal.τ).loc Cert.ProjARefIdeal.main_arg3) = m' ((c.tc : Thread Cert.ProjARefIdeal.nD Cert.ProjARefIdeal.τ).loc Cert.ProjARefIdeal.main_arg3)
          ∧ r.2.mem ((c.tc : Thread Cert.ProjARefIdeal.nD Cert.ProjARefIdeal.τ).loc Cert.ProjARefIdeal.main_arg4) = m' ((c.tc : Thread Cert.ProjARefIdeal.nD Cert.ProjARefIdeal.τ).loc Cert.ProjARefIdeal.main_arg4)
          ∧ r.2.mem ((c.tc : Thread Cert.ProjARefIdeal.nD Cert.ProjARefIdeal.τ).loc Cert.ProjARefIdeal.main_arg5) = m' ((c.tc : Thread Cert.ProjARefIdeal.nD Cert.ProjARefIdeal.τ).loc Cert.ProjARefIdeal.main_arg5))

def Claim : Prop :=
  ∃ (hAttnC : Cert.AttnC.Facts) (hAttnCIdeal : Cert.AttnCIdeal.Facts) (hAttnCRefIdeal : Cert.AttnCRefIdeal.Facts) (hAttnD : Cert.AttnD.Facts) (hAttnDIdeal : Cert.AttnDIdeal.Facts) (hAttnDRefIdeal : Cert.AttnDRefIdeal.Facts) (hTail : Cert.Tail.Facts) (hTailIdeal : Cert.TailIdeal.Facts) (hTailRefIdeal : Cert.TailRefIdeal.Facts) (hTailFinal : Cert.TailFinal.Facts) (hTailFinalIdeal : Cert.TailFinalIdeal.Facts) (hTailFinalRefIdeal : Cert.TailFinalRefIdeal.Facts) (hTailCtx : Cert.TailCtx.Facts) (hTailCtxIdeal : Cert.TailCtxIdeal.Facts) (hTailCtxRefIdeal : Cert.TailCtxRefIdeal.Facts) (hAttnA : Cert.AttnA.Facts) (hAttnAIdeal : Cert.AttnAIdeal.Facts) (hAttnARefIdeal : Cert.AttnARefIdeal.Facts) (hProjA : Cert.ProjA.Facts) (hProjAIdeal : Cert.ProjAIdeal.Facts) (hProjARefIdeal : Cert.ProjARefIdeal.Facts) (hPre_finite_c : Cert.Pre_finite_c.Facts) (hPre_finite_d : Cert.Pre_finite_d.Facts) (hPre_finite_a : Cert.Pre_finite_a.Facts),
    quiescent_AttnC (hAttnC := hAttnC)
    ∧ quiescent_AttnCIdeal (hAttnCIdeal := hAttnCIdeal)
    ∧ quiescent_AttnCIdeal_pre_finite_c (hAttnCIdeal := hAttnCIdeal) (hPre_finite_c := hPre_finite_c)
    ∧ quiescent_AttnCRefIdeal (hAttnCRefIdeal := hAttnCRefIdeal)
    ∧ quiescent_AttnCRefIdeal_pre_finite_c (hAttnCRefIdeal := hAttnCRefIdeal) (hPre_finite_c := hPre_finite_c)
    ∧ quiescent_AttnD (hAttnD := hAttnD)
    ∧ quiescent_AttnDIdeal (hAttnDIdeal := hAttnDIdeal)
    ∧ quiescent_AttnDIdeal_pre_finite_d (hAttnDIdeal := hAttnDIdeal) (hPre_finite_d := hPre_finite_d)
    ∧ quiescent_AttnDRefIdeal (hAttnDRefIdeal := hAttnDRefIdeal)
    ∧ quiescent_AttnDRefIdeal_pre_finite_d (hAttnDRefIdeal := hAttnDRefIdeal) (hPre_finite_d := hPre_finite_d)
    ∧ quiescent_Tail (hTail := hTail)
    ∧ quiescent_TailIdeal (hTailIdeal := hTailIdeal)
    ∧ quiescent_TailRefIdeal (hTailRefIdeal := hTailRefIdeal)
    ∧ quiescent_TailFinal (hTailFinal := hTailFinal)
    ∧ quiescent_TailFinalIdeal (hTailFinalIdeal := hTailFinalIdeal)
    ∧ quiescent_TailFinalRefIdeal (hTailFinalRefIdeal := hTailFinalRefIdeal)
    ∧ quiescent_TailCtx (hTailCtx := hTailCtx)
    ∧ quiescent_TailCtxIdeal (hTailCtxIdeal := hTailCtxIdeal)
    ∧ quiescent_TailCtxRefIdeal (hTailCtxRefIdeal := hTailCtxRefIdeal)
    ∧ quiescent_AttnA (hAttnA := hAttnA)
    ∧ quiescent_AttnAIdeal (hAttnAIdeal := hAttnAIdeal)
    ∧ quiescent_AttnAIdeal_pre_finite_a (hAttnAIdeal := hAttnAIdeal) (hPre_finite_a := hPre_finite_a)
    ∧ quiescent_AttnARefIdeal (hAttnARefIdeal := hAttnARefIdeal)
    ∧ quiescent_AttnARefIdeal_pre_finite_a (hAttnARefIdeal := hAttnARefIdeal) (hPre_finite_a := hPre_finite_a)
    ∧ quiescent_ProjA (hProjA := hProjA)
    ∧ quiescent_ProjAIdeal (hProjAIdeal := hProjAIdeal)
    ∧ quiescent_ProjARefIdeal (hProjARefIdeal := hProjARefIdeal)
    ∧ preserves_AttnC_AttnCIdeal
    ∧ algebraic_AttnCIdeal_AttnCRefIdeal_pre_finite_c (hAttnCIdeal := hAttnCIdeal) (hAttnCRefIdeal := hAttnCRefIdeal) (hPre_finite_c := hPre_finite_c)
    ∧ preserves_AttnD_AttnDIdeal
    ∧ algebraic_AttnDIdeal_AttnDRefIdeal_pre_finite_d (hAttnDIdeal := hAttnDIdeal) (hAttnDRefIdeal := hAttnDRefIdeal) (hPre_finite_d := hPre_finite_d)
    ∧ preserves_Tail_TailIdeal
    ∧ algebraic_TailIdeal_TailRefIdeal (hTailIdeal := hTailIdeal) (hTailRefIdeal := hTailRefIdeal)
    ∧ preserves_TailFinal_TailFinalIdeal
    ∧ algebraic_TailFinalIdeal_TailFinalRefIdeal (hTailFinalIdeal := hTailFinalIdeal) (hTailFinalRefIdeal := hTailFinalRefIdeal)
    ∧ preserves_TailCtx_TailCtxIdeal
    ∧ algebraic_TailCtxIdeal_TailCtxRefIdeal (hTailCtxIdeal := hTailCtxIdeal) (hTailCtxRefIdeal := hTailCtxRefIdeal)
    ∧ preserves_AttnA_AttnAIdeal
    ∧ algebraic_AttnAIdeal_AttnARefIdeal_pre_finite_a (hAttnAIdeal := hAttnAIdeal) (hAttnARefIdeal := hAttnARefIdeal) (hPre_finite_a := hPre_finite_a)
    ∧ preserves_ProjA_ProjAIdeal
    ∧ algebraic_ProjAIdeal_ProjARefIdeal (hProjAIdeal := hProjAIdeal) (hProjARefIdeal := hProjARefIdeal)
-- ==== Pre_finite_a.lean ====
abbrev S8x2048x1024 : Shape := ⟨3, ![8, 2048, 1024]⟩
abbrev S8x256x1024 : Shape := ⟨3, ![8, 256, 1024]⟩
abbrev S64 : Shape := ⟨1, ![64]⟩
abbrev S128 : Shape := ⟨1, ![128]⟩
abbrev S_ : Shape := ⟨0, ![]⟩

class Facts : Prop where
  bcast_S_S8x2048x1024 : S_.BroadcastsInDim S8x2048x1024 (![] : Fin 0 → Fin S8x2048x1024.rank)
  bcast_S_S8x256x1024 : S_.BroadcastsInDim S8x256x1024 (![] : Fin 0 → Fin S8x256x1024.rank)
  bcast_S_S64 : S_.BroadcastsInDim S64 (![] : Fin 0 → Fin S64.rank)

variable [Facts]

def fn_part1 {F : FTy → Type} [FloatOps F] (main_arg6 : FVec F S64 .f32) (main_arg7 : FVec F S64 .f32) (main_arg8 : FVec F S64 .f32) (main_v2 : IVec S8x2048x1024 1) (main_v5 : IVec S8x256x1024 1) (main_v8 : IVec S8x2048x1024 1) (main_v11 : IVec S8x256x1024 1) (main_v14 : IVec S8x2048x1024 1) (main_v17 : IVec S64 1) : IVec S8x2048x1024 1 × IVec S8x256x1024 1 × IVec S8x2048x1024 1 × IVec S8x256x1024 1 × IVec S8x2048x1024 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  (main_v2, main_v5, main_v8, main_v11, main_v14, main_v17, main_v20, main_v23, main_v26)

def fn {F : FTy → Type} [FloatOps F] (main_arg0 : FVec F S8x2048x1024 .bf16) (main_arg1 : FVec F S8x256x1024 .bf16) (main_arg2 : FVec F S8x2048x1024 .bf16) (main_arg3 : FVec F S8x256x1024 .bf16) (main_arg4 : FVec F S8x2048x1024 .bf16) (main_arg5 : FVec F S64 .f32) (main_arg6 : FVec F S64 .f32) (main_arg7 : FVec F S64 .f32) (main_arg8 : FVec F S64 .f32) (main_arg9 : FVec F S128 .f32) : IVec S8x2048x1024 1 × IVec S8x256x1024 1 × IVec S8x2048x1024 1 × IVec S8x256x1024 1 × IVec S8x2048x1024 1 × IVec S64 1 × IVec S64 1 × IVec S64 1 × IVec S64 1 :=
  let main_v0 : FVec F S8x2048x1024 .bf16 := Host.absf main_arg0
  let main_cst : FVec F S_ .bf16 := constant S_ .bf16 0x7F80#16
  let main_v1 : FVec F S8x2048x1024 .bf16 := broadcastInDim S8x2048x1024 ![] bcast_S_S8x2048x1024 main_cst
  let main_v2 : IVec S8x2048x1024 1 := cmpf .olt main_v0 main_v1
  let main_v3 : FVec F S8x256x1024 .bf16 := Host.absf main_arg1
  let main_cst_0 : FVec F S_ .bf16 := constant S_ .bf16 0x7F80#16
  let main_v4 : FVec F S8x256x1024 .bf16 := broadcastInDim S8x256x1024 ![] bcast_S_S8x256x1024 main_cst_0
  let main_v5 : IVec S8x256x1024 1 := cmpf .olt main_v3 main_v4
  let main_v6 : FVec F S8x2048x1024 .bf16 := Host.absf main_arg2
  let main_cst_1 : FVec F S_ .bf16 := constant S_ .bf16 0x7F80#16
  let main_v7 : FVec F S8x2048x1024 .bf16 := broadcastInDim S8x2048x1024 ![] bcast_S_S8x2048x1024 main_cst_1
  let main_v8 : IVec S8x2048x1024 1 := cmpf .olt main_v6 main_v7
  let main_v9 : FVec F S8x256x1024 .bf16 := Host.absf main_arg3
  let main_cst_2 : FVec F S_ .bf16 := constant S_ .bf16 0x7F80#16
  let main_v10 : FVec F S8x256x1024 .bf16 := broadcastInDim S8x256x1024 ![] bcast_S_S8x256x1024 main_cst_2
  let main_v11 : IVec S8x256x1024 1 := cmpf .olt main_v9 main_v10
  let main_v12 : FVec F S8x2048x1024 .bf16 := Host.absf main_arg4
  let main_cst_3 : FVec F S_ .bf16 := constant S_ .bf16 0x7F80#16
  let main_v13 : FVec F S8x2048x1024 .bf16 := broadcastInDim S8x2048x1024 ![] bcast_S_S8x2048x1024 main_cst_3
  let main_v14 : IVec S8x2048x1024 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_v2 main_v5 main_v8 main_v11 main_v14 main_v17
-- ==== Pre_finite_c.lean ====
abbrev S8x2048x2048 : Shape := ⟨3, ![8, 2048, 2048]⟩
abbrev S8x256x2048 : Shape := ⟨3, ![8, 256, 2048]⟩
abbrev S8x256x1024 : Shape := ⟨3, ![8, 256, 1024]⟩
abbrev S8x2048x1024 : Shape := ⟨3, ![8, 2048, 1024]⟩
abbrev S_ : Shape := ⟨0, ![]⟩

class Facts : Prop where
  bcast_S_S8x2048x2048 : S_.BroadcastsInDim S8x2048x2048 (![] : Fin 0 → Fin S8x2048x2048.rank)
  bcast_S_S8x256x2048 : S_.BroadcastsInDim S8x256x2048 (![] : Fin 0 → Fin S8x256x2048.rank)

variable [Facts]

def fn {F : FTy → Type} [FloatOps F] (main_arg0 : FVec F S8x2048x2048 .bf16) (main_arg1 : FVec F S8x256x2048 .bf16) (main_arg2 : FVec F S8x2048x2048 .bf16) (main_arg3 : FVec F S8x256x1024 .bf16) (main_arg4 : FVec F S8x2048x1024 .bf16) : IVec S8x2048x2048 1 × IVec S8x256x2048 1 × IVec S8x2048x2048 1 :=
  let main_v0 : FVec F S8x2048x2048 .bf16 := Host.absf main_arg0
  let main_cst : FVec F S_ .bf16 := constant S_ .bf16 0x7F80#16
  let main_v1 : FVec F S8x2048x2048 .bf16 := broadcastInDim S8x2048x2048 ![] bcast_S_S8x2048x2048 main_cst
  let main_v2 : IVec S8x2048x2048 1 := cmpf .olt main_v0 main_v1
  let main_v3 : FVec F S8x256x2048 .bf16 := Host.absf main_arg1
  let main_cst_0 : FVec F S_ .bf16 := constant S_ .bf16 0x7F80#16
  let main_v4 : FVec F S8x256x2048 .bf16 := broadcastInDim S8x256x2048 ![] bcast_S_S8x256x2048 main_cst_0
  let main_v5 : IVec S8x256x2048 1 := cmpf .olt main_v3 main_v4
  let main_v6 : FVec F S8x2048x2048 .bf16 := Host.absf main_arg2
  let main_cst_1 : FVec F S_ .bf16 := constant S_ .bf16 0x7F80#16
  let main_v7 : FVec F S8x2048x2048 .bf16 := broadcastInDim S8x2048x2048 ![] bcast_S_S8x2048x2048 main_cst_1
  let main_v8 : IVec S8x2048x2048 1 := cmpf .olt main_v6 main_v7
  (main_v2, main_v5, main_v8)
-- ==== Pre_finite_d.lean ====
abbrev S8x2048x1024 : Shape := ⟨3, ![8, 2048, 1024]⟩
abbrev S8x256x512 : Shape := ⟨3, ![8, 256, 512]⟩
abbrev S8x2048x512 : Shape := ⟨3, ![8, 2048, 512]⟩
abbrev S_ : Shape := ⟨0, ![]⟩

class Facts : Prop where
  bcast_S_S8x2048x1024 : S_.BroadcastsInDim S8x2048x1024 (![] : Fin 0 → Fin S8x2048x1024.rank)
  bcast_S_S8x256x512 : S_.BroadcastsInDim S8x256x512 (![] : Fin 0 → Fin S8x256x512.rank)
  bcast_S_S8x2048x512 : S_.BroadcastsInDim S8x2048x512 (![] : Fin 0 → Fin S8x2048x512.rank)

variable [Facts]

def fn {F : FTy → Type} [FloatOps F] (main_arg0 : FVec F S8x2048x1024 .bf16) (main_arg1 : FVec F S8x256x512 .bf16) (main_arg2 : FVec F S8x2048x512 .bf16) (main_arg3 : FVec F S8x256x512 .bf16) (main_arg4 : FVec F S8x2048x512 .bf16) : IVec S8x2048x1024 1 × IVec S8x256x512 1 × IVec S8x2048x512 1 :=
  let main_v0 : FVec F S8x2048x1024 .bf16 := Host.absf main_arg0
  let main_cst : FVec F S_ .bf16 := constant S_ .bf16 0x7F80#16
  let main_v1 : FVec F S8x2048x1024 .bf16 := broadcastInDim S8x2048x1024 ![] bcast_S_S8x2048x1024 main_cst
  let main_v2 : IVec S8x2048x1024 1 := cmpf .olt main_v0 main_v1
  let main_v3 : FVec F S8x256x512 .bf16 := Host.absf main_arg1
  let main_cst_0 : FVec F S_ .bf16 := constant S_ .bf16 0x7F80#16
  let main_v4 : FVec F S8x256x512 .bf16 := broadcastInDim S8x256x512 ![] bcast_S_S8x256x512 main_cst_0
  let main_v5 : IVec S8x256x512 1 := cmpf .olt main_v3 main_v4
  let main_v6 : FVec F S8x2048x512 .bf16 := Host.absf main_arg2
  let main_cst_1 : FVec F S_ .bf16 := constant S_ .bf16 0x7F80#16
  let main_v7 : FVec F S8x2048x512 .bf16 := broadcastInDim S8x2048x512 ![] bcast_S_S8x2048x512 main_cst_1
  let main_v8 : IVec S8x2048x512 1 := cmpf .olt main_v6 main_v7
  (main_v2, main_v5, main_v8)
-- ==== AttnC.lean ====
abbrev S8x2048x2048 : Shape := ⟨3, ![8, 2048, 2048]⟩
abbrev S8x256x2048 : Shape := ⟨3, ![8, 256, 2048]⟩
abbrev S8x256x1024 : Shape := ⟨3, ![8, 256, 1024]⟩
abbrev S8x2048x1024 : Shape := ⟨3, ![8, 2048, 1024]⟩
abbrev S1x2048x256 : Shape := ⟨3, ![1, 2048, 256]⟩
abbrev S1x256x256 : Shape := ⟨3, ![1, 256, 256]⟩
abbrev S1x256x128 : Shape := ⟨3, ![1, 256, 128]⟩
abbrev S1x2048x128 : Shape := ⟨3, ![1, 2048, 128]⟩
abbrev S256x256 : Shape := ⟨2, ![256, 256]⟩
abbrev S1x512x256 : Shape := ⟨3, ![1, 512, 256]⟩
abbrev S512x256 : Shape := ⟨2, ![512, 256]⟩
abbrev S256x128 : Shape := ⟨2, ![256, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x2048, .bf16⟩
  | .hbm, ⟨1, _⟩ => ⟨S8x256x2048, .bf16⟩
  | .hbm, ⟨2, _⟩ => ⟨S8x2048x2048, .bf16⟩
  | .hbm, ⟨3, _⟩ => ⟨S8x256x1024, .bf16⟩
  | .hbm, ⟨4, _⟩ => ⟨S8x2048x1024, .bf16⟩
  | .hbm, ⟨5, _⟩ => ⟨S8x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnCRefIdeal.lean ====
abbrev S8x2048x2048 : Shape := ⟨3, ![8, 2048, 2048]⟩
abbrev S8x256x2048 : Shape := ⟨3, ![8, 256, 2048]⟩
abbrev S8x256x1024 : Shape := ⟨3, ![8, 256, 1024]⟩
abbrev S8x2048x1024 : Shape := ⟨3, ![8, 2048, 1024]⟩
abbrev S8x2304x2048 : Shape := ⟨3, ![8, 2304, 2048]⟩
abbrev S8x2304x1024 : Shape := ⟨3, ![8, 2304, 1024]⟩
abbrev S8x2048x8x256 : Shape := ⟨4, ![8, 2048, 8, 256]⟩
abbrev S8x2304x8x256 : Shape := ⟨4, ![8, 2304, 8, 256]⟩
abbrev S8x2304x8x128 : Shape := ⟨4, ![8, 2304, 8, 128]⟩
abbrev S_ : Shape := ⟨0, ![]⟩
abbrev S8x2048x8x1x256 : Shape := ⟨5, ![8, 2048, 8, 1, 256]⟩
abbrev S8x8x2304x2048x1 : Shape := ⟨5, ![8, 8, 2304, 2048, 1]⟩
abbrev S8x8x1x2048x2304 : Shape := ⟨5, ![8, 8, 1, 2048, 2304]⟩
abbrev S8x8x1x2048 : Shape := ⟨4, ![8, 8, 1, 2048]⟩
abbrev S8x8x1x2048x1 : Shape := ⟨5, ![8, 8, 1, 2048, 1]⟩
abbrev S8x8x128x1x2048 : Shape := ⟨5, ![8, 8, 128, 1, 2048]⟩
abbrev S8x2048x8x1x128 : Shape := ⟨5, ![8, 2048, 8, 1, 128]⟩
abbrev S8x2048x8x128 : Shape := ⟨4, ![8, 2048, 8, 128]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x256x2048, .bf16⟩
  | .hbm, ⟨2, _⟩ => ⟨S8x2048x2048, .bf16⟩
  | .hbm, ⟨3, _⟩ => ⟨S8x256x1024, .bf16⟩
  | .hbm, ⟨4, _⟩ => ⟨S8x2048x1024, .bf16⟩
  | .hbm, ⟨5, _⟩ => ⟨S8x2304x2048, .bf16⟩
  | .hbm, ⟨6, _⟩ => ⟨S8x2304x1024, .bf16⟩
  | .hbm, ⟨7, _⟩ => ⟨S8x2048x8x256, .bf16⟩
  | .hbm, ⟨8, _⟩ => ⟨S8x2304x8x256, .bf16⟩
  | .hbm, ⟨9, _⟩ => ⟨S8x2304x8x128, .bf16⟩
  | .hbm, ⟨10, _⟩ => ⟨S_, .f32⟩
  | .hbm, ⟨11, _⟩ => ⟨S_, .f32⟩
  | .hbm, ⟨12, _⟩ => ⟨S8x2048x8x1x256, .bf16⟩
  | .hbm, ⟨13, _⟩ => ⟨S8x8x2304x2048x1, .f32⟩
  | .hbm, ⟨14, _⟩ => ⟨S8x8x1x2048x2304, .f32⟩
  | .hbm, ⟨15, _⟩ => ⟨S8x8x1x2048x2304, .f32⟩
  | .hbm, ⟨16, _⟩ => ⟨S8x8x1x2048x2304, .f32⟩
  | .hbm, ⟨17, _⟩ => ⟨S_, .f32⟩
  | .hbm, ⟨18, _⟩ => ⟨S8x8x1x2048, .f32⟩
  | .hbm, ⟨19, _⟩ => ⟨S_, .f32⟩
  | .hbm, ⟨20, _⟩ => ⟨S8x8x1x2048, .f32⟩
  | .hbm, ⟨21, _⟩ => ⟨S8x8x1x2048, .f32⟩
  | .hbm, ⟨22, _⟩ => ⟨S8x8x1x2048x1, .f32⟩
  | .hbm, ⟨23, _⟩ => ⟨S8x8x1x2048x2304, .f32⟩
  | .hbm, ⟨24, _⟩ => ⟨S8x8x1x2048x2304, .f32⟩
  | .hbm, ⟨25, _⟩ => ⟨S8x8x1x2048x2304, .f32⟩
  | .hbm, ⟨26, _⟩ => ⟨S_, .f32⟩
  | .hbm, ⟨27, _⟩ => ⟨S8x8x1x2048, .f32⟩
  | .hbm, ⟨28, _⟩ => ⟨S8x8x1x2048x1, .f32⟩
  | .hbm, ⟨29, _⟩ => ⟨S8x8x1x2048x2304, .f32⟩
  | .hbm, ⟨30, _⟩ => ⟨S8x8x1x2048x2304, .f32⟩
  | .hbm, ⟨31, _⟩ => ⟨S8x8x1x2048x2304, .bf16⟩
  | .hbm, ⟨32, _⟩ => ⟨S8x8x128x1x2048, .f32⟩
  | .hbm, ⟨33, _⟩ => ⟨S8x2048x8x1x128, .f32⟩
  | .hbm, ⟨34, _⟩ => ⟨S8x2048x8x1x128, .bf16⟩
  | .hbm, ⟨35, _⟩ => ⟨S8x2048x8x128, .bf16⟩
  | .hbm, ⟨36, _⟩ => ⟨S8x2048x1024, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== AttnD.lean ====
abbrev S8x2048x1024 : Shape := ⟨3, ![8, 2048, 1024]⟩
abbrev S8x256x512 : Shape := ⟨3, ![8, 256, 512]⟩
abbrev S8x2048x512 : Shape := ⟨3, ![8, 2048, 512]⟩
abbrev S1x1024x256 : Shape := ⟨3, ![1, 1024, 256]⟩
abbrev S1x256x128 : Shape := ⟨3, ![1, 256, 128]⟩
abbrev S1x2048x128 : Shape := ⟨3, ![1, 2048, 128]⟩
abbrev S256x128 : Shape := ⟨2, ![256, 128]⟩
abbrev S1x512x128 : Shape := ⟨3, ![1, 512, 128]⟩
abbrev S512x128 : Shape := ⟨2, ![512, 128]⟩
abbrev S256x256 : Shape := ⟨2, ![256, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x1024, .bf16⟩
  | .hbm, ⟨1, _⟩ => ⟨S8x256x512, .bf16⟩
  | .hbm, ⟨2, _⟩ => ⟨S8x2048x512, .bf16⟩
  | .hbm, ⟨3, _⟩ => ⟨S8x256x512, .bf16⟩
  | .hbm, ⟨4, _⟩ => ⟨S8x2048x512, .bf16⟩
  | .hbm, ⟨5, _⟩ => ⟨S8x2048x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x256x128, .bf16⟩
  | .local _ .vmem, ⟨3, _⟩ => ⟨S1x256x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x1024x256, .bf16⟩
  | .local _ .vmem, ⟨11, _⟩ => ⟨S1x1024x256, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnDRefIdeal.lean ====
abbrev S8x2048x1024 : Shape := ⟨3, ![8, 2048, 1024]⟩
abbrev S8x256x512 : Shape := ⟨3, ![8, 256, 512]⟩
abbrev S8x2048x512 : Shape := ⟨3, ![8, 2048, 512]⟩
abbrev S8x2304x512 : Shape := ⟨3, ![8, 2304, 512]⟩
abbrev S8x2048x8x128 : Shape := ⟨4, ![8, 2048, 8, 128]⟩
abbrev S8x2304x4x128 : Shape := ⟨4, ![8, 2304, 4, 128]⟩
abbrev S_ : Shape := ⟨0, ![]⟩
abbrev S8x2048x4x2x128 : Shape := ⟨5, ![8, 2048, 4, 2, 128]⟩
abbrev S8x4x2304x2048x2 : Shape := ⟨5, ![8, 4, 2304, 2048, 2]⟩
abbrev S8x4x2x2048x2304 : Shape := ⟨5, ![8, 4, 2, 2048, 2304]⟩
abbrev S8x4x2x2048 : Shape := ⟨4, ![8, 4, 2, 2048]⟩
abbrev S8x4x2x2048x1 : Shape := ⟨5, ![8, 4, 2, 2048, 1]⟩
abbrev S8x4x128x2x2048 : Shape := ⟨5, ![8, 4, 128, 2, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x256x512, .bf16⟩
  | .hbm, ⟨2, _⟩ => ⟨S8x2048x512, .bf16⟩
  | .hbm, ⟨3, _⟩ => ⟨S8x256x512, .bf16⟩
  | .hbm, ⟨4, _⟩ => ⟨S8x2048x512, .bf16⟩
  | .hbm, ⟨5, _⟩ => ⟨S8x2304x512, .bf16⟩
  | .hbm, ⟨6, _⟩ => ⟨S8x2304x512, .bf16⟩
  | .hbm, ⟨7, _⟩ => ⟨S8x2048x8x128, .bf16⟩
  | .hbm, ⟨8, _⟩ => ⟨S8x2304x4x128, .bf16⟩
  | .hbm, ⟨9, _⟩ => ⟨S8x2304x4x128, .bf16⟩
  | .hbm, ⟨10, _⟩ => ⟨S_, .f32⟩
  | .hbm, ⟨11, _⟩ => ⟨S_, .f32⟩
  | .hbm, ⟨12, _⟩ => ⟨S8x2048x4x2x128, .bf16⟩
  | .hbm, ⟨13, _⟩ => ⟨S8x4x2304x2048x2, .f32⟩
  | .hbm, ⟨14, _⟩ => ⟨S8x4x2x2048x2304, .f32⟩
  | .hbm, ⟨15, _⟩ => ⟨S8x4x2x2048x2304, .f32⟩
  | .hbm, ⟨16, _⟩ => ⟨S8x4x2x2048x2304, .f32⟩
  | .hbm, ⟨17, _⟩ => ⟨S_, .f32⟩
  | .hbm, ⟨18, _⟩ => ⟨S8x4x2x2048, .f32⟩
  | .hbm, ⟨19, _⟩ => ⟨S_, .f32⟩
  | .hbm, ⟨20, _⟩ => ⟨S8x4x2x2048, .f32⟩
  | .hbm, ⟨21, _⟩ => ⟨S8x4x2x2048, .f32⟩
  | .hbm, ⟨22, _⟩ => ⟨S8x4x2x2048x1, .f32⟩
  | .hbm, ⟨23, _⟩ => ⟨S8x4x2x2048x2304, .f32⟩
  | .hbm, ⟨24, _⟩ => ⟨S8x4x2x2048x2304, .f32⟩
  | .hbm, ⟨25, _⟩ => ⟨S8x4x2x2048x2304, .f32⟩
  | .hbm, ⟨26, _⟩ => ⟨S_, .f32⟩
  | .hbm, ⟨27, _⟩ => ⟨S8x4x2x2048, .f32⟩
  | .hbm, ⟨28, _⟩ => ⟨S8x4x2x2048x1, .f32⟩
  | .hbm, ⟨29, _⟩ => ⟨S8x4x2x2048x2304, .f32⟩
  | .hbm, ⟨30, _⟩ => ⟨S8x4x2x2048x2304, .f32⟩
  | .hbm, ⟨31, _⟩ => ⟨S8x4x2x2048x2304, .bf16⟩
  | .hbm, ⟨32, _⟩ => ⟨S8x4x128x2x2048, .f32⟩
  | .hbm, ⟨33, _⟩ => ⟨S8x2048x4x2x128, .f32⟩
  | .hbm, ⟨34, _⟩ => ⟨S8x2048x4x2x128, .bf16⟩
  | .hbm, ⟨35, _⟩ => ⟨S8x2048x8x128, .bf16⟩
  | .hbm, ⟨36, _⟩ => ⟨S8x2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Tail.lean ====
abbrev S16384x1024 : Shape := ⟨2, ![16384, 1024]⟩
abbrev S16x6x1024 : Shape := ⟨3, ![16, 6, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S1x1024 : Shape := ⟨2, ![1, 1024]⟩
abbrev S512x1024 : Shape := ⟨2, ![512, 1024]⟩
abbrev S8x1024 : Shape := ⟨2, ![8, 1024]⟩
abbrev S16x1024 : Shape := ⟨2, ![16, 1024]⟩
abbrev S1x6x1024 : Shape := ⟨3, ![1, 6, 1024]⟩
abbrev S512x2816 : Shape := ⟨2, ![512, 2816]⟩
abbrev S6x1024 : Shape := ⟨2, ![6, 1024]⟩
abbrev S8x1 : Shape := ⟨2, ![8, 1]⟩
abbrev S16x1 : Shape := ⟨2, ![16, 1]⟩
abbrev S528x1024 : Shape := ⟨2, ![528, 1024]⟩
abbrev S520x1024 : Shape := ⟨2, ![520, 1024]⟩
abbrev S520x1 : Shape := ⟨2, ![520, 1]⟩
abbrev S520 : Shape := ⟨1, ![520]⟩
abbrev S1024x256 : Shape := ⟨2, ![1024, 256]⟩
abbrev S520x256 : Shape := ⟨2, ![520, 256]⟩
abbrev S512x256 : Shape := ⟨2, ![512, 256]⟩
abbrev S1x256 : Shape := ⟨2, ![1, 256]⟩

abbrev nBuf : Space → Nat
  | .hbm => 15
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16x6x1024, .f32⟩
  | .hbm, ⟨3, _⟩ => ⟨S1024, .f32⟩
  | .hbm, ⟨4, _⟩ => ⟨S1024x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024x1024, .bf16⟩
  | .hbm, ⟨10, _⟩ => ⟨S1024x5632, .bf16⟩
  | .hbm, ⟨11, _⟩ => ⟨S1x5632, .f32⟩
  | .hbm, ⟨12, _⟩ => ⟨S2816x1024, .bf16⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1024x1024, .bf16⟩
  | .local _ .vmem, ⟨16, _⟩ => ⟨S1024x5632, .bf16⟩
  | .local _ .vmem, ⟨17, _⟩ => ⟨S3x5632, .f32⟩
  | .local _ .vmem, ⟨18, _⟩ => ⟨S1x5632, .f32⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | .local _ .vmem, ⟨22, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== TailRefIdeal.lean ====
abbrev S16384x1024 : Shape := ⟨2, ![16384, 1024]⟩
abbrev S16x6x1024 : Shape := ⟨3, ![16, 6, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x1024 : Shape := ⟨3, ![8, 2048, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16x6x1024, .f32⟩
  | .hbm, ⟨3, _⟩ => ⟨S1024, .f32⟩
  | .hbm, ⟨4, _⟩ => ⟨S1024x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S8x2048x1024, .f32⟩
  | .hbm, ⟨10, _⟩ => ⟨S16384x1024, .f32⟩
  | .hbm, ⟨11, _⟩ => ⟨S8x2048x1024, .f32⟩
  | .hbm, ⟨12, _⟩ => ⟨S8x2048x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S8x1x1024, .f32⟩
  | .hbm, ⟨29, _⟩ => ⟨S8x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S1x1x1024, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x5632, .f32⟩
  | .hbm, ⟨58, _⟩ => ⟨S_, .i32⟩
  | .hbm, ⟨59, _⟩ => ⟨S_, .f32⟩
  | .hbm, ⟨60, _⟩ => ⟨S8x2050x5632, .f32⟩
  | .hbm, ⟨61, _⟩ => ⟨S8x2048x5632, .f32⟩
  | .hbm, ⟨62, _⟩ => ⟨S1x5632, .f32⟩
  | .hbm, ⟨63, _⟩ => ⟨S5632, .f32⟩
  | .hbm, ⟨64, _⟩ => ⟨S1x1x5632, .f32⟩
  | .hbm, ⟨65, _⟩ => ⟨S8x2048x5632, .f32⟩
  | .hbm, ⟨66, _⟩ => ⟨S8x2048x5632, .f32⟩
  | .hbm, ⟨67, _⟩ => ⟨S1x1x5632, .f32⟩
  | .hbm, ⟨68, _⟩ => ⟨S8x2048x5632, .f32⟩
  | .hbm, ⟨69, _⟩ => ⟨S8x2048x5632, .f32⟩
  | .hbm, ⟨70, _⟩ => ⟨S8x2048x5632, .f32⟩
  | .hbm, ⟨71, _⟩ => ⟨S1x5632, .f32⟩
  | .hbm, ⟨72, _⟩ => ⟨S5632, .f32⟩
  | .hbm, ⟨73, _⟩ => ⟨S1x1x5632, .f32⟩
  | .hbm, ⟨74, _⟩ => ⟨S8x2048x5632, .f32⟩
  | .hbm, ⟨75, _⟩ => ⟨S8x2048x5632, .f32⟩
  | .hbm, ⟨76, _⟩ => ⟨S8x2048x5632, .f32⟩
  | .hbm, ⟨77, _⟩ => ⟨S8x2048x5632, .f32⟩
  | .hbm, ⟨78, _⟩ => ⟨S1x5632, .f32⟩
  | .hbm, ⟨79, _⟩ => ⟨S5632, .f32⟩
  | .hbm, ⟨80, _⟩ => ⟨S1x1x5632, .f32⟩
  | .hbm, ⟨81, _⟩ => ⟨S8x2048x5632, .f32⟩
  | .hbm, ⟨82, _⟩ => ⟨S8x2048x5632, .f32⟩
  | .hbm, ⟨83, _⟩ => ⟨S8x2048x5632, .f32⟩
  | .hbm, ⟨84, _⟩ => ⟨S8x2048x2816, .f32⟩
  | .hbm, ⟨85, _⟩ => ⟨S8x2048x2816, .f32⟩
  | .hbm, ⟨86, _⟩ => ⟨S8x2048x2816, .f32⟩
  | .hbm, ⟨87, _⟩ => ⟨S8x2048x2816, .f32⟩
  | .hbm, ⟨88, _⟩ => ⟨S_, .f32⟩
  | .hbm, ⟨89, _⟩ => ⟨S8x2048x2816, .f32⟩
  | .hbm, ⟨90, _⟩ => ⟨S8x2048x2816, .f32⟩
  | .hbm, ⟨91, _⟩ => ⟨S_, .f32⟩
  | .hbm, ⟨92, _⟩ => ⟨S8x2048x2816, .f32⟩
  | .hbm, ⟨93, _⟩ => ⟨S8x2048x2816, .f32⟩
  | .hbm, ⟨94, _⟩ => ⟨S8x2048x2816, .f32⟩
  | .hbm, ⟨95, _⟩ => ⟨S8x2048x2816, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | .hbm, ⟨99, _⟩ => ⟨S8x2048x1024, .f32⟩
  | .hbm, ⟨100, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_call0_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== TailFinal.lean ====
abbrev S16384x1024 : Shape := ⟨2, ![16384, 1024]⟩
abbrev S16x6x1024 : Shape := ⟨3, ![16, 6, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S1x1024 : Shape := ⟨2, ![1, 1024]⟩
abbrev S512x1024 : Shape := ⟨2, ![512, 1024]⟩
abbrev S8x1024 : Shape := ⟨2, ![8, 1024]⟩
abbrev S16x1024 : Shape := ⟨2, ![16, 1024]⟩
abbrev S1x6x1024 : Shape := ⟨3, ![1, 6, 1024]⟩
abbrev S512x2816 : Shape := ⟨2, ![512, 2816]⟩
abbrev S6x1024 : Shape := ⟨2, ![6, 1024]⟩
abbrev S8x1 : Shape := ⟨2, ![8, 1]⟩
abbrev S16x1 : Shape := ⟨2, ![16, 1]⟩
abbrev S528x1024 : Shape := ⟨2, ![528, 1024]⟩
abbrev S520x1024 : Shape := ⟨2, ![520, 1024]⟩
abbrev S520x1 : Shape := ⟨2, ![520, 1]⟩
abbrev S520 : Shape := ⟨1, ![520]⟩
abbrev S1024x256 : Shape := ⟨2, ![1024, 256]⟩
abbrev S520x256 : Shape := ⟨2, ![520, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 17
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16x6x1024, .f32⟩
  | .hbm, ⟨3, _⟩ => ⟨S1024, .f32⟩
  | .hbm, ⟨4, _⟩ => ⟨S1024x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024x1024, .bf16⟩
  | .hbm, ⟨11, _⟩ => ⟨S1024x5632, .bf16⟩
  | .hbm, ⟨12, _⟩ => ⟨S1x5632, .f32⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1024x1024, .bf16⟩
  | .local _ .vmem, ⟨16, _⟩ => ⟨S1024x5632, .bf16⟩
  | .local _ .vmem, ⟨17, _⟩ => ⟨S3x5632, .f32⟩
  | .local _ .vmem, ⟨18, _⟩ => ⟨S1x5632, .f32⟩
  | .local _ .vmem, ⟨19, _⟩ => ⟨S2816x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== TailFinalRefIdeal.lean ====
abbrev S16384x1024 : Shape := ⟨2, ![16384, 1024]⟩
abbrev S16x6x1024 : Shape := ⟨3, ![16, 6, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x1024 : Shape := ⟨3, ![8, 2048, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 120
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16x6x1024, .f32⟩
  | .hbm, ⟨3, _⟩ => ⟨S1024, .f32⟩
  | .hbm, ⟨4, _⟩ => ⟨S1024x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S8x2048x1024, .f32⟩
  | .hbm, ⟨11, _⟩ => ⟨S16384x1024, .f32⟩
  | .hbm, ⟨12, _⟩ => ⟨S8x2048x1024, .f32⟩
  | .hbm, ⟨13, _⟩ => ⟨S8x2048x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S8x1x1024, .f32⟩
  | .hbm, ⟨30, _⟩ => ⟨S8x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x1x1024, .f32⟩
  | .hbm, ⟨53, _⟩ => ⟨S8x1x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x5632, .f32⟩
  | .hbm, ⟨59, _⟩ => ⟨S_, .i32⟩
  | .hbm, ⟨60, _⟩ => ⟨S_, .f32⟩
  | .hbm, ⟨61, _⟩ => ⟨S8x2050x5632, .f32⟩
  | .hbm, ⟨62, _⟩ => ⟨S8x2048x5632, .f32⟩
  | .hbm, ⟨63, _⟩ => ⟨S1x5632, .f32⟩
  | .hbm, ⟨64, _⟩ => ⟨S5632, .f32⟩
  | .hbm, ⟨65, _⟩ => ⟨S1x1x5632, .f32⟩
  | .hbm, ⟨66, _⟩ => ⟨S8x2048x5632, .f32⟩
  | .hbm, ⟨67, _⟩ => ⟨S8x2048x5632, .f32⟩
  | .hbm, ⟨68, _⟩ => ⟨S1x1x5632, .f32⟩
  | .hbm, ⟨69, _⟩ => ⟨S8x2048x5632, .f32⟩
  | .hbm, ⟨70, _⟩ => ⟨S8x2048x5632, .f32⟩
  | .hbm, ⟨71, _⟩ => ⟨S8x2048x5632, .f32⟩
  | .hbm, ⟨72, _⟩ => ⟨S1x5632, .f32⟩
  | .hbm, ⟨73, _⟩ => ⟨S5632, .f32⟩
  | .hbm, ⟨74, _⟩ => ⟨S1x1x5632, .f32⟩
  | .hbm, ⟨75, _⟩ => ⟨S8x2048x5632, .f32⟩
  | .hbm, ⟨76, _⟩ => ⟨S8x2048x5632, .f32⟩
  | .hbm, ⟨77, _⟩ => ⟨S8x2048x5632, .f32⟩
  | .hbm, ⟨78, _⟩ => ⟨S8x2048x5632, .f32⟩
  | .hbm, ⟨79, _⟩ => ⟨S1x5632, .f32⟩
  | .hbm, ⟨80, _⟩ => ⟨S5632, .f32⟩
  | .hbm, ⟨81, _⟩ => ⟨S1x1x5632, .f32⟩
  | .hbm, ⟨82, _⟩ => ⟨S8x2048x5632, .f32⟩
  | .hbm, ⟨83, _⟩ => ⟨S8x2048x5632, .f32⟩
  | .hbm, ⟨84, _⟩ => ⟨S8x2048x5632, .f32⟩
  | .hbm, ⟨85, _⟩ => ⟨S8x2048x2816, .f32⟩
  | .hbm, ⟨86, _⟩ => ⟨S8x2048x2816, .f32⟩
  | .hbm, ⟨87, _⟩ => ⟨S8x2048x2816, .f32⟩
  | .hbm, ⟨88, _⟩ => ⟨S8x2048x2816, .f32⟩
  | .hbm, ⟨89, _⟩ => ⟨S_, .f32⟩
  | .hbm, ⟨90, _⟩ => ⟨S8x2048x2816, .f32⟩
  | .hbm, ⟨91, _⟩ => ⟨S8x2048x2816, .f32⟩
  | .hbm, ⟨92, _⟩ => ⟨S_, .f32⟩
  | .hbm, ⟨93, _⟩ => ⟨S8x2048x2816, .f32⟩
  | .hbm, ⟨94, _⟩ => ⟨S8x2048x2816, .f32⟩
  | .hbm, ⟨95, _⟩ => ⟨S8x2048x2816, .f32⟩
  | .hbm, ⟨96, _⟩ => ⟨S8x2048x2816, .f32⟩
  | .hbm, ⟨97, _⟩ => ⟨S8x2048x1024, .f32⟩
  | .hbm, ⟨98, _⟩ => ⟨S8x2048x1024, .f32⟩
  | .hbm, ⟨99, _⟩ => ⟨S8x2048x1024, .f32⟩
  | .hbm, ⟨100, _⟩ => ⟨S8x2048x1024, .f32⟩
  | .hbm, ⟨101, _⟩ => ⟨S16384x1024, .f32⟩
  | .hbm, ⟨102, _⟩ => ⟨S8x2048x1024, .f32⟩
  | .hbm, ⟨103, _⟩ => ⟨S8x2048x1024, .f32⟩
  | .hbm, ⟨104, _⟩ => ⟨S_, .f32⟩
  | .hbm, ⟨105, _⟩ => ⟨S8x2048, .f32⟩
  | .hbm, ⟨106, _⟩ => ⟨S8x2048x1, .f32⟩
  | .hbm, ⟨107, _⟩ => ⟨S_, .f32⟩
  | .hbm, ⟨108, _⟩ => ⟨S8x2048x1, .f32⟩
  | .hbm, ⟨109, _⟩ => ⟨S8x2048x1, .f32⟩
  | .hbm, ⟨110, _⟩ => ⟨S_, .f32⟩
  | .hbm, ⟨111, _⟩ => ⟨S8x2048x1, .f32⟩
  | .hbm, ⟨112, _⟩ => ⟨S8x2048x1, .f32⟩
  | .hbm, ⟨113, _⟩ => ⟨S8x2048x1, .f32⟩
  | .hbm, ⟨114, _⟩ => ⟨S8x2048x1024, .f32⟩
  | .hbm, ⟨115, _⟩ => ⟨S8x2048x1024, .f32⟩
  | .hbm, ⟨116, _⟩ => ⟨S1x1x1024, .f32⟩
  | .hbm, ⟨117, _⟩ => ⟨S8x2048x1024, .f32⟩
  | .hbm, ⟨118, _⟩ => ⟨S8x2048x1024, .f32⟩
  | .hbm, ⟨119, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c : Ref sig .tc := ⟨.hbm, 59, rfl⟩
abbrev main_call0_v0 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_3 : Ref sig .tc := ⟨.hbm, 104, rfl⟩
abbrev main_v80 : Ref sig .tc := ⟨.hbm, 105, rfl⟩
abbrev main_v81 : Ref sig .tc := ⟨.hbm, 106, rfl⟩
abbrev main_cst_4 : Ref sig .tc := ⟨.hbm, 107, rfl⟩
abbrev main_v82 : Ref sig .tc := ⟨.hbm, 108, rfl⟩
abbrev main_v83 : Ref sig .tc := ⟨.hbm, 109, rfl⟩
abbrev main_cst_5 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== TailCtx.lean ====
abbrev S2048x1024 : Shape := ⟨2, ![2048, 1024]⟩
abbrev S16x6x1024 : Shape := ⟨3, ![16, 6, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S1x1024 : Shape := ⟨2, ![1, 1024]⟩
abbrev S512x1024 : Shape := ⟨2, ![512, 1024]⟩
abbrev S8x1024 : Shape := ⟨2, ![8, 1024]⟩
abbrev S16x1024 : Shape := ⟨2, ![16, 1024]⟩
abbrev S1x6x1024 : Shape := ⟨3, ![1, 6, 1024]⟩
abbrev S512x2816 : Shape := ⟨2, ![512, 2816]⟩
abbrev S6x1024 : Shape := ⟨2, ![6, 1024]⟩
abbrev S8x1 : Shape := ⟨2, ![8, 1]⟩
abbrev S16x1 : Shape := ⟨2, ![16, 1]⟩
abbrev S528x1024 : Shape := ⟨2, ![528, 1024]⟩
abbrev S520x1024 : Shape := ⟨2, ![520, 1024]⟩
abbrev S520x1 : Shape := ⟨2, ![520, 1]⟩
abbrev S520 : Shape := ⟨1, ![520]⟩
abbrev S512x1 : Shape := ⟨2, ![512, 1]⟩
abbrev S1024x256 : Shape := ⟨2, ![1024, 256]⟩
abbrev S520x256 : Shape := ⟨2, ![520, 256]⟩
abbrev S512x256 : Shape := ⟨2, ![512, 256]⟩
abbrev S1x256 : Shape := ⟨2, ![1, 256]⟩

abbrev nBuf : Space → Nat
  | .hbm => 15
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S16x6x1024, .f32⟩
  | .hbm, ⟨3, _⟩ => ⟨S1024, .f32⟩
  | .hbm, ⟨4, _⟩ => ⟨S1024x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024x1024, .bf16⟩
  | .hbm, ⟨10, _⟩ => ⟨S1024x5632, .bf16⟩
  | .hbm, ⟨11, _⟩ => ⟨S1x5632, .f32⟩
  | .hbm, ⟨12, _⟩ => ⟨S2816x1024, .bf16⟩
  | .hbm, ⟨13, _⟩ => ⟨S1x1024, .f32⟩
  | .hbm, ⟨14, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1x6x1024, .f32⟩
  | .local _ .vmem, ⟨13, _⟩ => ⟨S1x1024, .f32⟩
  | .local _ .vmem, ⟨14, _⟩ => ⟨S1024x1024, .bf16⟩
  | .local _ .vmem, ⟨15, _⟩ => ⟨S1024x5632, .bf16⟩
  | .local _ .vmem, ⟨16, _⟩ => ⟨S3x5632, .f32⟩
  | .local _ .vmem, ⟨17, _⟩ => ⟨S1x5632, .f32⟩
  | .local _ .vmem, ⟨18, _⟩ => ⟨S2816x1024, .bf16⟩
  | .local _ .vmem, ⟨19, _⟩ => ⟨S512x1024, .f32⟩
  | .local _ .vmem, ⟨20, _⟩ => ⟨S512x1024, .f32⟩
  | .local _ .vmem, ⟨21, _⟩ => ⟨S512x2816, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== TailCtxRefIdeal.lean ====
abbrev S2048x1024 : Shape := ⟨2, ![2048, 1024]⟩
abbrev S16x6x1024 : Shape := ⟨3, ![16, 6, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x256x1024 : Shape := ⟨3, ![8, 256, 1024]⟩
abbrev S1x6x1024 : Shape := ⟨3, ![1, 6, 1024]⟩
abbrev S6x1024 : Shape := ⟨2, ![6, 1024]⟩
abbrev S1x1024 : Shape := ⟨2, ![1, 1024]⟩
abbrev S1x1x1024 : Shape := ⟨3, ![1, 1, 1024]⟩
abbrev S_ : Shape := ⟨0, ![]⟩
abbrev S8x256 : Shape := ⟨2, ![8, 256]⟩
abbrev S8x256x1 : Shape := ⟨3, ![8, 256, 1]⟩
abbrev S8x256x5632 : Shape := ⟨3, ![8, 256, 5632]⟩
abbrev S8x258x5632 : Shape := ⟨3, ![8, 258, 5632]⟩
abbrev S1x5632 : Shape := ⟨2, ![1, 5632]⟩
abbrev S1x1x5632 : Shape := ⟨3, ![1, 1, 5632]⟩
abbrev S8x256x2816 : Shape := ⟨3, ![8, 256, 2816]⟩

abbrev nBuf : Space → Nat
  | .hbm => 97
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S16x6x1024, .f32⟩
  | .hbm, ⟨3, _⟩ => ⟨S1024, .f32⟩
  | .hbm, ⟨4, _⟩ => ⟨S1024x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S8x256x1024, .f32⟩
  | .hbm, ⟨10, _⟩ => ⟨S2048x1024, .f32⟩
  | .hbm, ⟨11, _⟩ => ⟨S8x256x1024, .f32⟩
  | .hbm, ⟨12, _⟩ => ⟨S8x256x1024, .f32⟩
  | .hbm, ⟨13, _⟩ => ⟨S1x6x1024, .f32⟩
  | .hbm, ⟨14, _⟩ => ⟨S6x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S_, .f32⟩
  | .hbm, ⟨23, _⟩ => ⟨S8x256, .f32⟩
  | .hbm, ⟨24, _⟩ => ⟨S8x256x1, .f32⟩
  | .hbm, ⟨25, _⟩ => ⟨S_, .f32⟩
  | .hbm, ⟨26, _⟩ => ⟨S8x256x1, .f32⟩
  | .hbm, ⟨27, _⟩ => ⟨S8x256x1, .f32⟩
  | .hbm, ⟨28, _⟩ => ⟨S_, .f32⟩
  | .hbm, ⟨29, _⟩ => ⟨S8x256x1, .f32⟩
  | .hbm, ⟨30, _⟩ => ⟨S8x256x1, .f32⟩
  | .hbm, ⟨31, _⟩ => ⟨S8x256x1, .f32⟩
  | .hbm, ⟨32, _⟩ => ⟨S8x256x1024, .f32⟩
  | .hbm, ⟨33, _⟩ => ⟨S8x256x1024, .f32⟩
  | .hbm, ⟨34, _⟩ => ⟨S1x1x1024, .f32⟩
  | .hbm, ⟨35, _⟩ => ⟨S8x256x1024, .f32⟩
  | .hbm, ⟨36, _⟩ => ⟨S8x256x1024, .f32⟩
  | .hbm, ⟨37, _⟩ => ⟨S1x1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1x1x1024, .f32⟩
  | .hbm, ⟨43, _⟩ => ⟨S8x256x1024, .f32⟩
  | .hbm, ⟨44, _⟩ => ⟨S8x256x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S8x256x1024, .f32⟩
  | .hbm, ⟨49, _⟩ => ⟨S8x256x1024, .f32⟩
  | .hbm, ⟨50, _⟩ => ⟨S1x1024, .f32⟩
  | .hbm, ⟨51, _⟩ => ⟨S1024, .f32⟩
  | .hbm, ⟨52, _⟩ => ⟨S8x256x5632, .f32⟩
  | .hbm, ⟨53, _⟩ => ⟨S_, .i32⟩
  | .hbm, ⟨54, _⟩ => ⟨S_, .f32⟩
  | .hbm, ⟨55, _⟩ => ⟨S8x258x5632, .f32⟩
  | .hbm, ⟨56, _⟩ => ⟨S8x256x5632, .f32⟩
  | .hbm, ⟨57, _⟩ => ⟨S1x5632, .f32⟩
  | .hbm, ⟨58, _⟩ => ⟨S5632, .f32⟩
  | .hbm, ⟨59, _⟩ => ⟨S1x1x5632, .f32⟩
  | .hbm, ⟨60, _⟩ => ⟨S8x256x5632, .f32⟩
  | .hbm, ⟨61, _⟩ => ⟨S8x256x5632, .f32⟩
  | .hbm, ⟨62, _⟩ => ⟨S1x1x5632, .f32⟩
  | .hbm, ⟨63, _⟩ => ⟨S8x256x5632, .f32⟩
  | .hbm, ⟨64, _⟩ => ⟨S8x256x5632, .f32⟩
  | .hbm, ⟨65, _⟩ => ⟨S8x256x5632, .f32⟩
  | .hbm, ⟨66, _⟩ => ⟨S1x5632, .f32⟩
  | .hbm, ⟨67, _⟩ => ⟨S5632, .f32⟩
  | .hbm, ⟨68, _⟩ => ⟨S1x1x5632, .f32⟩
  | .hbm, ⟨69, _⟩ => ⟨S8x256x5632, .f32⟩
  | .hbm, ⟨70, _⟩ => ⟨S8x256x5632, .f32⟩
  | .hbm, ⟨71, _⟩ => ⟨S8x256x5632, .f32⟩
  | .hbm, ⟨72, _⟩ => ⟨S8x256x5632, .f32⟩
  | .hbm, ⟨73, _⟩ => ⟨S1x5632, .f32⟩
  | .hbm, ⟨74, _⟩ => ⟨S5632, .f32⟩
  | .hbm, ⟨75, _⟩ => ⟨S1x1x5632, .f32⟩
  | .hbm, ⟨76, _⟩ => ⟨S8x256x5632, .f32⟩
  | .hbm, ⟨77, _⟩ => ⟨S8x256x5632, .f32⟩
  | .hbm, ⟨78, _⟩ => ⟨S8x256x5632, .f32⟩
  | .hbm, ⟨79, _⟩ => ⟨S8x256x2816, .f32⟩
  | .hbm, ⟨80, _⟩ => ⟨S8x256x2816, .f32⟩
  | .hbm, ⟨81, _⟩ => ⟨S8x256x2816, .f32⟩
  | .hbm, ⟨82, _⟩ => ⟨S8x256x2816, .f32⟩
  | .hbm, ⟨83, _⟩ => ⟨S_, .f32⟩
  | .hbm, ⟨84, _⟩ => ⟨S8x256x2816, .f32⟩
  | .hbm, ⟨85, _⟩ => ⟨S8x256x2816, .f32⟩
  | .hbm, ⟨86, _⟩ => ⟨S_, .f32⟩
  | .hbm, ⟨87, _⟩ => ⟨S8x256x2816, .f32⟩
  | .hbm, ⟨88, _⟩ => ⟨S8x256x2816, .f32⟩
  | .hbm, ⟨89, _⟩ => ⟨S8x256x2816, .f32⟩
  | .hbm, ⟨90, _⟩ => ⟨S8x256x2816, .f32⟩
  | .hbm, ⟨91, _⟩ => ⟨S8x256x1024, .f32⟩
  | .hbm, ⟨92, _⟩ => ⟨S1x1x1024, .f32⟩
  | .hbm, ⟨93, _⟩ => ⟨S8x256x1024, .f32⟩
  | .hbm, ⟨94, _⟩ => ⟨S8x256x1024, .f32⟩
  | .hbm, ⟨95, _⟩ => ⟨S8x256x1024, .f32⟩
  | .hbm, ⟨96, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_call0_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== AttnA.lean ====
abbrev S8x2048x1024 : Shape := ⟨3, ![8, 2048, 1024]⟩
abbrev S8x256x1024 : Shape := ⟨3, ![8, 256, 1024]⟩
abbrev S64 : Shape := ⟨1, ![64]⟩
abbrev S128 : Shape := ⟨1, ![128]⟩
abbrev S1x64 : Shape := ⟨2, ![1, 64]⟩
abbrev S1x128 : Shape := ⟨2, ![1, 128]⟩
abbrev S1x1024x128 : Shape := ⟨3, ![1, 1024, 128]⟩
abbrev S1x256x128 : Shape := ⟨3, ![1, 256, 128]⟩
abbrev S1x2048x128 : Shape := ⟨3, ![1, 2048, 128]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S256x128 : Shape := ⟨2, ![256, 128]⟩
abbrev S1x512x128 : Shape := ⟨3, ![1, 512, 128]⟩
abbrev S512x128 : Shape := ⟨2, ![512, 128]⟩
abbrev S256x256 : Shape := ⟨2, ![256, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S8x2048x1024, .bf16⟩
  | .hbm, ⟨1, _⟩ => ⟨S8x256x1024, .bf16⟩
  | .hbm, ⟨2, _⟩ => ⟨S8x2048x1024, .bf16⟩
  | .hbm, ⟨3, _⟩ => ⟨S8x256x1024, .bf16⟩
  | .hbm, ⟨4, _⟩ => ⟨S8x2048x1024, .bf16⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x128, .f32⟩
  | .hbm, ⟨15, _⟩ => ⟨S8x2048x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1x1024x128, .bf16⟩
  | .local _ .vmem, ⟨16, _⟩ => ⟨S1x1024x128, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AttnARefIdeal.lean ====
abbrev S8x2048x1024 : Shape := ⟨3, ![8, 2048, 1024]⟩
abbrev S8x256x1024 : Shape := ⟨3, ![8, 256, 1024]⟩
abbrev S64 : Shape := ⟨1, ![64]⟩
abbrev S128 : Shape := ⟨1, ![128]⟩
abbrev S_ : Shape := ⟨0, ![]⟩
abbrev S8x2304x1024 : Shape := ⟨3, ![8, 2304, 1024]⟩
abbrev S8x2304x16x64 : Shape := ⟨4, ![8, 2304, 16, 64]⟩
abbrev S8x2304x8x128 : Shape := ⟨4, ![8, 2304, 8, 128]⟩
abbrev S8x2048x16x64 : Shape := ⟨4, ![8, 2048, 16, 64]⟩
abbrev S8x16x2048x2304 : Shape := ⟨4, ![8, 16, 2048, 2304]⟩
abbrev S8x16x2048 : Shape := ⟨3, ![8, 16, 2048]⟩
abbrev S8x16x2048x1 : Shape := ⟨4, ![8, 16, 2048, 1]⟩
abbrev S8x8x2x2048x2304 : Shape := ⟨5, ![8, 8, 2, 2048, 2304]⟩
abbrev S8x8x1x2048x2304 : Shape := ⟨5, ![8, 8, 1, 2048, 2304]⟩
abbrev S8x8x2048x2304 : Shape := ⟨4, ![8, 8, 2048, 2304]⟩
abbrev S8x8x128x2048 : Shape := ⟨4, ![8, 8, 128, 2048]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x256x1024, .bf16⟩
  | .hbm, ⟨2, _⟩ => ⟨S8x2048x1024, .bf16⟩
  | .hbm, ⟨3, _⟩ => ⟨S8x256x1024, .bf16⟩
  | .hbm, ⟨4, _⟩ => ⟨S8x2048x1024, .bf16⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x2304x1024, .bf16⟩
  | .hbm, ⟨22, _⟩ => ⟨S8x2304x16x64, .bf16⟩
  | .hbm, ⟨23, _⟩ => ⟨S8x2304x1024, .bf16⟩
  | .hbm, ⟨24, _⟩ => ⟨S8x2304x8x128, .bf16⟩
  | .hbm, ⟨25, _⟩ => ⟨S8x2048x16x64, .bf16⟩
  | .hbm, ⟨26, _⟩ => ⟨S8x16x2048x2304, .f32⟩
  | .hbm, ⟨27, _⟩ => ⟨S_, .f32⟩
  | .hbm, ⟨28, _⟩ => ⟨S_, .f32⟩
  | .hbm, ⟨29, _⟩ => ⟨S8x16x2048x2304, .f32⟩
  | .hbm, ⟨30, _⟩ => ⟨S8x16x2048x2304, .f32⟩
  | .hbm, ⟨31, _⟩ => ⟨S_, .f32⟩
  | .hbm, ⟨32, _⟩ => ⟨S8x16x2048, .f32⟩
  | .hbm, ⟨33, _⟩ => ⟨S_, .f32⟩
  | .hbm, ⟨34, _⟩ => ⟨S8x16x2048, .f32⟩
  | .hbm, ⟨35, _⟩ => ⟨S8x16x2048, .f32⟩
  | .hbm, ⟨36, _⟩ => ⟨S8x16x2048x1, .f32⟩
  | .hbm, ⟨37, _⟩ => ⟨S8x16x2048x2304, .f32⟩
  | .hbm, ⟨38, _⟩ => ⟨S8x16x2048x2304, .f32⟩
  | .hbm, ⟨39, _⟩ => ⟨S8x16x2048x2304, .f32⟩
  | .hbm, ⟨40, _⟩ => ⟨S_, .f32⟩
  | .hbm, ⟨41, _⟩ => ⟨S8x16x2048, .f32⟩
  | .hbm, ⟨42, _⟩ => ⟨S8x16x2048x1, .f32⟩
  | .hbm, ⟨43, _⟩ => ⟨S8x16x2048x2304, .f32⟩
  | .hbm, ⟨44, _⟩ => ⟨S8x16x2048x2304, .f32⟩
  | .hbm, ⟨45, _⟩ => ⟨S8x8x2x2048x2304, .f32⟩
  | .hbm, ⟨46, _⟩ => ⟨S8x8x1x2048x2304, .f32⟩
  | .hbm, ⟨47, _⟩ => ⟨S8x8x2048x2304, .f32⟩
  | .hbm, ⟨48, _⟩ => ⟨S8x8x1x2048x2304, .f32⟩
  | .hbm, ⟨49, _⟩ => ⟨S8x8x2048x2304, .f32⟩
  | .hbm, ⟨50, _⟩ => ⟨S8x8x2048x2304, .f32⟩
  | .hbm, ⟨51, _⟩ => ⟨S8x8x2048x2304, .f32⟩
  | .hbm, ⟨52, _⟩ => ⟨S8x8x2048x2304, .f32⟩
  | .hbm, ⟨53, _⟩ => ⟨S8x8x2048x2304, .bf16⟩
  | .hbm, ⟨54, _⟩ => ⟨S8x8x128x2048, .f32⟩
  | .hbm, ⟨55, _⟩ => ⟨S8x2048x8x128, .f32⟩
  | .hbm, ⟨56, _⟩ => ⟨S8x2048x8x128, .f32⟩
  | .hbm, ⟨57, _⟩ => ⟨S_, .f32⟩
  | .hbm, ⟨58, _⟩ => ⟨S8x2048x8, .f32⟩
  | .hbm, ⟨59, _⟩ => ⟨S8x2048x8x1, .f32⟩
  | .hbm, ⟨60, _⟩ => ⟨S_, .f32⟩
  | .hbm, ⟨61, _⟩ => ⟨S8x2048x8x1, .f32⟩
  | .hbm, ⟨62, _⟩ => ⟨S8x2048x8x1, .f32⟩
  | .hbm, ⟨63, _⟩ => ⟨S_, .f32⟩
  | .hbm, ⟨64, _⟩ => ⟨S8x2048x8x1, .f32⟩
  | .hbm, ⟨65, _⟩ => ⟨S8x2048x8x1, .f32⟩
  | .hbm, ⟨66, _⟩ => ⟨S8x2048x8x1, .f32⟩
  | .hbm, ⟨67, _⟩ => ⟨S8x2048x8x128, .f32⟩
  | .hbm, ⟨68, _⟩ => ⟨S8x2048x8x128, .f32⟩
  | .hbm, ⟨69, _⟩ => ⟨S1x1x1x128, .f32⟩
  | .hbm, ⟨70, _⟩ => ⟨S8x2048x8x128, .f32⟩
  | .hbm, ⟨71, _⟩ => ⟨S8x2048x8x128, .f32⟩
  | .hbm, ⟨72, _⟩ => ⟨S_, .f32⟩
  | .hbm, ⟨73, _⟩ => ⟨S8x2048x8x128, .f32⟩
  | .hbm, ⟨74, _⟩ => ⟨S8x2048x8x128, .f32⟩
  | .hbm, ⟨75, _⟩ => ⟨S8x2048x8x128, .bf16⟩
  | .hbm, ⟨76, _⟩ => ⟨S8x2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== ProjA.lean ====
abbrev S16384x1024 : Shape := ⟨2, ![16384, 1024]⟩
abbrev S16x6x1024 : Shape := ⟨3, ![16, 6, 1024]⟩
abbrev S1024 : Shape := ⟨1, ![1024]⟩
abbrev S2048x32 : Shape := ⟨2, ![2048, 32]⟩
abbrev S1024x3072 : Shape := ⟨2, ![1024, 3072]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S1024x1024 : Shape := ⟨2, ![1024, 1024]⟩
abbrev S1x6x1024 : Shape := ⟨3, ![1, 6, 1024]⟩
abbrev S1024x128 : Shape := ⟨2, ![1024, 128]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩
abbrev S512x3072 : Shape := ⟨2, ![512, 3072]⟩
abbrev S1x128 : Shape := ⟨2, ![1, 128]⟩
abbrev S512x128 : Shape := ⟨2, ![512, 128]⟩

abbrev nBuf : Space → Nat
  | .hbm => 20
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16x6x1024, .f32⟩
  | .hbm, ⟨2, _⟩ => ⟨S1024, .f32⟩
  | .hbm, ⟨3, _⟩ => ⟨S2048x32, .f32⟩
  | .hbm, ⟨4, _⟩ => ⟨S2048x32, .f32⟩
  | .hbm, ⟨5, _⟩ => ⟨S1024x3072, .f32⟩
  | .hbm, ⟨6, _⟩ => ⟨S2048x64, .f32⟩
  | .hbm, ⟨7, _⟩ => ⟨S1x2048x1x64, .f32⟩
  | .hbm, ⟨8, _⟩ => ⟨S1x2048x2x64, .f32⟩
  | .hbm, ⟨9, _⟩ => ⟨S2048x128, .f32⟩
  | .hbm, ⟨10, _⟩ => ⟨S2048x32, .f32⟩
  | .hbm, ⟨11, _⟩ => ⟨S2048x64, .f32⟩
  | .hbm, ⟨12, _⟩ => ⟨S1x2048x1x64, .f32⟩
  | .hbm, ⟨13, _⟩ => ⟨S1x2048x2x64, .f32⟩
  | .hbm, ⟨14, _⟩ => ⟨S2048x128, .f32⟩
  | .hbm, ⟨15, _⟩ => ⟨S1024x3072, .bf16⟩
  | .hbm, ⟨16, _⟩ => ⟨S1x1024, .f32⟩
  | .hbm, ⟨17, _⟩ => ⟨S16384x1024, .bf16⟩
  | .hbm, ⟨18, _⟩ => ⟨S16384x1024, .bf16⟩
  | .hbm, ⟨19, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x3072, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjARefIdeal.lean ====
abbrev S16384x1024 : Shape := ⟨2, ![16384, 1024]⟩
abbrev S16x6x1024 : Shape := ⟨3, ![16, 6, 1024]⟩
abbrev S1024 : Shape := ⟨1, ![1024]⟩
abbrev S2048x32 : Shape := ⟨2, ![2048, 32]⟩
abbrev S1024x3072 : Shape := ⟨2, ![1024, 3072]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x3072 : Shape := ⟨3, ![8, 2048, 3072]⟩
abbrev S8x2048x16x64 : Shape := ⟨4, ![8, 2048, 16, 64]⟩
abbrev S8x2048x16x32 : Shape := ⟨4, ![8, 2048, 16, 32]⟩
abbrev S2048x1x32 : Shape := ⟨3, ![2048, 1, 32]⟩
abbrev S1x2048x1x32 : Shape := ⟨4, ![1, 2048, 1, 32]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x6x1024, .f32⟩
  | .hbm, ⟨2, _⟩ => ⟨S1024, .f32⟩
  | .hbm, ⟨3, _⟩ => ⟨S2048x32, .f32⟩
  | .hbm, ⟨4, _⟩ => ⟨S2048x32, .f32⟩
  | .hbm, ⟨5, _⟩ => ⟨S1024x3072, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x3072, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x16x64, .f32⟩
  | .hbm, ⟨41, _⟩ => ⟨S8x2048x16x32, .f32⟩
  | .hbm, ⟨42, _⟩ => ⟨S8x2048x16x32, .f32⟩
  | .hbm, ⟨43, _⟩ => ⟨S2048x1x32, .f32⟩
  | .hbm, ⟨44, _⟩ => ⟨S2048x1x32, .f32⟩
  | .hbm, ⟨45, _⟩ => ⟨S1x2048x1x32, .f32⟩
  | .hbm, ⟨46, _⟩ => ⟨S8x2048x16x32, .f32⟩
  | .hbm, ⟨47, _⟩ => ⟨S8x2048x16x32, .f32⟩
  | .hbm, ⟨48, _⟩ => ⟨S1x2048x1x32, .f32⟩
  | .hbm, ⟨49, _⟩ => ⟨S8x2048x16x32, .f32⟩
  | .hbm, ⟨50, _⟩ => ⟨S8x2048x16x32, .f32⟩
  | .hbm, ⟨51, _⟩ => ⟨S8x2048x16x32, .f32⟩
  | .hbm, ⟨52, _⟩ => ⟨S1x2048x1x32, .f32⟩
  | .hbm, ⟨53, _⟩ => ⟨S8x2048x16x32, .f32⟩
  | .hbm, ⟨54, _⟩ => ⟨S8x2048x16x32, .f32⟩
  | .hbm, ⟨55, _⟩ => ⟨S1x2048x1x32, .f32⟩
  | .hbm, ⟨56, _⟩ => ⟨S8x2048x16x32, .f32⟩
  | .hbm, ⟨57, _⟩ => ⟨S8x2048x16x32, .f32⟩
  | .hbm, ⟨58, _⟩ => ⟨S8x2048x16x32, .f32⟩
  | .hbm, ⟨59, _⟩ => ⟨S8x2048x16x64, .f32⟩
  | .hbm, ⟨60, _⟩ => ⟨S8x2048x16x64, .f32⟩
  | .hbm, ⟨61, _⟩ => ⟨S8x2048x16x32, .f32⟩
  | .hbm, ⟨62, _⟩ => ⟨S8x2048x16x32, .f32⟩
  | .hbm, ⟨63, _⟩ => ⟨S2048x1x32, .f32⟩
  | .hbm, ⟨64, _⟩ => ⟨S2048x1x32, .f32⟩
  | .hbm, ⟨65, _⟩ => ⟨S1x2048x1x32, .f32⟩
  | .hbm, ⟨66, _⟩ => ⟨S8x2048x16x32, .f32⟩
  | .hbm, ⟨67, _⟩ => ⟨S8x2048x16x32, .f32⟩
  | .hbm, ⟨68, _⟩ => ⟨S1x2048x1x32, .f32⟩
  | .hbm, ⟨69, _⟩ => ⟨S8x2048x16x32, .f32⟩
  | .hbm, ⟨70, _⟩ => ⟨S8x2048x16x32, .f32⟩
  | .hbm, ⟨71, _⟩ => ⟨S8x2048x16x32, .f32⟩
  | .hbm, ⟨72, _⟩ => ⟨S1x2048x1x32, .f32⟩
  | .hbm, ⟨73, _⟩ => ⟨S8x2048x16x32, .f32⟩
  | .hbm, ⟨74, _⟩ => ⟨S8x2048x16x32, .f32⟩
  | .hbm, ⟨75, _⟩ => ⟨S1x2048x1x32, .f32⟩
  | .hbm, ⟨76, _⟩ => ⟨S8x2048x16x32, .f32⟩
  | .hbm, ⟨77, _⟩ => ⟨S8x2048x16x32, .f32⟩
  | .hbm, ⟨78, _⟩ => ⟨S8x2048x16x32, .f32⟩
  | .hbm, ⟨79, _⟩ => ⟨S8x2048x16x64, .f32⟩
  | .hbm, ⟨80, _⟩ => ⟨S_, .f32⟩
  | .hbm, ⟨81, _⟩ => ⟨S8x2048x16x64, .f32⟩
  | .hbm, ⟨82, _⟩ => ⟨S8x2048x16x64, .f32⟩
  | .hbm, ⟨83, _⟩ => ⟨S8x2048x16x64, .bf16⟩
  | .hbm, ⟨84, _⟩ => ⟨S16384x1024, .bf16⟩
  | .hbm, ⟨85, _⟩ => ⟨S8x2048x16x64, .bf16⟩
  | .hbm, ⟨86, _⟩ => ⟨S16384x1024, .bf16⟩
  | .hbm, ⟨87, _⟩ => ⟨S8x2048x1024, .bf16⟩
  | .hbm, ⟨88, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_3 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩

abbrev nD : Nat := 1
abbrev τ : Topo := Topo.v7x

variable {F : FTy → Type} [FloatOps F]
-- ==== Proof.Softmax.lean ====
module

public import Idealize.ShloMosaic.Lib.Pointwise
public import Mathlib.Analysis.SpecialFunctions.Pow.Real

/-! The softmax of a row of finite logits, and the weighted sum it makes, on the extended reals. -/

@[expose] public section

noncomputable section

namespace Cert.Softmax

open Idealize.ShloMosaic

/-- The weight softmax gives to position `k` of a row of real logits `s` counted in powers of two. -/
def weight {n : ℕ} (s : Fin n → ℝ) (k : Fin n) : ℝ :=
  Real.exp (s k * Real.log 2) / ∑ j, Real.exp (s j * Real.log 2)

/-- The inclusion of the reals keeps finite sums. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, EReal.coe_add, ih]

/-- A real factor of at least zero goes into a sum of extended reals. -/
theorem sum_mul_real {n : ℕ} (f : Fin n → EReal) {c : ℝ} (hc : 0 ≤ c) :
    (∑ k, f k) * (c : EReal) = ∑ k, f k * (c : EReal) := by
  induction n with
  | zero => simp
  | succ n ih =>
    rw [Fin.sum_univ_succ, Fin.sum_univ_succ, mul_comm,
      EReal.left_distrib_of_nonneg_of_ne_top (by exact_mod_cast hc) (EReal.coe_ne_top c), mul_comm _ (f 0),
      mul_comm _ (∑ i : Fin n, f i.succ), ih]

/-- Two to the power `x` is `e` to the power `x * ln 2`. -/
theorem exp2_real (x : ℝ) : Ideal.exp2 (x : EReal) = ((Real.exp (x * Real.log 2) : ℝ) : EReal) := by
  rw [Ideal.exp2_coe]
  congr 1
  show (2 : ℝ) ^ x = _
  rw [Real.rpow_def_of_pos (by norm_num), mul_comm]

/-- A row of exponentials shifted by `m` sums to the unshifted sum times `exp (-m)`. -/
theorem sum_shift {n : ℕ} (s : Fin n → ℝ) (m : ℝ) :
    ∑ j, Real.exp (s j * Real.log 2 - m) = (∑ j, Real.exp (s j * Real.log 2)) * Real.exp (-m) := by
  rw [Finset.sum_mul]
  refine Finset.sum_congr rfl fun j _ => ?_
  rw [← Real.exp_add, sub_eq_add_neg]

theorem sum_exp_pos {n : ℕ} (hn : 0 < n) (f : Fin n → ℝ) : 0 < ∑ j, Real.exp (f j) :=
  Finset.sum_pos (fun j _ => Real.exp_pos _) ⟨⟨0, hn⟩, Finset.mem_univ _⟩

/-- The weight is at least zero. -/
theorem weight_nonneg {n : ℕ} (s : Fin n → ℝ) (k : Fin n) : 0 ≤ weight s k :=
  div_nonneg (Real.exp_pos _).le (Finset.sum_nonneg fun _ _ => (Real.exp_pos _).le)

/-- Softmax as it is written down, with any real shift: the quotient of the shifted exponentials is the weight. -/
theorem weight_of_shift {n : ℕ} (hn : 0 < n) (s : Fin n → ℝ) (m : ℝ) (k : Fin n) :
    Real.exp (s k * Real.log 2 - m) / ∑ j, Real.exp (s j * Real.log 2 - m) = weight s k := by
  rw [sum_shift, sub_eq_add_neg, Real.exp_add, weight, mul_div_mul_right _ _ (Real.exp_pos _).ne']

/-- The softmax weight of finite logits `s * ln 2`, computed with any finite shift on the extended reals. -/
theorem div_exp {n : ℕ} (hn : 0 < n) (s : Fin n → ℝ) (m : ℝ) (k : Fin n) :
    Ideal.div (Ideal.exp ((s k : EReal) * (Real.log 2 : ℝ) - (m : EReal)))
      (∑ j, Ideal.exp ((s j : EReal) * (Real.log 2 : ℝ) - (m : EReal))) = (weight s k : EReal) := by
  have e : ∀ j, Ideal.exp ((s j : EReal) * (Real.log 2 : ℝ) - (m : EReal)) = ((Real.exp (s j * Real.log 2 - m) : ℝ) : EReal) := by
    intro j
    rw [← EReal.coe_mul, ← EReal.coe_sub, Ideal.exp_coe]
  simp only [e]
  rw [coe_sum, Ideal.div_coe (sum_exp_pos hn _).ne', ← EReal.coe_mul, mul_one_div, weight_of_shift hn]

/-- The division after the sum: values weighted by powers of two of finite logits, divided by the sum of those powers,
    are the values weighted by softmax. The values may be infinite. -/
theorem div_after {n : ℕ} (hn : 0 < n) (s : Fin n → ℝ) (m : ℝ) (v : Fin n → EReal) :
    Ideal.div (∑ k, Ideal.exp2 ((s k : EReal) - (m : EReal)) * v k) (∑ k, Ideal.exp2 ((s k : EReal) - (m : EReal)))
      = ∑ k, (weight s k : EReal) * v k := by
  have e : ∀ j, Ideal.exp2 ((s j : EReal) - (m : EReal)) = ((Real.exp (s j * Real.log 2 - m * Real.log 2) : ℝ) : EReal) := by
    intro j
    rw [← EReal.coe_sub, exp2_real, sub_mul]
  simp only [e]
  have hp := sum_exp_pos hn fun j => s j * Real.log 2 - m * Real.log 2
  rw [coe_sum, Ideal.div_coe hp.ne', sum_mul_real _ (by positivity)]
  refine Finset.sum_congr rfl fun k _ => ?_
  rw [mul_right_comm, ← EReal.coe_mul, mul_one_div, weight_of_shift hn]

/-! ### IsReal extended reals -/

/-- The extended real `x` is a real number. -/
def IsReal (x : EReal) : Prop := ∃ r : ℝ, x = (r : EReal)

theorem isReal_of_abs_lt {x : EReal} (h : max x (-x) < ⊤) : IsReal x := by
  induction x with
  | bot => simp at h
  | top => simp at h
  | coe r => exact ⟨r, rfl⟩

theorem isReal_mul {x y : EReal} : IsReal x → IsReal y → IsReal (x * y)
  | ⟨a, ha⟩, ⟨b, hb⟩ => ⟨a * b, by rw [ha, hb, EReal.coe_mul]⟩

theorem isReal_max {x y : EReal} (hx : IsReal x) (hy : IsReal y) : IsReal (max x y) := by
  rcases max_choice x y with h | h <;> rw [h] <;> assumption

theorem isReal_sum {n : ℕ} {f : Fin n → EReal} (h : ∀ k, IsReal (f k)) : IsReal (∑ k, f k) := by
  choose g hg using h
  exact ⟨∑ k, g k, by simp only [hg, coe_sum]⟩

/-- The maximum of a nonempty row of finite numbers, started at minus infinity, is finite. -/
theorem isReal_foldMax {n : ℕ} (hn : 0 < n) {f : Fin n → EReal} (h : ∀ k, IsReal (f k)) :
    IsReal (Finset.fold max ⊥ f Finset.univ) := by
  have key : ∀ S : Finset (Fin n), Finset.fold max ⊥ f S = ⊥ ∨ IsReal (Finset.fold max ⊥ f S) := by
    intro S
    induction S using Finset.induction_on with
    | empty => left; rfl
    | insert a S ha ih =>
      right
      rw [Finset.fold_insert ha]
      rcases ih with e | e
      · rw [e, max_bot_right]; exact h a
      · exact isReal_max (h a) e
  rcases key Finset.univ with e | e
  · exfalso
    have : f ⟨0, hn⟩ ≤ Finset.fold max ⊥ f Finset.univ := by
      rw [Finset.le_fold_max]; exact Or.inr ⟨_, Finset.mem_univ _, le_rfl⟩
    rw [e] at this
    obtain ⟨r, hr⟩ := h ⟨0, hn⟩
    rw [hr] at this
    exact absurd this (by simp)
  · exact e

theorem ofBits_neg_inf : Ideal.ofBits .f32 0xFF800000#32 = ⊥ := by
  simp [Ideal.ofBits, Ideal.ieee]

theorem ofBits_inf_bf16 : Ideal.ofBits .bf16 0x7F80#16 = ⊤ := by
  simp [Ideal.ofBits, Ideal.ieee]

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    norm_cast
    norm_num
  rw [this, Ideal.log_coe, if_neg (by norm_num)]

/-! ### A row of 2304 keys in five pieces -/

/-- A sum over 2304 positions as the sums over its pieces of 256, 512, 512, 512 and 512 positions, added in order. -/
theorem sum_pieces (f : Fin 2304 → EReal) :
    ∑ k, f k = (∑ k : Fin 256, f ⟨k.val, by omega⟩) + (∑ k : Fin 512, f ⟨256 + k.val, by omega⟩)
      + (∑ k : Fin 512, f ⟨768 + k.val, by omega⟩) + (∑ k : Fin 512, f ⟨1280 + k.val, by omega⟩)
      + ∑ k : Fin 512, f ⟨1792 + k.val, by omega⟩ := by
  rw [Fin.sum_univ_two_halves 1792 512 rfl f, Fin.sum_univ_two_halves 1280 512 rfl (fun k : Fin 1792 => f ⟨k.val, _⟩),
    Fin.sum_univ_two_halves 768 512 rfl (fun k : Fin 1280 => f ⟨k.val, _⟩),
    Fin.sum_univ_two_halves 256 512 rfl (fun k : Fin 768 => f ⟨k.val, _⟩)]

end Cert.Softmax
end
-- ==== Proof.Unit.lean ====
module

public import proofs.«01_k».proof.Proof.Softmax
public import proofs.«01_k».proof.Proof.Gen.AttnCIdeal.Frame

/-! One unit of 512 query rows: the logits of its rows against the five pieces of the keys come in, the attended values
    go out. The unit's text is the same in the two plain attention kernels. -/

@[expose] public section

set_option maxRecDepth 16384

noncomputable section

namespace Cert.Unit

open Idealize.ShloMosaic Cert.AttnCIdeal Cert.AttnCIdeal.Gen Cert.Softmax

section
variable (s0 : FVec Ideal S512x256 .f32) (s1 s2 s3 s4 : FVec Ideal S512x512 .f32)
  (w0 : FVec Ideal S256x256 .bf16) (w1 w2 w3 w4 : FVec Ideal S512x256 .bf16)

/-- The unit: from the logits `s` by piece of the keys, and the values `w` by piece with a block of ones beside them. -/
def unit : FVec Ideal S512x128 .f32 :=
  k0_pay46 w2 w3 w4 s3 s4 (k0_pay42 s0 s1 s2 s3 s4) (k0_pay43 w0 s0 s1 s2 s3 s4) (k0_pay44 w1 s0 s1 s2 s3 s4)
    (k0_pay45 s0 s1 s2 s3 s4)

/-- The unit at a row and a lane: the weighted values over the weights' own sum, piece by piece. -/
theorem unit_apply (r : Fin 512) (c : Fin 128) : unit s0 s1 s2 s3 s4 w0 w1 w2 w3 w4 (ix2 r c) =
    let M := k0_pay42 s0 s1 s2 s3 s4 (ix2 r 0)
    Ideal.div
      (∑ x, Ideal.exp2 (s0 (ix2 r x) - M) * w0 (ix2 x ⟨c.val, by omega⟩)
        + ∑ x, Ideal.exp2 (s1 (ix2 r x) - M) * w1 (ix2 x ⟨c.val, by omega⟩)
        + ∑ x, Ideal.exp2 (s2 (ix2 r x) - M) * w2 (ix2 x ⟨c.val, by omega⟩)
        + ∑ x, Ideal.exp2 (s3 (ix2 r x) - M) * w3 (ix2 x ⟨c.val, by omega⟩)
        + ∑ x, Ideal.exp2 (s4 (ix2 r x) - M) * w4 (ix2 x ⟨c.val, by omega⟩))
      (∑ x, Ideal.exp2 (s0 (ix2 r x) - M) * w0 (ix2 x ⟨128 + c.val, by omega⟩)
        + ∑ x, Ideal.exp2 (s1 (ix2 r x) - M) * w1 (ix2 x ⟨128 + c.val, by omega⟩)
        + ∑ x, Ideal.exp2 (s2 (ix2 r x) - M) * w2 (ix2 x ⟨128 + c.val, by omega⟩)
        + ∑ x, Ideal.exp2 (s3 (ix2 r x) - M) * w3 (ix2 x ⟨128 + c.val, by omega⟩)
        + ∑ x, Ideal.exp2 (s4 (ix2 r x) - M) * w4 (ix2 x ⟨128 + c.val, by omega⟩)) := by
  unfold unit k0_pay43 k0_pay44 k0_pay45 k0_pay46
  generalize k0_pay42 s0 s1 s2 s3 s4 = M
  pointwise
  rfl

/-- The unit's shift is finite on a row of finite logits. -/
theorem shift_isReal (r : Fin 512) (h0 : ∀ k, IsReal (s0 (ix2 r k))) (h1 : ∀ k, IsReal (s1 (ix2 r k)))
    (h2 : ∀ k, IsReal (s2 (ix2 r k))) (h3 : ∀ k, IsReal (s3 (ix2 r k))) (h4 : ∀ k, IsReal (s4 (ix2 r k))) :
    IsReal (k0_pay42 s0 s1 s2 s3 s4 (ix2 r 0)) := by
  unfold k0_pay42
  pointwise
  rw [ofBits_neg_inf]
  refine isReal_foldMax (by norm_num) fun k => ?_
  repeat' refine isReal_max ?_ ?_
  all_goals first | apply h0 | apply h1 | apply h2 | apply h3 | apply h4

/-- A unit whose logits are a row `s` of 2304 finite numbers cut in pieces, and whose values are `v` cut alike, leaves the
    values weighted by the softmax of the row. -/
theorem unit_row (r : Fin 512) (c : Fin 128) (s v : Fin 2304 → EReal) (hs : ∀ k, IsReal (s k))
    (h0 : ∀ k, s0 (ix2 r k) = s ⟨k.val, by omega⟩) (h1 : ∀ k, s1 (ix2 r k) = s ⟨256 + k.val, by omega⟩)
    (h2 : ∀ k, s2 (ix2 r k) = s ⟨768 + k.val, by omega⟩) (h3 : ∀ k, s3 (ix2 r k) = s ⟨1280 + k.val, by omega⟩)
    (h4 : ∀ k, s4 (ix2 r k) = s ⟨1792 + k.val, by omega⟩)
    (v0 : ∀ k, w0 (ix2 k ⟨c.val, by omega⟩) = v ⟨k.val, by omega⟩)
    (v1 : ∀ k, w1 (ix2 k ⟨c.val, by omega⟩) = v ⟨256 + k.val, by omega⟩)
    (v2 : ∀ k, w2 (ix2 k ⟨c.val, by omega⟩) = v ⟨768 + k.val, by omega⟩)
    (v3 : ∀ k, w3 (ix2 k ⟨c.val, by omega⟩) = v ⟨1280 + k.val, by omega⟩)
    (v4 : ∀ k, w4 (ix2 k ⟨c.val, by omega⟩) = v ⟨1792 + k.val, by omega⟩)
    (o0 : ∀ k, w0 (ix2 k ⟨128 + c.val, by omega⟩) = 1) (o1 : ∀ k, w1 (ix2 k ⟨128 + c.val, by omega⟩) = 1)
    (o2 : ∀ k, w2 (ix2 k ⟨128 + c.val, by omega⟩) = 1) (o3 : ∀ k, w3 (ix2 k ⟨128 + c.val, by omega⟩) = 1)
    (o4 : ∀ k, w4 (ix2 k ⟨128 + c.val, by omega⟩) = 1) :
    unit s0 s1 s2 s3 s4 w0 w1 w2 w3 w4 (ix2 r c) = ∑ k, (weight (fun k => (s k).toReal) k : EReal) * v k := by
  obtain ⟨m, hm⟩ := shift_isReal s0 s1 s2 s3 s4 r (fun k => h0 k ▸ hs _) (fun k => h1 k ▸ hs _) (fun k => h2 k ▸ hs _)
    (fun k => h3 k ▸ hs _) (fun k => h4 k ▸ hs _)
  have e : ∀ k, s k = ((s k).toReal : EReal) := fun k => by obtain ⟨x, hx⟩ := hs k; rw [hx, EReal.toReal_coe]
  rw [unit_apply, hm, ← div_after (by norm_num) (fun k => (s k).toReal) m v]
  simp only [h0, h1, h2, h3, h4, v0, v1, v2, v3, v4, o0, o1, o2, o3, o4, mul_one, ← e]
  rw [← sum_pieces (fun k => Ideal.exp2 (s k - (m : EReal)) * v k), ← sum_pieces (fun k => Ideal.exp2 (s k - (m : EReal)))]

end

end Cert.Unit
end
-- ==== Proof.AttnABlock.lean ====
module

public import proofs.«01_k».proof.Proof.Unit
public import proofs.«01_k».proof.Proof.Gen.AttnAIdeal.Frame

/-! What one grid point of the differential kernel leaves in its block of the output, element by element: the attended
    values of a head's first half less `lam` times those of its second half, normalised over the head's lanes. -/

@[expose] public section

set_option maxRecDepth 16384

noncomputable section

namespace Cert.AttnABlock

open Idealize.ShloMosaic Cert.AttnAIdeal Cert.AttnAIdeal.Gen Cert.Softmax Cert.Unit

/-- Element `c` of a row `f` of 128 divided by its root mean square, times its gain and the layer's constant. -/
def normed (f g : Fin 128 → EReal) (c : Fin 128) : EReal :=
  f c * Ideal.rsqrt (Ideal.div (∑ d, f d * f d) (Ideal.ofBits .f32 0x43000000#32) + Ideal.ofBits .f32 0x358637BD#32)
    * g c * Ideal.ofBits .f32 0x3F4CCCCD#32

/-- The factor of the second half, from its four vectors. -/
def lamOf (l1 l2 l3 l4 : Fin 64 → EReal) : EReal :=
  Ideal.exp (∑ d, l1 d * l2 d) - Ideal.exp (∑ d, l3 d * l4 d) + Ideal.ofBits .f32 0x3E4CCCCD#32

/-- The stored piece from a unit's rows, the factor and the gain. -/
theorem finish_apply (lam : FVec Ideal S1x1 .f32) (P : FVec Ideal S512x128 .f32) (g : Vec Ideal S1x128 .f32)
    (a : Fin 1) (r : Fin 256) (c : Fin 128) :
    k0_pay81 lam P g (ix3 a r c) =
      normed (fun c => P (ix2 ⟨0 + r.val, by omega⟩ c) - lam (ix2 0 0) * P (ix2 ⟨256 + r.val, by omega⟩ c))
        (fun c => g (ix2 0 c)) c := by
  unfold k0_pay81 normed
  pointwise

theorem lam_apply (l1 l2 l3 l4 : Vec Ideal S1x64 .f32) :
    k0_pay2 l1 l2 l3 l4 (ix2 0 0) = lamOf (fun d => l1 (ix2 0 d)) (fun d => l2 (ix2 0 d)) (fun d => l3 (ix2 0 d))
      (fun d => l4 (ix2 0 d)) := by
  unfold k0_pay2 lamOf
  pointwise
  simp only [Finset.univ_unique, Finset.sum_singleton]

/-- A query row with the lanes outside half `g` replaced by zeros, against a key: only the half's lanes count. -/
theorem half_sum (g : Fin 2) (q k : Fin 128 → EReal) :
    ∑ d : Fin 128, (if d.val / 64 = g.val then q d else 0) * k d =
      ∑ d : Fin 64, q ⟨g.val * 64 + d.val, by omega⟩ * k ⟨g.val * 64 + d.val, by omega⟩ := by
  rw [Fin.sum_univ_two_halves 64 64 rfl]
  have e0 : ∀ d : Fin 64, d.val / 64 = 0 := fun d => by omega
  have e1 : ∀ d : Fin 64, (64 + d.val) / 64 = 1 := fun d => by omega
  have hg : g = 0 ∨ g = 1 := by omega
  rcases hg with rfl | rfl <;> simp [e0, e1]

section
variable (x0 : Vec Ideal S1x1024x128 .bf16) (x1 : Vec Ideal S1x256x128 .bf16) (x2 : Vec Ideal S1x2048x128 .bf16)
  (x3 : Vec Ideal S1x256x128 .bf16) (x4 : Vec Ideal S1x2048x128 .bf16) (x5 x6 x7 x8 : Vec Ideal S1x64 .f32)
  (x9 : Vec Ideal S1x128 .f32)

/-- Lane `d` of row `k` of the context's 256 rows `x` with the latent's rows `y` after them. -/
def rowAt (x : S1x256x128.Idx → EReal) (y : S1x2048x128.Idx → EReal) (k : Fin 2304) (d : Fin 128) : EReal :=
  if h : k.val < 256 then x (ix3 0 ⟨k.val, h⟩ d) else y (ix3 0 ⟨k.val - 256, by omega⟩ d)

/-- The logit of query row `R` of the head's half `g` against key `k`, counted in powers of two. -/
def logit (g : Fin 2) (R : Fin 1024) (k : Fin 2304) : EReal :=
  ∑ d : Fin 64, x0 (ix3 0 R ⟨g.val * 64 + d.val, by omega⟩) * rowAt x1 x2 k ⟨g.val * 64 + d.val, by omega⟩

/-- The values weighted by the softmax of the row's logits in half `g`. -/
def cell (g : Fin 2) (R : Fin 1024) (c : Fin 128) : EReal :=
  ∑ k, (weight (fun k => (logit x0 x1 x2 g R k).toReal) k : EReal) * rowAt x3 x4 k c

/-- Five pieces of the rows: the context's, then the latent's in fours. -/
theorem rowAt_piece0 (k : Fin 256) (d : Fin 128) : rowAt x1 x2 ⟨k.val, by omega⟩ d = x1 (ix3 0 k d) := by
  simp [rowAt]
theorem rowAt_piece1 (k : Fin 512) (d : Fin 128) :
    rowAt x1 x2 ⟨256 + k.val, by omega⟩ d = x2 (ix3 0 ⟨0 + k.val, by omega⟩ d) := by
  rw [rowAt, dif_neg (by dsimp only; omega)]; congr 2; ext; dsimp only; omega
theorem rowAt_piece2 (k : Fin 512) (d : Fin 128) :
    rowAt x1 x2 ⟨768 + k.val, by omega⟩ d = x2 (ix3 0 ⟨512 + k.val, by omega⟩ d) := by
  rw [rowAt, dif_neg (by dsimp only; omega)]; congr 2; ext; dsimp only; omega
theorem rowAt_piece3 (k : Fin 512) (d : Fin 128) :
    rowAt x1 x2 ⟨1280 + k.val, by omega⟩ d = x2 (ix3 0 ⟨1024 + k.val, by omega⟩ d) := by
  rw [rowAt, dif_neg (by dsimp only; omega)]; congr 2; ext; dsimp only; omega
theorem rowAt_piece4 (k : Fin 512) (d : Fin 128) :
    rowAt x1 x2 ⟨1792 + k.val, by omega⟩ d = x2 (ix3 0 ⟨1536 + k.val, by omega⟩ d) := by
  rw [rowAt, dif_neg (by dsimp only; omega)]; congr 2; ext; dsimp only; omega

/-- The unit from stacked queries `Q`, the keys' and the values' pieces being the block's. -/
def unitOf (Q : FVec Ideal S512x128 .bf16) : FVec Ideal S512x128 .f32 :=
  unit (k0_pay26 (k0_pay4 (View.ld x1 r0_1)) Q) (k0_pay27 (k0_pay5 (View.ld x2 r0_2)) Q)
    (k0_pay28 (k0_pay6 (View.ld x2 r0_3)) Q) (k0_pay29 (k0_pay7 (View.ld x2 r0_4)) Q)
    (k0_pay30 (k0_pay8 (View.ld x2 r0_5)) Q) (k0_pay9 (View.ld x3 r0_1)) (k0_pay10 (View.ld x4 r0_2))
    (k0_pay11 (View.ld x4 r0_3)) (k0_pay12 (View.ld x4 r0_4)) (k0_pay13 (View.ld x4 r0_5))

/-- A row of a unit whose queries are row `R` masked to half `g` leaves that half's attended values. -/
theorem unitOf_apply (Q : FVec Ideal S512x128 .bf16) (r : Fin 512) (c : Fin 128) (g : Fin 2) (R : Fin 1024)
    (hs : ∀ k, IsReal (logit x0 x1 x2 g R k))
    (hQ : ∀ d : Fin 128, Q (ix2 r d) = if d.val / 64 = g.val then x0 (ix3 0 R d) else 0) :
    unitOf x1 x2 x3 x4 Q (ix2 r c) = cell x0 x1 x2 x3 x4 g R c := by
  have hl : ∀ k, logit x0 x1 x2 g R k = ∑ d : Fin 128, Q (ix2 r d) * rowAt x1 x2 k d := fun k => by
    rw [logit, ← half_sum g (fun d => x0 (ix3 0 R d)) (fun d => rowAt x1 x2 k d)]
    exact Finset.sum_congr rfl fun d _ => by rw [hQ]
  refine unit_row _ _ _ _ _ _ _ _ _ _ _ c (logit x0 x1 x2 g R) (fun k => rowAt x3 x4 k c) hs
    ?_ ?_ ?_ ?_ ?_ ?_ ?_ ?_ ?_ ?_ ?_ ?_ ?_ ?_ ?_ <;> intro k
  all_goals
    try simp only [hl, rowAt_piece0, rowAt_piece1, rowAt_piece2, rowAt_piece3, rowAt_piece4]
    unfold_payloads
    pointwise

theorem low (d : Fin 128) : IntOp.cmpi .slt (BitVec.ofNat 32 d.val) 64#32 = if d.val / 64 = 0 then 1#1 else 0#1 := by
  revert d; decide +kernel
theorem high (d : Fin 128) : IntOp.cmpi .sge (BitVec.ofNat 32 d.val) 64#32 = if d.val / 64 = 1 then 1#1 else 0#1 := by
  revert d; decide +kernel

/-- The queries of 256 rows twice over, the first half of the lanes kept in the first copy, the second in the second. -/
theorem masked (q : Vec Ideal S1x256x128 .bf16) (g : Fin 2) (r : Fin 256) (d : Fin 128) :
    k0_pay18 (F := Ideal) (iota .tc S1x128 32 [1] iota_S1x128_d1_w32) k0_pay3 q (ix2 ⟨256 * g.val + r.val, by omega⟩ d) =
      if d.val / 64 = g.val then q (ix3 0 r d) else 0 := by
  unfold k0_pay18 k0_pay3
  have hg : g = 0 ∨ g = 1 := by omega
  rcases hg with rfl | rfl
  · pointwise
    rw [low]
    split <;> simp_all [Scalar.select]
  · pointwise
    rw [high]
    split <;> simp_all [Scalar.select]

/-- The masked queries of 256 rows of the block. -/
def queries (q : Vec Ideal S1x256x128 .bf16) : FVec Ideal S512x128 .bf16 :=
  k0_pay18 (F := Ideal) (iota .tc S1x128 32 [1] iota_S1x128_d1_w32) k0_pay3 q

/-- The output block's element: half 0's attended row less `lam` times half 1's, normalised. -/
def block (R : Fin 1024) (c : Fin 128) : EReal :=
  normed (fun c => cell x0 x1 x2 x3 x4 0 R c -
      lamOf (fun d => x5 (ix2 0 d)) (fun d => x6 (ix2 0 d)) (fun d => x7 (ix2 0 d)) (fun d => x8 (ix2 0 d)) *
        cell x0 x1 x2 x3 x4 1 R c) (fun c => x9 (ix2 0 c)) c

/-- The piece stored from the masked queries `q`, which are the block's rows from `o` on. -/
theorem piece (hs : ∀ g R k, IsReal (logit x0 x1 x2 g R k)) (q : Vec Ideal S1x256x128 .bf16) (a : Fin 1) (r : Fin 256)
    (c : Fin 128) (R : Fin 1024) (hq : ∀ d, q (ix3 0 r d) = x0 (ix3 0 R d)) :
    k0_pay81 (k0_pay2 (View.ld x5 r0_0) (View.ld x6 r0_0) (View.ld x7 r0_0) (View.ld x8 r0_0))
      (unitOf x1 x2 x3 x4 (queries q)) (View.ld x9 r0_10) (ix3 a r c) =
      block x0 x1 x2 x3 x4 x5 x6 x7 x8 x9 R c := by
  rw [finish_apply, lam_apply]
  have h0 : ∀ c, unitOf x1 x2 x3 x4 (queries q) (ix2 ⟨0 + r.val, by omega⟩ c) = cell x0 x1 x2 x3 x4 0 R c := fun c => by
    refine unitOf_apply x0 x1 x2 x3 x4 _ _ c 0 R (hs 0 R) fun d => ?_
    rw [← hq]
    exact masked q 0 r d
  have h1 : ∀ c, unitOf x1 x2 x3 x4 (queries q) (ix2 ⟨256 + r.val, by omega⟩ c) = cell x0 x1 x2 x3 x4 1 R c := fun c => by
    refine unitOf_apply x0 x1 x2 x3 x4 _ _ c 1 R (hs 1 R) fun d => ?_
    rw [← hq]
    exact masked q 1 r d
  simp only [h0, h1]
  unfold block
  congr 1
  · funext c
    congr 2
    unfold lamOf
    pointwise
  · funext c
    pointwise

/-- The output block as a function of its index. -/
def blockAt (y : S1x1024x128.Idx) : EReal := block x0 x1 x2 x3 x4 x5 x6 x7 x8 x9 (y 1) (y 2)

theorem at9 (a : Fin 1) (r : Fin 256) (c : Fin 128) : blockAt x0 x1 x2 x3 x4 x5 x6 x7 x8 x9 (r0_9.emb (ix3 a r c)) =
    block x0 x1 x2 x3 x4 x5 x6 x7 x8 x9 ⟨768 + r.val, by omega⟩ c := by
  unfold blockAt
  congr 1
  · ext; show 768 + 1 * r.val = 768 + r.val; omega
  · ext; show 0 + 1 * c.val = c.val; omega

theorem at8 (a : Fin 1) (r : Fin 256) (c : Fin 128) : blockAt x0 x1 x2 x3 x4 x5 x6 x7 x8 x9 (r0_8.emb (ix3 a r c)) =
    block x0 x1 x2 x3 x4 x5 x6 x7 x8 x9 ⟨512 + r.val, by omega⟩ c := by
  unfold blockAt
  congr 1
  · ext; show 512 + 1 * r.val = 512 + r.val; omega
  · ext; show 0 + 1 * c.val = c.val; omega

theorem at7 (a : Fin 1) (r : Fin 256) (c : Fin 128) : blockAt x0 x1 x2 x3 x4 x5 x6 x7 x8 x9 (r0_7.emb (ix3 a r c)) =
    block x0 x1 x2 x3 x4 x5 x6 x7 x8 x9 ⟨256 + r.val, by omega⟩ c := by
  unfold blockAt
  congr 1
  · ext; show 256 + 1 * r.val = 256 + r.val; omega
  · ext; show 0 + 1 * c.val = c.val; omega

theorem at6 (a : Fin 1) (r : Fin 256) (c : Fin 128) : blockAt x0 x1 x2 x3 x4 x5 x6 x7 x8 x9 (r0_6.emb (ix3 a r c)) =
    block x0 x1 x2 x3 x4 x5 x6 x7 x8 x9 ⟨0 + r.val, by omega⟩ c := by
  unfold blockAt
  congr 1
  · ext; show 0 + 1 * r.val = 0 + r.val; omega
  · ext; show 0 + 1 * c.val = c.val; omega

/-! The stored pieces' texts, cut differently in the kernel, are one. -/

theorem stored9 : (k0_pay1 (k0_pay86 (k0_pay89 x0 x1 x2 x3 x4 x5 x6 x7 x8 x9) (k0_pay76 (k0_pay96 x0 x1 x2 x3 x4 x5 x6 x7 x8 x9) (k0_pay97 x0 x1 x2 x3 x4 x5 x6 x7 x8 x9) (k0_pay98 x0 x1 x2 x3 x4 x5 x6 x7 x8 x9) (k0_pay99 x0 x1 x2 x3 x4 x5 x6 x7 x8 x9) (k0_pay100 x0 x1 x2 x3 x4 x5 x6 x7 x8 x9) (k0_pay116 x0 x1 x2 x3 x4 x5 x6 x7 x8 x9) (k0_pay117 x0 x1 x2 x3 x4 x5 x6 x7 x8 x9) (k0_pay118 x0 x1 x2 x3 x4 x5 x6 x7 x8 x9) (k0_pay119 x0 x1 x2 x3 x4 x5 x6 x7 x8 x9) (k0_pay120 x0 x1 x2 x3 x4 x5 x6 x7 x8 x9) (k0_pay75 (k0_pay116 x0 x1 x2 x3 x4 x5 x6 x7 x8 x9) (k0_pay117 x0 x1 x2 x3 x4 x5 x6 x7 x8 x9) (k0_pay118 x0 x1 x2 x3 x4 x5 x6 x7 x8 x9) (k0_pay119 x0 x1 x2 x3 x4 x5 x6 x7 x8 x9) (k0_pay120 x0 x1 x2 x3 x4 x5 x6 x7 x8 x9))) (View.ld x9 r0_10)) (k0_pay87 (F := Ideal)) : FVec Ideal S1x256x128 .bf16) =
    k0_pay81 (k0_pay2 (View.ld x5 r0_0) (View.ld x6 r0_0) (View.ld x7 r0_0) (View.ld x8 r0_0))
      (unitOf x1 x2 x3 x4 (queries (View.ld x0 r0_9))) (View.ld x9 r0_10) := rfl

theorem stored8 : (k0_pay85 (k0_pay82 (k0_pay89 x0 x1 x2 x3 x4 x5 x6 x7 x8 x9) (k0_pay128 x0 x1 x2 x3 x4 x5 x6 x7 x8 x9)) (k0_pay83 (View.ld x9 r0_10)) (k0_pay84 (k0_pay89 x0 x1 x2 x3 x4 x5 x6 x7 x8 x9) (k0_pay128 x0 x1 x2 x3 x4 x5 x6 x7 x8 x9)) : FVec Ideal S1x256x128 .bf16) =
    k0_pay81 (k0_pay2 (View.ld x5 r0_0) (View.ld x6 r0_0) (View.ld x7 r0_0) (View.ld x8 r0_0))
      (unitOf x1 x2 x3 x4 (queries (View.ld x0 r0_8))) (View.ld x9 r0_10) := rfl

theorem stored7 : (k0_pay81 (k0_pay89 x0 x1 x2 x3 x4 x5 x6 x7 x8 x9) (k0_pay69 (k0_pay100 x0 x1 x2 x3 x4 x5 x6 x7 x8 x9) (k0_pay64 (k0_pay96 x0 x1 x2 x3 x4 x5 x6 x7 x8 x9) (k0_pay106 x0 x1 x2 x3 x4 x5 x6 x7 x8 x9) (k0_pay108 x0 x1 x2 x3 x4 x5 x6 x7 x8 x9) (k0_pay109 x0 x1 x2 x3 x4 x5 x6 x7 x8 x9) (k0_pay110 x0 x1 x2 x3 x4 x5 x6 x7 x8 x9) (k0_pay122 x0 x1 x2 x3 x4 x5 x6 x7 x8 x9) (k0_pay123 x0 x1 x2 x3 x4 x5 x6 x7 x8 x9) (k0_pay124 x0 x1 x2 x3 x4 x5 x6 x7 x8 x9) (k0_pay125 x0 x1 x2 x3 x4 x5 x6 x7 x8 x9) (k0_pay126 x0 x1 x2 x3 x4 x5 x6 x7 x8 x9) (k0_pay127 x0 x1 x2 x3 x4 x5 x6 x7 x8 x9)) (k0_pay65 (k0_pay97 x0 x1 x2 x3 x4 x5 x6 x7 x8 x9) (k0_pay107 x0 x1 x2 x3 x4 x5 x6 x7 x8 x9) (k0_pay108 x0 x1 x2 x3 x4 x5 x6 x7 x8 x9) (k0_pay109 x0 x1 x2 x3 x4 x5 x6 x7 x8 x9) (k0_pay110 x0 x1 x2 x3 x4 x5 x6 x7 x8 x9) (k0_pay122 x0 x1 x2 x3 x4 x5 x6 x7 x8 x9) (k0_pay123 x0 x1 x2 x3 x4 x5 x6 x7 x8 x9) (k0_pay124 x0 x1 x2 x3 x4 x5 x6 x7 x8 x9) (k0_pay125 x0 x1 x2 x3 x4 x5 x6 x7 x8 x9) (k0_pay126 x0 x1 x2 x3 x4 x5 x6 x7 x8 x9) (k0_pay127 x0 x1 x2 x3 x4 x5 x6 x7 x8 x9)) (k0_pay66 (k0_pay98 x0 x1 x2 x3 x4 x5 x6 x7 x8 x9) (k0_pay108 x0 x1 x2 x3 x4 x5 x6 x7 x8 x9) (k0_pay109 x0 x1 x2 x3 x4 x5 x6 x7 x8 x9) (k0_pay110 x0 x1 x2 x3 x4 x5 x6 x7 x8 x9) (k0_pay122 x0 x1 x2 x3 x4 x5 x6 x7 x8 x9) (k0_pay123 x0 x1 x2 x3 x4 x5 x6 x7 x8 x9) (k0_pay124 x0 x1 x2 x3 x4 x5 x6 x7 x8 x9) (k0_pay125 x0 x1 x2 x3 x4 x5 x6 x7 x8 x9) (k0_pay126 x0 x1 x2 x3 x4 x5 x6 x7 x8 x9) (k0_pay127 x0 x1 x2 x3 x4 x5 x6 x7 x8 x9)) (k0_pay67 (k0_pay99 x0 x1 x2 x3 x4 x5 x6 x7 x8 x9) (k0_pay108 x0 x1 x2 x3 x4 x5 x6 x7 x8 x9) (k0_pay109 x0 x1 x2 x3 x4 x5 x6 x7 x8 x9) (k0_pay110 x0 x1 x2 x3 x4 x5 x6 x7 x8 x9) (k0_pay122 x0 x1 x2 x3 x4 x5 x6 x7 x8 x9) (k0_pay123 x0 x1 x2 x3 x4 x5 x6 x7 x8 x9) (k0_pay124 x0 x1 x2 x3 x4 x5 x6 x7 x8 x9) (k0_pay125 x0 x1 x2 x3 x4 x5 x6 x7 x8 x9) (k0_pay126 x0 x1 x2 x3 x4 x5 x6 x7 x8 x9) (k0_pay127 x0 x1 x2 x3 x4 x5 x6 x7 x8 x9)) (k0_pay68 (k0_pay108 x0 x1 x2 x3 x4 x5 x6 x7 x8 x9) (k0_pay109 x0 x1 x2 x3 x4 x5 x6 x7 x8 x9) (k0_pay110 x0 x1 x2 x3 x4 x5 x6 x7 x8 x9) (k0_pay122 x0 x1 x2 x3 x4 x5 x6 x7 x8 x9) (k0_pay123 x0 x1 x2 x3 x4 x5 x6 x7 x8 x9) (k0_pay124 x0 x1 x2 x3 x4 x5 x6 x7 x8 x9) (k0_pay125 x0 x1 x2 x3 x4 x5 x6 x7 x8 x9) (k0_pay126 x0 x1 x2 x3 x4 x5 x6 x7 x8 x9) (k0_pay127 x0 x1 x2 x3 x4 x5 x6 x7 x8 x9))) (View.ld x9 r0_10) : FVec Ideal S1x256x128 .bf16) =
    k0_pay81 (k0_pay2 (View.ld x5 r0_0) (View.ld x6 r0_0) (View.ld x7 r0_0) (View.ld x8 r0_0))
      (unitOf x1 x2 x3 x4 (queries (View.ld x0 r0_7))) (View.ld x9 r0_10) := rfl

theorem stored6 : (k0_pay80 (k0_pay77 (k0_pay89 x0 x1 x2 x3 x4 x5 x6 x7 x8 x9) (k0_pay121 x0 x1 x2 x3 x4 x5 x6 x7 x8 x9)) (k0_pay78 (View.ld x9 r0_10)) (k0_pay79 (k0_pay89 x0 x1 x2 x3 x4 x5 x6 x7 x8 x9) (k0_pay121 x0 x1 x2 x3 x4 x5 x6 x7 x8 x9)) : FVec Ideal S1x256x128 .bf16) =
    k0_pay81 (k0_pay2 (View.ld x5 r0_0) (View.ld x6 r0_0) (View.ld x7 r0_0) (View.ld x8 r0_0))
      (unitOf x1 x2 x3 x4 (queries (View.ld x0 r0_6))) (View.ld x9 r0_10) := rfl

/-- The block a grid point leaves, where the logits are finite. -/
theorem out_apply (hs : ∀ g R k, IsReal (logit x0 x1 x2 g R k)) (y : S1x1024x128.Idx) :
    out0_10 x0 x1 x2 x3 x4 x5 x6 x7 x8 x9 y = blockAt x0 x1 x2 x3 x4 x5 x6 x7 x8 x9 y := by
  refine View.canon_apply_of_pieces (Val := Elt Ideal) (e := .bf16) (blockAt x0 x1 x2 x3 x4 x5 x6 x7 x8 x9) _ ?_ y (cover0_10 _ _ _ _ y)
  intro p hp
  simp only [List.mem_cons, List.not_mem_nil, or_false] at hp
  rcases hp with rfl | rfl | rfl | rfl <;> intro j <;> idx_vars j
  · refine Eq.trans ?_ (at9 x0 x1 x2 x3 x4 x5 x6 x7 x8 x9 j0 j1 j2).symm
    refine Eq.trans ?_ (piece x0 x1 x2 x3 x4 x5 x6 x7 x8 x9 hs (View.ld x0 r0_9) j0 j1 j2 ⟨768 + j1.val, by omega⟩ fun d => ?_)
    · exact congrFun (stored9 x0 x1 x2 x3 x4 x5 x6 x7 x8 x9) (ix3 j0 j1 j2)
    · pointwise
  · refine Eq.trans ?_ (at8 x0 x1 x2 x3 x4 x5 x6 x7 x8 x9 j0 j1 j2).symm
    refine Eq.trans ?_ (piece x0 x1 x2 x3 x4 x5 x6 x7 x8 x9 hs (View.ld x0 r0_8) j0 j1 j2 ⟨512 + j1.val, by omega⟩ fun d => ?_)
    · exact congrFun (stored8 x0 x1 x2 x3 x4 x5 x6 x7 x8 x9) (ix3 j0 j1 j2)
    · pointwise
  · refine Eq.trans ?_ (at7 x0 x1 x2 x3 x4 x5 x6 x7 x8 x9 j0 j1 j2).symm
    refine Eq.trans ?_ (piece x0 x1 x2 x3 x4 x5 x6 x7 x8 x9 hs (View.ld x0 r0_7) j0 j1 j2 ⟨256 + j1.val, by omega⟩ fun d => ?_)
    · exact congrFun (stored7 x0 x1 x2 x3 x4 x5 x6 x7 x8 x9) (ix3 j0 j1 j2)
    · pointwise
  · refine Eq.trans ?_ (at6 x0 x1 x2 x3 x4 x5 x6 x7 x8 x9 j0 j1 j2).symm
    refine Eq.trans ?_ (piece x0 x1 x2 x3 x4 x5 x6 x7 x8 x9 hs (View.ld x0 r0_6) j0 j1 j2 ⟨0 + j1.val, by omega⟩ fun d => ?_)
    · exact congrFun (stored6 x0 x1 x2 x3 x4 x5 x6 x7 x8 x9) (ix3 j0 j1 j2)
    · pointwise

end

end Cert.AttnABlock
end
-- ==== Proof.AttnAArray.lean ====
module

public import proofs.«01_k».proof.Proof.AttnABlock
public import proofs.«01_k».proof.Proof.Gen.AttnAIdeal.Value
public import Idealize.ShloMosaic.Lib.Pipeline.ValueKit

/-! The differential kernel's whole output array as one function of its ten argument arrays. -/

@[expose] public section

set_option maxRecDepth 16384

noncomputable section

namespace Cert.AttnAArray

open Idealize.ShloMosaic Idealize.ShloMosaic.TcCoe Idealize.SL.Sem
open Cert.AttnAIdeal Cert.AttnAIdeal.Gen Cert.AttnABlock Cert.Softmax
open Idealize.ShloMosaic.Pipeline (Dat)

/-- One head's slab of the keys or the values: batch `b`, the 128 lanes of head `h`. -/
def slab {R : Nat} (a : (⟨3, ![8, R, 1024]⟩ : Shape).Idx → EReal) (b h : Fin 8) :
    (⟨3, ![1, R, 128]⟩ : Shape).Idx → EReal :=
  fun i => a (ix3 b (i 1) ⟨128 * h.val + (i 2).val, by have h1 : (i 2).val < 128 := (i 2).isLt; omega⟩)

/-- One tile of the queries: batch `b`, 1024 rows from tile `t`, the 128 lanes of head `h`. -/
def tile (a : S8x2048x1024.Idx → EReal) (b : Fin 8) (t : Fin 2) (h : Fin 8) : S1x1024x128.Idx → EReal :=
  fun i => a (ix3 b ⟨1024 * t.val + (i 1).val, by have h1 : (i 1).val < 1024 := (i 1).isLt; omega⟩
    ⟨128 * h.val + (i 2).val, by have h1 : (i 2).val < 128 := (i 2).isLt; omega⟩)

/-- A vector as an array of one row. -/
def row {N : Nat} (a : (⟨1, ![N]⟩ : Shape).Idx → EReal) : (⟨2, ![1, N]⟩ : Shape).Idx → EReal := fun i => a (ix1 (i 1))

section
variable (a0 : Vec Ideal S8x2048x1024 .bf16) (a1 : Vec Ideal S8x256x1024 .bf16) (a2 : Vec Ideal S8x2048x1024 .bf16)
  (a3 : Vec Ideal S8x256x1024 .bf16) (a4 : Vec Ideal S8x2048x1024 .bf16) (a5 a6 a7 a8 : Vec Ideal S64 .f32)
  (a9 : Vec Ideal S128 .f32)

/-- The logit of batch `b`, head `h`, its half `g`, query row `R`, against key `k`. -/
def logitAt (b h : Fin 8) (g : Fin 2) (R : Fin 2048) (k : Fin 2304) : EReal :=
  logit (tile a0 b ⟨R.val / 1024, by omega⟩ h) (slab a1 b h) (slab a2 b h) g ⟨R.val % 1024, by omega⟩ k

/-- The attended value of batch `b`, head `h`, its half `g`, query row `R`, lane `c`. -/
def attended (b h : Fin 8) (g : Fin 2) (R : Fin 2048) (c : Fin 128) : EReal :=
  ∑ k, (weight (fun k => (logitAt a0 a1 a2 b h g R k).toReal) k : EReal) * rowAt (slab a3 b h) (slab a4 b h) k c

/-- The factor of the second half. -/
def lam : EReal := lamOf (fun d => a5 (ix1 d)) (fun d => a6 (ix1 d)) (fun d => a7 (ix1 d)) (fun d => a8 (ix1 d))

/-- The normalised difference of a head's two halves. -/
def headOut (b h : Fin 8) (R : Fin 2048) (c : Fin 128) : EReal :=
  normed (fun c => attended a0 a1 a2 a3 a4 b h 0 R c - lam a5 a6 a7 a8 * attended a0 a1 a2 a3 a4 b h 1 R c)
    (fun c => a9 (ix1 c)) c

/-- The output array: at batch, row and lane the value of the lane's head. -/
def result (y : S8x2048x1024.Idx) : EReal :=
  headOut a0 a1 a2 a3 a4 a5 a6 a7 a8 a9 (y 0) ⟨(y 2).val / 128, by have : (y 2).val < 1024 := (y 2).isLt; omega⟩
    (y 1) ⟨(y 2).val % 128, Nat.mod_lt _ (by omega)⟩
end

variable (m : (ℓ : Loc nD τ sig) → Buf (Elt Ideal) ℓ)

theorem point0 : ∀ t : Fin grid0.N, win0_0.index t = ![(grid0.coords t 0).val, (grid0.coords t 2).val, (grid0.coords t 1).val] := by decide +kernel
theorem point10 : ∀ t : Fin grid0.N, win0_10.index t = ![(grid0.coords t 0).val, (grid0.coords t 2).val, (grid0.coords t 1).val] := by decide +kernel
theorem point1 : ∀ t : Fin grid0.N, win0_1.index t = ![(grid0.coords t 0).val, 0, (grid0.coords t 1).val] := by decide +kernel
theorem point2 : ∀ t : Fin grid0.N, win0_2.index t = ![(grid0.coords t 0).val, 0, (grid0.coords t 1).val] := by decide +kernel
theorem point3 : ∀ t : Fin grid0.N, win0_3.index t = ![(grid0.coords t 0).val, 0, (grid0.coords t 1).val] := by decide +kernel
theorem point4 : ∀ t : Fin grid0.N, win0_4.index t = ![(grid0.coords t 0).val, 0, (grid0.coords t 1).val] := by decide +kernel
theorem point5 : ∀ t : Fin grid0.N, win0_5.index t = ![0, 0] := by decide +kernel
theorem point6 : ∀ t : Fin grid0.N, win0_6.index t = ![0, 0] := by decide +kernel
theorem point7 : ∀ t : Fin grid0.N, win0_7.index t = ![0, 0] := by decide +kernel
theorem point8 : ∀ t : Fin grid0.N, win0_8.index t = ![0, 0] := by decide +kernel
theorem point9 : ∀ t : Fin grid0.N, win0_9.index t = ![0, 0] := by decide +kernel

/-- Window 0's block at a point, of argument 0. -/
theorem iblk0 (c : Dev nD) (t : Fin grid0.N) : iblk m c 0 t =
    tile (m ((c : Thread nD τ).loc main_arg0)) (grid0.coords t 0) (grid0.coords t 2) (grid0.coords t 1) := by
  funext j
  unfold tile
  blk_simp [iblk]
  refine (congrFun (V_main_arg0 m c) _).trans (congrArg _ ?_)
  have h0 : (j 0).val < 1 := (j 0).isLt
  funext a
  fin_cases a <;> apply Fin.ext <;> blk_simp [point0] <;> dsimp <;> omega

/-- Window 1's block at a point, of argument 1. -/
theorem iblk1 (c : Dev nD) (t : Fin grid0.N) : iblk m c 1 t =
    slab (m ((c : Thread nD τ).loc main_arg1)) (grid0.coords t 0) (grid0.coords t 1) := by
  funext j
  unfold slab
  blk_simp [iblk]
  refine (congrFun (V_main_arg1 m c) _).trans (congrArg _ ?_)
  have h0 : (j 0).val < 1 := (j 0).isLt
  funext a
  fin_cases a <;> apply Fin.ext <;> blk_simp [point1] <;> dsimp <;> omega

/-- Window 2's block at a point, of argument 2. -/
theorem iblk2 (c : Dev nD) (t : Fin grid0.N) : iblk m c 2 t =
    slab (m ((c : Thread nD τ).loc main_arg2)) (grid0.coords t 0) (grid0.coords t 1) := by
  funext j
  unfold slab
  blk_simp [iblk]
  refine (congrFun (V_main_arg2 m c) _).trans (congrArg _ ?_)
  have h0 : (j 0).val < 1 := (j 0).isLt
  funext a
  fin_cases a <;> apply Fin.ext <;> blk_simp [point2] <;> dsimp <;> omega

/-- Window 3's block at a point, of argument 3. -/
theorem iblk3 (c : Dev nD) (t : Fin grid0.N) : iblk m c 3 t =
    slab (m ((c : Thread nD τ).loc main_arg3)) (grid0.coords t 0) (grid0.coords t 1) := by
  funext j
  unfold slab
  blk_simp [iblk]
  refine (congrFun (V_main_arg3 m c) _).trans (congrArg _ ?_)
  have h0 : (j 0).val < 1 := (j 0).isLt
  funext a
  fin_cases a <;> apply Fin.ext <;> blk_simp [point3] <;> dsimp <;> omega

/-- Window 4's block at a point, of argument 4. -/
theorem iblk4 (c : Dev nD) (t : Fin grid0.N) : iblk m c 4 t =
    slab (m ((c : Thread nD τ).loc main_arg4)) (grid0.coords t 0) (grid0.coords t 1) := by
  funext j
  unfold slab
  blk_simp [iblk]
  refine (congrFun (V_main_arg4 m c) _).trans (congrArg _ ?_)
  have h0 : (j 0).val < 1 := (j 0).isLt
  funext a
  fin_cases a <;> apply Fin.ext <;> blk_simp [point4] <;> dsimp <;> omega

/-- Argument 5 reshaped to one row, and its window's block. -/
theorem V_v0 (c : Dev nD) (k : Fin 64) : V m c main_v0 (ix2 0 k) = m ((c : Thread nD τ).loc main_arg5) (ix1 k) := by
  unfold V; after_results; pointwise
theorem iblk5 (c : Dev nD) (t : Fin grid0.N) : iblk m c 5 t = row (m ((c : Thread nD τ).loc main_arg5)) := by
  funext j
  idx_vars j
  unfold row
  blk_simp [iblk]
  refine Eq.trans ?_ (V_v0 m c j1)
  congr 1
  funext a
  fin_cases a <;> apply Fin.ext <;> blk_simp [point5] <;> dsimp <;> omega

/-- Argument 6 reshaped to one row, and its window's block. -/
theorem V_v1 (c : Dev nD) (k : Fin 64) : V m c main_v1 (ix2 0 k) = m ((c : Thread nD τ).loc main_arg6) (ix1 k) := by
  unfold V; after_results; pointwise
theorem iblk6 (c : Dev nD) (t : Fin grid0.N) : iblk m c 6 t = row (m ((c : Thread nD τ).loc main_arg6)) := by
  funext j
  idx_vars j
  unfold row
  blk_simp [iblk]
  refine Eq.trans ?_ (V_v1 m c j1)
  congr 1
  funext a
  fin_cases a <;> apply Fin.ext <;> blk_simp [point6] <;> dsimp <;> omega

/-- Argument 7 reshaped to one row, and its window's block. -/
theorem V_v2 (c : Dev nD) (k : Fin 64) : V m c main_v2 (ix2 0 k) = m ((c : Thread nD τ).loc main_arg7) (ix1 k) := by
  unfold V; after_results; pointwise
theorem iblk7 (c : Dev nD) (t : Fin grid0.N) : iblk m c 7 t = row (m ((c : Thread nD τ).loc main_arg7)) := by
  funext j
  idx_vars j
  unfold row
  blk_simp [iblk]
  refine Eq.trans ?_ (V_v2 m c j1)
  congr 1
  funext a
  fin_cases a <;> apply Fin.ext <;> blk_simp [point7] <;> dsimp <;> omega

/-- Argument 8 reshaped to one row, and its window's block. -/
theorem V_v3 (c : Dev nD) (k : Fin 64) : V m c main_v3 (ix2 0 k) = m ((c : Thread nD τ).loc main_arg8) (ix1 k) := by
  unfold V; after_results; pointwise
theorem iblk8 (c : Dev nD) (t : Fin grid0.N) : iblk m c 8 t = row (m ((c : Thread nD τ).loc main_arg8)) := by
  funext j
  idx_vars j
  unfold row
  blk_simp [iblk]
  refine Eq.trans ?_ (V_v3 m c j1)
  congr 1
  funext a
  fin_cases a <;> apply Fin.ext <;> blk_simp [point8] <;> dsimp <;> omega

/-- Argument 9 reshaped to one row, and its window's block. -/
theorem V_v4 (c : Dev nD) (k : Fin 128) : V m c main_v4 (ix2 0 k) = m ((c : Thread nD τ).loc main_arg9) (ix1 k) := by
  unfold V; after_results; pointwise
theorem iblk9 (c : Dev nD) (t : Fin grid0.N) : iblk m c 9 t = row (m ((c : Thread nD τ).loc main_arg9)) := by
  funext j
  idx_vars j
  unfold row
  blk_simp [iblk]
  refine Eq.trans ?_ (V_v4 m c j1)
  congr 1
  funext a
  fin_cases a <;> apply Fin.ext <;> blk_simp [point9] <;> dsimp <;> omega

/-- The logits the precondition makes finite. -/
def FiniteLogits (c : Dev nD) : Prop := ∀ b h g R k, IsReal (logitAt (m ((c : Thread nD τ).loc main_arg0))
  (m ((c : Thread nD τ).loc main_arg1)) (m ((c : Thread nD τ).loc main_arg2)) b h g R k)

/-- Real queries and keys have real logits. -/
theorem finiteLogits_of (a0 : Vec Ideal S8x2048x1024 .bf16) (a1 : Vec Ideal S8x256x1024 .bf16)
    (a2 : Vec Ideal S8x2048x1024 .bf16) (h0 : ∀ i, IsReal (a0 i)) (h1 : ∀ i, IsReal (a1 i)) (h2 : ∀ i, IsReal (a2 i))
    (b h : Fin 8) (g : Fin 2) (R : Fin 2048) (k : Fin 2304) : IsReal (logitAt a0 a1 a2 b h g R k) := by
  unfold logitAt logit rowAt slab tile
  refine isReal_sum fun d => isReal_mul (h0 _) ?_
  split
  · exact h1 _
  · exact h2 _

/-- A row of a tile has the logits of the row of the array it is. -/
theorem logit_tile (a0 : Vec Ideal S8x2048x1024 .bf16) (a1 : Vec Ideal S8x256x1024 .bf16)
    (a2 : Vec Ideal S8x2048x1024 .bf16) (b h : Fin 8) (t g : Fin 2) (R : Fin 1024) (k : Fin 2304) :
    logit (tile a0 b t h) (slab a1 b h) (slab a2 b h) g R k =
      logitAt a0 a1 a2 b h g ⟨1024 * t.val + R.val, by omega⟩ k := by
  unfold logitAt
  congr 2
  · apply Fin.ext; dsimp only; omega
  · apply Fin.ext; dsimp only; omega

/-- A block computed from one tile and its slabs holds the tile's part of the output. -/
theorem out_tile (a0 : Vec Ideal S8x2048x1024 .bf16) (a1 : Vec Ideal S8x256x1024 .bf16)
    (a2 : Vec Ideal S8x2048x1024 .bf16) (a3 : Vec Ideal S8x256x1024 .bf16) (a4 : Vec Ideal S8x2048x1024 .bf16)
    (a5 a6 a7 a8 : Vec Ideal S64 .f32) (a9 : Vec Ideal S128 .f32)
    (hs : ∀ b h g R k, IsReal (logitAt a0 a1 a2 b h g R k)) (b h : Fin 8) (t : Fin 2) (y : S1x1024x128.Idx) :
    out0_10 (F := Ideal) (tile a0 b t h) (slab a1 b h) (slab a2 b h) (slab a3 b h) (slab a4 b h) (row a5) (row a6)
      (row a7) (row a8) (row a9) y =
      headOut a0 a1 a2 a3 a4 a5 a6 a7 a8 a9 b h
        ⟨1024 * t.val + (y 1).val, by have h : (y 1).val < 1024 := (y 1).isLt; omega⟩ (y 2) := by
  refine (out_apply _ _ _ _ _ _ _ _ _ _ (fun g R k => by rw [logit_tile]; exact hs _ _ _ _ _) y).trans ?_
  have e : ∀ g (R : Fin 1024) c, cell (tile a0 b t h) (slab a1 b h) (slab a2 b h) (slab a3 b h) (slab a4 b h) g R c =
      attended a0 a1 a2 a3 a4 b h g ⟨1024 * t.val + R.val, by omega⟩ c := fun g R c => by
    unfold cell attended
    refine Finset.sum_congr rfl fun k _ => ?_
    congr 3
    funext k
    congr 1
    exact logit_tile _ _ _ _ _ _ _ _ _
  unfold blockAt block headOut
  congr 1
  funext c
  exact congrArg₂ (fun u v => u - lam a5 a6 a7 a8 * v) (e 0 (y 1) c) (e 1 (y 1) c)

/-- Where the logits are finite, the kernel's output array is `result` of its arguments. -/
theorem final (c : Dev nD) (hs : FiniteLogits m c) :
    (dats m 0 c).arrAt 10 cfg0.N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  refine (dats m 0 c).arrAt_eq_of_covers 10 _ (by decide +kernel) fun t hf y => ?_
  blk_simp
  rw [after0_10, iblk0, iblk1, iblk2, iblk3, iblk4, iblk5, iblk6, iblk7, iblk8, iblk9]
  refine (out_tile _ _ _ _ _ _ _ _ _ _ hs _ _ _ y).trans ?_
  have h0 : (y 0).val < 1 := (y 0).isLt
  have h1 : (y 1).val < 1024 := (y 1).isLt
  have h2 : (y 2).val < 128 := (y 2).isLt
  show headOut _ _ _ _ _ _ _ _ _ _ _ _ _ _ = headOut _ _ _ _ _ _ _ _ _ _ _ _ _ _
  congr 1 <;> apply Fin.ext <;> blk_simp [point10] <;> dsimp <;> omega

end Cert.AttnAArray
end
-- ==== Proof.AttnARef.lean ====
module

public import proofs.«01_k».proof.Proof.AttnAArray
public import proofs.«01_k».proof.Proof.Gen.AttnARefIdeal.Run
public import proofs.«01_k».proof.Proof.Gen.AttnARefIdeal.Read
public import Idealize.ShloMosaic.Lib.Pointwise

/-! The differential attention written plainly, operation by operation, is the kernel's `result`. -/

@[expose] public section

set_option maxRecDepth 16384

noncomputable section

namespace Cert.AttnARef

open Idealize.ShloMosaic
open Cert.AttnARefIdeal Cert.AttnARefIdeal.Gen Cert.AttnARefIdeal.Read Cert.AttnAArray Cert.Softmax Cert.AttnABlock

/-- The two halves' probabilities subtracted before the values are weighted, or the weighted values after. -/
theorem sub_weighted {n : ℕ} (w0 w1 : Fin n → ℝ) (v : Fin n → EReal) (hv : ∀ k, IsReal (v k)) {l : EReal} (hl : IsReal l) :
    ∑ k, v k * ((w0 k : EReal) - l * (w1 k : EReal)) = (∑ k, (w0 k : EReal) * v k) - l * ∑ k, (w1 k : EReal) * v k := by
  choose u hu using hv
  obtain ⟨x, rfl⟩ := hl
  simp only [hu, ← EReal.coe_mul, ← EReal.coe_sub, coe_sum]
  congr 1
  rw [Finset.mul_sum, ← Finset.sum_sub_distrib]
  exact Finset.sum_congr rfl fun k _ => by ring

/-- The layer's constant is a real number. -/
theorem isReal_init : IsReal (Ideal.ofBits .f32 0x3E4CCCCD#32) := by
  simp [IsReal, Ideal.ofBits, Ideal.ieee]
  exact ⟨_, rfl⟩

/-- The factor of the second half is real when its four vectors are. -/
theorem isReal_lamOf {l1 l2 l3 l4 : Fin 64 → EReal} (h1 : ∀ d, IsReal (l1 d)) (h2 : ∀ d, IsReal (l2 d))
    (h3 : ∀ d, IsReal (l3 d)) (h4 : ∀ d, IsReal (l4 d)) : IsReal (lamOf l1 l2 l3 l4) := by
  obtain ⟨x, hx⟩ := isReal_sum fun d => isReal_mul (h1 d) (h2 d)
  obtain ⟨y, hy⟩ := isReal_sum fun d => isReal_mul (h3 d) (h4 d)
  obtain ⟨z, hz⟩ := isReal_init
  unfold lamOf
  rw [hx, hy, hz, Ideal.exp_coe, Ideal.exp_coe, ← EReal.coe_sub, ← EReal.coe_add]
  exact ⟨_, rfl⟩

variable (a0 : Vec Ideal S8x2048x1024 .bf16) (a1 : Vec Ideal S8x256x1024 .bf16) (a2 : Vec Ideal S8x2048x1024 .bf16)
  (a3 : Vec Ideal S8x256x1024 .bf16) (a4 : Vec Ideal S8x2048x1024 .bf16) (a5 a6 a7 a8 : Vec Ideal S64 .f32)
  (a9 : Vec Ideal S128 .f32)

theorem q12 (b : Fin 8) (R : Fin 2048) (H : Fin 16) (d : Fin 64) :
    val_main_v12 (F := Ideal) a0 (ix4 b R H d) =
      a0 (ix3 b R ⟨H.val * 64 + d.val, by omega⟩) := by
  unfold val_main_v12
  pointwise

theorem k9 (b : Fin 8) (k : Fin 2304) (H : Fin 16) (d : Fin 64) :
    val_main_v9 (F := Ideal) a1 a2 (ix4 b k H d) =
      val_main_v8 (F := Ideal) a1 a2 (ix3 b k ⟨H.val * 64 + d.val, by omega⟩) := by
  unfold val_main_v9
  generalize val_main_v8 (F := Ideal) a1 a2 = y0
  pointwise

theorem k8 (b : Fin 8) (k : Fin 2304) (d : Fin 1024) :
    val_main_v8 (F := Ideal) a1 a2 (ix3 b k d) =
      if h : k.val < 256 then a1 (ix3 b ⟨k.val, h⟩ d) else a2 (ix3 b ⟨k.val - 256, by omega⟩ d) := by
  unfold val_main_v8
  pointwise

theorem v11 (b : Fin 8) (k : Fin 2304) (h : Fin 8) (c : Fin 128) :
    val_main_v11 (F := Ideal) a3 a4 (ix4 b k h c) =
      val_main_v10 (F := Ideal) a3 a4 (ix3 b k ⟨h.val * 128 + c.val, by omega⟩) := by
  unfold val_main_v11
  generalize val_main_v10 (F := Ideal) a3 a4 = y0
  pointwise

theorem v10 (b : Fin 8) (k : Fin 2304) (d : Fin 1024) :
    val_main_v10 (F := Ideal) a3 a4 (ix3 b k d) =
      if h : k.val < 256 then a3 (ix3 b ⟨k.val, h⟩ d) else a4 (ix3 b ⟨k.val - 256, by omega⟩ d) := by
  unfold val_main_v10
  pointwise

theorem s13 (b : Fin 8) (H : Fin 16) (R : Fin 2048) (k : Fin 2304) :
    val_main_v13 (F := Ideal) a0 a1 a2 (ix4 b H R k) =
      ∑ d : Fin 64, val_main_v12 (F := Ideal) a0 (ix4 b R H d) * val_main_v9 (F := Ideal) a1 a2 (ix4 b k H d) := by
  unfold val_main_v13
  generalize val_main_v12 (F := Ideal) a0 = y0
  generalize val_main_v9 (F := Ideal) a1 a2 = y1
  pointwise

theorem s16 (b : Fin 8) (H : Fin 16) (R : Fin 2048) (k : Fin 2304) :
    val_main_v16 (F := Ideal) a0 a1 a2 (ix4 b H R k) =
      val_main_v13 (F := Ideal) a0 a1 a2 (ix4 b H R k) * val_main_v15 (F := Ideal) (ix4 b H R k) := by
  rw [val_main_v16_apply]
  rfl

theorem s15 (b : Fin 8) (H : Fin 16) (R : Fin 2048) (k : Fin 2304) :
    val_main_v15 (F := Ideal) (ix4 b H R k) =
      Ideal.log (Ideal.ofBits .f32 0x40000000#32) := by
  unfold val_main_v15 val_main_v14 val_main_cst_2
  pointwise

theorem m17 (b : Fin 8) (H : Fin 16) (R : Fin 2048) :
    val_main_v17 (F := Ideal) a0 a1 a2 (ix3 b H R) =
      Finset.univ.fold max (Ideal.ofBits .f32 0xFF800000#32) fun k : Fin 2304 => val_main_v16 (F := Ideal) a0 a1 a2 (ix4 b H R k) := by
  unfold val_main_v17 val_main_cst_3
  generalize val_main_v16 (F := Ideal) a0 a1 a2 = y0
  pointwise

theorem m19 (b : Fin 8) (H : Fin 16) (R : Fin 2048) :
    val_main_v19 (F := Ideal) a0 a1 a2 (ix3 b H R) =
      max (Ideal.ofBits .f32 0xFF800000#32) (val_main_v17 (F := Ideal) a0 a1 a2 (ix3 b H R)) := by
  rw [val_main_v19_apply, val_main_v18_apply]
  rfl

theorem m20 (b : Fin 8) (H : Fin 16) (R : Fin 2048) :
    val_main_v20 (F := Ideal) a0 a1 a2 (ix4 b H R 0) =
      val_main_v19 (F := Ideal) a0 a1 a2 (ix3 b H R) := by
  unfold val_main_v20
  generalize val_main_v19 (F := Ideal) a0 a1 a2 = y0
  pointwise

theorem m21 (b : Fin 8) (H : Fin 16) (R : Fin 2048) (k : Fin 2304) :
    val_main_v21 (F := Ideal) a0 a1 a2 (ix4 b H R k) =
      val_main_v20 (F := Ideal) a0 a1 a2 (ix4 b H R 0) := by
  unfold val_main_v21
  generalize val_main_v20 (F := Ideal) a0 a1 a2 = y0
  pointwise

theorem e23 (b : Fin 8) (H : Fin 16) (R : Fin 2048) (k : Fin 2304) :
    val_main_v23 (F := Ideal) a0 a1 a2 (ix4 b H R k) =
      Ideal.exp (val_main_v16 (F := Ideal) a0 a1 a2 (ix4 b H R k) - val_main_v21 (F := Ideal) a0 a1 a2 (ix4 b H R k)) := by
  rw [val_main_v23_apply, val_main_v22_apply]
  rfl

theorem d24 (b : Fin 8) (H : Fin 16) (R : Fin 2048) :
    val_main_v24 (F := Ideal) a0 a1 a2 (ix3 b H R) =
      ∑ k : Fin 2304, val_main_v23 (F := Ideal) a0 a1 a2 (ix4 b H R k) := by
  unfold val_main_v24 val_main_cst_5
  generalize val_main_v23 (F := Ideal) a0 a1 a2 = y0
  pointwise

theorem d25 (b : Fin 8) (H : Fin 16) (R : Fin 2048) :
    val_main_v25 (F := Ideal) a0 a1 a2 (ix4 b H R 0) =
      val_main_v24 (F := Ideal) a0 a1 a2 (ix3 b H R) := by
  unfold val_main_v25
  generalize val_main_v24 (F := Ideal) a0 a1 a2 = y0
  pointwise

theorem d26 (b : Fin 8) (H : Fin 16) (R : Fin 2048) (k : Fin 2304) :
    val_main_v26 (F := Ideal) a0 a1 a2 (ix4 b H R k) =
      val_main_v25 (F := Ideal) a0 a1 a2 (ix4 b H R 0) := by
  unfold val_main_v26
  generalize val_main_v25 (F := Ideal) a0 a1 a2 = y0
  pointwise

theorem p27 (b : Fin 8) (H : Fin 16) (R : Fin 2048) (k : Fin 2304) :
    val_main_v27 (F := Ideal) a0 a1 a2 (ix4 b H R k) =
      Ideal.div (val_main_v23 (F := Ideal) a0 a1 a2 (ix4 b H R k)) (val_main_v26 (F := Ideal) a0 a1 a2 (ix4 b H R k)) := by
  unfold val_main_v27
  generalize val_main_v23 (F := Ideal) a0 a1 a2 = y0
  generalize val_main_v26 (F := Ideal) a0 a1 a2 = y1
  pointwise

theorem p28 (b h : Fin 8) (g : Fin 2) (R : Fin 2048) (k : Fin 2304) :
    val_main_v28 (F := Ideal) a0 a1 a2 (ix5 b h g R k) =
      val_main_v27 (F := Ideal) a0 a1 a2 (ix4 b ⟨h.val * 2 + g.val, by omega⟩ R k) := by
  unfold val_main_v28
  generalize val_main_v27 (F := Ideal) a0 a1 a2 = y0
  pointwise

theorem p30 (b h : Fin 8) (R : Fin 2048) (k : Fin 2304) :
    val_main_v30 (F := Ideal) a0 a1 a2 (ix4 b h R k) =
      val_main_v28 (F := Ideal) a0 a1 a2 (ix5 b h 0 R k) := by
  unfold val_main_v30 val_main_v29
  generalize val_main_v28 (F := Ideal) a0 a1 a2 = y0
  pointwise

theorem p32 (b h : Fin 8) (R : Fin 2048) (k : Fin 2304) :
    val_main_v32 (F := Ideal) a0 a1 a2 (ix4 b h R k) =
      val_main_v28 (F := Ideal) a0 a1 a2 (ix5 b h 1 R k) := by
  unfold val_main_v32 val_main_v31
  generalize val_main_v28 (F := Ideal) a0 a1 a2 = y0
  pointwise

theorem l1  :
    val_main_v1 (F := Ideal) a5 a6 ix0 =
      ∑ d, a5 (ix1 d) * a6 (ix1 d) := by
  unfold val_main_v1 val_main_cst val_main_v0
  pointwise

theorem l4  :
    val_main_v4 (F := Ideal) a7 a8 ix0 =
      ∑ d, a7 (ix1 d) * a8 (ix1 d) := by
  unfold val_main_v4 val_main_cst_0 val_main_v3
  pointwise

theorem l7 : val_main_v7 (F := Ideal) a5 a6 a7 a8 ix0 = lam a5 a6 a7 a8 := by
  unfold lam lamOf
  rw [← l1, ← l4, val_main_v7_apply, val_main_v6_apply]
  rfl

theorem l33 (b h : Fin 8) (R : Fin 2048) (k : Fin 2304) :
    val_main_v33 (F := Ideal) a5 a6 a7 a8 (ix4 b h R k) =
      val_main_v7 (F := Ideal) a5 a6 a7 a8 ix0 := by
  unfold val_main_v33
  generalize val_main_v7 (F := Ideal) a5 a6 a7 a8 = y0
  pointwise

theorem p36 (b h : Fin 8) (R : Fin 2048) (k : Fin 2304) :
    val_main_v36 (F := Ideal) a0 a1 a2 a5 a6 a7 a8 (ix4 b h R k) =
      val_main_v30 (F := Ideal) a0 a1 a2 (ix4 b h R k) - val_main_v33 (F := Ideal) a5 a6 a7 a8 (ix4 b h R k) * val_main_v32 (F := Ideal) a0 a1 a2 (ix4 b h R k) := by
  rw [val_main_v36_apply, val_main_v35_apply, val_main_v34_apply]
  rfl

theorem o37 (b h : Fin 8) (R : Fin 2048) (c : Fin 128) :
    val_main_v37 (F := Ideal) a0 a1 a2 a3 a4 a5 a6 a7 a8 (ix4 b h c R) =
      ∑ k : Fin 2304, val_main_v11 (F := Ideal) a3 a4 (ix4 b k h c) * val_main_v36 (F := Ideal) a0 a1 a2 a5 a6 a7 a8 (ix4 b h R k) := by
  unfold val_main_v37
  generalize val_main_v11 (F := Ideal) a3 a4 = y0
  generalize val_main_v36 (F := Ideal) a0 a1 a2 a5 a6 a7 a8 = y1
  pointwise

theorem o38 (b : Fin 8) (R : Fin 2048) (h : Fin 8) (c : Fin 128) :
    val_main_v38 (F := Ideal) a0 a1 a2 a3 a4 a5 a6 a7 a8 (ix4 b R h c) =
      val_main_v37 (F := Ideal) a0 a1 a2 a3 a4 a5 a6 a7 a8 (ix4 b h c R) := by
  unfold val_main_v38
  generalize val_main_v37 (F := Ideal) a0 a1 a2 a3 a4 a5 a6 a7 a8 = y0
  pointwise

theorem n39 (b : Fin 8) (R : Fin 2048) (h : Fin 8) (c : Fin 128) :
    val_main_v39 (F := Ideal) a0 a1 a2 a3 a4 a5 a6 a7 a8 (ix4 b R h c) =
      val_main_v38 (F := Ideal) a0 a1 a2 a3 a4 a5 a6 a7 a8 (ix4 b R h c) * val_main_v38 (F := Ideal) a0 a1 a2 a3 a4 a5 a6 a7 a8 (ix4 b R h c) := by
  rw [val_main_v39_apply]
  rfl

theorem n40 (b : Fin 8) (R : Fin 2048) (h : Fin 8) :
    val_main_v40 (F := Ideal) a0 a1 a2 a3 a4 a5 a6 a7 a8 (ix3 b R h) = ∑ c : Fin 128, val_main_v39 (F := Ideal) a0 a1 a2 a3 a4 a5 a6 a7 a8 (ix4 b R h c) := by
  unfold val_main_v40 val_main_cst_6
  generalize val_main_v39 (F := Ideal) a0 a1 a2 a3 a4 a5 a6 a7 a8 = y0
  pointwise

theorem n47 (b : Fin 8) (R : Fin 2048) (h : Fin 8) (c : Fin 128) :
    val_main_v47 (F := Ideal) a0 a1 a2 a3 a4 a5 a6 a7 a8 (ix4 b R h c) =
      Ideal.rsqrt (Ideal.div (val_main_v40 (F := Ideal) a0 a1 a2 a3 a4 a5 a6 a7 a8 (ix3 b R h)) (Ideal.ofBits .f32 0x43000000#32) + Ideal.ofBits .f32 0x358637BD#32) := by
  unfold val_main_v47 val_main_v46 val_main_v45 val_main_v44 val_main_v43 val_main_v42 val_main_v41 val_main_cst_7 val_main_cst_8
  generalize val_main_v40 (F := Ideal) a0 a1 a2 a3 a4 a5 a6 a7 a8 = y0
  pointwise

theorem g50 (b : Fin 8) (R : Fin 2048) (h : Fin 8) (c : Fin 128) :
    val_main_v50 (F := Ideal) a9 (ix4 b R h c) =
      a9 (ix1 c) := by
  unfold val_main_v50 val_main_v49
  pointwise

theorem c52 (b : Fin 8) (R : Fin 2048) (h : Fin 8) (c : Fin 128) :
    val_main_v52 (F := Ideal) (ix4 b R h c) =
      Ideal.ofBits .f32 0x3F4CCCCD#32 := by
  unfold val_main_v52 val_main_cst_9
  pointwise

theorem n54 (b : Fin 8) (R : Fin 2048) (h : Fin 8) (c : Fin 128) :
    val_main_v54 (F := Ideal) a0 a1 a2 a3 a4 a5 a6 a7 a8 a9 (ix4 b R h c) =
      val_main_v38 (F := Ideal) a0 a1 a2 a3 a4 a5 a6 a7 a8 (ix4 b R h c) * val_main_v47 (F := Ideal) a0 a1 a2 a3 a4 a5 a6 a7 a8 (ix4 b R h c) * val_main_v50 (F := Ideal) a9 (ix4 b R h c) * val_main_v52 (F := Ideal) (ix4 b R h c) := by
  rw [val_main_v54_apply, val_main_v53_apply, val_main_v51_apply, val_main_v48_apply]
  rfl

theorem o55 (b : Fin 8) (R : Fin 2048) (l : Fin 1024) :
    val_main_v55 (F := Ideal) a0 a1 a2 a3 a4 a5 a6 a7 a8 a9 (ix3 b R l) =
      val_main_v54 (F := Ideal) a0 a1 a2 a3 a4 a5 a6 a7 a8 a9 (ix4 b R ⟨l.val / 128, by omega⟩ ⟨l.val % 128, by omega⟩) := by
  unfold val_main_v55
  generalize val_main_v54 (F := Ideal) a0 a1 a2 a3 a4 a5 a6 a7 a8 a9 = y0
  pointwise

/-- The reference's logit: the kernel's, times the logarithm of two. -/
theorem logits (b h : Fin 8) (g : Fin 2) (R : Fin 2048) (k : Fin 2304) :
    val_main_v16 (F := Ideal) a0 a1 a2 (ix4 b ⟨h.val * 2 + g.val, by omega⟩ R k) =
      logitAt a0 a1 a2 b h g R k * (Real.log 2 : ℝ) := by
  rw [s16, s15, log_two, s13]
  congr 1
  unfold logitAt logit
  refine Finset.sum_congr rfl fun d _ => ?_
  rw [q12, k9, k8]
  unfold rowAt slab tile
  have e1 : (h.val * 2 + g.val) * 64 + d.val = 128 * h.val + (g.val * 64 + d.val) := by omega
  have e2 : R.val = 1024 * (R.val / 1024) + R.val % 1024 := by omega
  simp only [e1]
  congr 2
  exact congrArg (fun r => ix3 b r _) (Fin.ext e2)

/-- The reference's value of key `k`, head `h`. -/
theorem value (b h : Fin 8) (k : Fin 2304) (c : Fin 128) :
    val_main_v11 (F := Ideal) a3 a4 (ix4 b k h c) = rowAt (slab a3 b h) (slab a4 b h) k c := by
  rw [v11, v10]
  unfold rowAt slab
  have e : h.val * 128 + c.val = 128 * h.val + c.val := by omega
  simp only [e]
  rfl

/-- Where the logits are finite, the reference's probabilities are the softmax weights. -/
theorem weights (hs : ∀ b h g R k, IsReal (logitAt a0 a1 a2 b h g R k)) (b h : Fin 8) (g : Fin 2)
    (R : Fin 2048) (k : Fin 2304) : val_main_v28 (F := Ideal) a0 a1 a2 (ix5 b h g R k) =
      (weight (fun k => (logitAt a0 a1 a2 b h g R k).toReal) k : EReal) := by
  have hr : ∀ k, logitAt a0 a1 a2 b h g R k = ((logitAt a0 a1 a2 b h g R k).toReal : EReal) := fun k => by
    obtain ⟨r, hr⟩ := hs b h g R k
    rw [hr, EReal.toReal_coe]
  have hm : IsReal (val_main_v19 (F := Ideal) a0 a1 a2 (ix3 b ⟨h.val * 2 + g.val, by omega⟩ R)) := by
    rw [m19, m17, ofBits_neg_inf, max_eq_right bot_le]
    refine isReal_foldMax (by omega) fun k => ?_
    rw [logits, hr]
    exact ⟨_, (EReal.coe_mul _ _).symm⟩
  obtain ⟨mx, hmx⟩ := hm
  have he : ∀ k, val_main_v23 (F := Ideal) a0 a1 a2 (ix4 b ⟨h.val * 2 + g.val, by omega⟩ R k) =
      Ideal.exp (((logitAt a0 a1 a2 b h g R k).toReal : EReal) * (Real.log 2 : ℝ) - (mx : EReal)) := fun k => by
    rw [e23, m21, m20, hmx, logits, hr, EReal.toReal_coe]
  rw [p28, p27, d26, d25, d24, he, Finset.sum_congr rfl fun k _ => he k]
  exact div_exp (by omega) _ mx k

/-- The reference's difference of the halves, before it is normalised. -/
theorem diff (hs : ∀ b h g R k, IsReal (logitAt a0 a1 a2 b h g R k)) (h3 : ∀ i, IsReal (a3 i)) (h4 : ∀ i, IsReal (a4 i))
    (hl : IsReal (lam a5 a6 a7 a8)) (b : Fin 8) (R : Fin 2048) (h : Fin 8) (c : Fin 128) :
    val_main_v38 (F := Ideal) a0 a1 a2 a3 a4 a5 a6 a7 a8 (ix4 b R h c) =
      attended a0 a1 a2 a3 a4 b h 0 R c - lam a5 a6 a7 a8 * attended a0 a1 a2 a3 a4 b h 1 R c := by
  have hv : ∀ k, IsReal (rowAt (slab a3 b h) (slab a4 b h) k c) := fun k => by
    unfold rowAt slab
    split
    · exact h3 _
    · exact h4 _
  rw [o38, o37]
  unfold attended
  rw [← sub_weighted _ _ _ hv hl]
  refine Finset.sum_congr rfl fun k _ => ?_
  rw [value, p36, p30, p32, l33, l7, weights _ _ _ hs, weights _ _ _ hs]

/-- Where the logits, the values and the factor are finite, the reference's result is `result` of its arguments. -/
theorem result_eq (hs : ∀ b h g R k, IsReal (logitAt a0 a1 a2 b h g R k)) (h3 : ∀ i, IsReal (a3 i))
    (h4 : ∀ i, IsReal (a4 i)) (hl : IsReal (lam a5 a6 a7 a8)) :
    val_main_v55 (F := Ideal) a0 a1 a2 a3 a4 a5 a6 a7 a8 a9 = result a0 a1 a2 a3 a4 a5 a6 a7 a8 a9 := by
  funext y
  idx_vars y
  rw [o55, n54, n47, n40, Finset.sum_congr rfl fun c _ => n39 a0 a1 a2 a3 a4 a5 a6 a7 a8 _ _ _ c, g50, c52]
  simp only [diff a0 a1 a2 a3 a4 a5 a6 a7 a8 hs h3 h4 hl]
  rfl

end Cert.AttnARef
end
-- ==== Proof.AttnAClaims.lean ====
module

public import proofs.«01_k».proof.Defs
public import proofs.«01_k».proof.Proof.AttnARef
public import proofs.«01_k».proof.Proof.Gen.AttnA.Frame

/-! The five claims about the call `AttnA`. -/

@[expose] public section

set_option maxRecDepth 16384

noncomputable section

namespace Cert.AttnAClaims

open Idealize.ShloMosaic Idealize.ShloMosaic.TcCoe Idealize.SL.Sem
open Cert.Softmax Cert.AttnAArray

/-- The precondition's broadcasts are as they should be. -/
instance preFacts : Cert.Pre_finite_a.Facts where
  bcast_S_S8x2048x1024 := by decide
  bcast_S_S8x256x1024 := by decide
  bcast_S_S64 := by decide

theorem ofBits_inf_f32 : Ideal.ofBits .f32 0x7F800000#32 = ⊤ := by
  simp [Ideal.ofBits, Ideal.ieee]

/-- A comparison with infinity that holds makes the element real. -/
theorem isReal_of_olt {inf : EReal} (hi : inf = ⊤) (v : EReal) (h : Ideal.cmp .olt (max v (-v)) inf = 1#1) : IsReal v := by
  rw [hi] at h
  refine isReal_of_abs_lt ?_
  by_contra hn
  simp [Ideal.cmp, hn] at h

section
open Cert.AttnAIdeal Cert.AttnAIdeal.Gen
variable (m : (ℓ : Loc nD τ sig) → Buf (Elt Ideal) ℓ)

/-- Where the arguments are finite, the logits, the values and the factor of the second half are. -/
theorem finite_of_pre (h : Cert.Pre_AttnAIdeal_finite_a m) (c : Dev nD) : FiniteLogits m c
    ∧ (∀ i, IsReal (m ((c : Thread nD τ).loc main_arg3) i)) ∧ (∀ i, IsReal (m ((c : Thread nD τ).loc main_arg4) i))
    ∧ IsReal (lam (m ((c : Thread nD τ).loc main_arg5)) (m ((c : Thread nD τ).loc main_arg6))
      (m ((c : Thread nD τ).loc main_arg7)) (m ((c : Thread nD τ).loc main_arg8))) := by
  obtain ⟨h0, h1, h2, h3, h4, h5, h6, h7, h8⟩ := h c
  refine ⟨finiteLogits_of _ _ _ ?_ ?_ ?_, ?_, ?_, AttnARef.isReal_lamOf ?_ ?_ ?_ ?_⟩
  · exact fun i => isReal_of_olt ofBits_inf_bf16 _ (congrFun h0 i)
  · exact fun i => isReal_of_olt ofBits_inf_bf16 _ (congrFun h1 i)
  · exact fun i => isReal_of_olt ofBits_inf_bf16 _ (congrFun h2 i)
  · exact fun i => isReal_of_olt ofBits_inf_bf16 _ (congrFun h3 i)
  · exact fun i => isReal_of_olt ofBits_inf_bf16 _ (congrFun h4 i)
  · exact fun d => isReal_of_olt ofBits_inf_f32 _ (congrFun h5 (ix1 d))
  · exact fun d => isReal_of_olt ofBits_inf_f32 _ (congrFun h6 (ix1 d))
  · exact fun d => isReal_of_olt ofBits_inf_f32 _ (congrFun h7 (ix1 d))
  · exact fun d => isReal_of_olt ofBits_inf_f32 _ (congrFun h8 (ix1 d))

/-- The kernel runs, ends with `result` of its arguments in the output, and leaves the arguments alone. -/
theorem kernel_run (ρ : Dev nD → PrngReg) (h : Cert.Pre_AttnAIdeal_finite_a m) :
    θ_run defs (onTc (τ := τ) (main (F := Ideal))) ⟨m, fun _ => 0, ρ⟩ fun r => ∀ c : Dev nD,
      r.2.mem ((c : Thread nD τ).loc main_v5) = result (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run _ _ _).mono (fun _ hr c => ⟨(hr c).1.trans (final m c (finite_of_pre m h c).1), (hr c).2⟩)
    (Cert.AttnAIdeal.Value.run_blocks m ρ)
end

/-- The kernel as written runs to its end and leaves its arguments as they were. -/
theorem frame_p : Cert.quiescent_AttnA := fun m ρ _ => Cert.AttnA.Gen.frame m ρ

/-- So does the kernel read at the extended reals, -/
theorem frame_pi : Cert.quiescent_AttnAIdeal := fun m ρ _ => Cert.AttnAIdeal.Gen.frame m ρ

/-- also under the precondition. -/
theorem frame_pi_pre : Cert.quiescent_AttnAIdeal_pre_finite_a := fun m ρ _ => Cert.AttnAIdeal.Gen.frame m ρ

/-- The reference runs to its end and leaves its arguments as they were. -/
theorem frame_ri : Cert.quiescent_AttnARefIdeal := fun m ρ _ =>
  (θ_run _ _ _).mono (fun r h => ⟨fun c => (h c).2, sem_eq_zero_of_no_sems (by decide) r.2⟩) (Cert.AttnARefIdeal.Value.run m ρ)

/-- So it does under the precondition. -/
theorem frame_ri_pre : Cert.quiescent_AttnARefIdeal_pre_finite_a := fun m ρ _ => frame_ri m ρ trivial

/-- The kernel and the reference end with equal results, where the arguments are finite. -/
theorem algebraic : Cert.algebraic_AttnAIdeal_AttnARefIdeal_pre_finite_a := by
  intro m ρ m' ρ' hpre hag
  refine ⟨_, kernel_run m ρ hpre, (θ_run _ _ _).mono (fun r h c => ⟨(h c).1.trans ?_, (h c).2⟩) (Cert.AttnARefIdeal.Value.run m' ρ')⟩
  obtain ⟨e0, e1, e2, e3, e4, e5, e6, e7, e8, e9⟩ := hag c
  obtain ⟨hs, h3, h4, hl⟩ := finite_of_pre m hpre c
  rw [Cert.AttnARefIdeal.Read.val_main_v55_eq, e0, e1, e2, e3, e4, e5, e6, e7, e8, e9]
  exact AttnARef.result_eq _ _ _ _ _ _ _ _ _ _ hs h3 h4 hl

end Cert.AttnAClaims
end
-- ==== Proof.ProjABlock.lean ====
module

public import proofs.«01_k».proof.Proof.Gen.ProjAIdeal.Value
public import Idealize.ShloMosaic.Lib.Pointwise

/-! One tile of the projection of mixer A: the modulated rows times the weight, the queries and keys turned lane by lane. -/

@[expose] public section

set_option maxRecDepth 16384

noncomputable section

namespace Cert.ProjABlock

open Cert.ProjAIdeal Cert.ProjAIdeal.Gen
open Idealize.ShloMosaic Idealize.ShloMosaic.TcCoe Idealize.ShloMosaic.Tactic

/-! ### The mathematics of one row -/

/-- A row divided by its root mean square, times the gain, scaled and shifted by the modulation. -/
def modded (sc sh g x : Fin 1024 → EReal) (k : Fin 1024) : EReal :=
  x k * Ideal.rsqrt (Ideal.div (∑ j, x j * x j) (Ideal.ofBits FTy.f32 0x44800000#32) + Ideal.ofBits FTy.f32 0x358637BD#32)
    * g k * (1 + sc k) + sh k

/-- The row times column `n` of the weight. -/
def entry (sc sh g x : Fin 1024 → EReal) (w : Fin 1024 → Fin 3072 → EReal) (n : Fin 3072) : EReal :=
  ∑ k, modded sc sh g x k * w k n

/-- The other lane of a pair: lanes 32 apart in a head of 64. -/
def other (n : Fin 1024) : Fin 1024 :=
  ⟨if n.val % 64 < 32 then n.val + 32 else n.val - 32, by have := n.isLt; split <;> omega⟩

/-- A row turned: each lane times the cosine, plus the other lane of its pair times the signed sine. -/
def turn (e : Fin 1024 → EReal) (cs sn : Fin 128 → EReal) (n : Fin 1024) : EReal :=
  e n * cs ⟨n.val % 128, Nat.mod_lt _ (by omega)⟩ + e (other n) * sn ⟨n.val % 128, Nat.mod_lt _ (by omega)⟩

/-! ### The kernel's parts -/

/-- The lanes of the first half of each head. -/
theorem low_lane (c : Fin 128) :
    k0_pay7 (64#32) k0_pay4 k0_pay5 k0_pay6 (0#1) (ix2 0 c) = if c.val % 64 < 32 then 1#1 else 0#1 := by
  unfold_payloads; pointwise
  revert c; decide +kernel

section
variable (w cs sn : FVec Ideal S512x128 .f32)

/-- One block of 128 lanes, turned. -/
def turned : FVec Ideal S512x128 .f32 :=
  addf (mulf w (shapeCast S512x128 cs shapeCasts_S512x128_S512x128))
    (mulf (select (broadcastTo S512x128 (shapeCast S1x128 (k0_pay7 (64#32) k0_pay4 k0_pay5 k0_pay6 (0#1)) shapeCasts_S1x128_S1x128)
        broadcasts_S1x128_S512x128)
      (dynamicRotate 1 96#32 none w rotates_S512x128_d1) (dynamicRotate 1 32#32 none w rotates_S512x128_d1))
      (shapeCast S512x128 sn shapeCasts_S512x128_S512x128))

/-- The queries' block: turned, and scaled. -/
def scaled : FVec Ideal S512x128 .bf16 :=
  truncf .bf16 (mulf (turned w cs sn) (broadcast S512x128 (Scalar.ofBits .f32 0x3E38AA3B#32))) bitsLt_bf16_f32

/-- The keys' block: turned. -/
def plain : FVec Ideal S512x128 .bf16 := truncf .bf16 (turned w cs sn) bitsLt_bf16_f32

theorem turned_at (r : Fin 512) (c : Fin 128) : turned w cs sn (ix2 r c)
    = w (ix2 r c) * cs (ix2 r c)
      + w (ix2 r ⟨if c.val % 64 < 32 then c.val + 32 else c.val - 32, by have := c.isLt; split <;> omega⟩) * sn (ix2 r c) := by
  have hl := low_lane c
  unfold turned
  generalize k0_pay7 (64#32) k0_pay4 k0_pay5 k0_pay6 (0#1) = mask at hl ⊢
  pointwise
  rw [hl]
  congr 2
  have hc := c.isLt
  by_cases h : c.val % 64 < 32
  · simp only [if_pos h]
    show w _ = w _
    congr 2; apply Fin.ext; dsimp only; omega
  · simp only [if_neg h]
    show w _ = w _
    congr 2; apply Fin.ext; dsimp only; omega

theorem scaled_at (r : Fin 512) (c : Fin 128) :
    scaled w cs sn (ix2 r c) = turned w cs sn (ix2 r c) * Ideal.ofBits FTy.f32 0x3E38AA3B#32 := by
  unfold scaled; generalize turned w cs sn = y; pointwise

theorem plain_at (r : Fin 512) (c : Fin 128) : plain w cs sn (ix2 r c) = turned w cs sn (ix2 r c) := by
  unfold plain; generalize turned w cs sn = y; pointwise
end

/-- Half a tile's product. -/
theorem wide_at (x : Vec Ideal S512x1024 .f32) (md : Vec Ideal S1x6x1024 .f32) (g : Vec Ideal S1x1024 .f32)
    (w : Vec Ideal S1024x3072 .bf16) (r : Fin 512) (n : Fin 3072) : k0_pay3 (F := Ideal) x md g w (ix2 r n)
      = entry (fun k => md (ix3 0 1 k)) (fun k => md (ix3 0 0 k)) (fun k => g (ix2 0 k)) (fun k => x (ix2 r k))
        (fun k j => w (ix2 k j)) n := by
  unfold entry modded
  unfold_payloads; pointwise

end Cert.ProjABlock
end
-- ==== Proof.ProjATile.lean ====
module

public import proofs.«01_k».proof.Proof.ProjABlock
public import Idealize.ShloMosaic.Lib.Pipeline.ValueKit

/-! A whole tile of the projection of mixer A: its three outputs, position by position. -/

@[expose] public section

set_option maxRecDepth 16384

noncomputable section

namespace Cert.ProjATile

open Cert.ProjAIdeal Cert.ProjAIdeal.Gen Cert.ProjABlock
open Idealize.ShloMosaic Idealize.ShloMosaic.TcCoe Idealize.ShloMosaic.Tactic

/-- A slice of lanes. -/
theorem slice_at (base o : ℕ) (hb : base + 1024 ≤ 3072) (ho : o + 128 ≤ 1024) (q : ℕ) (hq : q = base + o)
    (hs : S512x3072.Slices ![0, q] S512x128) (y : FVec Ideal S512x3072 .f32) (r : Fin 512) (c : Fin 128) :
    extractStridedSlice S512x128 ![0, q] y hs (ix2 r c) = y (ix2 r ⟨base + (o + c.val), by omega⟩) := by
  subst hq
  pointwise
  congr 2; apply Fin.ext; dsimp only; omega

section
variable (x0 : Vec Ideal S1024x1024 .f32) (x1 : Vec Ideal S1x6x1024 .f32) (x2 : Vec Ideal S1x1024 .f32)
  (x3 x4 : Vec Ideal S1024x128 .f32) (x5 : Vec Ideal S1024x3072 .bf16)

/-- Row `R` of the tile's product. -/
def row (R : Fin 1024) : Fin 3072 → EReal :=
  entry (fun k => x1 (ix3 0 1 k)) (fun k => x1 (ix3 0 0 k)) (fun k => x2 (ix2 0 k)) (fun k => x0 (ix2 R k)) (fun k j => x5 (ix2 k j))

/-- The tile's queries, keys and values. -/
def tileQ (y : S1024x1024.Idx) : EReal :=
  turn (fun n => row x0 x1 x2 x5 (y 0) ⟨n.val, by omega⟩) (fun c => x3 (ix2 (y 0) c)) (fun c => x4 (ix2 (y 0) c)) (y 1)
    * Ideal.ofBits FTy.f32 0x3E38AA3B#32
def tileK (y : S1024x1024.Idx) : EReal :=
  turn (fun n => row x0 x1 x2 x5 (y 0) ⟨1024 + n.val, by omega⟩) (fun c => x3 (ix2 (y 0) c)) (fun c => x4 (ix2 (y 0) c)) (y 1)
def tileV (y : S1024x1024.Idx) : EReal := row x0 x1 x2 x5 (y 0) ⟨2048 + (y 1).val, by have : (y 1).val < 1024 := (y 1).isLt; omega⟩

section
variable (R0 : ℕ) (hr : R0 + 512 ≤ 1024) (h0 : ∀ a, (![R0, 0] : Fin 2 → ℕ) a + S512x1024.size a ≤ S1024x1024.size a)
  (h3 : ∀ a, (![R0, 0] : Fin 2 → ℕ) a + S512x128.size a ≤ S1024x128.size a)

/-- The product of the half of the tile that starts at row `R0`. -/
def half : FVec Ideal S512x3072 .f32 :=
  k0_pay3 (View.ld x0 (Rect.unit (s := S1024x1024) ![R0, 0] S512x1024.size h0)) x1 x2 x5

include hr in
theorem half_at (r : Fin 512) (n : Fin 3072) :
    half x0 x1 x2 x5 R0 h0 (ix2 r n) = row x0 x1 x2 x5 ⟨R0 + r.val, by omega⟩ n := by
  unfold half row
  rw [wide_at]
  congr 1
  funext k
  pointwise

/-- That half's rows of a table. -/
def table (x : Vec Ideal S1024x128 .f32) : FVec Ideal S512x128 .f32 := View.ld x (Rect.unit (s := S1024x128) ![R0, 0] S512x128.size h3)

include hr in
theorem table_at (x : Vec Ideal S1024x128 .f32) (r : Fin 512) (c : Fin 128) :
    table R0 h3 x (ix2 r c) = x (ix2 ⟨R0 + r.val, by omega⟩ c) := by
  unfold table; pointwise

variable (base o : ℕ) (hb : base + 1024 ≤ 3072) (ho : o + 128 ≤ 1024) (hm : o % 128 = 0) (q : ℕ) (hq : q = base + o)
  (hs : S512x3072.Slices ![0, q] S512x128)

include hr hm in
/-- A block of 128 lanes at lane `o` of the queries (`base` is 0) or of the keys (1024). -/
theorem turned_block (r : Fin 512) (c : Fin 128) :
    turned (extractStridedSlice S512x128 ![0, q] (half x0 x1 x2 x5 R0 h0) hs) (table R0 h3 x3) (table R0 h3 x4) (ix2 r c)
      = turn (fun n => row x0 x1 x2 x5 ⟨R0 + r.val, by omega⟩ ⟨base + n.val, by omega⟩)
          (fun k => x3 (ix2 ⟨R0 + r.val, by omega⟩ k)) (fun k => x4 (ix2 ⟨R0 + r.val, by omega⟩ k)) ⟨o + c.val, by omega⟩ := by
  have hc := c.isLt
  rw [turned_at, slice_at (hb := hb) (ho := ho) (hq := hq), slice_at (hb := hb) (ho := ho) (hq := hq), half_at x0 x1 x2 x5 R0 hr h0,
    half_at x0 x1 x2 x5 R0 hr h0, table_at R0 hr h3, table_at R0 hr h3]
  have e : (⟨(o + c.val) % 128, Nat.mod_lt _ (by omega)⟩ : Fin 128) = c := by apply Fin.ext; dsimp only; omega
  unfold turn other
  simp only [e]
  congr 4
  have : (o + c.val) % 64 = c.val % 64 := by omega
  simp only [this]
  split <;> omega

variable (hp : ∀ a, (![R0, o] : Fin 2 → ℕ) a + S512x128.size a ≤ S1024x1024.size a) (P : Vec Ideal S512x128 .bf16)

include hr hb ho hm hq in
/-- A block of the queries. -/
theorem piece_q (hb0 : base = 0)
    (hP : P = scaled (extractStridedSlice S512x128 ![0, q] (half x0 x1 x2 x5 R0 h0) hs) (table R0 h3 x3) (table R0 h3 x4))
    (z : S512x128.Idx) :
    P z = tileQ x0 x1 x2 x3 x4 x5 ((Rect.unit (s := S1024x1024) ![R0, o] S512x128.size hp).emb z) := by
  idx_vars z
  subst hb0
  rw [hP, scaled_at, turned_block x0 x1 x2 x3 x4 x5 R0 hr h0 h3 0 o hb ho hm q hq hs]
  unfold tileQ
  have e0 : (Rect.unit (s := S1024x1024) ![R0, o] S512x128.size hp).emb (ix2 z0 z1) 0 = (⟨R0 + z0.val, by omega⟩ : Fin 1024) := by
    apply Fin.ext; show R0 + 1 * z0.val = _; dsimp only; omega
  have e1 : (Rect.unit (s := S1024x1024) ![R0, o] S512x128.size hp).emb (ix2 z0 z1) 1 = (⟨o + z1.val, by omega⟩ : Fin 1024) := by
    apply Fin.ext; show o + 1 * z1.val = _; dsimp only; omega
  rw [e0, e1]
  simp only [Nat.zero_add]

include hr hb ho hm hq in
/-- A block of the keys. -/
theorem piece_k (hb0 : base = 1024)
    (hP : P = plain (extractStridedSlice S512x128 ![0, q] (half x0 x1 x2 x5 R0 h0) hs) (table R0 h3 x3) (table R0 h3 x4))
    (z : S512x128.Idx) :
    P z = tileK x0 x1 x2 x3 x4 x5 ((Rect.unit (s := S1024x1024) ![R0, o] S512x128.size hp).emb z) := by
  idx_vars z
  subst hb0
  rw [hP, plain_at, turned_block x0 x1 x2 x3 x4 x5 R0 hr h0 h3 1024 o hb ho hm q hq hs]
  unfold tileK
  have e0 : (Rect.unit (s := S1024x1024) ![R0, o] S512x128.size hp).emb (ix2 z0 z1) 0 = (⟨R0 + z0.val, by omega⟩ : Fin 1024) := by
    apply Fin.ext; show R0 + 1 * z0.val = _; dsimp only; omega
  have e1 : (Rect.unit (s := S1024x1024) ![R0, o] S512x128.size hp).emb (ix2 z0 z1) 1 = (⟨o + z1.val, by omega⟩ : Fin 1024) := by
    apply Fin.ext; show o + 1 * z1.val = _; dsimp only; omega
  rw [e0, e1]

include hr in
/-- Half of the values. -/
theorem piece_v (hs : S512x3072.Slices ![0, 2048] S512x1024)
    (hp : ∀ a, (![R0, 0] : Fin 2 → ℕ) a + S512x1024.size a ≤ S1024x1024.size a) (P : Vec Ideal S512x1024 .bf16)
    (hP : P = truncf .bf16 (extractStridedSlice S512x1024 ![0, 2048] (half x0 x1 x2 x5 R0 h0) hs) bitsLt_bf16_f32)
    (z : S512x1024.Idx) :
    P z = tileV x0 x1 x2 x5 ((Rect.unit (s := S1024x1024) ![R0, 0] S512x1024.size hp).emb z) := by
  idx_vars z
  have hh := half_at x0 x1 x2 x5 R0 hr h0 z0
  rw [hP]
  generalize half x0 x1 x2 x5 R0 h0 = y at hh ⊢
  unfold tileV
  have e0 : (Rect.unit (s := S1024x1024) ![R0, 0] S512x1024.size hp).emb (ix2 z0 z1) 0 = (⟨R0 + z0.val, by omega⟩ : Fin 1024) := by
    apply Fin.ext; show R0 + 1 * z0.val = _; dsimp only; omega
  have e1 : (Rect.unit (s := S1024x1024) ![R0, 0] S512x1024.size hp).emb (ix2 z0 z1) 1 = z1 := by
    apply Fin.ext; show 0 + 1 * z1.val = _; omega
  simp only [e0, e1]
  rw [← hh]
  pointwise
end
end

variable (m : (ℓ : Loc nD τ sig) → Buf (Elt Ideal) ℓ) (c : Dev nD) (t : Fin cfg0.N)

/-- What a grid point leaves in its block of the queries. -/
theorem outQ (y : S1024x1024.Idx) : (outsAt0 (F := Ideal) m c t).1 y
    = tileQ (iblk m c 0 t) (iblk m c 1 t) (iblk m c 2 t) (iblk m c 3 t) (iblk m c 4 t) (iblk m c 5 t) y := by
  unfold outsAt0
  generalize iblk m c 0 t = x0
  generalize iblk m c 1 t = x1
  generalize iblk m c 2 t = x2
  generalize iblk m c 3 t = x3
  generalize iblk m c 4 t = x4
  generalize iblk m c 5 t = x5
  frame_out
  refine View.canon_apply_of_pieces (Val := Elt Ideal) (e := .bf16) (tileQ x0 x1 x2 x3 x4 x5) _ ?_ y
    (View.cover_of_tiledL (s := S1024x1024) _ S512x128.size (by sl_kernel_rfl) y)
  simp only [List.forall_mem_cons]
  refine ⟨?_, ?_, ?_, ?_, ?_, ?_, ?_, ?_, ?_, ?_, ?_, ?_, ?_, ?_, ?_, ?_, fun _ h => absurd h List.not_mem_nil⟩ <;>
    exact piece_q x0 x1 x2 x3 x4 x5 _ (by decide) _ _ 0 _ (by decide) (by decide) (by decide) _ rfl (by decide) _ _ rfl rfl

/-- What a grid point leaves in its block of the keys. -/
theorem outK (y : S1024x1024.Idx) : (outsAt0 (F := Ideal) m c t).2.1 y
    = tileK (iblk m c 0 t) (iblk m c 1 t) (iblk m c 2 t) (iblk m c 3 t) (iblk m c 4 t) (iblk m c 5 t) y := by
  unfold outsAt0
  generalize iblk m c 0 t = x0
  generalize iblk m c 1 t = x1
  generalize iblk m c 2 t = x2
  generalize iblk m c 3 t = x3
  generalize iblk m c 4 t = x4
  generalize iblk m c 5 t = x5
  frame_out
  refine View.canon_apply_of_pieces (Val := Elt Ideal) (e := .bf16) (tileK x0 x1 x2 x3 x4 x5) _ ?_ y
    (View.cover_of_tiledL (s := S1024x1024) _ S512x128.size (by sl_kernel_rfl) y)
  simp only [List.forall_mem_cons]
  refine ⟨?_, ?_, ?_, ?_, ?_, ?_, ?_, ?_, ?_, ?_, ?_, ?_, ?_, ?_, ?_, ?_, fun _ h => absurd h List.not_mem_nil⟩ <;>
    exact piece_k x0 x1 x2 x3 x4 x5 _ (by decide) _ _ 1024 _ (by decide) (by decide) (by decide) _ rfl (by decide) _ _ rfl rfl

/-- What a grid point leaves in its block of the values. -/
theorem outV (y : S1024x1024.Idx) : (outsAt0 (F := Ideal) m c t).2.2 y
    = tileV (iblk m c 0 t) (iblk m c 1 t) (iblk m c 2 t) (iblk m c 5 t) y := by
  unfold outsAt0
  generalize iblk m c 0 t = x0
  generalize iblk m c 1 t = x1
  generalize iblk m c 2 t = x2
  generalize iblk m c 5 t = x5
  frame_out
  refine View.canon_apply_of_pieces (Val := Elt Ideal) (e := .bf16) (tileV x0 x1 x2 x5) _ ?_ y
    (View.cover_of_tiledL (s := S1024x1024) _ S512x1024.size (by sl_kernel_rfl) y)
  simp only [List.forall_mem_cons]
  exact ⟨piece_v x0 x1 x2 x5 _ (by decide) _ (by decide) _ _ rfl, piece_v x0 x1 x2 x5 _ (by decide) _ (by decide) _ _ rfl,
    fun _ h => absurd h List.not_mem_nil⟩

end Cert.ProjATile
end
-- ==== Proof.ProjAArray.lean ====
module

public import proofs.«01_k».proof.Proof.ProjATile

/-! The three output arrays of the projection of mixer A as functions of its six argument arrays. -/

@[expose] public section

set_option maxRecDepth 16384

noncomputable section

namespace Cert.ProjAArray

open Idealize.ShloMosaic Idealize.ShloMosaic.TcCoe Idealize.SL.Sem
open Cert.ProjAIdeal Cert.ProjAIdeal.Gen Cert.ProjABlock Cert.ProjATile
open Idealize.ShloMosaic.Pipeline (Dat)

section
variable (a0 : Vec Ideal S16384x1024 .f32) (a1 : Vec Ideal S16x6x1024 .f32) (a2 : Vec Ideal S1024 .f32)
  (a3 a4 : Vec Ideal S2048x32 .f32) (a5 : Vec Ideal S1024x3072 .f32)

/-- Row `R` of the product. -/
def rowA (R : Fin 16384) : Fin 3072 → EReal :=
  entry (fun k => a1 (ix3 ⟨R.val / 2048, by omega⟩ 1 k)) (fun k => a1 (ix3 ⟨R.val / 2048, by omega⟩ 0 k)) (fun k => a2 (ix1 k))
    (fun k => a0 (ix2 R k)) (fun k j => a5 (ix2 k j))

/-- The cosine that lane `c` of position `s` is multiplied by. -/
def cosAt (s : Fin 2048) (c : Fin 128) : EReal := a3 (ix2 s ⟨c.val % 32, Nat.mod_lt _ (by omega)⟩)

/-- The signed sine that the other lane of the pair is multiplied by. -/
def sinAt (s : Fin 2048) (c : Fin 128) : EReal :=
  if c.val % 64 < 32 then -a4 (ix2 s ⟨c.val % 32, Nat.mod_lt _ (by omega)⟩) else a4 (ix2 s ⟨c.val % 32, Nat.mod_lt _ (by omega)⟩)

/-- Row `R`'s position in its sequence. -/
def posOf (R : Fin 16384) : Fin 2048 := ⟨R.val % 2048, Nat.mod_lt _ (by omega)⟩

/-- The queries, keys and values. -/
def resQ (y : S16384x1024.Idx) : EReal :=
  turn (fun n => rowA a0 a1 a2 a5 (y 0) ⟨n.val, by omega⟩) (cosAt a3 (posOf (y 0))) (sinAt a4 (posOf (y 0))) (y 1)
    * Ideal.ofBits FTy.f32 0x3E38AA3B#32
def resK (y : S16384x1024.Idx) : EReal :=
  turn (fun n => rowA a0 a1 a2 a5 (y 0) ⟨1024 + n.val, by omega⟩) (cosAt a3 (posOf (y 0))) (sinAt a4 (posOf (y 0))) (y 1)
def resV (y : S16384x1024.Idx) : EReal :=
  rowA a0 a1 a2 a5 (y 0) ⟨2048 + (y 1).val, by have : (y 1).val < 1024 := (y 1).isLt; omega⟩
end

variable (m : (ℓ : Loc nD τ sig) → Buf (Elt Ideal) ℓ)

theorem point0 : ∀ t : Fin grid0.N, win0_0.index t = ![(grid0.coords t 0).val, 0] := by decide +kernel
theorem point1 : ∀ t : Fin grid0.N, win0_1.index t = ![(grid0.coords t 0).val / 2, 0, 0] := by decide +kernel
theorem point2 : ∀ t : Fin grid0.N, win0_2.index t = ![0, 0] := by decide +kernel
theorem point3 : ∀ t : Fin grid0.N, win0_3.index t = ![(grid0.coords t 0).val % 2, 0] := by decide +kernel
theorem point4 : ∀ t : Fin grid0.N, win0_4.index t = ![(grid0.coords t 0).val % 2, 0] := by decide +kernel
theorem point5 : ∀ t : Fin grid0.N, win0_5.index t = ![0, 0] := by decide +kernel
theorem point6 : ∀ t : Fin grid0.N, win0_6.index t = ![(grid0.coords t 0).val, 0] := by decide +kernel
theorem point7 : ∀ t : Fin grid0.N, win0_7.index t = ![(grid0.coords t 0).val, 0] := by decide +kernel
theorem point8 : ∀ t : Fin grid0.N, win0_8.index t = ![(grid0.coords t 0).val, 0] := by decide +kernel

/-- The cast weight is the weight. -/
theorem V_v9 (c : Dev nD) (d : Fin 1024) (k : Fin 3072) :
    V m c main_v9 (ix2 d k) = m ((c : Thread nD τ).loc main_arg5) (ix2 d k) := by
  unfold V; after_results; rfl
/-- The reshaped gain is the gain. -/
theorem V_v10 (c : Dev nD) (k : Fin 1024) :
    V m c main_v10 (ix2 0 k) = m ((c : Thread nD τ).loc main_arg2) (ix1 k) := by
  unfold V; after_results; pointwise

/-- Two tables of 32 lanes beside each other. -/
theorem joined (a b : Vec Ideal S2048x32 .f32) (s : Fin 2048) (k : Fin 64) :
    concatenate (α := EReal) S2048x64 1 [⟨S2048x32, a⟩, ⟨S2048x32, b⟩] concatenates_S2048x32_S2048x32_S2048x64_d1 (ix2 s k)
      = if k.val < 32 then a (ix2 s ⟨k.val % 32, Nat.mod_lt _ (by omega)⟩) else b (ix2 s ⟨k.val % 32, Nat.mod_lt _ (by omega)⟩) := by
  pointwise
  by_cases h : k.val < 32
  · simp only [h, if_true, dif_pos]
    congr 2; apply Fin.ext; dsimp only; omega
  · simp only [h, if_false, dif_neg, not_false_eq_true]
    congr 2; apply Fin.ext; dsimp only; omega

/-- 64 lanes, twice. -/
theorem twice (y : Vec Ideal S2048x64 .f32) (s : Fin 2048) (k : Fin 128) :
    shapeCast S2048x128 (broadcastInDim S1x2048x2x64 ![0, 1, 2, 3] bcast_S1x2048x1x64_S1x2048x2x64_0_1_2_3
        (shapeCast S1x2048x1x64 y shapeCasts_S2048x64_S1x2048x1x64)) shapeCasts_S1x2048x2x64_S2048x128 (ix2 s k)
      = y (ix2 s ⟨k.val % 64, Nat.mod_lt _ (by omega)⟩) := by
  pointwise

/-- The lanes of a table: two halves of 32 beside each other, and the 64 again. -/
theorem lanes (a b : Vec Ideal S2048x32 .f32) (s : Fin 2048) (k : Fin 128) :
    shapeCast S2048x128 (broadcastInDim S1x2048x2x64 ![0, 1, 2, 3] bcast_S1x2048x1x64_S1x2048x2x64_0_1_2_3
        (shapeCast S1x2048x1x64
          (concatenate (α := EReal) S2048x64 1 [⟨S2048x32, a⟩, ⟨S2048x32, b⟩] concatenates_S2048x32_S2048x32_S2048x64_d1)
          shapeCasts_S2048x64_S1x2048x1x64)) shapeCasts_S1x2048x2x64_S2048x128 (ix2 s k)
      = if k.val % 64 < 32 then a (ix2 s ⟨k.val % 32, Nat.mod_lt _ (by omega)⟩) else b (ix2 s ⟨k.val % 32, Nat.mod_lt _ (by omega)⟩) := by
  refine (twice _ s k).trans ((joined a b s _).trans ?_)
  have e : (⟨k.val % 64 % 32, Nat.mod_lt _ (by omega)⟩ : Fin 32) = ⟨k.val % 32, Nat.mod_lt _ (by omega)⟩ := by
    apply Fin.ext; dsimp only; omega
  simp only [e]

/-- The cosine table. -/
theorem V_v3 (c : Dev nD) (s : Fin 2048) (k : Fin 128) :
    V m c main_v3 (ix2 s k) = cosAt (m ((c : Thread nD τ).loc main_arg3)) s k := by
  unfold V; after_results
  refine (lanes _ _ s k).trans ?_
  rw [ite_self]; rfl
/-- The table of signed sines. -/
theorem V_v8 (c : Dev nD) (s : Fin 2048) (k : Fin 128) :
    V m c main_v8 (ix2 s k) = sinAt (m ((c : Thread nD τ).loc main_arg4)) s k := by
  unfold V; after_results
  refine (lanes _ _ s k).trans ?_
  unfold sinAt
  rfl

theorem tiles (t : Fin grid0.N) : (grid0.coords t 0).val < 16 := (grid0.coords t 0).isLt

/-- Window 0's block is the tile's rows. -/
theorem iblk0 (c : Dev nD) (t : Fin grid0.N) (r k : Fin 1024) : iblk m c 0 t (ix2 r k)
    = m ((c : Thread nD τ).loc main_arg0) (ix2 ⟨1024 * (grid0.coords t 0).val + r.val, by have := tiles t; omega⟩ k) := by
  blk_simp [iblk]
  refine Eq.trans ?_ (congrFun (V_main_arg0 m c) (ix2 ⟨1024 * (grid0.coords t 0).val + r.val, by have := tiles t; omega⟩ k))
  congr 1
  funext a
  fin_cases a <;> apply Fin.ext <;> blk_simp [point0] <;> dsimp <;> omega

/-- Window 1's block is the batch's modulation. -/
theorem iblk1 (c : Dev nD) (t : Fin grid0.N) (i : Fin 6) (k : Fin 1024) : iblk m c 1 t (ix3 0 i k)
    = m ((c : Thread nD τ).loc main_arg1) (ix3 ⟨(grid0.coords t 0).val / 2, by have := tiles t; omega⟩ i k) := by
  blk_simp [iblk]
  refine Eq.trans ?_ (congrFun (V_main_arg1 m c) (ix3 ⟨(grid0.coords t 0).val / 2, by have := tiles t; omega⟩ i k))
  congr 1
  funext a
  fin_cases a <;> apply Fin.ext <;> blk_simp [point1] <;> dsimp <;> omega

/-- Window 2's block is the norm's gain. -/
theorem iblk2 (c : Dev nD) (t : Fin grid0.N) (k : Fin 1024) : iblk m c 2 t (ix2 0 k) = m ((c : Thread nD τ).loc main_arg2) (ix1 k) := by
  blk_simp [iblk]
  refine Eq.trans ?_ (V_v10 m c k)
  congr 1
  funext a
  fin_cases a <;> apply Fin.ext <;> blk_simp [point2] <;> dsimp <;> omega

/-- Window 3's block is the tile's half of the cosine table. -/
theorem iblk3 (c : Dev nD) (t : Fin grid0.N) (r : Fin 1024) (k : Fin 128) : iblk m c 3 t (ix2 r k)
    = cosAt (m ((c : Thread nD τ).loc main_arg3)) ⟨1024 * ((grid0.coords t 0).val % 2) + r.val, by omega⟩ k := by
  blk_simp [iblk]
  refine Eq.trans ?_ (V_v3 m c ⟨1024 * ((grid0.coords t 0).val % 2) + r.val, by omega⟩ k)
  congr 1
  funext a
  fin_cases a <;> apply Fin.ext <;> blk_simp [point3] <;> dsimp <;> omega

/-- Window 4's block is the tile's half of the table of sines. -/
theorem iblk4 (c : Dev nD) (t : Fin grid0.N) (r : Fin 1024) (k : Fin 128) : iblk m c 4 t (ix2 r k)
    = sinAt (m ((c : Thread nD τ).loc main_arg4)) ⟨1024 * ((grid0.coords t 0).val % 2) + r.val, by omega⟩ k := by
  blk_simp [iblk]
  refine Eq.trans ?_ (V_v8 m c ⟨1024 * ((grid0.coords t 0).val % 2) + r.val, by omega⟩ k)
  congr 1
  funext a
  fin_cases a <;> apply Fin.ext <;> blk_simp [point4] <;> dsimp <;> omega

/-- Window 5's block is the weight. -/
theorem iblk5 (c : Dev nD) (t : Fin grid0.N) (d : Fin 1024) (k : Fin 3072) : iblk m c 5 t (ix2 d k)
    = m ((c : Thread nD τ).loc main_arg5) (ix2 d k) := by
  blk_simp [iblk]
  refine Eq.trans ?_ (V_v9 m c d k)
  congr 1
  funext a
  fin_cases a <;> apply Fin.ext <;> blk_simp [point5] <;> dsimp <;> omega

/-- The array's row that is row `r` of the tile. -/
def rowOf (t : Fin grid0.N) (r : Fin 1024) : Fin 16384 := ⟨1024 * (grid0.coords t 0).val + r.val, by have := tiles t; omega⟩

/-- A row of a tile's product is the array's row. -/
theorem row_at (c : Dev nD) (t : Fin grid0.N) (r : Fin 1024) : row (iblk m c 0 t) (iblk m c 1 t) (iblk m c 2 t) (iblk m c 5 t) r
    = rowA (m ((c : Thread nD τ).loc main_arg0)) (m ((c : Thread nD τ).loc main_arg1)) (m ((c : Thread nD τ).loc main_arg2))
        (m ((c : Thread nD τ).loc main_arg5)) (rowOf t r) := by
  have hb : (⟨(rowOf t r).val / 2048, by omega⟩ : Fin 16) = ⟨(grid0.coords t 0).val / 2, by have := tiles t; omega⟩ := by
    apply Fin.ext; show (1024 * (grid0.coords t 0).val + r.val) / 2048 = (grid0.coords t 0).val / 2; omega
  unfold row rowA
  rw [hb]
  simp only [iblk0, iblk1, iblk2, iblk5]
  rfl

theorem pos_at (t : Fin grid0.N) (r : Fin 1024) : posOf (rowOf t r) = ⟨1024 * ((grid0.coords t 0).val % 2) + r.val, by omega⟩ := by
  apply Fin.ext; show (1024 * (grid0.coords t 0).val + r.val) % 2048 = 1024 * ((grid0.coords t 0).val % 2) + r.val; omega

/-- The tables' rows of a tile. -/
theorem cos_at (c : Dev nD) (t : Fin grid0.N) (r : Fin 1024) : (fun k => iblk m c 3 t (ix2 r k))
    = cosAt (m ((c : Thread nD τ).loc main_arg3)) (posOf (rowOf t r)) := by
  funext k; rw [iblk3, pos_at]
theorem sin_at (c : Dev nD) (t : Fin grid0.N) (r : Fin 1024) : (fun k => iblk m c 4 t (ix2 r k))
    = sinAt (m ((c : Thread nD τ).loc main_arg4)) (posOf (rowOf t r)) := by
  funext k; rw [iblk4, pos_at]

/-- A tile's queries are the array's. -/
theorem tileQ_at (c : Dev nD) (t : Fin grid0.N) (r n : Fin 1024) :
    tileQ (iblk m c 0 t) (iblk m c 1 t) (iblk m c 2 t) (iblk m c 3 t) (iblk m c 4 t) (iblk m c 5 t) (ix2 r n)
    = resQ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 (rowOf t r) n) := by
  have e1 := row_at m c t r
  have e2 := cos_at m c t r
  have e3 := sin_at m c t r
  exact congrArg (fun e => e * Ideal.ofBits FTy.f32 0x3E38AA3B#32)
    (congrFun (congr (congr (congrArg (fun e => turn (fun n => e ⟨n.val, by omega⟩)) e1) e2) e3) n)

/-- The array of queries. -/
theorem finalQ (c : Dev nD) : (dats m 0 c).arrAt 6 cfg0.N
    = resQ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  change (⟨2, ![1024, 1024]⟩ : Shape).Idx at y
  idx_vars y
  refine (outQ m c t (ix2 y0 y1)).trans ((tileQ_at m c t y0 y1).trans ?_)
  congr 1
  funext a
  fin_cases a <;> apply Fin.ext <;> blk_simp [point6, rowOf] <;> dsimp <;> omega

/-- A tile's keys are the array's. -/
theorem tileK_at (c : Dev nD) (t : Fin grid0.N) (r n : Fin 1024) :
    tileK (iblk m c 0 t) (iblk m c 1 t) (iblk m c 2 t) (iblk m c 3 t) (iblk m c 4 t) (iblk m c 5 t) (ix2 r n)
    = resK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 (rowOf t r) n) := by
  have e1 := row_at m c t r
  have e2 := cos_at m c t r
  have e3 := sin_at m c t r
  exact congrFun (congr (congr (congrArg (fun e => turn (fun n => e ⟨1024 + n.val, by omega⟩)) e1) e2) e3) n

/-- The array of keys. -/
theorem finalK (c : Dev nD) : (dats m 0 c).arrAt 7 cfg0.N
    = resK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  change (⟨2, ![1024, 1024]⟩ : Shape).Idx at y
  idx_vars y
  refine (outK m c t (ix2 y0 y1)).trans ((tileK_at m c t y0 y1).trans ?_)
  congr 1
  funext a
  fin_cases a <;> apply Fin.ext <;> blk_simp [point7, rowOf] <;> dsimp <;> omega

/-- A tile's values are the array's. -/
theorem tileV_at (c : Dev nD) (t : Fin grid0.N) (r n : Fin 1024) :
    tileV (iblk m c 0 t) (iblk m c 1 t) (iblk m c 2 t) (iblk m c 5 t) (ix2 r n)
    = resV (m ((c : Thread nD τ).loc main_arg0)) (m ((c : Thread nD τ).loc main_arg1)) (m ((c : Thread nD τ).loc main_arg2))
      (m ((c : Thread nD τ).loc main_arg5)) (ix2 (rowOf t r) n) := by
  exact congrFun (row_at m c t r) _

/-- The array of values. -/
theorem finalV (c : Dev nD) : (dats m 0 c).arrAt 8 cfg0.N
    = resV (m ((c : Thread nD τ).loc main_arg0)) (m ((c : Thread nD τ).loc main_arg1)) (m ((c : Thread nD τ).loc main_arg2))
      (m ((c : Thread nD τ).loc main_arg5)) := by
  refine (dats m 0 c).arrAt_eq_of_covers 8 _ (by decide +kernel) fun t hf y => ?_
  blk_simp
  rw [after0_8]
  change (⟨2, ![1024, 1024]⟩ : Shape).Idx at y
  idx_vars y
  refine (outV m c t (ix2 y0 y1)).trans ((tileV_at m c t y0 y1).trans ?_)
  congr 1
  funext a
  fin_cases a <;> apply Fin.ext <;> blk_simp [point8, rowOf] <;> dsimp <;> omega

end Cert.ProjAArray
end
-- ==== Proof.ProjARef.lean ====
module

public import proofs.«01_k».proof.Proof.ProjAArray
public import proofs.«01_k».proof.Proof.Gen.ProjARefIdeal.Run
public import proofs.«01_k».proof.Proof.Gen.ProjARefIdeal.Read

/-! The reference's three arrays, operation by operation, are the same functions of its arguments. -/

@[expose] public section

set_option maxRecDepth 16384

noncomputable section

namespace Cert.ProjARef

open Idealize.ShloMosaic
open Cert.ProjARefIdeal Cert.ProjARefIdeal.Gen Cert.ProjARefIdeal.Read Cert.ProjABlock Cert.ProjAArray

section
variable (a0 : Vec Ideal S16384x1024 .f32) (a1 : Vec Ideal S16x6x1024 .f32) (a2 : Vec Ideal S1024 .f32)
  (a3 a4 : Vec Ideal S2048x32 .f32) (a5 : Vec Ideal S1024x3072 .f32)

/-- Position `s` of sequence `b` as a row of the arrays. -/
def at_ (b : Fin 8) (s : Fin 2048) : Fin 16384 := ⟨2048 * b.val + s.val, by omega⟩

theorem x0_at (b : Fin 8) (s : Fin 2048) (k : Fin 1024) : val_main_v0 (F := Ideal) a0 (ix3 b s k) = a0 (ix2 (at_ b s) k) := by
  unfold val_main_v0 at_; pointwise
  congr 2; apply Fin.ext; dsimp; omega

theorem q2 (b : Fin 8) (s : Fin 2048) : val_main_v2 (F := Ideal) a0 (ix2 b s) = ∑ j, a0 (ix2 (at_ b s) j) * a0 (ix2 (at_ b s) j) := by
  simp only [← x0_at]
  unfold val_main_v2 val_main_v1 val_main_cst
  generalize val_main_v0 (F := Ideal) a0 = y
  pointwise

theorem r9 (b : Fin 8) (s : Fin 2048) (k : Fin 1024) : val_main_v9 (F := Ideal) a0 (ix3 b s k)
    = Ideal.rsqrt (Ideal.div (∑ j, a0 (ix2 (at_ b s) j) * a0 (ix2 (at_ b s) j)) (Ideal.ofBits FTy.f32 0x44800000#32)
      + Ideal.ofBits FTy.f32 0x358637BD#32) := by
  rw [← q2]
  unfold val_main_v9 val_main_v8 val_main_v7 val_main_v5 val_main_v3 val_main_v4 val_main_cst_0 val_main_v6 val_main_cst_1
  generalize val_main_v2 (F := Ideal) a0 = y
  pointwise

theorem g12 (b : Fin 8) (s : Fin 2048) (k : Fin 1024) : val_main_v12 (F := Ideal) a2 (ix3 b s k) = a2 (ix1 k) := by
  unfold val_main_v12 val_main_v11; pointwise
theorem m16 (b : Fin 8) (k : Fin 1024) : val_main_v16 (F := Ideal) a1 (ix3 b 0 k) = a1 (ix3 ⟨b.val, by omega⟩ 1 k) := by
  unfold val_main_v16 val_main_v15 val_main_v14; pointwise
theorem m19 (b : Fin 8) (s : Fin 2048) (k : Fin 1024) :
    val_main_v19 (F := Ideal) a1 (ix3 b s k) = 1 + a1 (ix3 ⟨b.val, by omega⟩ 1 k) := by
  rw [← m16 a1 b k]
  unfold val_main_v19 val_main_v18 val_main_v17 val_main_cst_2
  generalize val_main_v16 (F := Ideal) a1 = y
  pointwise
theorem m24 (b : Fin 8) (s : Fin 2048) (k : Fin 1024) : val_main_v24 (F := Ideal) a1 (ix3 b s k) = a1 (ix3 ⟨b.val, by omega⟩ 0 k) := by
  unfold val_main_v24 val_main_v23 val_main_v22 val_main_v21; pointwise

/-- The modulated row. -/
theorem h25 (b : Fin 8) (s : Fin 2048) (k : Fin 1024) : val_main_v25 (F := Ideal) a0 a1 a2 (ix3 b s k)
    = modded (fun k => a1 (ix3 ⟨b.val, by omega⟩ 1 k)) (fun k => a1 (ix3 ⟨b.val, by omega⟩ 0 k)) (fun k => a2 (ix1 k))
        (fun k => a0 (ix2 (at_ b s) k)) k := by
  rw [val_main_v25_apply, val_main_v20_apply, val_main_v13_apply, val_main_v10_apply, m24, m19, g12, r9, x0_at]
  rfl

/-- The product. -/
theorem p26 (b : Fin 8) (s : Fin 2048) (n : Fin 3072) : val_main_v26 (F := Ideal) a0 a1 a2 a5 (ix3 b s n)
    = rowA a0 a1 a2 a5 (at_ b s) n := by
  have hb : (⟨(at_ b s).val / 2048, by omega⟩ : Fin 16) = ⟨b.val, by omega⟩ := by
    apply Fin.ext; show (2048 * b.val + s.val) / 2048 = b.val; omega
  unfold rowA entry
  rw [hb]
  simp only [← h25]
  unfold val_main_v26
  generalize val_main_v25 (F := Ideal) a0 a1 a2 = y
  pointwise

/-- A head's lane of the queries' part of the product. -/
theorem p30 (b : Fin 8) (s : Fin 2048) (h : Fin 16) (d : Fin 64) : val_main_v30 (F := Ideal) a0 a1 a2 a5 (ix4 b s h d)
    = rowA a0 a1 a2 a5 (at_ b s) ⟨64 * h.val + d.val, by omega⟩ := by
  rw [← p26]
  unfold val_main_v30 val_main_v27
  generalize val_main_v26 (F := Ideal) a0 a1 a2 a5 = y
  pointwise
  congr 2 <;> apply Fin.ext <;> dsimp <;> omega

/-- A head's lane of the keys' part of the product. -/
theorem p50 (b : Fin 8) (s : Fin 2048) (h : Fin 16) (d : Fin 64) : val_main_v50 (F := Ideal) a0 a1 a2 a5 (ix4 b s h d)
    = rowA a0 a1 a2 a5 (at_ b s) ⟨1024 + (64 * h.val + d.val), by omega⟩ := by
  rw [← p26]
  unfold val_main_v50 val_main_v28
  generalize val_main_v26 (F := Ideal) a0 a1 a2 a5 = y
  pointwise
  congr 2 <;> apply Fin.ext <;> dsimp <;> omega

/-- A table's entry, for every sequence and head. -/
theorem t36 (b : Fin 8) (s : Fin 2048) (h : Fin 16) (d : Fin 32) : val_main_v36 (F := Ideal) a3 (ix4 b s h d) = a3 (ix2 s d) := by
  unfold val_main_v36 val_main_v35 val_main_v33; pointwise
end

/-- Both rotations are this function of the heads' lanes and the two tables. -/
def roped (y : FVec Ideal S8x2048x16x64 .f32) (a b : Vec Ideal S2048x32 .f32) : FVec Ideal S8x2048x16x64 .f32 :=
  concatenate (α := EReal) S8x2048x16x64 3
    [⟨S8x2048x16x32, subf (F := Ideal) (φ := .f32)
        (mulf (extractStridedSlice S8x2048x16x32 ![0, 0, 0, 0] y slices_S8x2048x16x64_S8x2048x16x32_0_0_0_0) (val_main_v36 (F := Ideal) a))
        (mulf (extractStridedSlice S8x2048x16x32 ![0, 0, 0, 32] y slices_S8x2048x16x64_S8x2048x16x32_0_0_0_32) (val_main_v36 (F := Ideal) b))⟩,
     ⟨S8x2048x16x32, addf (F := Ideal) (φ := .f32)
        (mulf (extractStridedSlice S8x2048x16x32 ![0, 0, 0, 0] y slices_S8x2048x16x64_S8x2048x16x32_0_0_0_0) (val_main_v36 (F := Ideal) b))
        (mulf (extractStridedSlice S8x2048x16x32 ![0, 0, 0, 32] y slices_S8x2048x16x64_S8x2048x16x32_0_0_0_32) (val_main_v36 (F := Ideal) a))⟩]
    concatenates_S8x2048x16x32_S8x2048x16x32_S8x2048x16x64_d3

section
variable (y : FVec Ideal S8x2048x16x64 .f32) (a b : Vec Ideal S2048x32 .f32) (i : Fin 8) (s : Fin 2048) (h : Fin 16) (d : Fin 64)

theorem roped_at : roped y a b (ix4 i s h d)
    = if hd : d.val < 32 then
        y (ix4 i s h d) * a (ix2 s ⟨d.val, hd⟩) - y (ix4 i s h ⟨d.val + 32, by omega⟩) * b (ix2 s ⟨d.val, hd⟩)
      else y (ix4 i s h ⟨d.val - 32, by omega⟩) * b (ix2 s ⟨d.val - 32, by omega⟩)
        + y (ix4 i s h d) * a (ix2 s ⟨d.val - 32, by omega⟩) := by
  have ha := t36 a i s h
  have hb := t36 b i s h
  unfold roped
  generalize val_main_v36 (F := Ideal) a = A at ha ⊢
  generalize val_main_v36 (F := Ideal) b = B at hb ⊢
  pointwise
  by_cases hd : d.val < 32
  · simp only [hd, dif_pos, ha, hb, Nat.add_comm 32 d.val]
  · have e : 32 + (d.val - 32) = d.val := by omega
    simp only [hd, dif_neg, not_false_eq_true, ha, hb, e]

/-- A head's lanes rotated are the row's lanes turned. -/
theorem roped_turn (e : Fin 1024 → EReal) (he : ∀ h d, y (ix4 i s h d) = e ⟨64 * h.val + d.val, by omega⟩) :
    roped y a b (ix4 i s h d) = turn e (cosAt a s) (sinAt b s) ⟨64 * h.val + d.val, by omega⟩ := by
  rw [roped_at]
  simp only [he]
  unfold turn other cosAt sinAt
  have h1 : (64 * h.val + d.val) % 64 = d.val := by omega
  have h2 : (64 * h.val + d.val) % 128 % 64 = d.val := by omega
  have h3 : (64 * h.val + d.val) % 128 % 32 = d.val % 32 := by omega
  simp only [h1, h2, h3]
  by_cases hd : d.val < 32
  · have e1 : (⟨d.val % 32, Nat.mod_lt _ (by omega)⟩ : Fin 32) = ⟨d.val, hd⟩ := by apply Fin.ext; dsimp only; omega
    simp only [dif_pos hd, if_pos hd, e1]
    rw [mul_neg, sub_eq_add_neg]
    rfl
  · have e1 : (⟨d.val % 32, Nat.mod_lt _ (by omega)⟩ : Fin 32) = ⟨d.val - 32, by omega⟩ := by apply Fin.ext; dsimp only; omega
    have e2 : 64 * h.val + (d.val - 32) = 64 * h.val + d.val - 32 := by omega
    simp only [dif_neg hd, if_neg hd, e1, e2]
    rw [add_comm]
end

section
variable (a0 : Vec Ideal S16384x1024 .f32) (a1 : Vec Ideal S16x6x1024 .f32) (a2 : Vec Ideal S1024 .f32)
  (a3 a4 : Vec Ideal S2048x32 .f32) (a5 : Vec Ideal S1024x3072 .f32)

theorem v49_eq : val_main_v49 (F := Ideal) a0 a1 a2 a3 a4 a5 = roped (val_main_v30 (F := Ideal) a0 a1 a2 a5) a3 a4 := by
  unfold val_main_v49 val_main_v41 val_main_v48 val_main_v37 val_main_v40 val_main_v44 val_main_v47 val_main_v31 val_main_v32
  generalize val_main_v30 (F := Ideal) a0 a1 a2 a5 = y
  rfl
theorem v69_eq : val_main_v69 (F := Ideal) a0 a1 a2 a3 a4 a5 = roped (val_main_v50 (F := Ideal) a0 a1 a2 a5) a3 a4 := by
  unfold val_main_v69 val_main_v61 val_main_v68 val_main_v57 val_main_v60 val_main_v64 val_main_v67 val_main_v51 val_main_v52
  generalize val_main_v50 (F := Ideal) a0 a1 a2 a5 = y
  rfl

theorem back (R : Fin 16384) : at_ ⟨R.val / 2048, by omega⟩ ⟨R.val % 2048, Nat.mod_lt _ (by omega)⟩ = R := by
  apply Fin.ext; show 2048 * (R.val / 2048) + R.val % 2048 = R.val; omega

theorem lane (n : Fin 1024) : (⟨64 * (n.val / 64) + n.val % 64, by omega⟩ : Fin 1024) = n := by
  apply Fin.ext; dsimp only; omega

/-- The reference's queries. -/
theorem resQ_eq : val_main_v73 (F := Ideal) a0 a1 a2 a3 a4 a5 = resQ a0 a1 a2 a3 a4 a5 := by
  funext y
  change (⟨2, ![16384, 1024]⟩ : Shape).Idx at y
  idx_vars y
  have hr := roped_turn (val_main_v30 (F := Ideal) a0 a1 a2 a5) a3 a4 ⟨y0.val / 2048, by omega⟩ ⟨y0.val % 2048, Nat.mod_lt _ (by omega)⟩
    ⟨y1.val / 64, by omega⟩ ⟨y1.val % 64, Nat.mod_lt _ (by omega)⟩ (fun n => rowA a0 a1 a2 a5 y0 ⟨n.val, by omega⟩)
    (fun h d => (p30 a0 a1 a2 a5 _ _ h d).trans (by rw [back]))
  rw [lane, ← v49_eq] at hr
  refine Eq.trans ?_ (congrArg (fun e => e * Ideal.ofBits FTy.f32 0x3E38AA3B#32) hr)
  unfold val_main_v73 val_main_v72 val_main_v71 val_main_v70 val_main_cst_3
  generalize val_main_v49 (F := Ideal) a0 a1 a2 a3 a4 a5 = z
  pointwise

/-- The reference's keys. -/
theorem resK_eq : val_main_v75 (F := Ideal) a0 a1 a2 a3 a4 a5 = resK a0 a1 a2 a3 a4 a5 := by
  funext y
  change (⟨2, ![16384, 1024]⟩ : Shape).Idx at y
  idx_vars y
  have hr := roped_turn (val_main_v50 (F := Ideal) a0 a1 a2 a5) a3 a4 ⟨y0.val / 2048, by omega⟩ ⟨y0.val % 2048, Nat.mod_lt _ (by omega)⟩
    ⟨y1.val / 64, by omega⟩ ⟨y1.val % 64, Nat.mod_lt _ (by omega)⟩ (fun n => rowA a0 a1 a2 a5 y0 ⟨1024 + n.val, by omega⟩)
    (fun h d => (p50 a0 a1 a2 a5 _ _ h d).trans (by rw [back]))
  rw [lane, ← v69_eq] at hr
  refine Eq.trans ?_ hr
  unfold val_main_v75 val_main_v74
  generalize val_main_v69 (F := Ideal) a0 a1 a2 a3 a4 a5 = z
  pointwise

/-- The reference's values. -/
theorem resV_eq : val_main_v77 (F := Ideal) a0 a1 a2 a5 = resV a0 a1 a2 a5 := by
  funext y
  change (⟨2, ![16384, 1024]⟩ : Shape).Idx at y
  idx_vars y
  have hp := p26 a0 a1 a2 a5 ⟨y0.val / 2048, by omega⟩ ⟨y0.val % 2048, Nat.mod_lt _ (by omega)⟩ ⟨2048 + y1.val, by omega⟩
  rw [back] at hp
  refine Eq.trans ?_ hp
  unfold val_main_v77 val_main_v76 val_main_v29
  generalize val_main_v26 (F := Ideal) a0 a1 a2 a5 = z
  pointwise
end

end Cert.ProjARef
end
-- ==== Proof.ProjAClaims.lean ====
module

public import proofs.«01_k».proof.Defs
public import proofs.«01_k».proof.Proof.Gen.ProjA.Frame
public import proofs.«01_k».proof.Proof.ProjARef

/-! The claims about mixer A's projection. -/

@[expose] public section

set_option maxRecDepth 16384

noncomputable section

namespace Cert.ProjAClaims

open Idealize.ShloMosaic Idealize.ShloMosaic.TcCoe Idealize.SL.Sem

/-- The projection as written runs to its end and leaves its arguments as they were. -/
theorem frame_p : Cert.quiescent_ProjA := fun m ρ _ => Cert.ProjA.Gen.frame m ρ

/-- So does the projection read at the extended reals. -/
theorem frame_pi : Cert.quiescent_ProjAIdeal := fun m ρ _ => Cert.ProjAIdeal.Gen.frame m ρ

/-- Its reference runs to its end and leaves its arguments as they were. -/
theorem frame_ri : Cert.quiescent_ProjARefIdeal := fun m ρ _ =>
  (θ_run _ _ _).mono (fun r h => ⟨fun c => (h c).2.2.2, sem_eq_zero_of_no_sems (by decide) r.2⟩)
    (Cert.ProjARefIdeal.Value.run m ρ)

section
open Cert.ProjAIdeal Cert.ProjAIdeal.Gen Cert.ProjAArray

/-- The projection runs, ends with queries, keys and values of its arguments in the outputs, and leaves the arguments alone. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v11_0) = resQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v11_1) = resK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v11_2) = resV (m ((c : Thread nD τ).loc main_arg0)) (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun _ hr c => ⟨(hr c).1.trans (finalQ m c), (hr c).2.1.trans (finalK m c), (hr c).2.2.1.trans (finalV m c),
    (hr c).2.2.2⟩) (Cert.ProjAIdeal.Value.run_blocks m ρ)
end

/-- The projection and its reference end with equal queries, keys and values. -/
theorem algebraic : Cert.algebraic_ProjAIdeal_ProjARefIdeal := by
  intro m ρ m' ρ' _ hag
  refine ⟨_, _, _, kernel_run m ρ, (θ_run _ _ _).mono (fun r h c => ⟨(h c).1.trans ?_, (h c).2.1.trans ?_, (h c).2.2.1.trans ?_,
    (h c).2.2.2⟩) (Cert.ProjARefIdeal.Value.run m' ρ')⟩
  · obtain ⟨e0, e1, e2, e3, e4, e5⟩ := hag c
    rw [Cert.ProjARefIdeal.Read.val_main_v73_eq]
    refine (ProjARef.resQ_eq _ _ _ _ _ _).trans ?_
    exact congr (congr (congr (congr (congr (congrArg ProjAArray.resQ e0) e1) e2) e3) e4) e5
  · obtain ⟨e0, e1, e2, e3, e4, e5⟩ := hag c
    rw [Cert.ProjARefIdeal.Read.val_main_v75_eq]
    refine (ProjARef.resK_eq _ _ _ _ _ _).trans ?_
    exact congr (congr (congr (congr (congr (congrArg ProjAArray.resK e0) e1) e2) e3) e4) e5
  · obtain ⟨e0, e1, e2, e3, e4, e5⟩ := hag c
    refine (Cert.ProjARefIdeal.Read.val_main_v77_eq _ _ _ _).trans ((ProjARef.resV_eq _ _ _ _).trans ?_)
    exact congr (congr (congr (congrArg ProjAArray.resV e0) e1) e2) e5

end Cert.ProjAClaims
end
-- ==== Proof.AttnCBlock.lean ====
module

public import proofs.«01_k».proof.Proof.Unit

/-! What one grid point of the kernel leaves in its block of the output, element by element. -/

@[expose] public section

set_option maxRecDepth 16384

noncomputable section

namespace Cert.AttnCBlock

open Idealize.ShloMosaic Cert.AttnCIdeal Cert.AttnCIdeal.Gen Cert.Softmax Cert.Unit

section
variable (x0 : Vec Ideal S1x2048x256 .bf16) (x1 : Vec Ideal S1x256x256 .bf16) (x2 : Vec Ideal S1x2048x256 .bf16)
  (x3 : Vec Ideal S1x256x128 .bf16) (x4 : Vec Ideal S1x2048x128 .bf16)

/-- Lane `d` of key `k`: the context's 256 keys, then the latent's. -/
def keyAt (k : Fin 2304) (d : Fin 256) : EReal :=
  if h : k.val < 256 then x1 (ix3 0 ⟨k.val, h⟩ d) else x2 (ix3 0 ⟨k.val - 256, by omega⟩ d)

/-- Lane `c` of value `k`: the context's 256 values, then the latent's. -/
def valAt (k : Fin 2304) (c : Fin 128) : EReal :=
  if h : k.val < 256 then x3 (ix3 0 ⟨k.val, h⟩ c) else x4 (ix3 0 ⟨k.val - 256, by omega⟩ c)

/-- The logit of query row `R` against key `k`, counted in powers of two. -/
def logit (R : Fin 2048) (k : Fin 2304) : EReal := ∑ d : Fin 256, x0 (ix3 0 R d) * keyAt x1 x2 k d

/-- The block's element: the values weighted by the softmax of the row's logits. -/
def cell (R : Fin 2048) (c : Fin 128) : EReal :=
  ∑ k, (weight (fun k => (logit x0 x1 x2 R k).toReal) k : EReal) * valAt x3 x4 k c

/-- Five pieces of the keys: the context's, then the latent's in fours. -/
theorem keyAt_piece0 (k : Fin 256) (d : Fin 256) : keyAt x1 x2 ⟨k.val, by omega⟩ d = x1 (ix3 0 k d) := by
  simp [keyAt]
theorem keyAt_piece1 (k : Fin 512) (d : Fin 256) :
    keyAt x1 x2 ⟨256 + k.val, by omega⟩ d = x2 (ix3 0 ⟨0 + k.val, by omega⟩ d) := by
  rw [keyAt, dif_neg (by dsimp only; omega)]; congr 2; ext; dsimp only; omega
theorem keyAt_piece2 (k : Fin 512) (d : Fin 256) :
    keyAt x1 x2 ⟨768 + k.val, by omega⟩ d = x2 (ix3 0 ⟨512 + k.val, by omega⟩ d) := by
  rw [keyAt, dif_neg (by dsimp only; omega)]; congr 2; ext; dsimp only; omega
theorem keyAt_piece3 (k : Fin 512) (d : Fin 256) :
    keyAt x1 x2 ⟨1280 + k.val, by omega⟩ d = x2 (ix3 0 ⟨1024 + k.val, by omega⟩ d) := by
  rw [keyAt, dif_neg (by dsimp only; omega)]; congr 2; ext; dsimp only; omega
theorem keyAt_piece4 (k : Fin 512) (d : Fin 256) :
    keyAt x1 x2 ⟨1792 + k.val, by omega⟩ d = x2 (ix3 0 ⟨1536 + k.val, by omega⟩ d) := by
  rw [keyAt, dif_neg (by dsimp only; omega)]; congr 2; ext; dsimp only; omega
/-- Five pieces of the values, cut as the keys are. -/
theorem valAt_piece0 (k : Fin 256) (c : Fin 128) : valAt x3 x4 ⟨k.val, by omega⟩ c = x3 (ix3 0 k c) := by
  simp [valAt]
theorem valAt_piece1 (k : Fin 512) (c : Fin 128) :
    valAt x3 x4 ⟨256 + k.val, by omega⟩ c = x4 (ix3 0 ⟨0 + k.val, by omega⟩ c) := by
  rw [valAt, dif_neg (by dsimp only; omega)]; congr 2; ext; dsimp only; omega
theorem valAt_piece2 (k : Fin 512) (c : Fin 128) :
    valAt x3 x4 ⟨768 + k.val, by omega⟩ c = x4 (ix3 0 ⟨512 + k.val, by omega⟩ c) := by
  rw [valAt, dif_neg (by dsimp only; omega)]; congr 2; ext; dsimp only; omega
theorem valAt_piece3 (k : Fin 512) (c : Fin 128) :
    valAt x3 x4 ⟨1280 + k.val, by omega⟩ c = x4 (ix3 0 ⟨1024 + k.val, by omega⟩ c) := by
  rw [valAt, dif_neg (by dsimp only; omega)]; congr 2; ext; dsimp only; omega
theorem valAt_piece4 (k : Fin 512) (c : Fin 128) :
    valAt x3 x4 ⟨1792 + k.val, by omega⟩ c = x4 (ix3 0 ⟨1536 + k.val, by omega⟩ c) := by
  rw [valAt, dif_neg (by dsimp only; omega)]; congr 2; ext; dsimp only; omega

/-- The first unit of 512 query rows. -/
theorem unit0 (hs : ∀ R k, IsReal (logit x0 x1 x2 R k)) (r : Fin 512) (c : Fin 128) :
    unit (k0_pay88 x0 x1 x2 x3 x4) (k0_pay89 x0 x1 x2 x3 x4) (k0_pay90 x0 x1 x2 x3 x4) (k0_pay91 x0 x1 x2 x3 x4) (k0_pay92 x0 x1 x2 x3 x4)
      (k0_pay82 x0 x1 x2 x3 x4) (k0_pay83 x0 x1 x2 x3 x4) (k0_pay84 x0 x1 x2 x3 x4) (k0_pay85 x0 x1 x2 x3 x4) (k0_pay86 x0 x1 x2 x3 x4) (ix2 r c) = cell x0 x1 x2 x3 x4 ⟨0 + r.val, by omega⟩ c := by
  refine unit_row _ _ _ _ _ _ _ _ _ _ r c (logit x0 x1 x2 ⟨0 + r.val, by omega⟩) (fun k => valAt x3 x4 k c) (hs _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4,
      k0_pay88, k0_pay89, k0_pay90, k0_pay91, k0_pay92, k0_pay77, k0_pay78, k0_pay79, k0_pay80, k0_pay81, k0_pay82, k0_pay83, k0_pay84, k0_pay85, k0_pay86, k0_pay87]
    unfold_payloads
    pointwise

/-- The second unit of 512 query rows. -/
theorem unit1 (hs : ∀ R k, IsReal (logit x0 x1 x2 R k)) (r : Fin 512) (c : Fin 128) :
    unit (k0_pay93 x0 x1 x2 x3 x4) (k0_pay94 x0 x1 x2 x3 x4) (k0_pay95 x0 x1 x2 x3 x4) (k0_pay96 x0 x1 x2 x3 x4) (k0_pay97 x0 x1 x2 x3 x4)
      (k0_pay82 x0 x1 x2 x3 x4) (k0_pay83 x0 x1 x2 x3 x4) (k0_pay84 x0 x1 x2 x3 x4) (k0_pay85 x0 x1 x2 x3 x4) (k0_pay86 x0 x1 x2 x3 x4) (ix2 r c) = cell x0 x1 x2 x3 x4 ⟨512 + r.val, by omega⟩ c := by
  refine unit_row _ _ _ _ _ _ _ _ _ _ r c (logit x0 x1 x2 ⟨512 + r.val, by omega⟩) (fun k => valAt x3 x4 k c) (hs _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4,
      k0_pay93, k0_pay94, k0_pay95, k0_pay96, k0_pay97, k0_pay77, k0_pay78, k0_pay79, k0_pay80, k0_pay81, k0_pay82, k0_pay83, k0_pay84, k0_pay85, k0_pay86, k0_pay87]
    unfold_payloads
    pointwise

/-- The third unit of 512 query rows. -/
theorem unit2 (hs : ∀ R k, IsReal (logit x0 x1 x2 R k)) (r : Fin 512) (c : Fin 128) :
    unit (k0_pay98 x0 x1 x2 x3 x4) (k0_pay99 x0 x1 x2 x3 x4) (k0_pay100 x0 x1 x2 x3 x4) (k0_pay101 x0 x1 x2 x3 x4) (k0_pay102 x0 x1 x2 x3 x4)
      (k0_pay82 x0 x1 x2 x3 x4) (k0_pay83 x0 x1 x2 x3 x4) (k0_pay84 x0 x1 x2 x3 x4) (k0_pay85 x0 x1 x2 x3 x4) (k0_pay86 x0 x1 x2 x3 x4) (ix2 r c) = cell x0 x1 x2 x3 x4 ⟨1024 + r.val, by omega⟩ c := by
  refine unit_row _ _ _ _ _ _ _ _ _ _ r c (logit x0 x1 x2 ⟨1024 + r.val, by omega⟩) (fun k => valAt x3 x4 k c) (hs _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4,
      k0_pay98, k0_pay99, k0_pay100, k0_pay101, k0_pay102, k0_pay77, k0_pay78, k0_pay79, k0_pay80, k0_pay81, k0_pay82, k0_pay83, k0_pay84, k0_pay85, k0_pay86, k0_pay87]
    unfold_payloads
    pointwise

/-- The fourth unit of 512 query rows. -/
theorem unit3 (hs : ∀ R k, IsReal (logit x0 x1 x2 R k)) (r : Fin 512) (c : Fin 128) :
    unit (k0_pay103 x0 x1 x2 x3 x4) (k0_pay104 x0 x1 x2 x3 x4) (k0_pay105 x0 x1 x2 x3 x4) (k0_pay106 x0 x1 x2 x3 x4) (k0_pay107 x0 x1 x2 x3 x4)
      (k0_pay82 x0 x1 x2 x3 x4) (k0_pay83 x0 x1 x2 x3 x4) (k0_pay84 x0 x1 x2 x3 x4) (k0_pay85 x0 x1 x2 x3 x4) (k0_pay86 x0 x1 x2 x3 x4) (ix2 r c) = cell x0 x1 x2 x3 x4 ⟨1536 + r.val, by omega⟩ c := by
  refine unit_row _ _ _ _ _ _ _ _ _ _ r c (logit x0 x1 x2 ⟨1536 + r.val, by omega⟩) (fun k => valAt x3 x4 k c) (hs _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4,
      k0_pay103, k0_pay104, k0_pay105, k0_pay106, k0_pay107, k0_pay77, k0_pay78, k0_pay79, k0_pay80, k0_pay81, k0_pay82, k0_pay83, k0_pay84, k0_pay85, k0_pay86, k0_pay87]
    unfold_payloads
    pointwise

/-- The element of the output block as a function of its index. -/
def block (y : S1x2048x128.Idx) : EReal := cell x0 x1 x2 x3 x4 (y 1) (y 2)

/-- A stored piece holds the unit's result, row by row. -/
theorem stored_apply (P : FVec Ideal S512x128 .f32) (a : Fin 1) (r : Fin 512) (c : Fin 128) :
    k0_pay1 P (ix3 a r c) = P (ix2 r c) := by
  unfold k0_pay1
  pointwise

theorem at3 (a : Fin 1) (r : Fin 512) (c : Fin 128) :
    block x0 x1 x2 x3 x4 (r0_9.emb (ix3 a r c)) = cell x0 x1 x2 x3 x4 ⟨1536 + r.val, by omega⟩ c := by
  unfold block
  congr 1
  · ext; show 1536 + 1 * r.val = 1536 + r.val; omega
  · ext; show 0 + 1 * c.val = c.val; omega

theorem at2 (a : Fin 1) (r : Fin 512) (c : Fin 128) :
    block x0 x1 x2 x3 x4 (r0_8.emb (ix3 a r c)) = cell x0 x1 x2 x3 x4 ⟨1024 + r.val, by omega⟩ c := by
  unfold block
  congr 1
  · ext; show 1024 + 1 * r.val = 1024 + r.val; omega
  · ext; show 0 + 1 * c.val = c.val; omega

theorem at1 (a : Fin 1) (r : Fin 512) (c : Fin 128) :
    block x0 x1 x2 x3 x4 (r0_7.emb (ix3 a r c)) = cell x0 x1 x2 x3 x4 ⟨512 + r.val, by omega⟩ c := by
  unfold block
  congr 1
  · ext; show 512 + 1 * r.val = 512 + r.val; omega
  · ext; show 0 + 1 * c.val = c.val; omega

theorem at0 (a : Fin 1) (r : Fin 512) (c : Fin 128) :
    block x0 x1 x2 x3 x4 (r0_6.emb (ix3 a r c)) = cell x0 x1 x2 x3 x4 ⟨0 + r.val, by omega⟩ c := by
  unfold block
  congr 1
  · ext; show 0 + 1 * r.val = 0 + r.val; omega
  · ext; show 0 + 1 * c.val = c.val; omega

/-- The block a grid point leaves: at each index the attended value, where the logits are finite. -/
theorem out_apply (hs : ∀ R k, IsReal (logit x0 x1 x2 R k)) (y : S1x2048x128.Idx) :
    out0_5 x0 x1 x2 x3 x4 y = block x0 x1 x2 x3 x4 y := by
  refine View.canon_apply_of_pieces (Val := Elt Ideal) (e := .bf16) (block x0 x1 x2 x3 x4) _ ?_ y (cover0_5 _ _ _ _ y)
  intro p hp
  simp only [List.mem_cons, List.not_mem_nil, or_false] at hp
  rcases hp with rfl | rfl | rfl | rfl <;> intro j <;> idx_vars j
  · refine Eq.trans ?_ (at3 x0 x1 x2 x3 x4 j0 j1 j2).symm
    exact (stored_apply _ j0 j1 j2).trans (unit3 x0 x1 x2 x3 x4 hs j1 j2)
  · refine Eq.trans ?_ (at2 x0 x1 x2 x3 x4 j0 j1 j2).symm
    exact (stored_apply _ j0 j1 j2).trans (unit2 x0 x1 x2 x3 x4 hs j1 j2)
  · refine Eq.trans ?_ (at1 x0 x1 x2 x3 x4 j0 j1 j2).symm
    exact (stored_apply _ j0 j1 j2).trans (unit1 x0 x1 x2 x3 x4 hs j1 j2)
  · refine Eq.trans ?_ (at0 x0 x1 x2 x3 x4 j0 j1 j2).symm
    exact (stored_apply _ j0 j1 j2).trans (unit0 x0 x1 x2 x3 x4 hs j1 j2)

end

end Cert.AttnCBlock
end
-- ==== Proof.AttnCArray.lean ====
module

public import proofs.«01_k».proof.Proof.AttnCBlock
public import proofs.«01_k».proof.Proof.Gen.AttnCIdeal.Value
public import Idealize.ShloMosaic.Lib.Pipeline.ValueKit

/-! The kernel's whole output array as one function of its five argument arrays. -/

@[expose] public section

set_option maxRecDepth 16384

noncomputable section

namespace Cert.AttnCArray

open Idealize.ShloMosaic Idealize.ShloMosaic.TcCoe Idealize.SL.Sem
open Cert.AttnCIdeal Cert.AttnCIdeal.Gen Cert.AttnCBlock Cert.Softmax
open Idealize.ShloMosaic.Pipeline (Dat)

/-- One head's slab of an array of batch, row and lane: batch `b`, the `w` lanes from `w·h` on, `h` one of eight heads. -/
def slab {R w L : Nat} (hL : 8 * w = L) (a : (⟨3, ![8, R, L]⟩ : Shape).Idx → EReal) (b h : Fin 8) :
    (⟨3, ![1, R, w]⟩ : Shape).Idx → EReal :=
  fun i => a (ix3 b (i 1) ⟨w * h.val + (i 2).val, by
    have h1 : (i 2).val < w := (i 2).isLt
    have h2 : w * h.val + w ≤ w * 8 := by rw [← Nat.mul_succ]; exact Nat.mul_le_mul_left _ (by omega)
    omega⟩)

section
variable (a0 : Vec Ideal S8x2048x2048 .bf16) (a1 : Vec Ideal S8x256x2048 .bf16) (a2 : Vec Ideal S8x2048x2048 .bf16)
  (a3 : Vec Ideal S8x256x1024 .bf16) (a4 : Vec Ideal S8x2048x1024 .bf16)

/-- The logit of batch `b`, head `h`, query row `R` against key `k`. -/
def logitAt (b h : Fin 8) (R : Fin 2048) (k : Fin 2304) : EReal :=
  logit (slab (w := 256) rfl a0 b h) (slab (w := 256) rfl a1 b h) (slab (w := 256) rfl a2 b h) R k

/-- The attended value of batch `b`, head `h`, query row `R`, lane `c`. -/
def attended (b h : Fin 8) (R : Fin 2048) (c : Fin 128) : EReal :=
  cell (slab (w := 256) rfl a0 b h) (slab (w := 256) rfl a1 b h) (slab (w := 256) rfl a2 b h)
    (slab (w := 128) rfl a3 b h) (slab (w := 128) rfl a4 b h) R c

/-- The output array: at batch, row and lane the attended value of the lane's head. -/
def result (y : S8x2048x1024.Idx) : EReal :=
  attended a0 a1 a2 a3 a4 (y 0) ⟨(y 2).val / 128, by have : (y 2).val < 1024 := (y 2).isLt; omega⟩ (y 1)
    ⟨(y 2).val % 128, Nat.mod_lt _ (by omega)⟩
end

variable (m : (ℓ : Loc nD τ sig) → Buf (Elt Ideal) ℓ)

theorem point0 : ∀ t : Fin grid0.N, win0_0.index t = ![(grid0.coords t 0).val, 0, (grid0.coords t 1).val] := by decide +kernel
theorem point1 : ∀ t : Fin grid0.N, win0_1.index t = ![(grid0.coords t 0).val, 0, (grid0.coords t 1).val] := by decide +kernel
theorem point2 : ∀ t : Fin grid0.N, win0_2.index t = ![(grid0.coords t 0).val, 0, (grid0.coords t 1).val] := by decide +kernel
theorem point3 : ∀ t : Fin grid0.N, win0_3.index t = ![(grid0.coords t 0).val, 0, (grid0.coords t 1).val] := by decide +kernel
theorem point4 : ∀ t : Fin grid0.N, win0_4.index t = ![(grid0.coords t 0).val, 0, (grid0.coords t 1).val] := by decide +kernel
theorem point5 : ∀ t : Fin grid0.N, win0_5.index t = ![(grid0.coords t 0).val, 0, (grid0.coords t 1).val] := by decide +kernel

/-- Window 0's block at a point is one head's slab of argument 0. -/
theorem iblk0 (c : Dev nD) (t : Fin grid0.N) : iblk m c 0 t =
    slab (w := 256) rfl (m ((c : Thread nD τ).loc main_arg0)) (grid0.coords t 0) (grid0.coords t 1) := by
  funext j
  unfold slab
  blk_simp [iblk]
  refine (congrFun (V_main_arg0 m c) _).trans (congrArg _ ?_)
  have h0 : (j 0).val < 1 := (j 0).isLt
  funext a
  fin_cases a <;> apply Fin.ext <;> blk_simp [point0] <;> dsimp <;> omega

/-- Window 1's block at a point is one head's slab of argument 1. -/
theorem iblk1 (c : Dev nD) (t : Fin grid0.N) : iblk m c 1 t =
    slab (w := 256) rfl (m ((c : Thread nD τ).loc main_arg1)) (grid0.coords t 0) (grid0.coords t 1) := by
  funext j
  unfold slab
  blk_simp [iblk]
  refine (congrFun (V_main_arg1 m c) _).trans (congrArg _ ?_)
  have h0 : (j 0).val < 1 := (j 0).isLt
  funext a
  fin_cases a <;> apply Fin.ext <;> blk_simp [point1] <;> dsimp <;> omega

/-- Window 2's block at a point is one head's slab of argument 2. -/
theorem iblk2 (c : Dev nD) (t : Fin grid0.N) : iblk m c 2 t =
    slab (w := 256) rfl (m ((c : Thread nD τ).loc main_arg2)) (grid0.coords t 0) (grid0.coords t 1) := by
  funext j
  unfold slab
  blk_simp [iblk]
  refine (congrFun (V_main_arg2 m c) _).trans (congrArg _ ?_)
  have h0 : (j 0).val < 1 := (j 0).isLt
  funext a
  fin_cases a <;> apply Fin.ext <;> blk_simp [point2] <;> dsimp <;> omega

/-- Window 3's block at a point is one head's slab of argument 3. -/
theorem iblk3 (c : Dev nD) (t : Fin grid0.N) : iblk m c 3 t =
    slab (w := 128) rfl (m ((c : Thread nD τ).loc main_arg3)) (grid0.coords t 0) (grid0.coords t 1) := by
  funext j
  unfold slab
  blk_simp [iblk]
  refine (congrFun (V_main_arg3 m c) _).trans (congrArg _ ?_)
  have h0 : (j 0).val < 1 := (j 0).isLt
  funext a
  fin_cases a <;> apply Fin.ext <;> blk_simp [point3] <;> dsimp <;> omega

/-- Window 4's block at a point is one head's slab of argument 4. -/
theorem iblk4 (c : Dev nD) (t : Fin grid0.N) : iblk m c 4 t =
    slab (w := 128) rfl (m ((c : Thread nD τ).loc main_arg4)) (grid0.coords t 0) (grid0.coords t 1) := by
  funext j
  unfold slab
  blk_simp [iblk]
  refine (congrFun (V_main_arg4 m c) _).trans (congrArg _ ?_)
  have h0 : (j 0).val < 1 := (j 0).isLt
  funext a
  fin_cases a <;> apply Fin.ext <;> blk_simp [point4] <;> dsimp <;> omega

/-- The logits the precondition makes finite. -/
def FiniteLogits (c : Dev nD) : Prop := ∀ b h R k, IsReal (logitAt (m ((c : Thread nD τ).loc main_arg0))
  (m ((c : Thread nD τ).loc main_arg1)) (m ((c : Thread nD τ).loc main_arg2)) b h R k)

/-- Real queries and keys have real logits. -/
theorem finiteLogits_of (a0 : Vec Ideal S8x2048x2048 .bf16) (a1 : Vec Ideal S8x256x2048 .bf16)
    (a2 : Vec Ideal S8x2048x2048 .bf16) (h0 : ∀ i, IsReal (a0 i)) (h1 : ∀ i, IsReal (a1 i)) (h2 : ∀ i, IsReal (a2 i))
    (b h : Fin 8) (R : Fin 2048) (k : Fin 2304) : IsReal (logitAt a0 a1 a2 b h R k) := by
  unfold logitAt logit keyAt slab
  refine isReal_sum fun d => isReal_mul (h0 _) ?_
  split
  · exact h1 _
  · exact h2 _

/-- Where the logits are finite, the kernel's output array is `result` of its arguments. -/
theorem final (c : Dev nD) (hs : FiniteLogits m c) :
    (dats m 0 c).arrAt 5 cfg0.N = result (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, iblk0, iblk1, iblk2, iblk3, iblk4]
  refine (out_apply _ _ _ _ _ (hs _ _) y).trans ?_
  have h0 : (y 0).val < 1 := (y 0).isLt
  have h2 : (y 2).val < 128 := (y 2).isLt
  show attended _ _ _ _ _ _ _ _ _ = attended _ _ _ _ _ _ _ _ _
  congr 1 <;> apply Fin.ext <;> blk_simp [point5] <;> dsimp <;> omega

end Cert.AttnCArray
end
-- ==== Proof.AttnCRef.lean ====
module

public import proofs.«01_k».proof.Proof.AttnCArray
public import proofs.«01_k».proof.Proof.Gen.AttnCRefIdeal.Run
public import proofs.«01_k».proof.Proof.Gen.AttnCRefIdeal.Read
public import Idealize.ShloMosaic.Lib.Pointwise

@[expose] public section

set_option maxRecDepth 16384

noncomputable section

namespace Cert.AttnCRef

open Idealize.ShloMosaic
open Cert.AttnCRefIdeal Cert.AttnCRefIdeal.Gen Cert.AttnCRefIdeal.Read Cert.AttnCArray Cert.Softmax Cert.AttnCBlock

variable (a0 : Vec Ideal S8x2048x2048 .bf16) (a1 : Vec Ideal S8x256x2048 .bf16) (a2 : Vec Ideal S8x2048x2048 .bf16)
  (a3 : Vec Ideal S8x256x1024 .bf16) (a4 : Vec Ideal S8x2048x1024 .bf16)

theorem q2 (b h : Fin 8) (R : Fin 2048) (d : Fin 256) :
    val_main_v2 (F := Ideal) a0 (ix4 b R h d) = a0 (ix3 b R ⟨h.val * 256 + d.val, by omega⟩) := by
  unfold val_main_v2
  pointwise

theorem q6 (b h : Fin 8) (R : Fin 2048) (d : Fin 256) :
    val_main_v6 (F := Ideal) a0 (ix5 b R h 0 d) = val_main_v2 (F := Ideal) a0 (ix4 b R h d) := by
  unfold val_main_v6
  generalize val_main_v2 (F := Ideal) a0 = y0
  pointwise

theorem k3 (b h : Fin 8) (k : Fin 2304) (d : Fin 256) :
    val_main_v3 (F := Ideal) a1 a2 (ix4 b k h d) = val_main_v0 (F := Ideal) a1 a2 (ix3 b k ⟨h.val * 256 + d.val, by omega⟩) := by
  unfold val_main_v3
  generalize val_main_v0 (F := Ideal) a1 a2 = y0
  pointwise

theorem k0 (b : Fin 8) (k : Fin 2304) (d : Fin 2048) :
    val_main_v0 (F := Ideal) a1 a2 (ix3 b k d) = if h : k.val < 256 then a1 (ix3 b ⟨k.val, h⟩ d) else a2 (ix3 b ⟨k.val - 256, by omega⟩ d) := by
  unfold val_main_v0
  pointwise

theorem v4 (b h : Fin 8) (k : Fin 2304) (d : Fin 128) :
    val_main_v4 (F := Ideal) a3 a4 (ix4 b k h d) = val_main_v1 (F := Ideal) a3 a4 (ix3 b k ⟨h.val * 128 + d.val, by omega⟩) := by
  unfold val_main_v4
  generalize val_main_v1 (F := Ideal) a3 a4 = y0
  pointwise

theorem v1 (b : Fin 8) (k : Fin 2304) (d : Fin 1024) :
    val_main_v1 (F := Ideal) a3 a4 (ix3 b k d) = if h : k.val < 256 then a3 (ix3 b ⟨k.val, h⟩ d) else a4 (ix3 b ⟨k.val - 256, by omega⟩ d) := by
  unfold val_main_v1
  pointwise

theorem s7 (b h : Fin 8) (R : Fin 2048) (k : Fin 2304) :
    val_main_v7 (F := Ideal) a0 a1 a2 (ix5 b h k R 0) = ∑ d : Fin 256, val_main_v3 (F := Ideal) a1 a2 (ix4 b k h d) * val_main_v6 (F := Ideal) a0 (ix5 b R h 0 d) := by
  unfold val_main_v7
  generalize val_main_v3 (F := Ideal) a1 a2 = y0
  generalize val_main_v6 (F := Ideal) a0 = y1
  pointwise

theorem s8 (b h : Fin 8) (R : Fin 2048) (k : Fin 2304) :
    val_main_v8 (F := Ideal) a0 a1 a2 (ix5 b h 0 R k) = val_main_v7 (F := Ideal) a0 a1 a2 (ix5 b h k R 0) := by
  unfold val_main_v8
  generalize val_main_v7 (F := Ideal) a0 a1 a2 = y0
  pointwise

theorem s10 (b h : Fin 8) (R : Fin 2048) (k : Fin 2304) :
    val_main_v10 (F := Ideal) a0 a1 a2 (ix5 b h 0 R k) = val_main_v8 (F := Ideal) a0 a1 a2 (ix5 b h 0 R k) * val_main_v9 (F := Ideal)  (ix5 b h 0 R k) := by
  rw [val_main_v10_apply]
  rfl

theorem s9 (b h : Fin 8) (R : Fin 2048) (k : Fin 2304) :
    val_main_v9 (F := Ideal)  (ix5 b h 0 R k) = Ideal.log (Ideal.ofBits .f32 0x40000000#32) := by
  unfold val_main_v9 val_main_v5 val_main_cst
  pointwise

theorem m11 (b h : Fin 8) (R : Fin 2048) :
    val_main_v11 (F := Ideal) a0 a1 a2 (ix4 b h 0 R) = Finset.univ.fold max (Ideal.ofBits .f32 0xFF800000#32) fun k : Fin 2304 => val_main_v10 (F := Ideal) a0 a1 a2 (ix5 b h 0 R k) := by
  unfold val_main_v11 val_main_cst_0
  generalize val_main_v10 (F := Ideal) a0 a1 a2 = y0
  pointwise

theorem m13 (b h : Fin 8) (R : Fin 2048) :
    val_main_v13 (F := Ideal) a0 a1 a2 (ix4 b h 0 R) = max (Ideal.ofBits .f32 0xFF800000#32) (val_main_v11 (F := Ideal) a0 a1 a2 (ix4 b h 0 R)) := by
  rw [val_main_v13_apply, val_main_v12_apply]
  rfl

theorem m14 (b h : Fin 8) (R : Fin 2048) :
    val_main_v14 (F := Ideal) a0 a1 a2 (ix5 b h 0 R 0) = val_main_v13 (F := Ideal) a0 a1 a2 (ix4 b h 0 R) := by
  unfold val_main_v14
  generalize val_main_v13 (F := Ideal) a0 a1 a2 = y0
  pointwise

theorem m15 (b h : Fin 8) (R : Fin 2048) (k : Fin 2304) :
    val_main_v15 (F := Ideal) a0 a1 a2 (ix5 b h 0 R k) = val_main_v14 (F := Ideal) a0 a1 a2 (ix5 b h 0 R 0) := by
  unfold val_main_v15
  generalize val_main_v14 (F := Ideal) a0 a1 a2 = y0
  pointwise

theorem e17 (b h : Fin 8) (R : Fin 2048) (k : Fin 2304) :
    val_main_v17 (F := Ideal) a0 a1 a2 (ix5 b h 0 R k) = Ideal.exp (val_main_v10 (F := Ideal) a0 a1 a2 (ix5 b h 0 R k) - val_main_v15 (F := Ideal) a0 a1 a2 (ix5 b h 0 R k)) := by
  rw [val_main_v17_apply, val_main_v16_apply]
  rfl

theorem d18 (b h : Fin 8) (R : Fin 2048) :
    val_main_v18 (F := Ideal) a0 a1 a2 (ix4 b h 0 R) = ∑ k : Fin 2304, val_main_v17 (F := Ideal) a0 a1 a2 (ix5 b h 0 R k) := by
  unfold val_main_v18 val_main_cst_2
  generalize val_main_v17 (F := Ideal) a0 a1 a2 = y0
  pointwise

theorem d19 (b h : Fin 8) (R : Fin 2048) :
    val_main_v19 (F := Ideal) a0 a1 a2 (ix5 b h 0 R 0) = val_main_v18 (F := Ideal) a0 a1 a2 (ix4 b h 0 R) := by
  unfold val_main_v19
  generalize val_main_v18 (F := Ideal) a0 a1 a2 = y0
  pointwise

theorem d20 (b h : Fin 8) (R : Fin 2048) (k : Fin 2304) :
    val_main_v20 (F := Ideal) a0 a1 a2 (ix5 b h 0 R k) = val_main_v19 (F := Ideal) a0 a1 a2 (ix5 b h 0 R 0) := by
  unfold val_main_v20
  generalize val_main_v19 (F := Ideal) a0 a1 a2 = y0
  pointwise

theorem p22 (b h : Fin 8) (R : Fin 2048) (k : Fin 2304) :
    val_main_v22 (F := Ideal) a0 a1 a2 (ix5 b h 0 R k) = Ideal.div (val_main_v17 (F := Ideal) a0 a1 a2 (ix5 b h 0 R k)) (val_main_v20 (F := Ideal) a0 a1 a2 (ix5 b h 0 R k)) := by
  unfold val_main_v22 val_main_v21
  generalize val_main_v17 (F := Ideal) a0 a1 a2 = y0
  generalize val_main_v20 (F := Ideal) a0 a1 a2 = y1
  pointwise

theorem o23 (b h : Fin 8) (R : Fin 2048) (c : Fin 128) :
    val_main_v23 (F := Ideal) a0 a1 a2 a3 a4 (ix5 b h c 0 R) = ∑ k : Fin 2304, val_main_v4 (F := Ideal) a3 a4 (ix4 b k h c) * val_main_v22 (F := Ideal) a0 a1 a2 (ix5 b h 0 R k) := by
  unfold val_main_v23
  generalize val_main_v4 (F := Ideal) a3 a4 = y0
  generalize val_main_v22 (F := Ideal) a0 a1 a2 = y1
  pointwise

theorem o24 (b h : Fin 8) (R : Fin 2048) (c : Fin 128) :
    val_main_v24 (F := Ideal) a0 a1 a2 a3 a4 (ix5 b R h 0 c) = val_main_v23 (F := Ideal) a0 a1 a2 a3 a4 (ix5 b h c 0 R) := by
  unfold val_main_v24
  generalize val_main_v23 (F := Ideal) a0 a1 a2 a3 a4 = y0
  pointwise

theorem o25 (b h : Fin 8) (R : Fin 2048) (c : Fin 128) :
    val_main_v25 (F := Ideal) a0 a1 a2 a3 a4 (ix5 b R h 0 c) = val_main_v24 (F := Ideal) a0 a1 a2 a3 a4 (ix5 b R h 0 c) := by
  unfold val_main_v25
  generalize val_main_v24 (F := Ideal) a0 a1 a2 a3 a4 = y0
  pointwise

theorem o26 (b h : Fin 8) (R : Fin 2048) (c : Fin 128) :
    val_main_v26 (F := Ideal) a0 a1 a2 a3 a4 (ix4 b R h c) = val_main_v25 (F := Ideal) a0 a1 a2 a3 a4 (ix5 b R h 0 c) := by
  unfold val_main_v26
  generalize val_main_v25 (F := Ideal) a0 a1 a2 a3 a4 = y0
  pointwise

theorem o27 (b : Fin 8) (R : Fin 2048) (l : Fin 1024) :
    val_main_v27 (F := Ideal) a0 a1 a2 a3 a4 (ix3 b R l) = val_main_v26 (F := Ideal) a0 a1 a2 a3 a4 (ix4 b R ⟨l.val / 128, by omega⟩ ⟨l.val % 128, by omega⟩) := by
  unfold val_main_v27
  generalize val_main_v26 (F := Ideal) a0 a1 a2 a3 a4 = y0
  pointwise

/-- The reference's logit: the kernel's, times the logarithm of two. -/
theorem logits (b h : Fin 8) (R : Fin 2048) (k : Fin 2304) :
    val_main_v10 (F := Ideal) a0 a1 a2 (ix5 b h 0 R k) = logitAt a0 a1 a2 b h R k * (Real.log 2 : ℝ) := by
  rw [s10, s9, log_two, s8, s7]
  congr 1
  unfold logitAt logit
  refine Finset.sum_congr rfl fun d _ => ?_
  rw [q6, q2, k3, k0, mul_comm]
  unfold keyAt slab
  have e : h.val * 256 + d.val = 256 * h.val + d.val := by omega
  simp only [e]
  rfl

/-- The reference's value of key `k`, head `h`. -/
theorem value (b h : Fin 8) (k : Fin 2304) (c : Fin 128) :
    val_main_v4 (F := Ideal) a3 a4 (ix4 b k h c) =
      valAt (slab (w := 128) rfl a3 b h) (slab (w := 128) rfl a4 b h) k c := by
  rw [v4, v1]
  unfold valAt slab
  have e : h.val * 128 + c.val = 128 * h.val + c.val := by omega
  simp only [e]
  rfl

/-- Where the logits are finite, the reference's probabilities are the softmax weights. -/
theorem weights (hs : ∀ b h R k, IsReal (logitAt a0 a1 a2 b h R k)) (b h : Fin 8) (R : Fin 2048) (k : Fin 2304) :
    val_main_v22 (F := Ideal) a0 a1 a2 (ix5 b h 0 R k) =
      (weight (fun k => (logitAt a0 a1 a2 b h R k).toReal) k : EReal) := by
  have hr : ∀ k, logitAt a0 a1 a2 b h R k = ((logitAt a0 a1 a2 b h R k).toReal : EReal) := fun k => by
    obtain ⟨r, hr⟩ := hs b h R k
    rw [hr, EReal.toReal_coe]
  have hm : IsReal (val_main_v13 (F := Ideal) a0 a1 a2 (ix4 b h 0 R)) := by
    rw [m13, m11, ofBits_neg_inf, max_eq_right bot_le]
    refine isReal_foldMax (by omega) fun k => ?_
    rw [logits, hr]
    exact ⟨_, (EReal.coe_mul _ _).symm⟩
  obtain ⟨mx, hmx⟩ := hm
  have he : ∀ k, val_main_v17 (F := Ideal) a0 a1 a2 (ix5 b h 0 R k) =
      Ideal.exp (((logitAt a0 a1 a2 b h R k).toReal : EReal) * (Real.log 2 : ℝ) - (mx : EReal)) := fun k => by
    rw [e17, m15, m14, hmx, logits, hr, EReal.toReal_coe]
  rw [p22, d20, d19, d18, he, Finset.sum_congr rfl fun k _ => he k]
  exact div_exp (by omega) _ mx k

/-- Where the logits are finite, the reference's result is `result` of its arguments. -/
theorem result_eq (hs : ∀ b h R k, IsReal (logitAt a0 a1 a2 b h R k)) :
    val_main_v27 (F := Ideal) a0 a1 a2 a3 a4 = result a0 a1 a2 a3 a4 := by
  funext y
  idx_vars y
  rw [o27, o26, o25, o24, o23]
  unfold result attended cell
  refine Finset.sum_congr rfl fun k _ => ?_
  rw [value, weights _ _ _ hs, mul_comm]
  rfl

end Cert.AttnCRef
end
-- ==== Proof.AttnCClaims.lean ====
module

public import proofs.«01_k».proof.Defs
public import proofs.«01_k».proof.Proof.AttnCRef
public import proofs.«01_k».proof.Proof.Gen.AttnC.Frame

/-! The five claims about the call `AttnC`. -/

@[expose] public section

set_option maxRecDepth 16384

noncomputable section

namespace Cert.AttnCClaims

open Idealize.ShloMosaic Idealize.ShloMosaic.TcCoe Idealize.SL.Sem
open Cert.Softmax Cert.AttnCArray

/-- The precondition's broadcasts are as they should be. -/
instance preFacts : Cert.Pre_finite_c.Facts where
  bcast_S_S8x2048x2048 := by decide
  bcast_S_S8x256x2048 := by decide

/-- A comparison with infinity that holds makes the element real. -/
theorem isReal_of_olt (v : EReal)
    (h : Ideal.cmp .olt (max v (-v)) (Ideal.ofBits .bf16 0x7F80#16) = 1#1) : IsReal v := by
  rw [ofBits_inf_bf16] at h
  refine isReal_of_abs_lt ?_
  by_contra hn
  simp [Ideal.cmp, hn] at h

section
open Cert.AttnCIdeal Cert.AttnCIdeal.Gen
variable (m : (ℓ : Loc nD τ sig) → Buf (Elt Ideal) ℓ)

/-- Finite queries and keys have finite logits. -/
theorem finite_of_pre (h : Cert.Pre_AttnCIdeal_finite_c m) (c : Dev nD) : FiniteLogits m c := by
  obtain ⟨h0, h1, h2⟩ := h c
  refine finiteLogits_of _ _ _ ?_ ?_ ?_
  · exact fun i => isReal_of_olt _ (congrFun h0 i)
  · exact fun i => isReal_of_olt _ (congrFun h1 i)
  · exact fun i => isReal_of_olt _ (congrFun h2 i)

/-- The kernel runs, ends with `result` of its arguments in the output, and leaves the arguments alone. -/
theorem kernel_run (ρ : Dev nD → PrngReg) (h : Cert.Pre_AttnCIdeal_finite_c m) :
    θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun _ hr c => ⟨(hr c).1.trans (final m c (finite_of_pre m h c)), (hr c).2⟩)
    (Cert.AttnCIdeal.Value.run_blocks m ρ)
end

/-- The kernel as written runs to its end and leaves its arguments as they were. -/
theorem frame_p : Cert.quiescent_AttnC := fun m ρ _ => Cert.AttnC.Gen.frame m ρ

/-- So does the kernel read at the extended reals, -/
theorem frame_pi : Cert.quiescent_AttnCIdeal := fun m ρ _ => Cert.AttnCIdeal.Gen.frame m ρ

/-- also under the precondition. -/
theorem frame_pi_pre : Cert.quiescent_AttnCIdeal_pre_finite_c := fun m ρ _ => Cert.AttnCIdeal.Gen.frame m ρ

/-- The reference runs to its end and leaves its arguments as they were. -/
theorem frame_ri : Cert.quiescent_AttnCRefIdeal := fun m ρ _ =>
  (θ_run _ _ _).mono (fun r h => ⟨fun c => (h c).2, sem_eq_zero_of_no_sems (by decide) r.2⟩) (Cert.AttnCRefIdeal.Value.run m ρ)

/-- So it does under the precondition. -/
theorem frame_ri_pre : Cert.quiescent_AttnCRefIdeal_pre_finite_c := fun m ρ _ => frame_ri m ρ trivial

/-- The kernel and the reference end with equal results, where queries and keys are finite. -/
theorem algebraic : Cert.algebraic_AttnCIdeal_AttnCRefIdeal_pre_finite_c := by
  intro m ρ m' ρ' hpre hag
  refine ⟨_, kernel_run m ρ hpre, (θ_run _ _ _).mono (fun r h c => ⟨(h c).1.trans ?_, (h c).2⟩) (Cert.AttnCRefIdeal.Value.run m' ρ')⟩
  obtain ⟨e0, e1, e2, e3, e4⟩ := hag c
  rw [Cert.AttnCRefIdeal.Read.val_main_v27_eq, e0, e1, e2, e3, e4]
  exact AttnCRef.result_eq _ _ _ _ _ (finite_of_pre m hpre c)

end Cert.AttnCClaims
end
-- ==== Proof.AttnDBlock.lean ====
module

public import proofs.«01_k».proof.Proof.Unit
public import proofs.«01_k».proof.Proof.Gen.AttnDIdeal.Frame

/-! What one grid point of the kernel leaves in its block of the output, element by element. -/

@[expose] public section

set_option maxRecDepth 16384

noncomputable section

namespace Cert.AttnDBlock

open Idealize.ShloMosaic Cert.AttnDIdeal Cert.AttnDIdeal.Gen Cert.Softmax Cert.Unit

section
variable (x0 : Vec Ideal S1x1024x256 .bf16) (x1 : Vec Ideal S1x256x128 .bf16) (x2 : Vec Ideal S1x2048x128 .bf16)
  (x3 : Vec Ideal S1x256x128 .bf16) (x4 : Vec Ideal S1x2048x128 .bf16)

/-- Lane `d` of key `k`: the context's 256 keys, then the latent's. -/
def keyAt (k : Fin 2304) (d : Fin 128) : EReal :=
  if h : k.val < 256 then x1 (ix3 0 ⟨k.val, h⟩ d) else x2 (ix3 0 ⟨k.val - 256, by omega⟩ d)

/-- Lane `c` of value `k`: the context's 256 values, then the latent's. -/
def valAt (k : Fin 2304) (c : Fin 128) : EReal :=
  if h : k.val < 256 then x3 (ix3 0 ⟨k.val, h⟩ c) else x4 (ix3 0 ⟨k.val - 256, by omega⟩ c)

/-- The logit of query row `R` of the pair's head `g` against key `k`, counted in powers of two. -/
def logit (g : Fin 2) (R : Fin 1024) (k : Fin 2304) : EReal :=
  ∑ d : Fin 128, x0 (ix3 0 R ⟨g.val * 128 + d.val, by omega⟩) * keyAt x1 x2 k d

/-- The block's element: the values weighted by the softmax of the row's logits. -/
def cell (g : Fin 2) (R : Fin 1024) (c : Fin 128) : EReal :=
  ∑ k, (weight (fun k => (logit x0 x1 x2 g R k).toReal) k : EReal) * valAt x3 x4 k c

/-- Five pieces of the keys: the context's, then the latent's in fours. -/
theorem keyAt_piece0 (k : Fin 256) (d : Fin 128) : keyAt x1 x2 ⟨k.val, by omega⟩ d = x1 (ix3 0 k d) := by
  simp [keyAt]
theorem keyAt_piece1 (k : Fin 512) (d : Fin 128) :
    keyAt x1 x2 ⟨256 + k.val, by omega⟩ d = x2 (ix3 0 ⟨0 + k.val, by omega⟩ d) := by
  rw [keyAt, dif_neg (by dsimp only; omega)]; congr 2; ext; dsimp only; omega
theorem keyAt_piece2 (k : Fin 512) (d : Fin 128) :
    keyAt x1 x2 ⟨768 + k.val, by omega⟩ d = x2 (ix3 0 ⟨512 + k.val, by omega⟩ d) := by
  rw [keyAt, dif_neg (by dsimp only; omega)]; congr 2; ext; dsimp only; omega
theorem keyAt_piece3 (k : Fin 512) (d : Fin 128) :
    keyAt x1 x2 ⟨1280 + k.val, by omega⟩ d = x2 (ix3 0 ⟨1024 + k.val, by omega⟩ d) := by
  rw [keyAt, dif_neg (by dsimp only; omega)]; congr 2; ext; dsimp only; omega
theorem keyAt_piece4 (k : Fin 512) (d : Fin 128) :
    keyAt x1 x2 ⟨1792 + k.val, by omega⟩ d = x2 (ix3 0 ⟨1536 + k.val, by omega⟩ d) := by
  rw [keyAt, dif_neg (by dsimp only; omega)]; congr 2; ext; dsimp only; omega
/-- Five pieces of the values, cut as the keys are. -/
theorem valAt_piece0 (k : Fin 256) (c : Fin 128) : valAt x3 x4 ⟨k.val, by omega⟩ c = x3 (ix3 0 k c) := by
  simp [valAt]
theorem valAt_piece1 (k : Fin 512) (c : Fin 128) :
    valAt x3 x4 ⟨256 + k.val, by omega⟩ c = x4 (ix3 0 ⟨0 + k.val, by omega⟩ c) := by
  rw [valAt, dif_neg (by dsimp only; omega)]; congr 2; ext; dsimp only; omega
theorem valAt_piece2 (k : Fin 512) (c : Fin 128) :
    valAt x3 x4 ⟨768 + k.val, by omega⟩ c = x4 (ix3 0 ⟨512 + k.val, by omega⟩ c) := by
  rw [valAt, dif_neg (by dsimp only; omega)]; congr 2; ext; dsimp only; omega
theorem valAt_piece3 (k : Fin 512) (c : Fin 128) :
    valAt x3 x4 ⟨1280 + k.val, by omega⟩ c = x4 (ix3 0 ⟨1024 + k.val, by omega⟩ c) := by
  rw [valAt, dif_neg (by dsimp only; omega)]; congr 2; ext; dsimp only; omega
theorem valAt_piece4 (k : Fin 512) (c : Fin 128) :
    valAt x3 x4 ⟨1792 + k.val, by omega⟩ c = x4 (ix3 0 ⟨1536 + k.val, by omega⟩ c) := by
  rw [valAt, dif_neg (by dsimp only; omega)]; congr 2; ext; dsimp only; omega

/-- Unit 0, head 0 of the pair. -/
theorem unit00 (hs : ∀ g R k, IsReal (logit x0 x1 x2 g R k)) (r : Fin 256) (c : Fin 128) :
    unit (k0_pay95 x0 x1 x2 x3 x4) (k0_pay96 x0 x1 x2 x3 x4) (k0_pay97 x0 x1 x2 x3 x4) (k0_pay98 x0 x1 x2 x3 x4) (k0_pay27 (k0_pay85 x0 x1 x2 x3 x4) (k0_pay91 x0 x1 x2 x3 x4))
      (k0_pay86 x0 x1 x2 x3 x4) (k0_pay87 x0 x1 x2 x3 x4) (k0_pay88 x0 x1 x2 x3 x4) (k0_pay89 x0 x1 x2 x3 x4) (k0_pay90 x0 x1 x2 x3 x4) (ix2 ⟨0 + r.val, by omega⟩ c) =
      cell x0 x1 x2 x3 x4 0 ⟨0 + r.val, by omega⟩ c := by
  refine unit_row _ _ _ _ _ _ _ _ _ _ _ c (logit x0 x1 x2 0 ⟨0 + r.val, by omega⟩) (fun k => valAt x3 x4 k c) (hs _ _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    unfold_payloads
    pointwise

/-- Unit 0, head 1 of the pair. -/
theorem unit01 (hs : ∀ g R k, IsReal (logit x0 x1 x2 g R k)) (r : Fin 256) (c : Fin 128) :
    unit (k0_pay95 x0 x1 x2 x3 x4) (k0_pay96 x0 x1 x2 x3 x4) (k0_pay97 x0 x1 x2 x3 x4) (k0_pay98 x0 x1 x2 x3 x4) (k0_pay27 (k0_pay85 x0 x1 x2 x3 x4) (k0_pay91 x0 x1 x2 x3 x4))
      (k0_pay86 x0 x1 x2 x3 x4) (k0_pay87 x0 x1 x2 x3 x4) (k0_pay88 x0 x1 x2 x3 x4) (k0_pay89 x0 x1 x2 x3 x4) (k0_pay90 x0 x1 x2 x3 x4) (ix2 ⟨256 + r.val, by omega⟩ c) =
      cell x0 x1 x2 x3 x4 1 ⟨0 + r.val, by omega⟩ c := by
  refine unit_row _ _ _ _ _ _ _ _ _ _ _ c (logit x0 x1 x2 1 ⟨0 + r.val, by omega⟩) (fun k => valAt x3 x4 k c) (hs _ _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    unfold_payloads
    pointwise

/-- Unit 1, head 0 of the pair. -/
theorem unit10 (hs : ∀ g R k, IsReal (logit x0 x1 x2 g R k)) (r : Fin 256) (c : Fin 128) :
    unit (k0_pay99 x0 x1 x2 x3 x4) (k0_pay100 x0 x1 x2 x3 x4) (k0_pay101 x0 x1 x2 x3 x4) (k0_pay102 x0 x1 x2 x3 x4) (k0_pay103 x0 x1 x2 x3 x4)
      (k0_pay86 x0 x1 x2 x3 x4) (k0_pay87 x0 x1 x2 x3 x4) (k0_pay88 x0 x1 x2 x3 x4) (k0_pay89 x0 x1 x2 x3 x4) (k0_pay90 x0 x1 x2 x3 x4) (ix2 ⟨0 + r.val, by omega⟩ c) =
      cell x0 x1 x2 x3 x4 0 ⟨256 + r.val, by omega⟩ c := by
  refine unit_row _ _ _ _ _ _ _ _ _ _ _ c (logit x0 x1 x2 0 ⟨256 + r.val, by omega⟩) (fun k => valAt x3 x4 k c) (hs _ _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    unfold_payloads
    pointwise

/-- Unit 1, head 1 of the pair. -/
theorem unit11 (hs : ∀ g R k, IsReal (logit x0 x1 x2 g R k)) (r : Fin 256) (c : Fin 128) :
    unit (k0_pay99 x0 x1 x2 x3 x4) (k0_pay100 x0 x1 x2 x3 x4) (k0_pay101 x0 x1 x2 x3 x4) (k0_pay102 x0 x1 x2 x3 x4) (k0_pay103 x0 x1 x2 x3 x4)
      (k0_pay86 x0 x1 x2 x3 x4) (k0_pay87 x0 x1 x2 x3 x4) (k0_pay88 x0 x1 x2 x3 x4) (k0_pay89 x0 x1 x2 x3 x4) (k0_pay90 x0 x1 x2 x3 x4) (ix2 ⟨256 + r.val, by omega⟩ c) =
      cell x0 x1 x2 x3 x4 1 ⟨256 + r.val, by omega⟩ c := by
  refine unit_row _ _ _ _ _ _ _ _ _ _ _ c (logit x0 x1 x2 1 ⟨256 + r.val, by omega⟩) (fun k => valAt x3 x4 k c) (hs _ _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    unfold_payloads
    pointwise

/-- Unit 2, head 0 of the pair. -/
theorem unit20 (hs : ∀ g R k, IsReal (logit x0 x1 x2 g R k)) (r : Fin 256) (c : Fin 128) :
    unit (k0_pay104 x0 x1 x2 x3 x4) (k0_pay105 x0 x1 x2 x3 x4) (k0_pay106 x0 x1 x2 x3 x4) (k0_pay107 x0 x1 x2 x3 x4) (k0_pay108 x0 x1 x2 x3 x4)
      (k0_pay86 x0 x1 x2 x3 x4) (k0_pay87 x0 x1 x2 x3 x4) (k0_pay88 x0 x1 x2 x3 x4) (k0_pay89 x0 x1 x2 x3 x4) (k0_pay90 x0 x1 x2 x3 x4) (ix2 ⟨0 + r.val, by omega⟩ c) =
      cell x0 x1 x2 x3 x4 0 ⟨512 + r.val, by omega⟩ c := by
  refine unit_row _ _ _ _ _ _ _ _ _ _ _ c (logit x0 x1 x2 0 ⟨512 + r.val, by omega⟩) (fun k => valAt x3 x4 k c) (hs _ _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    unfold_payloads
    pointwise

/-- Unit 2, head 1 of the pair. -/
theorem unit21 (hs : ∀ g R k, IsReal (logit x0 x1 x2 g R k)) (r : Fin 256) (c : Fin 128) :
    unit (k0_pay104 x0 x1 x2 x3 x4) (k0_pay105 x0 x1 x2 x3 x4) (k0_pay106 x0 x1 x2 x3 x4) (k0_pay107 x0 x1 x2 x3 x4) (k0_pay108 x0 x1 x2 x3 x4)
      (k0_pay86 x0 x1 x2 x3 x4) (k0_pay87 x0 x1 x2 x3 x4) (k0_pay88 x0 x1 x2 x3 x4) (k0_pay89 x0 x1 x2 x3 x4) (k0_pay90 x0 x1 x2 x3 x4) (ix2 ⟨256 + r.val, by omega⟩ c) =
      cell x0 x1 x2 x3 x4 1 ⟨512 + r.val, by omega⟩ c := by
  refine unit_row _ _ _ _ _ _ _ _ _ _ _ c (logit x0 x1 x2 1 ⟨512 + r.val, by omega⟩) (fun k => valAt x3 x4 k c) (hs _ _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    unfold_payloads
    pointwise

/-- Unit 3, head 0 of the pair. -/
theorem unit30 (hs : ∀ g R k, IsReal (logit x0 x1 x2 g R k)) (r : Fin 256) (c : Fin 128) :
    unit (k0_pay109 x0 x1 x2 x3 x4) (k0_pay110 x0 x1 x2 x3 x4) (k0_pay111 x0 x1 x2 x3 x4) (k0_pay112 x0 x1 x2 x3 x4) (k0_pay113 x0 x1 x2 x3 x4)
      (k0_pay86 x0 x1 x2 x3 x4) (k0_pay87 x0 x1 x2 x3 x4) (k0_pay88 x0 x1 x2 x3 x4) (k0_pay89 x0 x1 x2 x3 x4) (k0_pay90 x0 x1 x2 x3 x4) (ix2 ⟨0 + r.val, by omega⟩ c) =
      cell x0 x1 x2 x3 x4 0 ⟨768 + r.val, by omega⟩ c := by
  refine unit_row _ _ _ _ _ _ _ _ _ _ _ c (logit x0 x1 x2 0 ⟨768 + r.val, by omega⟩) (fun k => valAt x3 x4 k c) (hs _ _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    unfold_payloads
    pointwise

/-- Unit 3, head 1 of the pair. -/
theorem unit31 (hs : ∀ g R k, IsReal (logit x0 x1 x2 g R k)) (r : Fin 256) (c : Fin 128) :
    unit (k0_pay109 x0 x1 x2 x3 x4) (k0_pay110 x0 x1 x2 x3 x4) (k0_pay111 x0 x1 x2 x3 x4) (k0_pay112 x0 x1 x2 x3 x4) (k0_pay113 x0 x1 x2 x3 x4)
      (k0_pay86 x0 x1 x2 x3 x4) (k0_pay87 x0 x1 x2 x3 x4) (k0_pay88 x0 x1 x2 x3 x4) (k0_pay89 x0 x1 x2 x3 x4) (k0_pay90 x0 x1 x2 x3 x4) (ix2 ⟨256 + r.val, by omega⟩ c) =
      cell x0 x1 x2 x3 x4 1 ⟨768 + r.val, by omega⟩ c := by
  refine unit_row _ _ _ _ _ _ _ _ _ _ _ c (logit x0 x1 x2 1 ⟨768 + r.val, by omega⟩) (fun k => valAt x3 x4 k c) (hs _ _)
    ?_ ?_ ?_ ?_ ?_ ?_ ?_ ?_ ?_ ?_ ?_ ?_ ?_ ?_ ?_ <;> intro k
  all_goals
    simp only [logit, keyAt_piece0, keyAt_piece1, keyAt_piece2, keyAt_piece3, keyAt_piece4,
      valAt_piece0, valAt_piece1, valAt_piece2, valAt_piece3, valAt_piece4, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    unfold_payloads
    pointwise

/-- The element of the output block as a function of its index. -/
def block (y : S1x1024x256.Idx) : EReal :=
  cell x0 x1 x2 x3 x4 ⟨(y 2).val / 128, by have h : (y 2).val < 256 := (y 2).isLt; omega⟩ (y 1)
    ⟨(y 2).val % 128, Nat.mod_lt _ (by omega)⟩

/-- A stored piece of a pair's first head holds the first half of the unit's rows, -/
theorem stored0 (P : FVec Ideal S512x128 .f32) (a : Fin 1) (r : Fin 256) (c : Fin 128) :
    k0_pay4 P (ix3 a r c) = P (ix2 ⟨0 + r.val, by omega⟩ c) := by
  unfold k0_pay4
  pointwise

/-- of its second head the second half. -/
theorem stored1 (P : FVec Ideal S512x128 .f32) (a : Fin 1) (r : Fin 256) (c : Fin 128) :
    k0_pay5 P (ix3 a r c) = P (ix2 ⟨256 + r.val, by omega⟩ c) := by
  unfold k0_pay5
  pointwise

theorem at31 (a : Fin 1) (r : Fin 256) (c : Fin 128) :
    block x0 x1 x2 x3 x4 (r0_12.emb (ix3 a r c)) = cell x0 x1 x2 x3 x4 1 ⟨768 + r.val, by omega⟩ c := by
  unfold block
  congr 1
  · ext; show (128 + 1 * c.val) / 128 = 1; omega
  · ext; show 768 + 1 * r.val = 768 + r.val; omega
  · ext; show (128 + 1 * c.val) % 128 = c.val; omega

theorem at30 (a : Fin 1) (r : Fin 256) (c : Fin 128) :
    block x0 x1 x2 x3 x4 (r0_11.emb (ix3 a r c)) = cell x0 x1 x2 x3 x4 0 ⟨768 + r.val, by omega⟩ c := by
  unfold block
  congr 1
  · ext; show (0 + 1 * c.val) / 128 = 0; omega
  · ext; show 768 + 1 * r.val = 768 + r.val; omega
  · ext; show (0 + 1 * c.val) % 128 = c.val; omega

theorem at21 (a : Fin 1) (r : Fin 256) (c : Fin 128) :
    block x0 x1 x2 x3 x4 (r0_10.emb (ix3 a r c)) = cell x0 x1 x2 x3 x4 1 ⟨512 + r.val, by omega⟩ c := by
  unfold block
  congr 1
  · ext; show (128 + 1 * c.val) / 128 = 1; omega
  · ext; show 512 + 1 * r.val = 512 + r.val; omega
  · ext; show (128 + 1 * c.val) % 128 = c.val; omega

theorem at20 (a : Fin 1) (r : Fin 256) (c : Fin 128) :
    block x0 x1 x2 x3 x4 (r0_9.emb (ix3 a r c)) = cell x0 x1 x2 x3 x4 0 ⟨512 + r.val, by omega⟩ c := by
  unfold block
  congr 1
  · ext; show (0 + 1 * c.val) / 128 = 0; omega
  · ext; show 512 + 1 * r.val = 512 + r.val; omega
  · ext; show (0 + 1 * c.val) % 128 = c.val; omega

theorem at11 (a : Fin 1) (r : Fin 256) (c : Fin 128) :
    block x0 x1 x2 x3 x4 (r0_8.emb (ix3 a r c)) = cell x0 x1 x2 x3 x4 1 ⟨256 + r.val, by omega⟩ c := by
  unfold block
  congr 1
  · ext; show (128 + 1 * c.val) / 128 = 1; omega
  · ext; show 256 + 1 * r.val = 256 + r.val; omega
  · ext; show (128 + 1 * c.val) % 128 = c.val; omega

theorem at10 (a : Fin 1) (r : Fin 256) (c : Fin 128) :
    block x0 x1 x2 x3 x4 (r0_7.emb (ix3 a r c)) = cell x0 x1 x2 x3 x4 0 ⟨256 + r.val, by omega⟩ c := by
  unfold block
  congr 1
  · ext; show (0 + 1 * c.val) / 128 = 0; omega
  · ext; show 256 + 1 * r.val = 256 + r.val; omega
  · ext; show (0 + 1 * c.val) % 128 = c.val; omega

theorem at01 (a : Fin 1) (r : Fin 256) (c : Fin 128) :
    block x0 x1 x2 x3 x4 (r0_6.emb (ix3 a r c)) = cell x0 x1 x2 x3 x4 1 ⟨0 + r.val, by omega⟩ c := by
  unfold block
  congr 1
  · ext; show (128 + 1 * c.val) / 128 = 1; omega
  · ext; show 0 + 1 * r.val = 0 + r.val; omega
  · ext; show (128 + 1 * c.val) % 128 = c.val; omega

theorem at00 (a : Fin 1) (r : Fin 256) (c : Fin 128) :
    block x0 x1 x2 x3 x4 (r0_5.emb (ix3 a r c)) = cell x0 x1 x2 x3 x4 0 ⟨0 + r.val, by omega⟩ c := by
  unfold block
  congr 1
  · ext; show (0 + 1 * c.val) / 128 = 0; omega
  · ext; show 0 + 1 * r.val = 0 + r.val; omega
  · ext; show (0 + 1 * c.val) % 128 = c.val; omega

/-- The block a grid point leaves: at each index the attended value, where the logits are finite. -/
theorem out_apply (hs : ∀ g R k, IsReal (logit x0 x1 x2 g R k)) (y : S1x1024x256.Idx) :
    out0_5 x0 x1 x2 x3 x4 y = block x0 x1 x2 x3 x4 y := by
  refine View.canon_apply_of_pieces (Val := Elt Ideal) (e := .bf16) (block x0 x1 x2 x3 x4) _ ?_ y (cover0_5 _ _ _ _ _ _ _ _ y)
  intro p hp
  simp only [List.mem_cons, List.not_mem_nil, or_false] at hp
  rcases hp with rfl | rfl | rfl | rfl | rfl | rfl | rfl | rfl <;> intro j <;> idx_vars j
  · refine Eq.trans ?_ (at31 x0 x1 x2 x3 x4 j0 j1 j2).symm
    exact (stored1 _ j0 j1 j2).trans (unit31 x0 x1 x2 x3 x4 hs j1 j2)
  · refine Eq.trans ?_ (at30 x0 x1 x2 x3 x4 j0 j1 j2).symm
    exact (stored0 _ j0 j1 j2).trans (unit30 x0 x1 x2 x3 x4 hs j1 j2)
  · refine Eq.trans ?_ (at21 x0 x1 x2 x3 x4 j0 j1 j2).symm
    exact (stored1 _ j0 j1 j2).trans (unit21 x0 x1 x2 x3 x4 hs j1 j2)
  · refine Eq.trans ?_ (at20 x0 x1 x2 x3 x4 j0 j1 j2).symm
    exact (stored0 _ j0 j1 j2).trans (unit20 x0 x1 x2 x3 x4 hs j1 j2)
  · refine Eq.trans ?_ (at11 x0 x1 x2 x3 x4 j0 j1 j2).symm
    exact (stored1 _ j0 j1 j2).trans (unit11 x0 x1 x2 x3 x4 hs j1 j2)
  · refine Eq.trans ?_ (at10 x0 x1 x2 x3 x4 j0 j1 j2).symm
    exact (stored0 _ j0 j1 j2).trans (unit10 x0 x1 x2 x3 x4 hs j1 j2)
  · refine Eq.trans ?_ (at01 x0 x1 x2 x3 x4 j0 j1 j2).symm
    exact (stored1 _ j0 j1 j2).trans (unit01 x0 x1 x2 x3 x4 hs j1 j2)
  · refine Eq.trans ?_ (at00 x0 x1 x2 x3 x4 j0 j1 j2).symm
    exact (stored0 _ j0 j1 j2).trans (unit00 x0 x1 x2 x3 x4 hs j1 j2)

end

end Cert.AttnDBlock
end
-- ==== Proof.AttnDArray.lean ====
module

public import proofs.«01_k».proof.Proof.AttnDBlock
public import proofs.«01_k».proof.Proof.Gen.AttnDIdeal.Value
public import Idealize.ShloMosaic.Lib.Pipeline.ValueKit

/-! The grouped-query kernel's whole output array as one function of its five argument arrays. -/

@[expose] public section

set_option maxRecDepth 16384

noncomputable section

namespace Cert.AttnDArray

open Idealize.ShloMosaic Idealize.ShloMosaic.TcCoe Idealize.SL.Sem
open Cert.AttnDIdeal Cert.AttnDIdeal.Gen Cert.AttnDBlock Cert.Softmax
open Idealize.ShloMosaic.Pipeline (Dat)

/-- One head's slab of the keys or the values: batch `b`, the 128 lanes of head `h`. -/
def slab {R : Nat} (a : (⟨3, ![8, R, 512]⟩ : Shape).Idx → EReal) (b : Fin 8) (h : Fin 4) :
    (⟨3, ![1, R, 128]⟩ : Shape).Idx → EReal :=
  fun i => a (ix3 b (i 1) ⟨128 * h.val + (i 2).val, by have h1 : (i 2).val < 128 := (i 2).isLt; omega⟩)

/-- One tile of the queries: batch `b`, 1024 rows from tile `t`, the 256 lanes of the two heads that share key head `h`. -/
def tile (a : S8x2048x1024.Idx → EReal) (b : Fin 8) (t : Fin 2) (h : Fin 4) : S1x1024x256.Idx → EReal :=
  fun i => a (ix3 b ⟨1024 * t.val + (i 1).val, by have h1 : (i 1).val < 1024 := (i 1).isLt; omega⟩
    ⟨256 * h.val + (i 2).val, by have h1 : (i 2).val < 256 := (i 2).isLt; omega⟩)

section
variable (a0 : Vec Ideal S8x2048x1024 .bf16) (a1 : Vec Ideal S8x256x512 .bf16) (a2 : Vec Ideal S8x2048x512 .bf16)
  (a3 : Vec Ideal S8x256x512 .bf16) (a4 : Vec Ideal S8x2048x512 .bf16)

/-- The logit of batch `b`, key head `h`, the `g`-th query head of its pair, query row `R`, against key `k`. -/
def logitAt (b : Fin 8) (h : Fin 4) (g : Fin 2) (R : Fin 2048) (k : Fin 2304) : EReal :=
  logit (tile a0 b ⟨R.val / 1024, by omega⟩ h) (slab a1 b h) (slab a2 b h) g ⟨R.val % 1024, by omega⟩ k

/-- The attended value of batch `b`, key head `h`, the `g`-th query head of its pair, query row `R`, lane `c`. -/
def attended (b : Fin 8) (h : Fin 4) (g : Fin 2) (R : Fin 2048) (c : Fin 128) : EReal :=
  ∑ k, (weight (fun k => (logitAt a0 a1 a2 b h g R k).toReal) k : EReal) * valAt (slab a3 b h) (slab a4 b h) k c

/-- The output array: at batch, row and lane the attended value of the lane's head. -/
def result (y : S8x2048x1024.Idx) : EReal :=
  attended a0 a1 a2 a3 a4 (y 0) ⟨(y 2).val / 256, by have : (y 2).val < 1024 := (y 2).isLt; omega⟩
    ⟨(y 2).val / 128 % 2, by omega⟩ (y 1) ⟨(y 2).val % 128, Nat.mod_lt _ (by omega)⟩
end

variable (m : (ℓ : Loc nD τ sig) → Buf (Elt Ideal) ℓ)

theorem point0 : ∀ t : Fin grid0.N, win0_0.index t = ![(grid0.coords t 0).val, (grid0.coords t 2).val, (grid0.coords t 1).val] := by decide +kernel
theorem point5 : ∀ t : Fin grid0.N, win0_5.index t = ![(grid0.coords t 0).val, (grid0.coords t 2).val, (grid0.coords t 1).val] := by decide +kernel
theorem point1 : ∀ t : Fin grid0.N, win0_1.index t = ![(grid0.coords t 0).val, 0, (grid0.coords t 1).val] := by decide +kernel
theorem point2 : ∀ t : Fin grid0.N, win0_2.index t = ![(grid0.coords t 0).val, 0, (grid0.coords t 1).val] := by decide +kernel
theorem point3 : ∀ t : Fin grid0.N, win0_3.index t = ![(grid0.coords t 0).val, 0, (grid0.coords t 1).val] := by decide +kernel
theorem point4 : ∀ t : Fin grid0.N, win0_4.index t = ![(grid0.coords t 0).val, 0, (grid0.coords t 1).val] := by decide +kernel

/-- Window 0's block at a point, of argument 0. -/
theorem iblk0 (c : Dev nD) (t : Fin grid0.N) : iblk m c 0 t =
    tile (m ((c : Thread nD τ).loc main_arg0)) (grid0.coords t 0) (grid0.coords t 2) (grid0.coords t 1) := by
  funext j
  unfold tile
  blk_simp [iblk]
  refine (congrFun (V_main_arg0 m c) _).trans (congrArg _ ?_)
  have h0 : (j 0).val < 1 := (j 0).isLt
  funext a
  fin_cases a <;> apply Fin.ext <;> blk_simp [point0] <;> dsimp <;> omega

/-- Window 1's block at a point, of argument 1. -/
theorem iblk1 (c : Dev nD) (t : Fin grid0.N) : iblk m c 1 t =
    slab (m ((c : Thread nD τ).loc main_arg1)) (grid0.coords t 0) (grid0.coords t 1) := by
  funext j
  unfold slab
  blk_simp [iblk]
  refine (congrFun (V_main_arg1 m c) _).trans (congrArg _ ?_)
  have h0 : (j 0).val < 1 := (j 0).isLt
  funext a
  fin_cases a <;> apply Fin.ext <;> blk_simp [point1] <;> dsimp <;> omega

/-- Window 2's block at a point, of argument 2. -/
theorem iblk2 (c : Dev nD) (t : Fin grid0.N) : iblk m c 2 t =
    slab (m ((c : Thread nD τ).loc main_arg2)) (grid0.coords t 0) (grid0.coords t 1) := by
  funext j
  unfold slab
  blk_simp [iblk]
  refine (congrFun (V_main_arg2 m c) _).trans (congrArg _ ?_)
  have h0 : (j 0).val < 1 := (j 0).isLt
  funext a
  fin_cases a <;> apply Fin.ext <;> blk_simp [point2] <;> dsimp <;> omega

/-- Window 3's block at a point, of argument 3. -/
theorem iblk3 (c : Dev nD) (t : Fin grid0.N) : iblk m c 3 t =
    slab (m ((c : Thread nD τ).loc main_arg3)) (grid0.coords t 0) (grid0.coords t 1) := by
  funext j
  unfold slab
  blk_simp [iblk]
  refine (congrFun (V_main_arg3 m c) _).trans (congrArg _ ?_)
  have h0 : (j 0).val < 1 := (j 0).isLt
  funext a
  fin_cases a <;> apply Fin.ext <;> blk_simp [point3] <;> dsimp <;> omega

/-- Window 4's block at a point, of argument 4. -/
theorem iblk4 (c : Dev nD) (t : Fin grid0.N) : iblk m c 4 t =
    slab (m ((c : Thread nD τ).loc main_arg4)) (grid0.coords t 0) (grid0.coords t 1) := by
  funext j
  unfold slab
  blk_simp [iblk]
  refine (congrFun (V_main_arg4 m c) _).trans (congrArg _ ?_)
  have h0 : (j 0).val < 1 := (j 0).isLt
  funext a
  fin_cases a <;> apply Fin.ext <;> blk_simp [point4] <;> dsimp <;> omega

/-- The logits the precondition makes finite. -/
def FiniteLogits (c : Dev nD) : Prop := ∀ b h g R k, IsReal (logitAt (m ((c : Thread nD τ).loc main_arg0))
  (m ((c : Thread nD τ).loc main_arg1)) (m ((c : Thread nD τ).loc main_arg2)) b h g R k)

/-- Real queries and keys have real logits. -/
theorem finiteLogits_of (a0 : Vec Ideal S8x2048x1024 .bf16) (a1 : Vec Ideal S8x256x512 .bf16)
    (a2 : Vec Ideal S8x2048x512 .bf16) (h0 : ∀ i, IsReal (a0 i)) (h1 : ∀ i, IsReal (a1 i)) (h2 : ∀ i, IsReal (a2 i))
    (b : Fin 8) (h : Fin 4) (g : Fin 2) (R : Fin 2048) (k : Fin 2304) : IsReal (logitAt a0 a1 a2 b h g R k) := by
  unfold logitAt logit keyAt slab tile
  refine isReal_sum fun d => isReal_mul (h0 _) ?_
  split
  · exact h1 _
  · exact h2 _

/-- A row of a tile has the logits of the row of the array it is. -/
theorem logit_tile (a0 : Vec Ideal S8x2048x1024 .bf16) (a1 : Vec Ideal S8x256x512 .bf16)
    (a2 : Vec Ideal S8x2048x512 .bf16) (b : Fin 8) (h : Fin 4) (t g : Fin 2) (R : Fin 1024) (k : Fin 2304) :
    logit (tile a0 b t h) (slab a1 b h) (slab a2 b h) g R k =
      logitAt a0 a1 a2 b h g ⟨1024 * t.val + R.val, by omega⟩ k := by
  unfold logitAt
  congr 2
  · apply Fin.ext; dsimp only; omega
  · apply Fin.ext; dsimp only; omega

/-- A block computed from one tile and its slabs holds the tile's part of the attended values. -/
theorem out_tile (a0 : Vec Ideal S8x2048x1024 .bf16) (a1 : Vec Ideal S8x256x512 .bf16)
    (a2 : Vec Ideal S8x2048x512 .bf16) (a3 : Vec Ideal S8x256x512 .bf16) (a4 : Vec Ideal S8x2048x512 .bf16)
    (hs : ∀ b h g R k, IsReal (logitAt a0 a1 a2 b h g R k)) (b : Fin 8) (h : Fin 4) (t : Fin 2) (y : S1x1024x256.Idx) :
    out0_5 (F := Ideal) (tile a0 b t h) (slab a1 b h) (slab a2 b h) (slab a3 b h) (slab a4 b h) y =
      attended a0 a1 a2 a3 a4 b h ⟨(y 2).val / 128, by have h : (y 2).val < 256 := (y 2).isLt; omega⟩
        ⟨1024 * t.val + (y 1).val, by have h : (y 1).val < 1024 := (y 1).isLt; omega⟩
        ⟨(y 2).val % 128, Nat.mod_lt _ (by omega)⟩ := by
  refine (out_apply _ _ _ _ _ (fun g R k => by rw [logit_tile]; exact hs _ _ _ _ _) y).trans ?_
  unfold block cell attended
  refine Finset.sum_congr rfl fun k _ => ?_
  congr 3
  funext k
  congr 1
  exact logit_tile _ _ _ _ _ _ _ _ _

/-- Where the logits are finite, the kernel's output array is `result` of its arguments. -/
theorem final (c : Dev nD) (hs : FiniteLogits m c) :
    (dats m 0 c).arrAt 5 cfg0.N = result (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, iblk0, iblk1, iblk2, iblk3, iblk4]
  refine (out_tile _ _ _ _ _ hs _ _ _ y).trans ?_
  have h0 : (y 0).val < 1 := (y 0).isLt
  have h1 : (y 1).val < 1024 := (y 1).isLt
  have h2 : (y 2).val < 256 := (y 2).isLt
  show attended _ _ _ _ _ _ _ _ _ _ = attended _ _ _ _ _ _ _ _ _ _
  congr 1 <;> apply Fin.ext <;> blk_simp [point5] <;> dsimp <;> omega

end Cert.AttnDArray
end
-- ==== Proof.AttnDRef.lean ====
module

public import proofs.«01_k».proof.Proof.AttnDArray
public import proofs.«01_k».proof.Proof.Gen.AttnDRefIdeal.Run
public import proofs.«01_k».proof.Proof.Gen.AttnDRefIdeal.Read
public import Idealize.ShloMosaic.Lib.Pointwise

@[expose] public section

set_option maxRecDepth 16384

noncomputable section

namespace Cert.AttnDRef

open Idealize.ShloMosaic
open Cert.AttnDRefIdeal Cert.AttnDRefIdeal.Gen Cert.AttnDRefIdeal.Read Cert.AttnDArray Cert.Softmax Cert.AttnDBlock

variable (a0 : Vec Ideal S8x2048x1024 .bf16) (a1 : Vec Ideal S8x256x512 .bf16) (a2 : Vec Ideal S8x2048x512 .bf16)
  (a3 : Vec Ideal S8x256x512 .bf16) (a4 : Vec Ideal S8x2048x512 .bf16)

theorem q2 (b h : Fin 8) (R : Fin 2048) (d : Fin 128) :
    val_main_v2 (F := Ideal) a0 (ix4 b R h d) = a0 (ix3 b R ⟨h.val * 128 + d.val, by omega⟩) := by
  unfold val_main_v2
  pointwise

theorem q6 (b : Fin 8) (h : Fin 4) (g : Fin 2) (R : Fin 2048) (d : Fin 128) :
    val_main_v6 (F := Ideal) a0 (ix5 b R h g d) = val_main_v2 (F := Ideal) a0 (ix4 b R ⟨h.val * 2 + g.val, by omega⟩ d) := by
  unfold val_main_v6
  generalize val_main_v2 (F := Ideal) a0 = y0
  pointwise

theorem k3 (b : Fin 8) (h : Fin 4) (k : Fin 2304) (d : Fin 128) :
    val_main_v3 (F := Ideal) a1 a2 (ix4 b k h d) = val_main_v0 (F := Ideal) a1 a2 (ix3 b k ⟨h.val * 128 + d.val, by omega⟩) := by
  unfold val_main_v3
  generalize val_main_v0 (F := Ideal) a1 a2 = y0
  pointwise

theorem k0 (b : Fin 8) (k : Fin 2304) (d : Fin 512) :
    val_main_v0 (F := Ideal) a1 a2 (ix3 b k d) = if h : k.val < 256 then a1 (ix3 b ⟨k.val, h⟩ d) else a2 (ix3 b ⟨k.val - 256, by omega⟩ d) := by
  unfold val_main_v0
  pointwise

theorem v4 (b : Fin 8) (h : Fin 4) (k : Fin 2304) (d : Fin 128) :
    val_main_v4 (F := Ideal) a3 a4 (ix4 b k h d) = val_main_v1 (F := Ideal) a3 a4 (ix3 b k ⟨h.val * 128 + d.val, by omega⟩) := by
  unfold val_main_v4
  generalize val_main_v1 (F := Ideal) a3 a4 = y0
  pointwise

theorem v1 (b : Fin 8) (k : Fin 2304) (d : Fin 512) :
    val_main_v1 (F := Ideal) a3 a4 (ix3 b k d) = if h : k.val < 256 then a3 (ix3 b ⟨k.val, h⟩ d) else a4 (ix3 b ⟨k.val - 256, by omega⟩ d) := by
  unfold val_main_v1
  pointwise

theorem s7 (b : Fin 8) (h : Fin 4) (g : Fin 2) (R : Fin 2048) (k : Fin 2304) :
    val_main_v7 (F := Ideal) a0 a1 a2 (ix5 b h k R g) = ∑ d : Fin 128, val_main_v3 (F := Ideal) a1 a2 (ix4 b k h d) * val_main_v6 (F := Ideal) a0 (ix5 b R h g d) := by
  unfold val_main_v7
  generalize val_main_v3 (F := Ideal) a1 a2 = y0
  generalize val_main_v6 (F := Ideal) a0 = y1
  pointwise

theorem s8 (b : Fin 8) (h : Fin 4) (g : Fin 2) (R : Fin 2048) (k : Fin 2304) :
    val_main_v8 (F := Ideal) a0 a1 a2 (ix5 b h g R k) = val_main_v7 (F := Ideal) a0 a1 a2 (ix5 b h k R g) := by
  unfold val_main_v8
  generalize val_main_v7 (F := Ideal) a0 a1 a2 = y0
  pointwise

theorem s10 (b : Fin 8) (h : Fin 4) (g : Fin 2) (R : Fin 2048) (k : Fin 2304) :
    val_main_v10 (F := Ideal) a0 a1 a2 (ix5 b h g R k) = val_main_v8 (F := Ideal) a0 a1 a2 (ix5 b h g R k) * val_main_v9 (F := Ideal)  (ix5 b h g R k) := by
  rw [val_main_v10_apply]
  rfl

theorem s9 (b : Fin 8) (h : Fin 4) (g : Fin 2) (R : Fin 2048) (k : Fin 2304) :
    val_main_v9 (F := Ideal)  (ix5 b h g R k) = Ideal.log (Ideal.ofBits .f32 0x40000000#32) := by
  unfold val_main_v9 val_main_v5 val_main_cst
  pointwise

theorem m11 (b : Fin 8) (h : Fin 4) (g : Fin 2) (R : Fin 2048) :
    val_main_v11 (F := Ideal) a0 a1 a2 (ix4 b h g R) = Finset.univ.fold max (Ideal.ofBits .f32 0xFF800000#32) fun k : Fin 2304 => val_main_v10 (F := Ideal) a0 a1 a2 (ix5 b h g R k) := by
  unfold val_main_v11 val_main_cst_0
  generalize val_main_v10 (F := Ideal) a0 a1 a2 = y0
  pointwise

theorem m13 (b : Fin 8) (h : Fin 4) (g : Fin 2) (R : Fin 2048) :
    val_main_v13 (F := Ideal) a0 a1 a2 (ix4 b h g R) = max (Ideal.ofBits .f32 0xFF800000#32) (val_main_v11 (F := Ideal) a0 a1 a2 (ix4 b h g R)) := by
  rw [val_main_v13_apply, val_main_v12_apply]
  rfl

theorem m14 (b : Fin 8) (h : Fin 4) (g : Fin 2) (R : Fin 2048) :
    val_main_v14 (F := Ideal) a0 a1 a2 (ix5 b h g R 0) = val_main_v13 (F := Ideal) a0 a1 a2 (ix4 b h g R) := by
  unfold val_main_v14
  generalize val_main_v13 (F := Ideal) a0 a1 a2 = y0
  pointwise

theorem m15 (b : Fin 8) (h : Fin 4) (g : Fin 2) (R : Fin 2048) (k : Fin 2304) :
    val_main_v15 (F := Ideal) a0 a1 a2 (ix5 b h g R k) = val_main_v14 (F := Ideal) a0 a1 a2 (ix5 b h g R 0) := by
  unfold val_main_v15
  generalize val_main_v14 (F := Ideal) a0 a1 a2 = y0
  pointwise

theorem e17 (b : Fin 8) (h : Fin 4) (g : Fin 2) (R : Fin 2048) (k : Fin 2304) :
    val_main_v17 (F := Ideal) a0 a1 a2 (ix5 b h g R k) = Ideal.exp (val_main_v10 (F := Ideal) a0 a1 a2 (ix5 b h g R k) - val_main_v15 (F := Ideal) a0 a1 a2 (ix5 b h g R k)) := by
  rw [val_main_v17_apply, val_main_v16_apply]
  rfl

theorem d18 (b : Fin 8) (h : Fin 4) (g : Fin 2) (R : Fin 2048) :
    val_main_v18 (F := Ideal) a0 a1 a2 (ix4 b h g R) = ∑ k : Fin 2304, val_main_v17 (F := Ideal) a0 a1 a2 (ix5 b h g R k) := by
  unfold val_main_v18 val_main_cst_2
  generalize val_main_v17 (F := Ideal) a0 a1 a2 = y0
  pointwise

theorem d19 (b : Fin 8) (h : Fin 4) (g : Fin 2) (R : Fin 2048) :
    val_main_v19 (F := Ideal) a0 a1 a2 (ix5 b h g R 0) = val_main_v18 (F := Ideal) a0 a1 a2 (ix4 b h g R) := by
  unfold val_main_v19
  generalize val_main_v18 (F := Ideal) a0 a1 a2 = y0
  pointwise

theorem d20 (b : Fin 8) (h : Fin 4) (g : Fin 2) (R : Fin 2048) (k : Fin 2304) :
    val_main_v20 (F := Ideal) a0 a1 a2 (ix5 b h g R k) = val_main_v19 (F := Ideal) a0 a1 a2 (ix5 b h g R 0) := by
  unfold val_main_v20
  generalize val_main_v19 (F := Ideal) a0 a1 a2 = y0
  pointwise

theorem p22 (b : Fin 8) (h : Fin 4) (g : Fin 2) (R : Fin 2048) (k : Fin 2304) :
    val_main_v22 (F := Ideal) a0 a1 a2 (ix5 b h g R k) = Ideal.div (val_main_v17 (F := Ideal) a0 a1 a2 (ix5 b h g R k)) (val_main_v20 (F := Ideal) a0 a1 a2 (ix5 b h g R k)) := by
  unfold val_main_v22 val_main_v21
  generalize val_main_v17 (F := Ideal) a0 a1 a2 = y0
  generalize val_main_v20 (F := Ideal) a0 a1 a2 = y1
  pointwise

theorem o23 (b : Fin 8) (h : Fin 4) (g : Fin 2) (R : Fin 2048) (c : Fin 128) :
    val_main_v23 (F := Ideal) a0 a1 a2 a3 a4 (ix5 b h c g R) = ∑ k : Fin 2304, val_main_v4 (F := Ideal) a3 a4 (ix4 b k h c) * val_main_v22 (F := Ideal) a0 a1 a2 (ix5 b h g R k) := by
  unfold val_main_v23
  generalize val_main_v4 (F := Ideal) a3 a4 = y0
  generalize val_main_v22 (F := Ideal) a0 a1 a2 = y1
  pointwise

theorem o24 (b : Fin 8) (h : Fin 4) (g : Fin 2) (R : Fin 2048) (c : Fin 128) :
    val_main_v24 (F := Ideal) a0 a1 a2 a3 a4 (ix5 b R h g c) = val_main_v23 (F := Ideal) a0 a1 a2 a3 a4 (ix5 b h c g R) := by
  unfold val_main_v24
  generalize val_main_v23 (F := Ideal) a0 a1 a2 a3 a4 = y0
  pointwise

theorem o25 (b : Fin 8) (h : Fin 4) (g : Fin 2) (R : Fin 2048) (c : Fin 128) :
    val_main_v25 (F := Ideal) a0 a1 a2 a3 a4 (ix5 b R h g c) = val_main_v24 (F := Ideal) a0 a1 a2 a3 a4 (ix5 b R h g c) := by
  unfold val_main_v25
  generalize val_main_v24 (F := Ideal) a0 a1 a2 a3 a4 = y0
  pointwise

theorem o26 (b h : Fin 8) (R : Fin 2048) (c : Fin 128) :
    val_main_v26 (F := Ideal) a0 a1 a2 a3 a4 (ix4 b R h c) = val_main_v25 (F := Ideal) a0 a1 a2 a3 a4 (ix5 b R ⟨h.val / 2, by omega⟩ ⟨h.val % 2, by omega⟩ c) := by
  unfold val_main_v26
  generalize val_main_v25 (F := Ideal) a0 a1 a2 a3 a4 = y0
  pointwise

theorem o27 (b : Fin 8) (R : Fin 2048) (l : Fin 1024) :
    val_main_v27 (F := Ideal) a0 a1 a2 a3 a4 (ix3 b R l) = val_main_v26 (F := Ideal) a0 a1 a2 a3 a4 (ix4 b R ⟨l.val / 128, by omega⟩ ⟨l.val % 128, by omega⟩) := by
  unfold val_main_v27
  generalize val_main_v26 (F := Ideal) a0 a1 a2 a3 a4 = y0
  pointwise

/-- The reference's logit: the kernel's, times the logarithm of two. -/
theorem logits (b : Fin 8) (h : Fin 4) (g : Fin 2) (R : Fin 2048) (k : Fin 2304) :
    val_main_v10 (F := Ideal) a0 a1 a2 (ix5 b h g R k) = logitAt a0 a1 a2 b h g R k * (Real.log 2 : ℝ) := by
  rw [s10, s9, log_two, s8, s7]
  congr 1
  unfold logitAt logit
  refine Finset.sum_congr rfl fun d _ => ?_
  rw [q6, q2, k3, k0, mul_comm]
  unfold keyAt slab tile
  have e : h.val * 128 + d.val = 128 * h.val + d.val := by omega
  have e1 : (h.val * 2 + g.val) * 128 + d.val = 256 * h.val + (g.val * 128 + d.val) := by omega
  have e2 : R.val = 1024 * (R.val / 1024) + R.val % 1024 := by omega
  simp only [e, e1]
  congr 2
  exact congrArg (fun r => ix3 b r _) (Fin.ext e2)

/-- The reference's value of key `k`, head `h`. -/
theorem value (b : Fin 8) (h : Fin 4) (k : Fin 2304) (c : Fin 128) :
    val_main_v4 (F := Ideal) a3 a4 (ix4 b k h c) = valAt (slab a3 b h) (slab a4 b h) k c := by
  rw [v4, v1]
  unfold valAt slab
  have e : h.val * 128 + c.val = 128 * h.val + c.val := by omega
  simp only [e]
  rfl

/-- Where the logits are finite, the reference's probabilities are the softmax weights. -/
theorem weights (hs : ∀ b h g R k, IsReal (logitAt a0 a1 a2 b h g R k)) (b : Fin 8) (h : Fin 4) (g : Fin 2)
    (R : Fin 2048) (k : Fin 2304) : val_main_v22 (F := Ideal) a0 a1 a2 (ix5 b h g R k) =
      (weight (fun k => (logitAt a0 a1 a2 b h g R k).toReal) k : EReal) := by
  have hr : ∀ k, logitAt a0 a1 a2 b h g R k = ((logitAt a0 a1 a2 b h g R k).toReal : EReal) := fun k => by
    obtain ⟨r, hr⟩ := hs b h g R k
    rw [hr, EReal.toReal_coe]
  have hm : IsReal (val_main_v13 (F := Ideal) a0 a1 a2 (ix4 b h g R)) := by
    rw [m13, m11, ofBits_neg_inf, max_eq_right bot_le]
    refine isReal_foldMax (by omega) fun k => ?_
    rw [logits, hr]
    exact ⟨_, (EReal.coe_mul _ _).symm⟩
  obtain ⟨mx, hmx⟩ := hm
  have he : ∀ k, val_main_v17 (F := Ideal) a0 a1 a2 (ix5 b h g R k) =
      Ideal.exp (((logitAt a0 a1 a2 b h g R k).toReal : EReal) * (Real.log 2 : ℝ) - (mx : EReal)) := fun k => by
    rw [e17, m15, m14, hmx, logits, hr, EReal.toReal_coe]
  rw [p22, d20, d19, d18, he, Finset.sum_congr rfl fun k _ => he k]
  exact div_exp (by omega) _ mx k

/-- Where the logits are finite, the reference's result is `result` of its arguments. -/
theorem result_eq (hs : ∀ b h g R k, IsReal (logitAt a0 a1 a2 b h g R k)) :
    val_main_v27 (F := Ideal) a0 a1 a2 a3 a4 = result a0 a1 a2 a3 a4 := by
  funext y
  idx_vars y
  rw [o27, o26, o25, o24, o23]
  unfold result attended
  refine Finset.sum_congr rfl fun k _ => ?_
  rw [value, weights _ _ _ hs, mul_comm]
  have e : (⟨y2.val / 128 / 2, by omega⟩ : Fin 4) = ⟨y2.val / 256, by omega⟩ := Fin.ext (by dsimp only; omega)
  rw [e]
  rfl

end Cert.AttnDRef
end
-- ==== Proof.AttnDClaims.lean ====
module

public import proofs.«01_k».proof.Defs
public import proofs.«01_k».proof.Proof.AttnDRef
public import proofs.«01_k».proof.Proof.Gen.AttnD.Frame

/-! The five claims about the call `AttnD`. -/

@[expose] public section

set_option maxRecDepth 16384

noncomputable section

namespace Cert.AttnDClaims

open Idealize.ShloMosaic Idealize.ShloMosaic.TcCoe Idealize.SL.Sem
open Cert.Softmax Cert.AttnDArray

/-- The precondition's broadcasts are as they should be. -/
instance preFacts : Cert.Pre_finite_d.Facts where
  bcast_S_S8x2048x1024 := by decide
  bcast_S_S8x256x512 := by decide
  bcast_S_S8x2048x512 := by decide

/-- A comparison with infinity that holds makes the element real. -/
theorem isReal_of_olt (v : EReal)
    (h : Ideal.cmp .olt (max v (-v)) (Ideal.ofBits .bf16 0x7F80#16) = 1#1) : IsReal v := by
  rw [ofBits_inf_bf16] at h
  refine isReal_of_abs_lt ?_
  by_contra hn
  simp [Ideal.cmp, hn] at h

section
open Cert.AttnDIdeal Cert.AttnDIdeal.Gen
variable (m : (ℓ : Loc nD τ sig) → Buf (Elt Ideal) ℓ)

/-- Finite queries and keys have finite logits. -/
theorem finite_of_pre (h : Cert.Pre_AttnDIdeal_finite_d m) (c : Dev nD) : FiniteLogits m c := by
  obtain ⟨h0, h1, h2⟩ := h c
  refine finiteLogits_of _ _ _ ?_ ?_ ?_
  · exact fun i => isReal_of_olt _ (congrFun h0 i)
  · exact fun i => isReal_of_olt _ (congrFun h1 i)
  · exact fun i => isReal_of_olt _ (congrFun h2 i)

/-- The kernel runs, ends with `result` of its arguments in the output, and leaves the arguments alone. -/
theorem kernel_run (ρ : Dev nD → PrngReg) (h : Cert.Pre_AttnDIdeal_finite_d m) :
    θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun _ hr c => ⟨(hr c).1.trans (final m c (finite_of_pre m h c)), (hr c).2⟩)
    (Cert.AttnDIdeal.Value.run_blocks m ρ)
end

/-- The kernel as written runs to its end and leaves its arguments as they were. -/
theorem frame_p : Cert.quiescent_AttnD := fun m ρ _ => Cert.AttnD.Gen.frame m ρ

/-- So does the kernel read at the extended reals, -/
theorem frame_pi : Cert.quiescent_AttnDIdeal := fun m ρ _ => Cert.AttnDIdeal.Gen.frame m ρ

/-- also under the precondition. -/
theorem frame_pi_pre : Cert.quiescent_AttnDIdeal_pre_finite_d := fun m ρ _ => Cert.AttnDIdeal.Gen.frame m ρ

/-- The reference runs to its end and leaves its arguments as they were. -/
theorem frame_ri : Cert.quiescent_AttnDRefIdeal := fun m ρ _ =>
  (θ_run _ _ _).mono (fun r h => ⟨fun c => (h c).2, sem_eq_zero_of_no_sems (by decide) r.2⟩) (Cert.AttnDRefIdeal.Value.run m ρ)

/-- So it does under the precondition. -/
theorem frame_ri_pre : Cert.quiescent_AttnDRefIdeal_pre_finite_d := fun m ρ _ => frame_ri m ρ trivial

/-- The kernel and the reference end with equal results, where queries and keys are finite. -/
theorem algebraic : Cert.algebraic_AttnDIdeal_AttnDRefIdeal_pre_finite_d := by
  intro m ρ m' ρ' hpre hag
  refine ⟨_, kernel_run m ρ hpre, (θ_run _ _ _).mono (fun r h c => ⟨(h c).1.trans ?_, (h c).2⟩) (Cert.AttnDRefIdeal.Value.run m' ρ')⟩
  obtain ⟨e0, e1, e2, e3, e4⟩ := hag c
  rw [Cert.AttnDRefIdeal.Read.val_main_v27_eq, e0, e1, e2, e3, e4]
  exact AttnDRef.result_eq _ _ _ _ _ (finite_of_pre m hpre c)

end Cert.AttnDClaims
end
-- ==== Proof.TailMath.lean ====
module

public import Idealize.ShloMosaic.Lib.Pointwise

/-! The block tail's arithmetic, row by row, over the extended reals. -/

@[expose] public section

noncomputable section

namespace Cert.TailMath

open Idealize.ShloMosaic

section
variable (md : Fin 6 → Fin 1024 → EReal) (g : Fin 1024 → EReal) (wo : Fin 1024 → Fin 1024 → EReal)
  (wu : Fin 1024 → Fin 5632 → EReal) (cw : Fin 3 → Fin 5632 → EReal) (cb : Fin 5632 → EReal)
  (wd : Fin 2816 → Fin 1024 → EReal)

/-- A row after the attention: the residual, and the gated projection of the attention's row `o`. -/
def mix (x o : Fin 1024 → EReal) (k : Fin 1024) : EReal := x k + md 2 k * ∑ d, o d * wo d k

/-- The modulated root-mean-square norm of a row. -/
def normed (r : Fin 1024 → EReal) (k : Fin 1024) : EReal :=
  r k * Ideal.rsqrt (Ideal.div (∑ j, r j * r j) (Ideal.ofBits FTy.f32 0x44800000#32) + Ideal.ofBits FTy.f32 0x358637BD#32)
    * g k * (1 + md 4 k) + md 3 k

/-- The root-mean-square norm of a row, with gain `g`. -/
def rms (r : Fin 1024 → EReal) (k : Fin 1024) : EReal :=
  r k * Ideal.rsqrt (Ideal.div (∑ j, r j * r j) (Ideal.ofBits FTy.f32 0x44800000#32) + Ideal.ofBits FTy.f32 0x358637BD#32) * g k

/-- What a row sends into the feed-forward part. -/
def hid (x o : Fin 1024 → EReal) : Fin 1024 → EReal := normed md g (mix md wo x o)

/-- Column `col` of the row's product with the wide weight. -/
def up (h : Fin 1024 → EReal) (col : Fin 5632) : EReal := ∑ k, h k * wu k col

/-- The convolution over three neighbouring rows. -/
def conv (hp hc hn : Fin 1024 → EReal) (col : Fin 5632) : EReal :=
  cb col + up wu hp col * cw 0 col + up wu hc col * cw 1 col + up wu hn col * cw 2 col

/-- The gate: `a` times its logistic, times `b`. -/
def gated (a b : EReal) : EReal := Ideal.div a (1 + Ideal.exp (-a)) * b

/-- Entry `j` of the row's activation. -/
def act (hp hc hn : Fin 1024 → EReal) (j : Fin 2816) : EReal :=
  gated (conv wu cw cb hp hc hn ⟨j.val, by omega⟩) (conv wu cw cb hp hc hn ⟨2816 + j.val, by omega⟩)

/-- The row that leaves the block. -/
def leave (r hp hc hn : Fin 1024 → EReal) (n : Fin 1024) : EReal :=
  r n + md 5 n * ∑ j, act wu cw cb hp hc hn j * wd j n

variable {N : ℕ} (X O : Fin N → Fin 1024 → EReal)

/-- Row `i - 1` of the sequence's hidden rows, and zero ahead of the first and after the last. -/
def padded (i : ℕ) (k : Fin 1024) : EReal :=
  if h : 1 ≤ i ∧ i ≤ N then hid md g wo (X ⟨i - 1, by omega⟩) (O ⟨i - 1, by omega⟩) k else 0

/-- The block tail of one sequence, row `s`. -/
def tail (s : Fin N) : Fin 1024 → EReal :=
  leave md wu cw cb wd (mix md wo (X s) (O s)) (padded md g wo X O s.val) (padded md g wo X O (s.val + 1))
    (padded md g wo X O (s.val + 2))

theorem padded_mid (s : Fin N) : padded md g wo X O (s.val + 1) = hid md g wo (X s) (O s) := by
  funext k; rw [padded, dif_pos (by omega)]; rfl

theorem padded_out (i : ℕ) (h : ¬ (1 ≤ i ∧ i ≤ N)) : padded md g wo X O i = fun _ => 0 := by
  funext k; rw [padded, dif_neg h]

end

/-- The wide product of a zero row is zero. -/
theorem up_zero (wu : Fin 1024 → Fin 5632 → EReal) (c : Fin 5632) : up wu (fun _ => 0) c = 0 := by
  unfold up; simp

/-- The reciprocal of one plus an exponential, and then a product, is the quotient. -/
theorem mul_logistic (a : EReal) : a * Ideal.div 1 (1 + Ideal.exp (-a)) = Ideal.div a (1 + Ideal.exp (-a)) := by
  have h0 : (0 : EReal) ≤ Ideal.exp (-a) := by
    induction a using EReal.rec with
    | bot => simp
    | top => simp
    | coe r => rw [← EReal.coe_neg, Ideal.exp_coe]; exact_mod_cast (Real.exp_pos _).le
  have h : (1 + Ideal.exp (-a)) ≠ 0 := by
    have : (0 : EReal) < 1 + Ideal.exp (-a) := lt_of_lt_of_le zero_lt_one (le_add_of_nonneg_right h0)
    exact this.ne'
  rw [Ideal.div, Ideal.div, if_neg h, if_neg h, one_mul]

end Cert.TailMath
end
-- ==== Proof.TailBlock.lean ====
module

public import proofs.«01_k».proof.Proof.TailMath
public import proofs.«01_k».proof.Proof.Gen.TailIdeal.Value
public import Idealize.ShloMosaic.Lib.Pipeline.ValueKit

/-! What one grid point of the block tail leaves in its block of the output, element by element. -/

@[expose] public section

set_option maxRecDepth 16384

noncomputable section

namespace Cert.TailBlock

open Cert.TailIdeal Cert.TailIdeal.Gen Cert.TailMath
open Idealize.ShloMosaic Idealize.ShloMosaic.TcCoe Idealize.ShloMosaic.Tactic

section
variable (h : FVec Ideal S520x1024 .bf16) (wa wg : Vec Ideal S1024x256 .bf16)
  (ba a0 a1 a2 bg g0 g1 g2 : Vec Ideal S1x256 .f32)

/-- One of the activation's eleven chunks of columns. -/
def chunk : FVec Ideal S512x256 .bf16 := k0_pay24 h (k0_pay23 h wa ba a0 a1 a2) wg bg g0 g1 g2

/-- The other chunks are cut into parts elsewhere; each is the same function. -/
theorem chunk0 (v11 v59 v72 v74 v77) : k0_pay16 (F := Ideal) (k0_pay11 v11 v59 v72 v74 v77)
    (k0_pay13 v11 v59 v72 v74 v77 wa) (k0_pay14 v11 v59 v72 v74 v77 wa ba a0 a1) (k0_pay15 a2) wg bg g0 g1 g2
      = chunk (k0_pay11 v11 v59 v72 v74 v77) wa wg ba a0 a1 a2 bg g0 g1 g2 := rfl
theorem chunk1 : k0_pay22 (F := Ideal) (k0_pay18 (k0_pay17 h wa) ba a0 a1 a2) (k0_pay20 h wg) (k0_pay21 h wg bg g0 g1) g2
    = chunk h wa wg ba a0 a1 a2 bg g0 g1 g2 := rfl
theorem chunk3 : k0_pay32 (F := Ideal) (k0_pay27 (k0_pay25 h wa) (k0_pay26 h wa) 519#32 ba a0 a1 a2) (k0_pay29 h wg)
    (k0_pay30 h wg bg g0 g1) (k0_pay31 g2) = chunk h wa wg ba a0 a1 a2 bg g0 g1 g2 := rfl
theorem chunk4 : k0_pay35 (F := Ideal) (k0_pay33 h wa ba a0 a1 a2) (k0_pay34 h wg) bg g0 g1 g2
    = chunk h wa wg ba a0 a1 a2 bg g0 g1 g2 := rfl
theorem chunk5 : k0_pay42 (F := Ideal) (k0_pay39 (k0_pay36 h wa) (k0_pay37 h wa) (k0_pay38 h wa) ba a0 a1 a2)
    (k0_pay40 h wg bg g0 g1 g2) k0_pay41 = chunk h wa wg ba a0 a1 a2 bg g0 g1 g2 := rfl
theorem chunk6 : k0_pay46 (F := Ideal) (k0_pay43 h wa ba a0 a1 a2) (k0_pay44 h wg) (k0_pay45 h wg) 519#32 bg g0 g1 g2
    = chunk h wa wg ba a0 a1 a2 bg g0 g1 g2 := rfl
theorem chunk7 : k0_pay55 (F := Ideal)
    (k0_pay51 (k0_pay47 h wa) (k0_pay48 h wa) (k0_pay49 h wa) (k0_pay50 ba) a0 a1 a2) (k0_pay52 h wg bg g0 g1 g2)
    (k0_pay53 (k0_pay47 h wa) (k0_pay48 h wa) (k0_pay49 h wa) (k0_pay50 ba) a0 a1 a2) k0_pay54
    = chunk h wa wg ba a0 a1 a2 bg g0 g1 g2 := rfl
theorem chunk8 : k0_pay60 (F := Ideal) (k0_pay56 h wa ba a0 a1 a2) (k0_pay57 h wg) (k0_pay58 h wg) (k0_pay59 h wg) bg g0 g1 g2
    = chunk h wa wg ba a0 a1 a2 bg g0 g1 g2 := rfl
theorem chunk9 : k0_pay66 (F := Ideal) (k0_pay65 h (k0_pay61 h wa) (k0_pay62 h wa) (k0_pay63 h wa a0) (k0_pay64 ba)
    a1 a2 wg bg g0 g1 g2) = chunk h wa wg ba a0 a1 a2 bg g0 g1 g2 := rfl
theorem chunk10 : k0_pay72 (F := Ideal) (k0_pay67 h wa ba a0 a1 a2) (k0_pay68 h wg) (k0_pay69 h wg) (k0_pay70 h wg)
    (k0_pay71 bg) g0 g1 g2 = chunk h wa wg ba a0 a1 a2 bg g0 g1 g2 := rfl

/-- One branch of the convolution at row `r` and column `j`. -/
theorem branch_at (r : Fin 512) (j : Fin 256) : k0_pay23 (F := Ideal) h wa ba a0 a1 a2 (ix2 r j)
    = ba (ix2 0 j) + (∑ x, h (ix2 ⟨7 + r.val, by omega⟩ x) * wa (ix2 x j)) * a0 (ix2 0 j)
      + (∑ x, h (ix2 ⟨8 + r.val, by omega⟩ x) * wa (ix2 x j)) * a1 (ix2 0 j)
      + (∑ x, h (ix2 ⟨(9 + r.val) % 520, by omega⟩ x) * wa (ix2 x j)) * a2 (ix2 0 j) := by
  simp only [k0_pay23]; unfold_payloads; pointwise
  have e1 : (⟨(8 + r.val + 520 - 1) % 520, by omega⟩ : Fin 520) = ⟨7 + r.val, by omega⟩ := by ext; dsimp only; omega
  have e2 : (⟨(8 + r.val + 520 - 519) % 520, by omega⟩ : Fin 520) = ⟨(9 + r.val) % 520, by omega⟩ := by
    ext; dsimp only; omega
  rw [e1, e2]

/-- A chunk at row `r` and column `j`: the gate of its two branches. -/
theorem chunk_at (r : Fin 512) (j : Fin 256) : chunk h wa wg ba a0 a1 a2 bg g0 g1 g2 (ix2 r j)
    = gated (k0_pay23 (F := Ideal) h wa ba a0 a1 a2 (ix2 r j)) (k0_pay23 (F := Ideal) h wg bg g0 g1 g2 (ix2 r j)) := by
  rw [branch_at h wg, chunk]
  generalize k0_pay23 (F := Ideal) h wa ba a0 a1 a2 = y
  simp only [k0_pay24]; unfold_payloads; pointwise
  have e1 : (⟨(8 + r.val + 520 - 1) % 520, by omega⟩ : Fin 520) = ⟨7 + r.val, by omega⟩ := by ext; dsimp only; omega
  have e2 : (⟨(8 + r.val + 520 - 519) % 520, by omega⟩ : Fin 520) = ⟨(9 + r.val) % 520, by omega⟩ := by
    ext; dsimp only; omega
  rw [e1, e2, zero_sub]
  rfl
end

section
variable (h : FVec Ideal S520x1024 .bf16) (x9 : Vec Ideal S1024x5632 .bf16) (x10 : Vec Ideal S3x5632 .f32)
  (x11 : Vec Ideal S1x5632 .f32)

/-- 256 columns of the wide weight from column `o`, and of the convolution's row `t` and offset. -/
def wAt (o : ℕ) (ho : o + 256 ≤ 5632) : Vec Ideal S1024x256 .bf16 :=
  View.ld x9 (Rect.unit (s := S1024x5632) ![0, o] ![1024, 256] (by intro a; fin_cases a; exacts [le_refl _, ho]))
def cAt (t : Fin 3) (o : ℕ) (ho : o + 256 ≤ 5632) : Vec Ideal S1x256 .f32 :=
  View.ld x10 (Rect.unit (s := S3x5632) ![t.val, o] ![1, 256] (by intro a; fin_cases a; exacts [t.isLt, ho]))
def bAt (o : ℕ) (ho : o + 256 ≤ 5632) : Vec Ideal S1x256 .f32 :=
  View.ld x11 (Rect.unit (s := S1x5632) ![0, o] ![1, 256] (by intro a; fin_cases a; exacts [le_refl _, ho]))

/-- Chunk `c` lies in the block. -/
theorem piece_inb (c : Fin 11) : ∀ a, (![0, 256 * c.val] : Fin 2 → ℕ) a + (![512, 256] : Fin 2 → ℕ) a ≤ S512x2816.size a := by
  intro a; fin_cases a; exacts [le_refl _, (by show 256 * c.val + 256 ≤ 2816; omega)]

/-- Chunk `c` as it is written: its columns, and what they hold. -/
def piece (c : Fin 11) : View.Piece (Elt Ideal) S512x2816 .bf16 :=
  ⟨Rect.unit (s := S512x2816) ![0, 256 * c.val] ![512, 256] (piece_inb c),
    chunk h (wAt x9 (256 * c.val) (by omega)) (wAt x9 (2816 + 256 * c.val) (by omega))
      (bAt x11 (256 * c.val) (by omega)) (cAt x10 0 (256 * c.val) (by omega)) (cAt x10 1 (256 * c.val) (by omega))
      (cAt x10 2 (256 * c.val) (by omega))
      (bAt x11 (2816 + 256 * c.val) (by omega)) (cAt x10 0 (2816 + 256 * c.val) (by omega))
      (cAt x10 1 (2816 + 256 * c.val) (by omega)) (cAt x10 2 (2816 + 256 * c.val) (by omega))⟩

/-- All the chunks, the last one written first. -/
def pieces : List (View.Piece (Elt Ideal) S512x2816 .bf16) :=
  [piece h x9 x10 x11 10, piece h x9 x10 x11 9, piece h x9 x10 x11 8, piece h x9 x10 x11 7, piece h x9 x10 x11 6,
   piece h x9 x10 x11 5, piece h x9 x10 x11 4, piece h x9 x10 x11 3, piece h x9 x10 x11 2, piece h x9 x10 x11 1,
   piece h x9 x10 x11 0]

/-- Row `e` of the hidden rows with their halo. -/
def hrow (e : Fin 520) (k : Fin 1024) : EReal := h (ix2 e k)

/-- The activation at row `r` and column `j`. -/
def actAt (r : Fin 512) (j : Fin 2816) : EReal :=
  act (fun k c => x9 (ix2 k c)) (fun t c => x10 (ix2 t c)) (fun c => x11 (ix2 0 c))
    (hrow h ⟨7 + r.val, by omega⟩) (hrow h ⟨8 + r.val, by omega⟩) (hrow h ⟨(9 + r.val) % 520, by omega⟩) j

/-- The activation block: every column of every row. -/
def actBlk (y : S512x2816.Idx) : EReal := actAt h x9 x10 x11 ⟨(y 0).val, (y 0).isLt⟩ ⟨(y 1).val, (y 1).isLt⟩

theorem wAt_at (o : ℕ) (ho : o + 256 ≤ 5632) (k : Fin 1024) (j : Fin 256) :
    wAt x9 o ho (ix2 k j) = x9 (ix2 k ⟨o + j.val, by omega⟩) := by
  refine congrArg x9 ?_
  funext a; fin_cases a <;> apply Fin.ext
  · show 0 + 1 * k.val = k.val; omega
  · show o + 1 * j.val = o + j.val; omega
theorem cAt_at (t : Fin 3) (o : ℕ) (ho : o + 256 ≤ 5632) (j : Fin 256) :
    cAt x10 t o ho (ix2 0 j) = x10 (ix2 t ⟨o + j.val, by omega⟩) := by
  refine congrArg x10 ?_
  funext a; fin_cases a <;> apply Fin.ext
  · show t.val + 1 * 0 = t.val; omega
  · show o + 1 * j.val = o + j.val; omega
theorem bAt_at (o : ℕ) (ho : o + 256 ≤ 5632) (j : Fin 256) :
    bAt x11 o ho (ix2 0 j) = x11 (ix2 0 ⟨o + j.val, by omega⟩) := by
  refine congrArg x11 ?_
  funext a; fin_cases a <;> apply Fin.ext
  · show 0 + 1 * 0 = 0; omega
  · show o + 1 * j.val = o + j.val; omega

/-- A branch on the columns from `o` is the convolution there. -/
theorem branch_cols (o : ℕ) (ho : o + 256 ≤ 5632) (r : Fin 512) (j : Fin 256) :
    k0_pay23 (F := Ideal) h (wAt x9 o ho) (bAt x11 o ho) (cAt x10 0 o ho) (cAt x10 1 o ho) (cAt x10 2 o ho) (ix2 r j)
      = conv (fun k c => x9 (ix2 k c)) (fun t c => x10 (ix2 t c)) (fun c => x11 (ix2 0 c))
          (hrow h ⟨7 + r.val, by omega⟩) (hrow h ⟨8 + r.val, by omega⟩) (hrow h ⟨(9 + r.val) % 520, by omega⟩)
          ⟨o + j.val, by omega⟩ := by
  rw [branch_at]
  simp only [wAt_at, cAt_at, bAt_at]
  rfl

/-- Each chunk holds the activation block's entries at its place. -/
theorem piece_at (c : Fin 11) (y : (piece h x9 x10 x11 c).1.shape.Idx) :
    (piece h x9 x10 x11 c).2 y = actBlk h x9 x10 x11 ((piece h x9 x10 x11 c).1.emb y) := by
  change (⟨2, ![512, 256]⟩ : Shape).Idx at y
  idx_vars y
  refine (chunk_at h _ _ _ _ _ _ _ _ _ _ y0 y1).trans ?_
  rw [branch_cols, branch_cols]
  have e : actBlk h x9 x10 x11 ((piece h x9 x10 x11 c).1.emb (ix2 y0 y1))
      = actAt h x9 x10 x11 y0 ⟨256 * c.val + y1.val, by have : y1.val < 256 := y1.isLt; omega⟩ := by
    show actAt h x9 x10 x11 ⟨0 + 1 * y0.val, _⟩ ⟨256 * c.val + 1 * y1.val, _⟩ = _
    congr 1 <;> apply Fin.ext <;> dsimp only <;> omega
  rw [e, actAt, act]
  congr 2
  apply Fin.ext; dsimp only; omega

/-- The chunks fill the block. -/
theorem pieces_cover (y : S512x2816.Idx) : ∃ p ∈ pieces h x9 x10 x11, y ∈ p.1.set := by
  have h1 : (y 1).val < 2816 := (y 1).isLt
  have h0 : (y 0).val < 512 := (y 0).isLt
  refine ⟨piece h x9 x10 x11 ⟨(y 1).val / 256, by omega⟩, ?_, ?_⟩
  · generalize (⟨(y 1).val / 256, _⟩ : Fin 11) = c
    fin_cases c <;> simp [pieces]
  · refine (Rect.mem_set_unit (inb := piece_inb _)).2 fun a => ?_
    fin_cases a
    · exact ⟨Nat.zero_le _, by show (y 0).val < 0 + 512; omega⟩
    · constructor
      · show 256 * ((y 1).val / 256) ≤ (y 1).val; omega
      · show (y 1).val < 256 * ((y 1).val / 256) + 256; omega

/-- So the activation's scratch holds the activation block. -/
theorem canon_pieces (y : S512x2816.Idx) : View.canon (pieces h x9 x10 x11) y = actBlk h x9 x10 x11 y := by
  refine View.canon_apply_of_pieces (Val := Elt Ideal) (e := .bf16) (actBlk h x9 x10 x11) _ ?_ y (pieces_cover h x9 x10 x11 y)
  intro p hp z
  have : ∃ c, p = piece h x9 x10 x11 c := by
    simp only [pieces, List.mem_cons, List.not_mem_nil, or_false] at hp
    rcases hp with hp | hp | hp | hp | hp | hp | hp | hp | hp | hp | hp <;> exact ⟨_, hp⟩
  obtain ⟨c, rfl⟩ := this
  exact piece_at h x9 x10 x11 c z

end

/-! ### The hidden rows -/

/-- A row of the normed rows, or zero where the row is masked. -/
theorem normed_at (v11 : FVec Ideal S6x1024 .f32) (v59 : FVec Ideal S520x1024 .f32) (v72 : IVec S520x1 1)
    (v74 : FVec Ideal S1x1024 .f32) (v77 : FVec Ideal S520x1 .f32) (e : Fin 520) (k : Fin 1024)
    (hs : v77 (ix2 e 0) = ∑ j, v59 (ix2 e j) * v59 (ix2 e j)) :
    k0_pay11 (F := Ideal) v11 v59 v72 v74 v77 (ix2 e k)
      = Scalar.select (v72 (ix2 e 0)) (normed (fun i k => v11 (ix2 i k)) (fun k => v74 (ix2 0 k)) (fun k => v59 (ix2 e k)) k) 0 := by
  simp only [k0_pay11]; unfold_payloads; pointwise
  rw [hs]; rfl

section
variable (x0 : Vec Ideal S512x1024 .f32) (x1 x2 : Vec Ideal S8x1024 .f32) (x3 : Vec Ideal S512x1024 .bf16)
  (x4 x5 : Vec Ideal S16x1024 .bf16) (x6 : Vec Ideal S1x6x1024 .f32) (x7 : Vec Ideal S1x1024 .f32)
  (x8 : Vec Ideal S1024x1024 .bf16) (p : BitVec 32)

/-- The rows after the attention, with their halo. -/
def mixed : FVec Ideal S520x1024 .f32 :=
  k0_pay7 (k0_pay2 x6) (iota .tc S8x1 32 [0] iota_S8x1_d0_w32) (k0_pay3 x1 x2) k0_pay4 x4 x5 k0_pay5 k0_pay6 x3 x8 x0

/-- The hidden rows, with their halo; `p` is the tile's place in its sequence. -/
def hidden : FVec Ideal S520x1024 .bf16 :=
  k0_pay11 (k0_pay2 x6) (mixed x0 x1 x2 x3 x4 x5 x6 x8) (k0_pay8 p) (k0_pay9 x7)
    (k0_pay10 (k0_pay2 x6) (iota .tc S8x1 32 [0] iota_S8x1_d0_w32) (k0_pay3 x1 x2) k0_pay4 x4 x5 k0_pay5 k0_pay6 x3 x8 x0)

/-- The modulation rows, the norm's gain and the projection, by their coordinates. -/
abbrev mdOf (i : Fin 6) (k : Fin 1024) : EReal := x6 (ix3 0 i k)
abbrev gOf (k : Fin 1024) : EReal := x7 (ix2 0 k)
abbrev woOf (d k : Fin 1024) : EReal := x8 (ix2 d k)

theorem md_at : (fun i k => k0_pay2 (F := Ideal) x6 (ix2 i k)) = mdOf x6 := by
  funext i k; simp only [k0_pay2]; unfold_payloads; pointwise
theorem g_at : (fun k => k0_pay9 (F := Ideal) x7 (ix2 0 k)) = gOf x7 := by
  funext k; simp only [k0_pay9]; unfold_payloads; pointwise

theorem mixed_mid (r : Fin 512) : (fun k => mixed x0 x1 x2 x3 x4 x5 x6 x8 (ix2 ⟨8 + r.val, by omega⟩ k))
    = mix (mdOf x6) (woOf x8) (fun k => x0 (ix2 r k)) (fun k => x3 (ix2 r k)) := by
  funext k; rw [mixed, ← md_at]; generalize k0_pay2 (F := Ideal) x6 = y
  simp only [k0_pay7]; unfold_payloads; pointwise
  rfl
theorem mixed_prev : (fun k => mixed x0 x1 x2 x3 x4 x5 x6 x8 (ix2 (7 : Fin 520) k))
    = mix (mdOf x6) (woOf x8) (fun k => x1 (ix2 7 k)) (fun k => x4 (ix2 15 k)) := by
  funext k; rw [mixed, ← md_at]; generalize k0_pay2 (F := Ideal) x6 = y
  simp only [k0_pay7, k0_pay3, k0_pay4, k0_pay5, k0_pay6]; unfold_payloads; pointwise
  rfl
theorem mixed_next : (fun k => mixed x0 x1 x2 x3 x4 x5 x6 x8 (ix2 (0 : Fin 520) k))
    = mix (mdOf x6) (woOf x8) (fun k => x2 (ix2 0 k)) (fun k => x5 (ix2 0 k)) := by
  funext k; rw [mixed, ← md_at]; generalize k0_pay2 (F := Ideal) x6 = y
  simp only [k0_pay7, k0_pay3, k0_pay4, k0_pay5, k0_pay6]; unfold_payloads; pointwise
  rfl

/-- The sums of squares beside the rows. -/
theorem squares_at (e : Fin 520) :
    k0_pay10 (F := Ideal) (k0_pay2 x6) (iota .tc S8x1 32 [0] iota_S8x1_d0_w32) (k0_pay3 x1 x2) k0_pay4 x4 x5 k0_pay5 k0_pay6 x3 x8 x0 (ix2 e 0)
      = ∑ j, mixed x0 x1 x2 x3 x4 x5 x6 x8 (ix2 e j) * mixed x0 x1 x2 x3 x4 x5 x6 x8 (ix2 e j) := by
  simp only [k0_pay10]
  change _ = ∑ j, k0_pay7 (F := Ideal) _ _ _ _ _ _ _ _ _ _ _ (ix2 e j) * k0_pay7 (F := Ideal) _ _ _ _ _ _ _ _ _ _ _ (ix2 e j)
  generalize k0_pay7 (F := Ideal) (k0_pay2 x6) _ _ _ _ _ _ _ _ _ _ = y
  unfold_payloads; pointwise

theorem hidden_at (e : Fin 520) : hrow (hidden x0 x1 x2 x3 x4 x5 x6 x7 x8 p) e = fun k =>
    Scalar.select (k0_pay8 p (ix2 e 0))
      (normed (mdOf x6) (gOf x7) (fun k => mixed x0 x1 x2 x3 x4 x5 x6 x8 (ix2 e k)) k) 0 := by
  funext k
  rw [hrow, hidden, normed_at _ _ _ _ _ e k (squares_at x0 x1 x2 x3 x4 x5 x6 x8 e), md_at, g_at]

theorem hidden_mid (r : Fin 512) : hrow (hidden x0 x1 x2 x3 x4 x5 x6 x7 x8 p) ⟨8 + r.val, by omega⟩
    = hid (mdOf x6) (gOf x7) (woOf x8) (fun k => x0 (ix2 r k)) (fun k => x3 (ix2 r k)) := by
  rw [hidden_at, mixed_mid]
  have : k0_pay8 p (ix2 ⟨8 + r.val, by omega⟩ 0) = 1 := by
    simp only [k0_pay8]; unfold_payloads; pointwise
    have h : IntOp.cmpi CmpIPredicate.sge (BitVec.ofNat 32 (8 + r.val)) 8#32 = 1 := by
      revert r; decide +kernel
    rw [h]
    generalize IntOp.cmpi CmpIPredicate.eq (BitVec.ofNat 32 (8 + r.val)) (Scalar.select (Scalar.cmpi _ p 0#32) _ _) = a
    generalize IntOp.cmpi CmpIPredicate.eq (BitVec.ofNat 32 (8 + r.val)) (Scalar.select (Scalar.cmpi _ p 3#32) _ _) = b
    revert a b; decide
  rw [this]; rfl

theorem hidden_prev (q : Fin 4) (hp : p = BitVec.ofNat 32 q.val) : hrow (hidden x0 x1 x2 x3 x4 x5 x6 x7 x8 p) 7
    = fun k => if 0 < q.val then hid (mdOf x6) (gOf x7) (woOf x8) (fun k => x1 (ix2 7 k)) (fun k => x4 (ix2 15 k)) k else 0 := by
  rw [hidden_at, mixed_prev]
  have : k0_pay8 p (ix2 7 0) = if 0 < q.val then 1 else 0 := by
    subst hp; simp only [k0_pay8]; unfold_payloads; pointwise
    revert q; decide +kernel
  rw [this]; funext k; split <;> rfl

theorem hidden_next (q : Fin 4) (hp : p = BitVec.ofNat 32 q.val) : hrow (hidden x0 x1 x2 x3 x4 x5 x6 x7 x8 p) 0
    = fun k => if q.val < 3 then hid (mdOf x6) (gOf x7) (woOf x8) (fun k => x2 (ix2 0 k)) (fun k => x5 (ix2 0 k)) k else 0 := by
  rw [hidden_at, mixed_next]
  have : k0_pay8 p (ix2 0 0) = if q.val < 3 then 1 else 0 := by
    subst hp; simp only [k0_pay8]; unfold_payloads; pointwise
    revert q; decide +kernel
  rw [this]; funext k; split <;> rfl

end

/-- The tile's place in its sequence, as the kernel computes it. -/
def place (i : BitVec 32) : BitVec 32 :=
  Scalar.select (Scalar.andi (Scalar.xori (Scalar.cmpi CmpIPredicate.slt (Scalar.remsi i 4#32) 0#32) 0#1)
    (Scalar.cmpi CmpIPredicate.ne (Scalar.remsi i 4#32) 0#32)) (Scalar.addi (Scalar.remsi i 4#32) 4#32) (Scalar.remsi i 4#32)

/-- It is the tile's number modulo four. -/
theorem place_eq (i : Fin 32) : place (BitVec.ofNat 32 i.val) = BitVec.ofNat 32 (i.val % 4) := by
  revert i; decide +kernel

/-- The rows that leave, from the mixed rows and the hidden rows. -/
theorem out_at (X : FVec Ideal S520x1024 .f32) (h : FVec Ideal S520x1024 .bf16) (x6 : Vec Ideal S1x6x1024 .f32)
    (x9 : Vec Ideal S1024x5632 .bf16) (x10 : Vec Ideal S3x5632 .f32) (x11 : Vec Ideal S1x5632 .f32)
    (x12 : Vec Ideal S2816x1024 .bf16) (r : Fin 512) (n : Fin 1024) :
    k0_pay1 (F := Ideal) (k0_pay73 X) (k0_pay74 (k0_pay2 x6)) (fun j => actBlk h x9 x10 x11 j) x12 (ix2 r n)
      = leave (mdOf x6) (fun k c => x9 (ix2 k c)) (fun t c => x10 (ix2 t c)) (fun c => x11 (ix2 0 c))
          (fun j n => x12 (ix2 j n)) (fun k => X (ix2 ⟨8 + r.val, by omega⟩ k)) (hrow h ⟨7 + r.val, by omega⟩)
          (hrow h ⟨8 + r.val, by omega⟩) (hrow h ⟨(9 + r.val) % 520, by omega⟩) n := by
  have e : k0_pay2 (F := Ideal) x6 (ix2 5 n) = mdOf x6 5 n := congrFun (congrFun (md_at x6) 5) n
  revert e
  generalize k0_pay2 (F := Ideal) x6 = y
  intro e
  simp only [k0_pay1, k0_pay73, k0_pay74]; unfold_payloads; pointwise
  rw [e]
  rfl

set_option maxHeartbeats 2000000 in
/-- The block of point `t`: the rows that leave. -/
theorem block_eq (m : (ℓ : Loc nD τ sig) → Buf (Elt Ideal) ℓ) (c : Dev nD) (t : Fin cfg0.N) :
    outsAt0 (F := Ideal) m c t =
      k0_pay1 (F := Ideal)
        (k0_pay73 (mixed (iblk m c 0 t) (iblk m c 1 t) (iblk m c 2 t) (iblk m c 3 t) (iblk m c 4 t) (iblk m c 5 t) (iblk m c 6 t) (iblk m c 8 t)))
        (k0_pay74 (k0_pay2 (iblk m c 6 t)))
        (fun j => actBlk (hidden (iblk m c 0 t) (iblk m c 1 t) (iblk m c 2 t) (iblk m c 3 t) (iblk m c 4 t) (iblk m c 5 t) (iblk m c 6 t)
          (iblk m c 7 t) (iblk m c 8 t) (place (BitVec.ofNat 32 (grid0.coords t 0).val)))
          (iblk m c 9 t) (iblk m c 10 t) (iblk m c 11 t) j)
        (iblk m c 12 t) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  frame_out
  rw [View.readCov_eq_canon']
  simp only [chunk0, chunk1, chunk3, chunk4, chunk5, chunk6, chunk7, chunk8, chunk9, chunk10]
  refine congrArg (fun z => k0_pay1 (F := Ideal) _ _ z x12) ?_
  funext j
  refine Eq.trans ?_ (canon_pieces _ _ _ _ j)
  refine congrArg₂ View.canon ?_ ?_
  · rfl
  · funext a; fin_cases a <;> apply Fin.ext
    · show 0 + 1 * (j 0).val = (j 0).val; omega
    · show 0 + 1 * (j 1).val = (j 1).val; omega

end Cert.TailBlock
end
-- ==== Proof.TailArray.lean ====
module

public import proofs.«01_k».proof.Proof.TailBlock
public import proofs.«01_k».proof.Proof.Gen.TailIdeal.Value
public import Idealize.ShloMosaic.Lib.Pipeline.ValueKit

/-! The kernel's whole output array as one function of its nine argument arrays. -/

@[expose] public section

set_option maxRecDepth 16384

noncomputable section

namespace Cert.TailArray

open Idealize.ShloMosaic Idealize.ShloMosaic.TcCoe Idealize.SL.Sem
open Cert.TailIdeal Cert.TailIdeal.Gen Cert.TailMath Cert.TailBlock
open Idealize.ShloMosaic.Pipeline (Dat)

/-- The rows of batch `b` of an array of sixteen thousand rows, two thousand and forty-eight to a batch. -/
def rowsOf (a : (⟨2, ![16384, 1024]⟩ : Shape).Idx → EReal) (b : Fin 8) (s : Fin 2048) (k : Fin 1024) : EReal :=
  a (ix2 ⟨2048 * b.val + s.val, by omega⟩ k)

section
variable (a0 : Vec Ideal S16384x1024 .f32) (a1 : Vec Ideal S16384x1024 .bf16) (a2 : Vec Ideal S16x6x1024 .f32)
  (a3 : Vec Ideal S1024 .f32) (a4 : Vec Ideal S1024x1024 .f32) (a5 : Vec Ideal S1024x5632 .f32) (a6 : Vec Ideal S3x5632 .f32)
  (a7 : Vec Ideal S5632 .f32) (a8 : Vec Ideal S2816x1024 .f32)

/-- The block tail of batch `b`, row `s`, of the argument arrays. -/
def tailAt (b : Fin 8) (s : Fin 2048) : Fin 1024 → EReal :=
  tail (fun i k => a2 (ix3 ⟨b.val, by omega⟩ i k)) (fun k => a3 (ix1 k)) (fun d k => a4 (ix2 d k)) (fun k c => a5 (ix2 k c))
    (fun t c => a6 (ix2 t c)) (fun c => a7 (ix1 c)) (fun j n => a8 (ix2 j n)) (rowsOf a0 b) (rowsOf a1 b) s

/-- The output array. -/
def result (y : S16384x1024.Idx) : EReal :=
  tailAt a0 a1 a2 a3 a4 a5 a6 a7 a8 ⟨(y 0).val / 2048, by have : (y 0).val < 16384 := (y 0).isLt; omega⟩
    ⟨(y 0).val % 2048, Nat.mod_lt _ (by omega)⟩ (y 1)
end

variable (m : (ℓ : Loc nD τ sig) → Buf (Elt Ideal) ℓ)

theorem point0 : ∀ t : Fin grid0.N, win0_0.index t = ![(grid0.coords t 0).val, 0] := by decide +kernel
theorem point1 : ∀ t : Fin grid0.N, win0_1.index t = ![64 * (grid0.coords t 0).val - 1, 0] := by decide +kernel
theorem point2 : ∀ t : Fin grid0.N, win0_2.index t = ![min (64 * (grid0.coords t 0).val + 64) 2047, 0] := by decide +kernel
theorem point3 : ∀ t : Fin grid0.N, win0_3.index t = ![(grid0.coords t 0).val, 0] := by decide +kernel
theorem point4 : ∀ t : Fin grid0.N, win0_4.index t = ![32 * (grid0.coords t 0).val - 1, 0] := by decide +kernel
theorem point5 : ∀ t : Fin grid0.N, win0_5.index t = ![min (32 * (grid0.coords t 0).val + 32) 1023, 0] := by decide +kernel
theorem point6 : ∀ t : Fin grid0.N, win0_6.index t = ![(grid0.coords t 0).val / 4, 0, 0] := by decide +kernel
theorem point7 : ∀ t : Fin grid0.N, win0_7.index t = ![0, 0] := by decide +kernel
theorem point8 : ∀ t : Fin grid0.N, win0_8.index t = ![0, 0] := by decide +kernel
theorem point9 : ∀ t : Fin grid0.N, win0_9.index t = ![0, 0] := by decide +kernel
theorem point10 : ∀ t : Fin grid0.N, win0_10.index t = ![0, 0] := by decide +kernel
theorem point11 : ∀ t : Fin grid0.N, win0_11.index t = ![0, 0] := by decide +kernel
theorem point12 : ∀ t : Fin grid0.N, win0_12.index t = ![0, 0] := by decide +kernel
theorem point13 : ∀ t : Fin grid0.N, win0_13.index t = ![(grid0.coords t 0).val, 0] := by decide +kernel

/-- The cast output weight is the weight. -/
theorem V_v0 (c : Dev nD) (d k : Fin 1024) :
    V m c main_v0 (ix2 d k) = m ((c : Thread nD τ).loc main_arg4) (ix2 d k) := by
  unfold V; after_results; rfl
/-- The cast wide weight is the weight. -/
theorem V_v1 (c : Dev nD) (d : Fin 1024) (k : Fin 5632) :
    V m c main_v1 (ix2 d k) = m ((c : Thread nD τ).loc main_arg5) (ix2 d k) := by
  unfold V; after_results; rfl
/-- The reshaped bias is the bias. -/
theorem V_v2 (c : Dev nD) (k : Fin 5632) :
    V m c main_v2 (ix2 0 k) = m ((c : Thread nD τ).loc main_arg7) (ix1 k) := by
  unfold V; after_results; pointwise
/-- The cast narrow weight is the weight. -/
theorem V_v3 (c : Dev nD) (d : Fin 2816) (k : Fin 1024) :
    V m c main_v3 (ix2 d k) = m ((c : Thread nD τ).loc main_arg8) (ix2 d k) := by
  unfold V; after_results; rfl
/-- The reshaped gain is the gain. -/
theorem V_v4 (c : Dev nD) (k : Fin 1024) :
    V m c main_v4 (ix2 0 k) = m ((c : Thread nD τ).loc main_arg3) (ix1 k) := by
  unfold V; after_results; pointwise

theorem tiles (t : Fin grid0.N) : (grid0.coords t 0).val < 32 := (grid0.coords t 0).isLt

/-- Window 0's block is the tile's rows. -/
theorem iblk0 (c : Dev nD) (t : Fin grid0.N) (r : Fin 512) (k : Fin 1024) : iblk m c 0 t (ix2 r k) = m ((c : Thread nD τ).loc main_arg0) (ix2 ⟨512 * (grid0.coords t 0).val + r.val, by have := tiles t; omega⟩ k) := by
  blk_simp [iblk]
  refine Eq.trans ?_ (congrFun (V_main_arg0 m c) (ix2 ⟨512 * (grid0.coords t 0).val + r.val, by have := tiles t; omega⟩ k))
  congr 1
  funext a
  fin_cases a <;> apply Fin.ext <;> blk_simp [point0] <;> dsimp <;> omega

/-- Window 1's block is the eight rows ahead of the tile's. -/
theorem iblk1 (c : Dev nD) (t : Fin grid0.N) (r : Fin 8) (k : Fin 1024) : iblk m c 1 t (ix2 r k) = m ((c : Thread nD τ).loc main_arg0) (ix2 ⟨8 * (64 * (grid0.coords t 0).val - 1) + r.val, by have := tiles t; omega⟩ k) := by
  blk_simp [iblk]
  refine Eq.trans ?_ (congrFun (V_main_arg0 m c) (ix2 ⟨8 * (64 * (grid0.coords t 0).val - 1) + r.val, by have := tiles t; omega⟩ k))
  congr 1
  funext a
  fin_cases a <;> apply Fin.ext <;> blk_simp [point1] <;> dsimp <;> omega

/-- Window 2's block is the eight rows after the tile's. -/
theorem iblk2 (c : Dev nD) (t : Fin grid0.N) (r : Fin 8) (k : Fin 1024) : iblk m c 2 t (ix2 r k) = m ((c : Thread nD τ).loc main_arg0) (ix2 ⟨8 * min (64 * (grid0.coords t 0).val + 64) 2047 + r.val, by have := tiles t; omega⟩ k) := by
  blk_simp [iblk]
  refine Eq.trans ?_ (congrFun (V_main_arg0 m c) (ix2 ⟨8 * min (64 * (grid0.coords t 0).val + 64) 2047 + r.val, by have := tiles t; omega⟩ k))
  congr 1
  funext a
  fin_cases a <;> apply Fin.ext <;> blk_simp [point2] <;> dsimp <;> omega

/-- Window 3's block is the tile's rows of the attention. -/
theorem iblk3 (c : Dev nD) (t : Fin grid0.N) (r : Fin 512) (k : Fin 1024) : iblk m c 3 t (ix2 r k) = m ((c : Thread nD τ).loc main_arg1) (ix2 ⟨512 * (grid0.coords t 0).val + r.val, by have := tiles t; omega⟩ k) := by
  blk_simp [iblk]
  refine Eq.trans ?_ (congrFun (V_main_arg1 m c) (ix2 ⟨512 * (grid0.coords t 0).val + r.val, by have := tiles t; omega⟩ k))
  congr 1
  funext a
  fin_cases a <;> apply Fin.ext <;> blk_simp [point3] <;> dsimp <;> omega

/-- Window 4's block is the sixteen rows ahead of the tile's, of the attention. -/
theorem iblk4 (c : Dev nD) (t : Fin grid0.N) (r : Fin 16) (k : Fin 1024) : iblk m c 4 t (ix2 r k) = m ((c : Thread nD τ).loc main_arg1) (ix2 ⟨16 * (32 * (grid0.coords t 0).val - 1) + r.val, by have := tiles t; omega⟩ k) := by
  blk_simp [iblk]
  refine Eq.trans ?_ (congrFun (V_main_arg1 m c) (ix2 ⟨16 * (32 * (grid0.coords t 0).val - 1) + r.val, by have := tiles t; omega⟩ k))
  congr 1
  funext a
  fin_cases a <;> apply Fin.ext <;> blk_simp [point4] <;> dsimp <;> omega

/-- Window 5's block is the sixteen rows after the tile's, of the attention. -/
theorem iblk5 (c : Dev nD) (t : Fin grid0.N) (r : Fin 16) (k : Fin 1024) : iblk m c 5 t (ix2 r k) = m ((c : Thread nD τ).loc main_arg1) (ix2 ⟨16 * min (32 * (grid0.coords t 0).val + 32) 1023 + r.val, by have := tiles t; omega⟩ k) := by
  blk_simp [iblk]
  refine Eq.trans ?_ (congrFun (V_main_arg1 m c) (ix2 ⟨16 * min (32 * (grid0.coords t 0).val + 32) 1023 + r.val, by have := tiles t; omega⟩ k))
  congr 1
  funext a
  fin_cases a <;> apply Fin.ext <;> blk_simp [point5] <;> dsimp <;> omega

/-- Window 6's block is the batch's modulation. -/
theorem iblk6 (c : Dev nD) (t : Fin grid0.N) (i : Fin 6) (k : Fin 1024) : iblk m c 6 t (ix3 0 i k) = m ((c : Thread nD τ).loc main_arg2) (ix3 ⟨(grid0.coords t 0).val / 4, by have := tiles t; omega⟩ i k) := by
  blk_simp [iblk]
  refine Eq.trans ?_ (congrFun (V_main_arg2 m c) (ix3 ⟨(grid0.coords t 0).val / 4, by have := tiles t; omega⟩ i k))
  congr 1
  funext a
  fin_cases a <;> apply Fin.ext <;> blk_simp [point6] <;> dsimp <;> omega

/-- Window 7's block is the norm's gain. -/
theorem iblk7 (c : Dev nD) (t : Fin grid0.N) (k : Fin 1024) : iblk m c 7 t (ix2 0 k) = m ((c : Thread nD τ).loc main_arg3) (ix1 k) := by
  blk_simp [iblk]
  refine Eq.trans ?_ (V_v4 m c k)
  congr 1
  funext a
  fin_cases a <;> apply Fin.ext <;> blk_simp [point7] <;> dsimp <;> omega

/-- Window 8's block is the output weight. -/
theorem iblk8 (c : Dev nD) (t : Fin grid0.N) (d k : Fin 1024) : iblk m c 8 t (ix2 d k) = m ((c : Thread nD τ).loc main_arg4) (ix2 d k) := by
  blk_simp [iblk]
  refine Eq.trans ?_ (V_v0 m c d k)
  congr 1
  funext a
  fin_cases a <;> apply Fin.ext <;> blk_simp [point8] <;> dsimp <;> omega

/-- Window 9's block is the wide weight. -/
theorem iblk9 (c : Dev nD) (t : Fin grid0.N) (d : Fin 1024) (k : Fin 5632) : iblk m c 9 t (ix2 d k) = m ((c : Thread nD τ).loc main_arg5) (ix2 d k) := by
  blk_simp [iblk]
  refine Eq.trans ?_ (V_v1 m c d k)
  congr 1
  funext a
  fin_cases a <;> apply Fin.ext <;> blk_simp [point9] <;> dsimp <;> omega

/-- Window 10's block is the convolution's weight. -/
theorem iblk10 (c : Dev nD) (t : Fin grid0.N) (d : Fin 3) (k : Fin 5632) : iblk m c 10 t (ix2 d k) = m ((c : Thread nD τ).loc main_arg6) (ix2 d k) := by
  blk_simp [iblk]
  refine Eq.trans ?_ (congrFun (V_main_arg6 m c) (ix2 d k))
  congr 1
  funext a
  fin_cases a <;> apply Fin.ext <;> blk_simp [point10] <;> dsimp <;> omega

/-- Window 11's block is the convolution's bias. -/
theorem iblk11 (c : Dev nD) (t : Fin grid0.N) (k : Fin 5632) : iblk m c 11 t (ix2 0 k) = m ((c : Thread nD τ).loc main_arg7) (ix1 k) := by
  blk_simp [iblk]
  refine Eq.trans ?_ (V_v2 m c k)
  congr 1
  funext a
  fin_cases a <;> apply Fin.ext <;> blk_simp [point11] <;> dsimp <;> omega

/-- Window 12's block is the narrow weight. -/
theorem iblk12 (c : Dev nD) (t : Fin grid0.N) (d : Fin 2816) (k : Fin 1024) : iblk m c 12 t (ix2 d k) = m ((c : Thread nD τ).loc main_arg8) (ix2 d k) := by
  blk_simp [iblk]
  refine Eq.trans ?_ (V_v3 m c d k)
  congr 1
  funext a
  fin_cases a <;> apply Fin.ext <;> blk_simp [point12] <;> dsimp <;> omega

section
variable (md : Fin 6 → Fin 1024 → EReal) (g : Fin 1024 → EReal) (wo : Fin 1024 → Fin 1024 → EReal) (X O : Fin 2048 → Fin 1024 → EReal)

/-- The row ahead of a tile of the sequence, zero ahead of the first tile. -/
theorem padded_prev (q : Fin 4) (x o : Fin 1024 → EReal)
    (h : ∀ h : 0 < q.val, x = X ⟨512 * q.val - 1, by omega⟩ ∧ o = O ⟨512 * q.val - 1, by omega⟩) :
    (fun k => if 0 < q.val then hid md g wo x o k else 0) = padded md g wo X O (512 * q.val) := by
  funext k
  unfold padded
  by_cases hq : 0 < q.val
  · rw [if_pos hq, dif_pos (by omega), (h hq).1, (h hq).2]
  · rw [if_neg hq, dif_neg (by omega)]

/-- The row after a tile of the sequence, zero after the last tile. -/
theorem padded_next (q : Fin 4) (x o : Fin 1024 → EReal)
    (h : ∀ h : q.val < 3, x = X ⟨512 * q.val + 512, by omega⟩ ∧ o = O ⟨512 * q.val + 512, by omega⟩) :
    (fun k => if q.val < 3 then hid md g wo x o k else 0) = padded md g wo X O (512 * q.val + 513) := by
  funext k
  unfold padded
  by_cases hq : q.val < 3
  · rw [if_pos hq, dif_pos (by omega), (h hq).1, (h hq).2]; rfl
  · rw [if_neg hq, dif_neg (by omega)]

/-- The hidden rows of a tile with one row on each side, `H e` the row `e` places from row 8, are the sequence's. -/
theorem rows_eq (q : Fin 4) (H : Fin 520 → Fin 1024 → EReal)
    (hm : ∀ r : Fin 512, H ⟨8 + r.val, by omega⟩ = hid md g wo (X ⟨512 * q.val + r.val, by omega⟩) (O ⟨512 * q.val + r.val, by omega⟩))
    (hp : H 7 = padded md g wo X O (512 * q.val)) (hn : H 0 = padded md g wo X O (512 * q.val + 513)) (r : Fin 512) :
    H ⟨7 + r.val, by omega⟩ = padded md g wo X O (512 * q.val + r.val) ∧
    H ⟨8 + r.val, by omega⟩ = padded md g wo X O (512 * q.val + r.val + 1) ∧
    H ⟨(9 + r.val) % 520, by omega⟩ = padded md g wo X O (512 * q.val + r.val + 2) := by
  have mid : ∀ s : Fin 512, H ⟨8 + s.val, by omega⟩ = padded md g wo X O (512 * q.val + s.val + 1) := fun s =>
    (hm s).trans (padded_mid md g wo X O ⟨512 * q.val + s.val, by omega⟩).symm
  refine ⟨?_, mid r, ?_⟩
  · by_cases h : r.val = 0
    · rw [show (⟨7 + r.val, by omega⟩ : Fin 520) = 7 from Fin.ext (by show 7 + r.val = 7; omega), hp, h]; rfl
    · have := mid ⟨r.val - 1, by omega⟩
      rw [show (⟨7 + r.val, by omega⟩ : Fin 520) = ⟨8 + (r.val - 1), by omega⟩ from Fin.ext (by show 7 + r.val = 8 + (r.val - 1); omega)]
      rw [this]; congr 1; show 512 * q.val + (r.val - 1) + 1 = _; omega
  · by_cases h : r.val = 511
    · rw [show (⟨(9 + r.val) % 520, by omega⟩ : Fin 520) = 0 from Fin.ext (by show (9 + r.val) % 520 = 0; omega), hn, h]
    · have := mid ⟨r.val + 1, by omega⟩
      rw [show (⟨(9 + r.val) % 520, by omega⟩ : Fin 520) = ⟨8 + (r.val + 1), by omega⟩ from Fin.ext (by show (9 + r.val) % 520 = 8 + (r.val + 1); omega)]
      exact this.trans (congrArg _ (by show 512 * q.val + (r.val + 1) + 1 = 512 * q.val + r.val + 2; omega))
end

/-- The rows that leave a tile, row by row, from blocks that hold the tile's part of the arrays: tile `i` is quarter
    `i mod 4` of batch `i / 4`. -/
theorem rows_at (a0 : Vec Ideal S16384x1024 .f32) (a1 : Vec Ideal S16384x1024 .bf16) (a2 : Vec Ideal S16x6x1024 .f32)
    (a3 : Vec Ideal S1024 .f32) (a4 : Vec Ideal S1024x1024 .f32) (a5 : Vec Ideal S1024x5632 .f32) (a6 : Vec Ideal S3x5632 .f32)
    (a7 : Vec Ideal S5632 .f32) (a8 : Vec Ideal S2816x1024 .f32)
    (x0 : Vec Ideal S512x1024 .f32) (x1 x2 : Vec Ideal S8x1024 .f32) (x3 : Vec Ideal S512x1024 .bf16)
    (x4 x5 : Vec Ideal S16x1024 .bf16) (x6 : Vec Ideal S1x6x1024 .f32) (x7 : Vec Ideal S1x1024 .f32)
    (x8 : Vec Ideal S1024x1024 .bf16) (x9 : Vec Ideal S1024x5632 .bf16) (x10 : Vec Ideal S3x5632 .f32)
    (x11 : Vec Ideal S1x5632 .f32) (x12 : Vec Ideal S2816x1024 .bf16) (i : Fin 32)
    (h0 : ∀ (r : Fin 512) k, x0 (ix2 r k) = a0 (ix2 ⟨512 * i.val + r.val, by omega⟩ k))
    (h1 : ∀ (r : Fin 8) k, x1 (ix2 r k) = a0 (ix2 ⟨8 * (64 * i.val - 1) + r.val, by omega⟩ k))
    (h2 : ∀ (r : Fin 8) k, x2 (ix2 r k) = a0 (ix2 ⟨8 * min (64 * i.val + 64) 2047 + r.val, by omega⟩ k))
    (h3 : ∀ (r : Fin 512) k, x3 (ix2 r k) = a1 (ix2 ⟨512 * i.val + r.val, by omega⟩ k))
    (h4 : ∀ (r : Fin 16) k, x4 (ix2 r k) = a1 (ix2 ⟨16 * (32 * i.val - 1) + r.val, by omega⟩ k))
    (h5 : ∀ (r : Fin 16) k, x5 (ix2 r k) = a1 (ix2 ⟨16 * min (32 * i.val + 32) 1023 + r.val, by omega⟩ k))
    (h6 : ∀ j k, x6 (ix3 0 j k) = a2 (ix3 ⟨i.val / 4, by omega⟩ j k)) (h7 : ∀ k, x7 (ix2 0 k) = a3 (ix1 k))
    (h8 : ∀ d k, x8 (ix2 d k) = a4 (ix2 d k)) (h9 : ∀ d k, x9 (ix2 d k) = a5 (ix2 d k)) (h10 : ∀ d k, x10 (ix2 d k) = a6 (ix2 d k))
    (h11 : ∀ k, x11 (ix2 0 k) = a7 (ix1 k)) (h12 : ∀ d k, x12 (ix2 d k) = a8 (ix2 d k)) (r : Fin 512) (n : Fin 1024) :
    k0_pay1 (F := Ideal) (k0_pay73 (mixed x0 x1 x2 x3 x4 x5 x6 x8)) (k0_pay74 (k0_pay2 x6))
        (fun j => actBlk (hidden x0 x1 x2 x3 x4 x5 x6 x7 x8 (place (BitVec.ofNat 32 i.val))) x9 x10 x11 j) x12 (ix2 r n) =
      tailAt a0 a1 a2 a3 a4 a5 a6 a7 a8 ⟨i.val / 4, by omega⟩ ⟨512 * (i.val % 4) + r.val, by omega⟩ n := by
  rw [out_at]
  have e6 : mdOf x6 = fun j k => a2 (ix3 ⟨i.val / 4, by omega⟩ j k) := by funext j k; exact h6 j k
  have e7 : gOf x7 = fun k => a3 (ix1 k) := by funext k; exact h7 k
  have e8 : woOf x8 = fun d k => a4 (ix2 d k) := by funext d k; exact h8 d k
  have e0 : ∀ r : Fin 512, (fun k => x0 (ix2 r k)) = rowsOf a0 ⟨i.val / 4, by omega⟩ ⟨512 * (i.val % 4) + r.val, by omega⟩ :=
    fun r => by funext k; refine (h0 r k).trans ?_; unfold rowsOf; congr 2; apply Fin.ext; dsimp; omega
  have e3 : ∀ r : Fin 512, (fun k => x3 (ix2 r k)) = rowsOf a1 ⟨i.val / 4, by omega⟩ ⟨512 * (i.val % 4) + r.val, by omega⟩ :=
    fun r => by funext k; refine (h3 r k).trans ?_; unfold rowsOf; congr 2; apply Fin.ext; dsimp; omega
  have hw := place_eq i
  generalize place (BitVec.ofNat 32 i.val) = p at hw ⊢
  have hR := rows_eq (fun j k => a2 (ix3 ⟨i.val / 4, by omega⟩ j k)) (fun k => a3 (ix1 k)) (fun d k => a4 (ix2 d k))
    (rowsOf a0 ⟨i.val / 4, by omega⟩) (rowsOf a1 ⟨i.val / 4, by omega⟩) ⟨i.val % 4, by omega⟩
    (hrow (hidden x0 x1 x2 x3 x4 x5 x6 x7 x8 p))
    (fun r => by rw [hidden_mid, e6, e7, e8, e0, e3])
    (by
      rw [hidden_prev _ _ _ _ _ _ _ _ _ _ ⟨i.val % 4, by omega⟩ hw, e6, e7, e8]
      refine padded_prev _ _ _ _ _ ⟨i.val % 4, by omega⟩ _ _ fun h => ⟨?_, ?_⟩ <;> dsimp at h <;> funext k
      · refine (h1 7 k).trans ?_; unfold rowsOf; congr 2; apply Fin.ext; dsimp; omega
      · refine (h4 15 k).trans ?_; unfold rowsOf; congr 2; apply Fin.ext; dsimp; omega)
    (by
      rw [hidden_next _ _ _ _ _ _ _ _ _ _ ⟨i.val % 4, by omega⟩ hw, e6, e7, e8]
      refine padded_next _ _ _ _ _ ⟨i.val % 4, by omega⟩ _ _ fun h => ⟨?_, ?_⟩ <;> dsimp at h <;> funext k
      · refine (h2 0 k).trans ?_; unfold rowsOf; congr 2; apply Fin.ext; dsimp; omega
      · refine (h5 0 k).trans ?_; unfold rowsOf; congr 2; apply Fin.ext; dsimp; omega) r
  rw [hR.1, hR.2.1, hR.2.2, mixed_mid, e6, e8, e0, e3]
  have e9 : (fun k c => x9 (ix2 k c)) = fun (k : Fin 1024) (c : Fin 5632) => a5 (ix2 k c) := by funext k c; exact h9 k c
  have e10 : (fun k c => x10 (ix2 k c)) = fun (k : Fin 3) (c : Fin 5632) => a6 (ix2 k c) := by funext k c; exact h10 k c
  have e11 : (fun c => x11 (ix2 0 c)) = fun (c : Fin 5632) => a7 (ix1 c) := by funext c; exact h11 c
  have e12 : (fun k c => x12 (ix2 k c)) = fun (k : Fin 2816) (c : Fin 1024) => a8 (ix2 k c) := by funext k c; exact h12 k c
  rw [e9, e10, e11, e12]
  rfl

/-- The tile's output, row by row. -/
theorem block_at (c : Dev nD) (t : Fin cfg0.N) (r : Fin 512) (n : Fin 1024) :
    outsAt0 (F := Ideal) m c t (ix2 r n) =
      tailAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        ⟨(grid0.coords t 0).val / 4, by have := tiles t; omega⟩
        ⟨512 * ((grid0.coords t 0).val % 4) + r.val, by omega⟩ n := by
  rw [block_eq]
  exact rows_at _ _ _ _ _ _ _ _ _ _ _ _ _ _ _ _ _ _ _ _ _ _ ⟨(grid0.coords t 0).val, tiles t⟩ (iblk0 m c t) (iblk1 m c t)
    (iblk2 m c t) (iblk3 m c t) (iblk4 m c t) (iblk5 m c t) (iblk6 m c t) (iblk7 m c t) (iblk8 m c t) (iblk9 m c t)
    (iblk10 m c t) (iblk11 m c t) (iblk12 m c t) r n

/-- The kernel's output array is `result` of its arguments. -/
theorem final (c : Dev nD) :
    (dats m 0 c).arrAt 13 cfg0.N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 13 _ (by decide +kernel) fun t hf y => ?_
  blk_simp
  rw [after0_13]
  change (⟨2, ![512, 1024]⟩ : Shape).Idx at y
  idx_vars y
  refine (block_at m c t y0 y1).trans ?_
  have ht := tiles t
  have h0 : y0.val < 512 := y0.isLt
  unfold result
  congr 1 <;> apply Fin.ext <;> blk_simp [point13] <;> dsimp <;> omega

end Cert.TailArray
end
-- ==== Proof.TailRef.lean ====
module

public import proofs.«01_k».proof.Proof.TailArray
public import proofs.«01_k».proof.Proof.Gen.TailRefIdeal.Run
public import proofs.«01_k».proof.Proof.Gen.TailRefIdeal.Read
public import Idealize.ShloMosaic.Lib.Pointwise

/-! The reference's output array, operation by operation, is the same function of its arguments. -/

@[expose] public section

set_option maxRecDepth 16384

noncomputable section

namespace Cert.TailRef

open Idealize.ShloMosaic
open Cert.TailRefIdeal Cert.TailRefIdeal.Gen Cert.TailRefIdeal.Read Cert.TailMath Cert.TailArray

variable (a0 : Vec Ideal S16384x1024 .f32) (a1 : Vec Ideal S16384x1024 .bf16) (a2 : Vec Ideal S16x6x1024 .f32)
  (a3 : Vec Ideal S1024 .f32) (a4 : Vec Ideal S1024x1024 .f32) (a5 : Vec Ideal S1024x5632 .f32) (a6 : Vec Ideal S3x5632 .f32)
  (a7 : Vec Ideal S5632 .f32) (a8 : Vec Ideal S2816x1024 .f32)

/-- Batch `b`'s modulation rows. -/
abbrev mdR (b : Fin 8) (i : Fin 6) (k : Fin 1024) : EReal := a2 (ix3 ⟨b.val, by omega⟩ i k)
/-- The output weight. -/
abbrev woR (d k : Fin 1024) : EReal := a4 (ix2 d k)
/-- The norm's gain. -/
abbrev gR (k : Fin 1024) : EReal := a3 (ix1 k)
/-- The wide weight. -/
abbrev wuR (k : Fin 1024) (c : Fin 5632) : EReal := a5 (ix2 k c)
/-- The convolution's weight. -/
abbrev cwR (t : Fin 3) (c : Fin 5632) : EReal := a6 (ix2 t c)
/-- The convolution's bias. -/
abbrev cbR (c : Fin 5632) : EReal := a7 (ix1 c)
/-- The narrow weight. -/
abbrev wdR (j : Fin 2816) (n : Fin 1024) : EReal := a8 (ix2 j n)

theorem x0_at (b : Fin 8) (s : Fin 2048) (k : Fin 1024) : val_main_v0 (F := Ideal) a0 (ix3 b s k) = rowsOf a0 b s k := by
  unfold val_main_v0 rowsOf; pointwise
  congr 2; apply Fin.ext; dsimp; omega

theorem o2_at (b : Fin 8) (s : Fin 2048) (k : Fin 1024) : val_main_v2 (F := Ideal) a1 (ix3 b s k) = rowsOf a1 b s k := by
  unfold val_main_v2 val_main_v1 rowsOf; pointwise
  congr 2; apply Fin.ext; dsimp; omega

theorem o3_at (b : Fin 8) (s : Fin 2048) (k : Fin 1024) :
    val_main_v3 (F := Ideal) a1 a4 (ix3 b s k) = ∑ d, rowsOf a1 b s d * woR a4 d k := by
  simp only [← o2_at]
  unfold val_main_v3
  generalize val_main_v2 (F := Ideal) a1 = y
  pointwise

theorem m22 (b : Fin 8) (s : Fin 2048) (k : Fin 1024) : val_main_v22 (F := Ideal) a2 (ix3 b s k) = mdR a2 b 2 k := by
  unfold val_main_v22 val_main_v12 val_main_v11 val_main_v10; pointwise
theorem m42 (b : Fin 8) (s : Fin 2048) (k : Fin 1024) : val_main_v42 (F := Ideal) a2 (ix3 b s k) = mdR a2 b 3 k := by
  unfold val_main_v42 val_main_v15 val_main_v14 val_main_v13; pointwise
theorem m18 (b : Fin 8) (k : Fin 1024) : val_main_v18 (F := Ideal) a2 (ix3 b 0 k) = mdR a2 b 4 k := by
  unfold val_main_v18 val_main_v17 val_main_v16; pointwise
theorem m40 (b : Fin 8) (s : Fin 2048) (k : Fin 1024) : val_main_v40 (F := Ideal) a2 (ix3 b s k) = 1 + mdR a2 b 4 k := by
  rw [← m18]
  unfold val_main_v40 val_main_v39 val_main_v38 val_main_cst_2
  generalize val_main_v18 (F := Ideal) a2 = y
  pointwise
theorem m74 (b : Fin 8) (s : Fin 2048) (k : Fin 1024) : val_main_v74 (F := Ideal) a2 (ix3 b s k) = mdR a2 b 5 k := by
  unfold val_main_v74 val_main_v21 val_main_v20 val_main_v19; pointwise
theorem g36 (b : Fin 8) (s : Fin 2048) (k : Fin 1024) : val_main_v36 (F := Ideal) a3 (ix3 b s k) = gR a3 k := by
  unfold val_main_v36 val_main_v35; pointwise

/-- The row after the attention. -/
abbrev mixR (b : Fin 8) (s : Fin 2048) : Fin 1024 → EReal := mix (mdR a2 b) (woR a4) (rowsOf a0 b s) (rowsOf a1 b s)

theorem x24 (b : Fin 8) (s : Fin 2048) (k : Fin 1024) : val_main_v24 (F := Ideal) a0 a1 a2 a4 (ix3 b s k) = mixR a0 a1 a2 a4 b s k := by
  rw [val_main_v24_apply, val_main_v23_apply, x0_at, m22, o3_at]; rfl

theorem q26 (b : Fin 8) (s : Fin 2048) : val_main_v26 (F := Ideal) a0 a1 a2 a4 (ix2 b s)
    = ∑ j, mixR a0 a1 a2 a4 b s j * mixR a0 a1 a2 a4 b s j := by
  simp only [← x24]
  unfold val_main_v26 val_main_v25 val_main_cst
  generalize val_main_v24 (F := Ideal) a0 a1 a2 a4 = y
  pointwise

theorem r33 (b : Fin 8) (s : Fin 2048) (k : Fin 1024) : val_main_v33 (F := Ideal) a0 a1 a2 a4 (ix3 b s k)
    = Ideal.rsqrt (Ideal.div (∑ j, mixR a0 a1 a2 a4 b s j * mixR a0 a1 a2 a4 b s j) (Ideal.ofBits FTy.f32 0x44800000#32)
      + Ideal.ofBits FTy.f32 0x358637BD#32) := by
  rw [← q26]
  unfold val_main_v33 val_main_v32 val_main_v31 val_main_v29 val_main_v27 val_main_v28 val_main_cst_0 val_main_v30 val_main_cst_1
  generalize val_main_v26 (F := Ideal) a0 a1 a2 a4 = y
  pointwise

/-- The hidden row. -/
abbrev hidR (b : Fin 8) (s : Fin 2048) : Fin 1024 → EReal :=
  hid (mdR a2 b) (gR a3) (woR a4) (rowsOf a0 b s) (rowsOf a1 b s)

theorem h43 (b : Fin 8) (s : Fin 2048) (k : Fin 1024) :
    val_main_v43 (F := Ideal) a0 a1 a2 a3 a4 (ix3 b s k) = hidR a0 a1 a2 a3 a4 b s k := by
  rw [val_main_v43_apply, val_main_v41_apply, val_main_v37_apply, val_main_v34_apply, m42, m40, g36, r33, x24]
  rfl

theorem u44 (b : Fin 8) (s : Fin 2048) (c : Fin 5632) :
    val_main_v44 (F := Ideal) a0 a1 a2 a3 a4 a5 (ix3 b s c) = up (wuR a5) (hidR a0 a1 a2 a3 a4 b s) c := by
  unfold up
  simp only [← h43]
  unfold val_main_v44
  generalize val_main_v43 (F := Ideal) a0 a1 a2 a3 a4 = y
  pointwise

/-- The hidden rows with zeros around them. -/
abbrev padR (b : Fin 8) (i : ℕ) : Fin 1024 → EReal := padded (mdR a2 b) (gR a3) (woR a4) (rowsOf a0 b) (rowsOf a1 b) i

theorem u45 (b : Fin 8) (i : Fin 2050) (c : Fin 5632) :
    val_main_v45 (F := Ideal) a0 a1 a2 a3 a4 a5 (ix3 b i c) = up (wuR a5) (padR a0 a1 a2 a3 a4 b i.val) c := by
  have hh : val_main_v45 (F := Ideal) a0 a1 a2 a3 a4 a5 (ix3 b i c)
      = if h : 1 ≤ i.val ∧ i.val ≤ 2048 then val_main_v44 (F := Ideal) a0 a1 a2 a3 a4 a5 (ix3 b ⟨i.val - 1, by omega⟩ c) else 0 := by
    unfold val_main_v45 val_main_call0_v0 val_main_c
    generalize val_main_v44 (F := Ideal) a0 a1 a2 a3 a4 a5 = y
    pointwise
    have hz : (FloatOps.sitofp FTy.f32 (0#32) : Ideal FTy.f32) = (0 : EReal) := by
      simp [FloatOps.sitofp]
    rw [hz]
    by_cases h : 1 ≤ i.val ∧ i.val ≤ 2048
    · rw [dif_pos h, dif_pos ⟨h.1, by omega⟩]
    · rw [dif_neg h, dif_neg (by omega)]
  rw [hh]
  by_cases h : 1 ≤ i.val ∧ i.val ≤ 2048
  · rw [dif_pos h, u44]
    congr 1
    refine (padded_mid _ _ _ _ _ ⟨i.val - 1, by omega⟩).symm.trans ?_
    show padded _ _ _ _ _ (i.val - 1 + 1) = _
    rw [Nat.sub_add_cancel h.1]
  · rw [dif_neg h, padR, padded_out _ _ _ _ _ _ h, up_zero]

theorem u46 (b : Fin 8) (s : Fin 2048) (c : Fin 5632) : val_main_v46 (F := Ideal) a0 a1 a2 a3 a4 a5 (ix3 b s c)
    = val_main_v45 (F := Ideal) a0 a1 a2 a3 a4 a5 (ix3 b ⟨s.val, by omega⟩ c) := by
  unfold val_main_v46; generalize val_main_v45 (F := Ideal) a0 a1 a2 a3 a4 a5 = y; pointwise
theorem u55 (b : Fin 8) (s : Fin 2048) (c : Fin 5632) : val_main_v55 (F := Ideal) a0 a1 a2 a3 a4 a5 (ix3 b s c)
    = val_main_v45 (F := Ideal) a0 a1 a2 a3 a4 a5 (ix3 b ⟨s.val + 1, by omega⟩ c) := by
  unfold val_main_v55; generalize val_main_v45 (F := Ideal) a0 a1 a2 a3 a4 a5 = y; pointwise
  congr 2; apply Fin.ext; dsimp; omega
theorem u62 (b : Fin 8) (s : Fin 2048) (c : Fin 5632) : val_main_v62 (F := Ideal) a0 a1 a2 a3 a4 a5 (ix3 b s c)
    = val_main_v45 (F := Ideal) a0 a1 a2 a3 a4 a5 (ix3 b ⟨s.val + 2, by omega⟩ c) := by
  unfold val_main_v62; generalize val_main_v45 (F := Ideal) a0 a1 a2 a3 a4 a5 = y; pointwise
  congr 2; apply Fin.ext; dsimp; omega

theorem w50 (b : Fin 8) (s : Fin 2048) (c : Fin 5632) : val_main_v50 (F := Ideal) a6 (ix3 b s c) = cwR a6 0 c := by
  unfold val_main_v50 val_main_v49 val_main_v48 val_main_v47; pointwise
theorem w59 (b : Fin 8) (s : Fin 2048) (c : Fin 5632) : val_main_v59 (F := Ideal) a6 (ix3 b s c) = cwR a6 1 c := by
  unfold val_main_v59 val_main_v58 val_main_v57 val_main_v56; pointwise
theorem w66 (b : Fin 8) (s : Fin 2048) (c : Fin 5632) : val_main_v66 (F := Ideal) a6 (ix3 b s c) = cwR a6 2 c := by
  unfold val_main_v66 val_main_v65 val_main_v64 val_main_v63; pointwise
theorem b53 (b : Fin 8) (s : Fin 2048) (c : Fin 5632) : val_main_v53 (F := Ideal) a7 (ix3 b s c) = cbR a7 c := by
  unfold val_main_v53 val_main_v52; pointwise

/-- The convolution. -/
theorem c68 (b : Fin 8) (s : Fin 2048) (c : Fin 5632) : val_main_v68 (F := Ideal) a0 a1 a2 a3 a4 a5 a6 a7 (ix3 b s c)
    = conv (wuR a5) (cwR a6) (cbR a7) (padR a0 a1 a2 a3 a4 b s.val) (padR a0 a1 a2 a3 a4 b (s.val + 1))
        (padR a0 a1 a2 a3 a4 b (s.val + 2)) c := by
  rw [val_main_v68_apply, val_main_v61_apply, val_main_v54_apply, val_main_v51_apply, val_main_v60_apply, val_main_v67_apply,
    u46, u55, u62, u45, u45, u45, w50, w59, w66, b53]
  rfl

theorem c69 (b : Fin 8) (s : Fin 2048) (j : Fin 2816) : val_main_v69 (F := Ideal) a0 a1 a2 a3 a4 a5 a6 a7 (ix3 b s j)
    = val_main_v68 (F := Ideal) a0 a1 a2 a3 a4 a5 a6 a7 (ix3 b s ⟨j.val, by omega⟩) := by
  unfold val_main_v69; generalize val_main_v68 (F := Ideal) a0 a1 a2 a3 a4 a5 a6 a7 = y; pointwise
theorem c70 (b : Fin 8) (s : Fin 2048) (j : Fin 2816) : val_main_v70 (F := Ideal) a0 a1 a2 a3 a4 a5 a6 a7 (ix3 b s j)
    = val_main_v68 (F := Ideal) a0 a1 a2 a3 a4 a5 a6 a7 (ix3 b s ⟨2816 + j.val, by omega⟩) := by
  unfold val_main_v70; generalize val_main_v68 (F := Ideal) a0 a1 a2 a3 a4 a5 a6 a7 = y; pointwise

theorem l5 (b : Fin 8) (s : Fin 2048) (j : Fin 2816) : val_main_call1_v5 (F := Ideal) a0 a1 a2 a3 a4 a5 a6 a7 (ix3 b s j)
    = Ideal.div 1 (1 + Ideal.exp (-val_main_v69 (F := Ideal) a0 a1 a2 a3 a4 a5 a6 a7 (ix3 b s j))) := by
  unfold val_main_call1_v5 val_main_call1_v4 val_main_call1_cst_0 val_main_call1_v3 val_main_call1_v2 val_main_call1_cst
    val_main_call1_v1 val_main_call1_v0
  generalize val_main_v69 (F := Ideal) a0 a1 a2 a3 a4 a5 a6 a7 = y
  pointwise

/-- The activation. -/
theorem t72 (b : Fin 8) (s : Fin 2048) (j : Fin 2816) : val_main_v72 (F := Ideal) a0 a1 a2 a3 a4 a5 a6 a7 (ix3 b s j)
    = act (wuR a5) (cwR a6) (cbR a7) (padR a0 a1 a2 a3 a4 b s.val) (padR a0 a1 a2 a3 a4 b (s.val + 1))
        (padR a0 a1 a2 a3 a4 b (s.val + 2)) j := by
  rw [val_main_v72_apply, val_main_v71_apply, l5, c69, c70, c68, c68]
  show _ * Ideal.div 1 _ * _ = _
  rw [mul_logistic]
  rfl

theorem d73 (b : Fin 8) (s : Fin 2048) (n : Fin 1024) : val_main_v73 (F := Ideal) a0 a1 a2 a3 a4 a5 a6 a7 a8 (ix3 b s n)
    = ∑ j, act (wuR a5) (cwR a6) (cbR a7) (padR a0 a1 a2 a3 a4 b s.val) (padR a0 a1 a2 a3 a4 b (s.val + 1))
        (padR a0 a1 a2 a3 a4 b (s.val + 2)) j * wdR a8 j n := by
  simp only [← t72]
  unfold val_main_v73
  generalize val_main_v72 (F := Ideal) a0 a1 a2 a3 a4 a5 a6 a7 = y
  pointwise

theorem x76 (b : Fin 8) (s : Fin 2048) (n : Fin 1024) : val_main_v76 (F := Ideal) a0 a1 a2 a3 a4 a5 a6 a7 a8 (ix3 b s n)
    = tailAt a0 a1 a2 a3 a4 a5 a6 a7 a8 b s n := by
  rw [val_main_v76_apply, val_main_v75_apply, m74, d73, x24]
  rfl

/-- The reference's output array is `result` of its arguments. -/
theorem result_eq : val_main_v77 (F := Ideal) a0 a1 a2 a3 a4 a5 a6 a7 a8 = result a0 a1 a2 a3 a4 a5 a6 a7 a8 := by
  funext y
  change (⟨2, ![16384, 1024]⟩ : Shape).Idx at y
  idx_vars y
  refine Eq.trans ?_ (x76 a0 a1 a2 a3 a4 a5 a6 a7 a8 ⟨y0.val / 2048, by omega⟩ ⟨y0.val % 2048, Nat.mod_lt _ (by omega)⟩ y1)
  unfold val_main_v77
  generalize val_main_v76 (F := Ideal) a0 a1 a2 a3 a4 a5 a6 a7 a8 = z
  pointwise

end Cert.TailRef
end
-- ==== Proof.TailClaims.lean ====
module

public import proofs.«01_k».proof.Defs
public import proofs.«01_k».proof.Proof.Gen.Tail.Frame
public import proofs.«01_k».proof.Proof.TailRef

/-! The claims about the block tail. -/

@[expose] public section

set_option maxRecDepth 16384

noncomputable section

namespace Cert.TailClaims

open Idealize.ShloMosaic Idealize.ShloMosaic.TcCoe Idealize.SL.Sem

/-- The block tail as written runs to its end and leaves its arguments as they were. -/
theorem frame_p : Cert.quiescent_Tail := fun m ρ _ => Cert.Tail.Gen.frame m ρ

/-- So does the block tail read at the extended reals. -/
theorem frame_pi : Cert.quiescent_TailIdeal := fun m ρ _ => Cert.TailIdeal.Gen.frame m ρ

/-- Its reference runs to its end and leaves its arguments as they were. -/
theorem frame_ri : Cert.quiescent_TailRefIdeal := fun m ρ _ =>
  (θ_run _ _ _).mono (fun r h => ⟨fun c => (h c).2, sem_eq_zero_of_no_sems (by decide) r.2⟩)
    (Cert.TailRefIdeal.Value.run m ρ)

section
open Cert.TailIdeal Cert.TailIdeal.Gen Cert.TailArray

/-- The block tail runs, ends with `result` of its arguments in the output, and leaves the arguments alone. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run _ _ _).mono (fun _ hr c => ⟨(hr c).1.trans (final m c), (hr c).2⟩)
    (Cert.TailIdeal.Value.run_blocks m ρ)
end

/-- The block tail and its reference end with equal results. -/
theorem algebraic : Cert.algebraic_TailIdeal_TailRefIdeal := by
  intro m ρ m' ρ' _ hag
  refine ⟨_, kernel_run m ρ, (θ_run _ _ _).mono (fun r h c => ⟨(h c).1.trans ?_, (h c).2⟩) (Cert.TailRefIdeal.Value.run m' ρ')⟩
  obtain ⟨e0, e1, e2, e3, e4, e5, e6, e7, e8⟩ := hag c
  rw [Cert.TailRefIdeal.Read.val_main_v77_eq, e0, e1, e2, e3, e4, e5, e6, e7, e8]
  exact TailRef.result_eq _ _ _ _ _ _ _ _ _

end Cert.TailClaims
end
-- ==== Proof.TailFinalBlock.lean ====
module

public import proofs.«01_k».proof.Proof.TailArray
public import proofs.«01_k».proof.Proof.Gen.TailFinalIdeal.Value
public import Idealize.ShloMosaic.Lib.Pipeline.ValueKit

/-! The last layer's block tail: what one grid point leaves, the rows of the plain block tail and their norm. -/

@[expose] public section

set_option maxRecDepth 16384

noncomputable section

namespace Cert.TailFinalBlock

open Cert.TailFinalIdeal Cert.TailFinalIdeal.Gen Cert.TailMath Cert.TailBlock
open Idealize.ShloMosaic Idealize.ShloMosaic.TcCoe Idealize.ShloMosaic.Tactic

/-- The rows before the last norm. -/
abbrev rows (x0 : Vec Ideal S512x1024 .f32) (x1 x2 : Vec Ideal S8x1024 .f32) (x3 : Vec Ideal S512x1024 .bf16)
    (x4 x5 : Vec Ideal S16x1024 .bf16) (x6 : Vec Ideal S1x6x1024 .f32) (x7 : Vec Ideal S1x1024 .f32)
    (x8 : Vec Ideal S1024x1024 .bf16) (x9 : Vec Ideal S1024x5632 .bf16) (x10 : Vec Ideal S3x5632 .f32)
    (x11 : Vec Ideal S1x5632 .f32) (x12 : Vec Ideal S2816x1024 .bf16) (i : ℕ) : FVec Ideal S512x1024 .f32 :=
  Cert.TailIdeal.Gen.k0_pay1 (F := Ideal) (Cert.TailIdeal.Gen.k0_pay73 (mixed x0 x1 x2 x3 x4 x5 x6 x8))
    (Cert.TailIdeal.Gen.k0_pay74 (Cert.TailIdeal.Gen.k0_pay2 x6))
    (fun j => actBlk (hidden x0 x1 x2 x3 x4 x5 x6 x7 x8 (place (BitVec.ofNat 32 i))) x9 x10 x11 j) x12

/-- The rows before the last norm are what the plain block tail would write. -/
theorem rows_same (v11 : FVec Ideal S6x1024 .f32) (v59 : FVec Ideal S520x1024 .f32) (a : FVec Ideal S512x2816 .bf16)
    (x12 : Vec Ideal S2816x1024 .bf16) :
    k0_pay73 (F := Ideal) v11 v59 a x12
      = Cert.TailIdeal.Gen.k0_pay1 (Cert.TailIdeal.Gen.k0_pay73 v59) (Cert.TailIdeal.Gen.k0_pay74 v11) a x12 := rfl

/-- The last norm, element by element. -/
theorem finish_at (v11 : FVec Ideal S6x1024 .f32) (v59 : FVec Ideal S520x1024 .f32) (a : FVec Ideal S512x2816 .bf16)
    (x12 : Vec Ideal S2816x1024 .bf16) (x13 : Vec Ideal S1x1024 .f32) (r : Fin 512) (n : Fin 1024) :
    k0_pay1 (F := Ideal) (k0_pay73 v11 v59 a x12) (k0_pay74 x13) (k0_pay75 v11 v59 a x12) (Scalar.ofBits .f32 0x358637BD#32) (ix2 r n)
      = rms (fun k => x13 (ix2 0 k)) (fun k => k0_pay73 (F := Ideal) v11 v59 a x12 (ix2 r k)) n := by
  simp only [k0_pay1, k0_pay74, k0_pay75]
  generalize k0_pay73 (F := Ideal) v11 v59 a x12 = y
  unfold_payloads; pointwise
  rfl

set_option maxHeartbeats 2000000 in
/-- The block of point `t`. -/
theorem block_eq (m : (ℓ : Loc nD τ sig) → Buf (Elt Ideal) ℓ) (c : Dev nD) (t : Fin cfg0.N) (r : Fin 512) (n : Fin 1024) :
    outsAt0 (F := Ideal) m c t (ix2 r n) = rms (fun k => iblk m c 13 t (ix2 0 k))
      (fun k => rows (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (grid0.coords t 0).val (ix2 r k)) n := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  frame_out
  rw [View.readCov_eq_canon']
  refine (finish_at _ _ _ x12 x13 r n).trans ?_
  refine congrArg (fun z => rms (fun k => x13 (ix2 0 k)) z n) ?_
  funext k
  refine congrFun ((rows_same _ _ _ x12).trans ?_) _
  refine congrArg (fun z => Cert.TailIdeal.Gen.k0_pay1 (F := Ideal) _ _ z x12) ?_
  funext j
  refine Eq.trans ?_ (canon_pieces _ _ _ _ j)
  refine congrArg₂ View.canon ?_ ?_
  · rfl
  · funext a; fin_cases a <;> apply Fin.ext
    · show 0 + 1 * (j 0).val = (j 0).val; omega
    · show 0 + 1 * (j 1).val = (j 1).val; omega

end Cert.TailFinalBlock
end
-- ==== Proof.TailFinalArray.lean ====
module

public import proofs.«01_k».proof.Proof.TailFinalBlock

/-! The last layer's whole output array as one function of its ten argument arrays. -/

@[expose] public section

set_option maxRecDepth 16384

noncomputable section

namespace Cert.TailFinalArray

open Idealize.ShloMosaic Idealize.ShloMosaic.TcCoe Idealize.SL.Sem
open Cert.TailFinalIdeal Cert.TailFinalIdeal.Gen Cert.TailMath Cert.TailFinalBlock
open Cert.TailArray (tailAt rows_at)
open Idealize.ShloMosaic.Pipeline (Dat)

/-- The output array: the block tail of each row, then its norm. -/
def result (a0 : Vec Ideal S16384x1024 .f32) (a1 : Vec Ideal S16384x1024 .bf16) (a2 : Vec Ideal S16x6x1024 .f32)
    (a3 : Vec Ideal S1024 .f32) (a4 : Vec Ideal S1024x1024 .f32) (a5 : Vec Ideal S1024x5632 .f32) (a6 : Vec Ideal S3x5632 .f32)
    (a7 : Vec Ideal S5632 .f32) (a8 : Vec Ideal S2816x1024 .f32) (a9 : Vec Ideal S1024 .f32) (y : S16384x1024.Idx) : EReal :=
  rms (fun k => a9 (ix1 k))
    (tailAt a0 a1 a2 a3 a4 a5 a6 a7 a8 ⟨(y 0).val / 2048, by have : (y 0).val < 16384 := (y 0).isLt; omega⟩
      ⟨(y 0).val % 2048, Nat.mod_lt _ (by omega)⟩) (y 1)

variable (m : (ℓ : Loc nD τ sig) → Buf (Elt Ideal) ℓ)

theorem point0 : ∀ t : Fin grid0.N, win0_0.index t = ![(grid0.coords t 0).val, 0] := by decide +kernel
theorem point1 : ∀ t : Fin grid0.N, win0_1.index t = ![64 * (grid0.coords t 0).val - 1, 0] := by decide +kernel
theorem point2 : ∀ t : Fin grid0.N, win0_2.index t = ![min (64 * (grid0.coords t 0).val + 64) 2047, 0] := by decide +kernel
theorem point3 : ∀ t : Fin grid0.N, win0_3.index t = ![(grid0.coords t 0).val, 0] := by decide +kernel
theorem point4 : ∀ t : Fin grid0.N, win0_4.index t = ![32 * (grid0.coords t 0).val - 1, 0] := by decide +kernel
theorem point5 : ∀ t : Fin grid0.N, win0_5.index t = ![min (32 * (grid0.coords t 0).val + 32) 1023, 0] := by decide +kernel
theorem point6 : ∀ t : Fin grid0.N, win0_6.index t = ![(grid0.coords t 0).val / 4, 0, 0] := by decide +kernel
theorem point7 : ∀ t : Fin grid0.N, win0_7.index t = ![0, 0] := by decide +kernel
theorem point8 : ∀ t : Fin grid0.N, win0_8.index t = ![0, 0] := by decide +kernel
theorem point9 : ∀ t : Fin grid0.N, win0_9.index t = ![0, 0] := by decide +kernel
theorem point10 : ∀ t : Fin grid0.N, win0_10.index t = ![0, 0] := by decide +kernel
theorem point11 : ∀ t : Fin grid0.N, win0_11.index t = ![0, 0] := by decide +kernel
theorem point12 : ∀ t : Fin grid0.N, win0_12.index t = ![0, 0] := by decide +kernel
theorem point13 : ∀ t : Fin grid0.N, win0_13.index t = ![0, 0] := by decide +kernel
theorem point14 : ∀ t : Fin grid0.N, win0_14.index t = ![(grid0.coords t 0).val, 0] := by decide +kernel

/-- The cast output weight is the weight. -/
theorem V_v0 (c : Dev nD) (d k : Fin 1024) :
    V m c main_v0 (ix2 d k) = m ((c : Thread nD τ).loc main_arg4) (ix2 d k) := by
  unfold V; after_results; rfl
/-- The cast wide weight is the weight. -/
theorem V_v1 (c : Dev nD) (d : Fin 1024) (k : Fin 5632) :
    V m c main_v1 (ix2 d k) = m ((c : Thread nD τ).loc main_arg5) (ix2 d k) := by
  unfold V; after_results; rfl
/-- The reshaped bias is the bias. -/
theorem V_v2 (c : Dev nD) (k : Fin 5632) :
    V m c main_v2 (ix2 0 k) = m ((c : Thread nD τ).loc main_arg7) (ix1 k) := by
  unfold V; after_results; pointwise
/-- The cast narrow weight is the weight. -/
theorem V_v3 (c : Dev nD) (d : Fin 2816) (k : Fin 1024) :
    V m c main_v3 (ix2 d k) = m ((c : Thread nD τ).loc main_arg8) (ix2 d k) := by
  unfold V; after_results; rfl
/-- The reshaped gain is the gain. -/
theorem V_v4 (c : Dev nD) (k : Fin 1024) :
    V m c main_v4 (ix2 0 k) = m ((c : Thread nD τ).loc main_arg3) (ix1 k) := by
  unfold V; after_results; pointwise

/-- The reshaped last gain is the last gain. -/
theorem V_v5 (c : Dev nD) (k : Fin 1024) :
    V m c main_v5 (ix2 0 k) = m ((c : Thread nD τ).loc main_arg9) (ix1 k) := by
  unfold V; after_results; pointwise

theorem tiles (t : Fin grid0.N) : (grid0.coords t 0).val < 32 := (grid0.coords t 0).isLt

/-- Window 0's block is the tile's rows. -/
theorem iblk0 (c : Dev nD) (t : Fin grid0.N) (r : Fin 512) (k : Fin 1024) : iblk m c 0 t (ix2 r k) = m ((c : Thread nD τ).loc main_arg0) (ix2 ⟨512 * (grid0.coords t 0).val + r.val, by have := tiles t; omega⟩ k) := by
  blk_simp [iblk]
  refine Eq.trans ?_ (congrFun (V_main_arg0 m c) (ix2 ⟨512 * (grid0.coords t 0).val + r.val, by have := tiles t; omega⟩ k))
  congr 1
  funext a
  fin_cases a <;> apply Fin.ext <;> blk_simp [point0] <;> dsimp <;> omega

/-- Window 1's block is the eight rows ahead of the tile's. -/
theorem iblk1 (c : Dev nD) (t : Fin grid0.N) (r : Fin 8) (k : Fin 1024) : iblk m c 1 t (ix2 r k) = m ((c : Thread nD τ).loc main_arg0) (ix2 ⟨8 * (64 * (grid0.coords t 0).val - 1) + r.val, by have := tiles t; omega⟩ k) := by
  blk_simp [iblk]
  refine Eq.trans ?_ (congrFun (V_main_arg0 m c) (ix2 ⟨8 * (64 * (grid0.coords t 0).val - 1) + r.val, by have := tiles t; omega⟩ k))
  congr 1
  funext a
  fin_cases a <;> apply Fin.ext <;> blk_simp [point1] <;> dsimp <;> omega

/-- Window 2's block is the eight rows after the tile's. -/
theorem iblk2 (c : Dev nD) (t : Fin grid0.N) (r : Fin 8) (k : Fin 1024) : iblk m c 2 t (ix2 r k) = m ((c : Thread nD τ).loc main_arg0) (ix2 ⟨8 * min (64 * (grid0.coords t 0).val + 64) 2047 + r.val, by have := tiles t; omega⟩ k) := by
  blk_simp [iblk]
  refine Eq.trans ?_ (congrFun (V_main_arg0 m c) (ix2 ⟨8 * min (64 * (grid0.coords t 0).val + 64) 2047 + r.val, by have := tiles t; omega⟩ k))
  congr 1
  funext a
  fin_cases a <;> apply Fin.ext <;> blk_simp [point2] <;> dsimp <;> omega

/-- Window 3's block is the tile's rows of the attention. -/
theorem iblk3 (c : Dev nD) (t : Fin grid0.N) (r : Fin 512) (k : Fin 1024) : iblk m c 3 t (ix2 r k) = m ((c : Thread nD τ).loc main_arg1) (ix2 ⟨512 * (grid0.coords t 0).val + r.val, by have := tiles t; omega⟩ k) := by
  blk_simp [iblk]
  refine Eq.trans ?_ (congrFun (V_main_arg1 m c) (ix2 ⟨512 * (grid0.coords t 0).val + r.val, by have := tiles t; omega⟩ k))
  congr 1
  funext a
  fin_cases a <;> apply Fin.ext <;> blk_simp [point3] <;> dsimp <;> omega

/-- Window 4's block is the sixteen rows ahead of the tile's, of the attention. -/
theorem iblk4 (c : Dev nD) (t : Fin grid0.N) (r : Fin 16) (k : Fin 1024) : iblk m c 4 t (ix2 r k) = m ((c : Thread nD τ).loc main_arg1) (ix2 ⟨16 * (32 * (grid0.coords t 0).val - 1) + r.val, by have := tiles t; omega⟩ k) := by
  blk_simp [iblk]
  refine Eq.trans ?_ (congrFun (V_main_arg1 m c) (ix2 ⟨16 * (32 * (grid0.coords t 0).val - 1) + r.val, by have := tiles t; omega⟩ k))
  congr 1
  funext a
  fin_cases a <;> apply Fin.ext <;> blk_simp [point4] <;> dsimp <;> omega

/-- Window 5's block is the sixteen rows after the tile's, of the attention. -/
theorem iblk5 (c : Dev nD) (t : Fin grid0.N) (r : Fin 16) (k : Fin 1024) : iblk m c 5 t (ix2 r k) = m ((c : Thread nD τ).loc main_arg1) (ix2 ⟨16 * min (32 * (grid0.coords t 0).val + 32) 1023 + r.val, by have := tiles t; omega⟩ k) := by
  blk_simp [iblk]
  refine Eq.trans ?_ (congrFun (V_main_arg1 m c) (ix2 ⟨16 * min (32 * (grid0.coords t 0).val + 32) 1023 + r.val, by have := tiles t; omega⟩ k))
  congr 1
  funext a
  fin_cases a <;> apply Fin.ext <;> blk_simp [point5] <;> dsimp <;> omega

/-- Window 6's block is the batch's modulation. -/
theorem iblk6 (c : Dev nD) (t : Fin grid0.N) (i : Fin 6) (k : Fin 1024) : iblk m c 6 t (ix3 0 i k) = m ((c : Thread nD τ).loc main_arg2) (ix3 ⟨(grid0.coords t 0).val / 4, by have := tiles t; omega⟩ i k) := by
  blk_simp [iblk]
  refine Eq.trans ?_ (congrFun (V_main_arg2 m c) (ix3 ⟨(grid0.coords t 0).val / 4, by have := tiles t; omega⟩ i k))
  congr 1
  funext a
  fin_cases a <;> apply Fin.ext <;> blk_simp [point6] <;> dsimp <;> omega

/-- Window 7's block is the norm's gain. -/
theorem iblk7 (c : Dev nD) (t : Fin grid0.N) (k : Fin 1024) : iblk m c 7 t (ix2 0 k) = m ((c : Thread nD τ).loc main_arg3) (ix1 k) := by
  blk_simp [iblk]
  refine Eq.trans ?_ (V_v4 m c k)
  congr 1
  funext a
  fin_cases a <;> apply Fin.ext <;> blk_simp [point7] <;> dsimp <;> omega

/-- Window 8's block is the output weight. -/
theorem iblk8 (c : Dev nD) (t : Fin grid0.N) (d k : Fin 1024) : iblk m c 8 t (ix2 d k) = m ((c : Thread nD τ).loc main_arg4) (ix2 d k) := by
  blk_simp [iblk]
  refine Eq.trans ?_ (V_v0 m c d k)
  congr 1
  funext a
  fin_cases a <;> apply Fin.ext <;> blk_simp [point8] <;> dsimp <;> omega

/-- Window 9's block is the wide weight. -/
theorem iblk9 (c : Dev nD) (t : Fin grid0.N) (d : Fin 1024) (k : Fin 5632) : iblk m c 9 t (ix2 d k) = m ((c : Thread nD τ).loc main_arg5) (ix2 d k) := by
  blk_simp [iblk]
  refine Eq.trans ?_ (V_v1 m c d k)
  congr 1
  funext a
  fin_cases a <;> apply Fin.ext <;> blk_simp [point9] <;> dsimp <;> omega

/-- Window 10's block is the convolution's weight. -/
theorem iblk10 (c : Dev nD) (t : Fin grid0.N) (d : Fin 3) (k : Fin 5632) : iblk m c 10 t (ix2 d k) = m ((c : Thread nD τ).loc main_arg6) (ix2 d k) := by
  blk_simp [iblk]
  refine Eq.trans ?_ (congrFun (V_main_arg6 m c) (ix2 d k))
  congr 1
  funext a
  fin_cases a <;> apply Fin.ext <;> blk_simp [point10] <;> dsimp <;> omega

/-- Window 11's block is the convolution's bias. -/
theorem iblk11 (c : Dev nD) (t : Fin grid0.N) (k : Fin 5632) : iblk m c 11 t (ix2 0 k) = m ((c : Thread nD τ).loc main_arg7) (ix1 k) := by
  blk_simp [iblk]
  refine Eq.trans ?_ (V_v2 m c k)
  congr 1
  funext a
  fin_cases a <;> apply Fin.ext <;> blk_simp [point11] <;> dsimp <;> omega

/-- Window 12's block is the narrow weight. -/
theorem iblk12 (c : Dev nD) (t : Fin grid0.N) (d : Fin 2816) (k : Fin 1024) : iblk m c 12 t (ix2 d k) = m ((c : Thread nD τ).loc main_arg8) (ix2 d k) := by
  blk_simp [iblk]
  refine Eq.trans ?_ (V_v3 m c d k)
  congr 1
  funext a
  fin_cases a <;> apply Fin.ext <;> blk_simp [point12] <;> dsimp <;> omega

/-- Window 13's block is the last gain. -/
theorem iblk13 (c : Dev nD) (t : Fin grid0.N) (k : Fin 1024) : iblk m c 13 t (ix2 0 k) = m ((c : Thread nD τ).loc main_arg9) (ix1 k) := by
  blk_simp [iblk]
  refine Eq.trans ?_ (V_v5 m c k)
  congr 1
  funext a
  fin_cases a <;> apply Fin.ext <;> blk_simp [point13] <;> dsimp <;> omega

/-- The tile's output, row by row. -/
theorem block_at (c : Dev nD) (t : Fin cfg0.N) (r : Fin 512) (n : Fin 1024) :
    outsAt0 (F := Ideal) m c t (ix2 r n) =
      rms (fun k => m ((c : Thread nD τ).loc main_arg9) (ix1 k))
        (tailAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          ⟨(grid0.coords t 0).val / 4, by have := tiles t; omega⟩
          ⟨512 * ((grid0.coords t 0).val % 4) + r.val, by omega⟩) n := by
  rw [block_eq]
  refine congrArg₂ (fun g y => rms g y n) (funext fun k => iblk13 m c t k) (funext fun k => ?_)
  exact rows_at _ _ _ _ _ _ _ _ _ _ _ _ _ _ _ _ _ _ _ _ _ _ ⟨(grid0.coords t 0).val, tiles t⟩ (iblk0 m c t) (iblk1 m c t)
    (iblk2 m c t) (iblk3 m c t) (iblk4 m c t) (iblk5 m c t) (iblk6 m c t) (iblk7 m c t) (iblk8 m c t) (iblk9 m c t)
    (iblk10 m c t) (iblk11 m c t) (iblk12 m c t) r k

/-- The kernel's output array is `result` of its arguments. -/
theorem final (c : Dev nD) :
    (dats m 0 c).arrAt 14 cfg0.N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  refine (dats m 0 c).arrAt_eq_of_covers 14 _ (by decide +kernel) fun t hf y => ?_
  blk_simp
  rw [after0_14]
  change (⟨2, ![512, 1024]⟩ : Shape).Idx at y
  idx_vars y
  refine (block_at m c t y0 y1).trans ?_
  have ht := tiles t
  have h0 : y0.val < 512 := y0.isLt
  unfold result
  congr 1
  · congr 1 <;> apply Fin.ext <;> blk_simp [point14] <;> dsimp <;> omega
  · apply Fin.ext; blk_simp [point14]

end Cert.TailFinalArray
end
-- ==== Proof.TailFinalRef.lean ====
module

public import proofs.«01_k».proof.Proof.TailFinalArray
public import proofs.«01_k».proof.Proof.TailRef
public import proofs.«01_k».proof.Proof.Gen.TailFinalRefIdeal.Run
public import proofs.«01_k».proof.Proof.Gen.TailFinalRefIdeal.Read
public import Idealize.ShloMosaic.Lib.Pointwise

/-! The last layer's reference: the block tail's reference, then the norm of each row. -/

@[expose] public section

set_option maxRecDepth 16384

noncomputable section

namespace Cert.TailFinalRef

open Idealize.ShloMosaic
open Cert.TailFinalRefIdeal Cert.TailFinalRefIdeal.Gen Cert.TailFinalRefIdeal.Read Cert.TailMath
open Cert.TailArray (tailAt)

variable (a0 : Vec Ideal S16384x1024 .f32) (a1 : Vec Ideal S16384x1024 .bf16) (a2 : Vec Ideal S16x6x1024 .f32)
  (a3 : Vec Ideal S1024 .f32) (a4 : Vec Ideal S1024x1024 .f32) (a5 : Vec Ideal S1024x5632 .f32) (a6 : Vec Ideal S3x5632 .f32)
  (a7 : Vec Ideal S5632 .f32) (a8 : Vec Ideal S2816x1024 .f32) (a9 : Vec Ideal S1024 .f32)

/-- Up to the last norm, the reference is the block tail's. -/
theorem same : val_main_v77 (F := Ideal) a0 a1 a2 a3 a4 a5 a6 a7 a8
    = Cert.TailRefIdeal.Read.val_main_v77 (F := Ideal) a0 a1 a2 a3 a4 a5 a6 a7 a8 := rfl

/-- The rows before the last norm. -/
theorem x78 (b : Fin 8) (s : Fin 2048) (k : Fin 1024) : val_main_v78 (F := Ideal) a0 a1 a2 a3 a4 a5 a6 a7 a8 (ix3 b s k)
    = tailAt a0 a1 a2 a3 a4 a5 a6 a7 a8 b s k := by
  unfold val_main_v78
  rw [same, TailRef.result_eq]
  generalize hz : Cert.TailArray.result a0 a1 a2 a3 a4 a5 a6 a7 a8 = z
  pointwise
  rw [← hz]
  unfold Cert.TailArray.result
  congr 1 <;> apply Fin.ext <;> dsimp <;> omega

/-- The last norm's factor of a row. -/
theorem r87 (b : Fin 8) (s : Fin 2048) (k : Fin 1024) : val_main_v87 (F := Ideal) a0 a1 a2 a3 a4 a5 a6 a7 a8 (ix3 b s k)
    = Ideal.rsqrt (Ideal.div (∑ j, tailAt a0 a1 a2 a3 a4 a5 a6 a7 a8 b s j * tailAt a0 a1 a2 a3 a4 a5 a6 a7 a8 b s j)
        (Ideal.ofBits FTy.f32 0x44800000#32) + Ideal.ofBits FTy.f32 0x358637BD#32) := by
  simp only [← x78]
  unfold val_main_v87 val_main_v86 val_main_v85 val_main_v84 val_main_cst_5 val_main_v83 val_main_v82 val_main_cst_4 val_main_v81
    val_main_v80 val_main_cst_3 val_main_v79
  generalize val_main_v78 (F := Ideal) a0 a1 a2 a3 a4 a5 a6 a7 a8 = y
  pointwise

/-- The last gain. -/
theorem g90 (b : Fin 8) (s : Fin 2048) (k : Fin 1024) : val_main_v90 (F := Ideal) a9 (ix3 b s k) = a9 (ix1 k) := by
  unfold val_main_v90 val_main_v89; pointwise

/-- The normed rows. -/
theorem x91 (b : Fin 8) (s : Fin 2048) (k : Fin 1024) : val_main_v91 (F := Ideal) a0 a1 a2 a3 a4 a5 a6 a7 a8 a9 (ix3 b s k)
    = rms (fun k => a9 (ix1 k)) (tailAt a0 a1 a2 a3 a4 a5 a6 a7 a8 b s) k := by
  rw [val_main_v91_apply, val_main_v88_apply, r87, x78, g90]
  rfl

/-- The reference's output array is `result` of its arguments. -/
theorem result_eq : val_main_v92 (F := Ideal) a0 a1 a2 a3 a4 a5 a6 a7 a8 a9
    = Cert.TailFinalArray.result a0 a1 a2 a3 a4 a5 a6 a7 a8 a9 := by
  funext y
  change (⟨2, ![16384, 1024]⟩ : Shape).Idx at y
  idx_vars y
  refine Eq.trans ?_ (x91 a0 a1 a2 a3 a4 a5 a6 a7 a8 a9 ⟨y0.val / 2048, by omega⟩ ⟨y0.val % 2048, Nat.mod_lt _ (by omega)⟩ y1)
  unfold val_main_v92
  generalize val_main_v91 (F := Ideal) a0 a1 a2 a3 a4 a5 a6 a7 a8 a9 = z
  pointwise

end Cert.TailFinalRef
end
-- ==== Proof.TailFinalClaims.lean ====
module

public import proofs.«01_k».proof.Defs
public import proofs.«01_k».proof.Proof.Gen.TailFinal.Frame
public import proofs.«01_k».proof.Proof.TailFinalRef

/-! The claims about the last layer's block tail. -/

@[expose] public section

set_option maxRecDepth 16384

noncomputable section

namespace Cert.TailFinalClaims

open Idealize.ShloMosaic Idealize.ShloMosaic.TcCoe Idealize.SL.Sem

/-- The last layer's block tail as written runs to its end and leaves its arguments as they were. -/
theorem frame_p : Cert.quiescent_TailFinal := fun m ρ _ => Cert.TailFinal.Gen.frame m ρ

/-- So does the last layer's block tail read at the extended reals. -/
theorem frame_pi : Cert.quiescent_TailFinalIdeal := fun m ρ _ => Cert.TailFinalIdeal.Gen.frame m ρ

/-- Its reference runs to its end and leaves its arguments as they were. -/
theorem frame_ri : Cert.quiescent_TailFinalRefIdeal := fun m ρ _ =>
  (θ_run _ _ _).mono (fun r h => ⟨fun c => (h c).2, sem_eq_zero_of_no_sems (by decide) r.2⟩)
    (Cert.TailFinalRefIdeal.Value.run m ρ)

section
open Cert.TailFinalIdeal Cert.TailFinalIdeal.Gen Cert.TailFinalArray

/-- The last layer's block tail runs, ends with `result` of its arguments in the output, and leaves the arguments alone. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run _ _ _).mono (fun _ hr c => ⟨(hr c).1.trans (final m c), (hr c).2⟩)
    (Cert.TailFinalIdeal.Value.run_blocks m ρ)
end

/-- The last layer's block tail and its reference end with equal results. -/
theorem algebraic : Cert.algebraic_TailFinalIdeal_TailFinalRefIdeal := by
  intro m ρ m' ρ' _ hag
  refine ⟨_, kernel_run m ρ, (θ_run _ _ _).mono (fun r h c => ⟨(h c).1.trans ?_, (h c).2⟩) (Cert.TailFinalRefIdeal.Value.run m' ρ')⟩
  obtain ⟨e0, e1, e2, e3, e4, e5, e6, e7, e8, e9⟩ := hag c
  rw [Cert.TailFinalRefIdeal.Read.val_main_v92_eq]
  refine (TailFinalRef.result_eq _ _ _ _ _ _ _ _ _ _).trans ?_
  refine Eq.trans ?_ (congr (congr (congr (congr (congr (congr (congr (congr (congr (congrArg TailFinalArray.result e0) e1) e2) e3) e4) e5) e6) e7) e8) e9)
  rfl

end Cert.TailFinalClaims
end
-- ==== Proof.TailCtxBlock.lean ====
module

public import proofs.«01_k».proof.Proof.TailBlock
public import proofs.«01_k».proof.Proof.Gen.TailCtxIdeal.Value
public import Idealize.ShloMosaic.Lib.Pipeline.ValueKit

/-! The context's block tail: what one grid point leaves. A tile holds two whole sequences of 256 rows, so a row's
neighbour counts as zero where it belongs to another sequence. -/

@[expose] public section

set_option maxRecDepth 16384

noncomputable section

namespace Cert.TailCtxBlock

open Cert.TailCtxIdeal Cert.TailCtxIdeal.Gen Cert.TailMath
open Cert.TailBlock (wAt cAt bAt wAt_at cAt_at bAt_at piece_inb hrow mdOf gOf woOf mixed mixed_mid md_at g_at normed_at squares_at)
open Idealize.ShloMosaic Idealize.ShloMosaic.TcCoe Idealize.ShloMosaic.Tactic

section
variable (h : FVec Ideal S520x1024 .bf16) (p q : IVec S512x1 1) (wa wg : Vec Ideal S1024x256 .bf16)
  (ba a0 a1 a2 bg g0 g1 g2 : Vec Ideal S1x256 .f32)

/-- One branch of the convolution on 256 columns. -/
def branch : FVec Ideal S512x256 .f32 :=
  k0_pay15 (F := Ideal) h p q (k0_pay14 wa) (constant S520x256 .f32 0x00000000#32) ba a0 a1 a2

/-- One of the activation's eleven chunks of columns. -/
def chunk : FVec Ideal S512x256 .bf16 :=
  k0_pay20 (F := Ideal) (branch h p q wa ba a0 a1 a2) (k0_pay16 h wg) (k0_pay17 h wg) (k0_pay18 h p wg)
    (Scalar.ofBits .f32 0x00000000#32) (k0_pay19 q) bg g0 g1 g2

/-- One branch of the convolution at row `r` and column `j`. -/
theorem branch_at (r : Fin 512) (j : Fin 256) : branch h p q wa ba a0 a1 a2 (ix2 r j)
    = ba (ix2 0 j) + Scalar.select (p (ix2 r 0)) 0 (∑ x, h (ix2 ⟨7 + r.val, by omega⟩ x) * wa (ix2 x j)) * a0 (ix2 0 j)
      + (∑ x, h (ix2 ⟨8 + r.val, by omega⟩ x) * wa (ix2 x j)) * a1 (ix2 0 j)
      + Scalar.select (q (ix2 r 0)) 0 (∑ x, h (ix2 ⟨(9 + r.val) % 520, by omega⟩ x) * wa (ix2 x j)) * a2 (ix2 0 j) := by
  simp only [branch, k0_pay15, k0_pay14]; unfold_payloads; pointwise
  have e1 : (⟨(8 + r.val + 520 - 1) % 520, by omega⟩ : Fin 520) = ⟨7 + r.val, by omega⟩ := by ext; dsimp only; omega
  have e2 : (⟨(8 + r.val + 520 - 519) % 520, by omega⟩ : Fin 520) = ⟨(9 + r.val) % 520, by omega⟩ := by
    ext; dsimp only; omega
  rw [e1, e2]

/-- A chunk at row `r` and column `j`: the gate of its two branches. -/
theorem chunk_at (r : Fin 512) (j : Fin 256) : chunk h p q wa wg ba a0 a1 a2 bg g0 g1 g2 (ix2 r j)
    = gated (branch h p q wa ba a0 a1 a2 (ix2 r j)) (branch h p q wg bg g0 g1 g2 (ix2 r j)) := by
  rw [branch_at h p q wg, chunk]
  generalize branch h p q wa ba a0 a1 a2 = y
  simp only [k0_pay20, k0_pay19, k0_pay18, k0_pay17, k0_pay16]; unfold_payloads; pointwise
  have e1 : (⟨(8 + r.val + 520 - 1) % 520, by omega⟩ : Fin 520) = ⟨7 + r.val, by omega⟩ := by ext; dsimp only; omega
  have e2 : (⟨(8 + r.val + 520 - 519) % 520, by omega⟩ : Fin 520) = ⟨(9 + r.val) % 520, by omega⟩ := by
    ext; dsimp only; omega
  rw [e1, e2, zero_sub]
  rfl
end

/-- The first row of a sequence is marked, -/
theorem first_at (r : Fin 512) : k0_pay12 (ix2 r 0) = if r.val % 256 = 0 then 1 else 0 := by
  simp only [k0_pay12, k0_pay11]; unfold_payloads; pointwise
  revert r; decide +kernel
/-- and so is the last. -/
theorem last_at (r : Fin 512) : k0_pay13 (ix2 r 0) = if r.val % 256 = 255 then 1 else 0 := by
  simp only [k0_pay13, k0_pay11]; unfold_payloads; pointwise
  revert r; decide +kernel

section
variable (h : FVec Ideal S520x1024 .bf16) (x9 : Vec Ideal S1024x5632 .bf16) (x10 : Vec Ideal S3x5632 .f32)
  (x11 : Vec Ideal S1x5632 .f32)

/-- The row ahead of row `r` in its sequence, zero ahead of the first. -/
def prevRow (r : Fin 512) (k : Fin 1024) : EReal := if r.val % 256 = 0 then 0 else hrow h ⟨7 + r.val, by omega⟩ k
/-- The row after row `r` in its sequence, zero after the last. -/
def nextRow (r : Fin 512) (k : Fin 1024) : EReal := if r.val % 256 = 255 then 0 else hrow h ⟨(9 + r.val) % 520, by omega⟩ k

/-- Chunk `c` as it is written: its columns, and what they hold. -/
def piece (c : Fin 11) : View.Piece (Elt Ideal) S512x2816 .bf16 :=
  ⟨Rect.unit (s := S512x2816) ![0, 256 * c.val] ![512, 256] (piece_inb c),
    chunk h k0_pay12 k0_pay13 (wAt x9 (256 * c.val) (by omega)) (wAt x9 (2816 + 256 * c.val) (by omega))
      (bAt x11 (256 * c.val) (by omega)) (cAt x10 0 (256 * c.val) (by omega)) (cAt x10 1 (256 * c.val) (by omega))
      (cAt x10 2 (256 * c.val) (by omega))
      (bAt x11 (2816 + 256 * c.val) (by omega)) (cAt x10 0 (2816 + 256 * c.val) (by omega))
      (cAt x10 1 (2816 + 256 * c.val) (by omega)) (cAt x10 2 (2816 + 256 * c.val) (by omega))⟩

/-- All the chunks, the last one written first. -/
def pieces : List (View.Piece (Elt Ideal) S512x2816 .bf16) :=
  [piece h x9 x10 x11 10, piece h x9 x10 x11 9, piece h x9 x10 x11 8, piece h x9 x10 x11 7, piece h x9 x10 x11 6,
   piece h x9 x10 x11 5, piece h x9 x10 x11 4, piece h x9 x10 x11 3, piece h x9 x10 x11 2, piece h x9 x10 x11 1,
   piece h x9 x10 x11 0]

/-- The activation at row `r` and column `j`. -/
def actAt (r : Fin 512) (j : Fin 2816) : EReal :=
  act (fun k c => x9 (ix2 k c)) (fun t c => x10 (ix2 t c)) (fun c => x11 (ix2 0 c))
    (prevRow h r) (hrow h ⟨8 + r.val, by omega⟩) (nextRow h r) j

/-- The activation block: every column of every row. -/
def actBlk (y : S512x2816.Idx) : EReal := actAt h x9 x10 x11 ⟨(y 0).val, (y 0).isLt⟩ ⟨(y 1).val, (y 1).isLt⟩

/-- A sum left out where a condition holds is the sum over a row that is zero there. -/
theorem select_up (P : Prop) [Decidable P] (x : Fin 1024 → EReal) (w : Fin 1024 → Fin 5632 → EReal) (c : Fin 5632) :
    Scalar.select (if P then (1 : BitVec 1) else 0) 0 (∑ k, x k * w k c) = up w (fun k => if P then 0 else x k) c := by
  by_cases hP : P
  · simp only [if_pos hP]; rw [up_zero]; rfl
  · simp only [if_neg hP]; rfl

/-- A branch on the columns from `o` is the convolution there. -/
theorem branch_cols (o : ℕ) (ho : o + 256 ≤ 5632) (r : Fin 512) (j : Fin 256) :
    branch h k0_pay12 k0_pay13 (wAt x9 o ho) (bAt x11 o ho) (cAt x10 0 o ho) (cAt x10 1 o ho) (cAt x10 2 o ho) (ix2 r j)
      = conv (fun k c => x9 (ix2 k c)) (fun t c => x10 (ix2 t c)) (fun c => x11 (ix2 0 c))
          (prevRow h r) (hrow h ⟨8 + r.val, by omega⟩) (nextRow h r) ⟨o + j.val, by omega⟩ := by
  rw [branch_at, first_at, last_at]
  simp only [wAt_at, cAt_at, bAt_at]
  unfold conv
  unfold prevRow nextRow
  rw [← select_up, ← select_up]
  rfl

/-- Each chunk holds the activation block's entries at its place. -/
theorem piece_at (c : Fin 11) (y : (piece h x9 x10 x11 c).1.shape.Idx) :
    (piece h x9 x10 x11 c).2 y = actBlk h x9 x10 x11 ((piece h x9 x10 x11 c).1.emb y) := by
  change (⟨2, ![512, 256]⟩ : Shape).Idx at y
  idx_vars y
  refine (chunk_at h _ _ _ _ _ _ _ _ _ _ _ _ y0 y1).trans ?_
  rw [branch_cols, branch_cols]
  have e : actBlk h x9 x10 x11 ((piece h x9 x10 x11 c).1.emb (ix2 y0 y1))
      = actAt h x9 x10 x11 y0 ⟨256 * c.val + y1.val, by have : y1.val < 256 := y1.isLt; omega⟩ := by
    show actAt h x9 x10 x11 ⟨0 + 1 * y0.val, _⟩ ⟨256 * c.val + 1 * y1.val, _⟩ = _
    congr 1 <;> apply Fin.ext <;> dsimp only <;> omega
  rw [e, actAt, act]
  congr 2
  apply Fin.ext; dsimp only; omega

/-- The chunks fill the block. -/
theorem pieces_cover (y : S512x2816.Idx) : ∃ p ∈ pieces h x9 x10 x11, y ∈ p.1.set := by
  have h1 : (y 1).val < 2816 := (y 1).isLt
  have h0 : (y 0).val < 512 := (y 0).isLt
  refine ⟨piece h x9 x10 x11 ⟨(y 1).val / 256, by omega⟩, ?_, ?_⟩
  · generalize (⟨(y 1).val / 256, _⟩ : Fin 11) = c
    fin_cases c <;> simp [pieces]
  · refine (Rect.mem_set_unit (inb := piece_inb _)).2 fun a => ?_
    fin_cases a
    · exact ⟨Nat.zero_le _, by show (y 0).val < 0 + 512; omega⟩
    · constructor
      · show 256 * ((y 1).val / 256) ≤ (y 1).val; omega
      · show (y 1).val < 256 * ((y 1).val / 256) + 256; omega

/-- So the activation's scratch holds the activation block. -/
theorem canon_pieces (y : S512x2816.Idx) : View.canon (pieces h x9 x10 x11) y = actBlk h x9 x10 x11 y := by
  refine View.canon_apply_of_pieces (Val := Elt Ideal) (e := .bf16) (actBlk h x9 x10 x11) _ ?_ y (pieces_cover h x9 x10 x11 y)
  intro p hp z
  have : ∃ c, p = piece h x9 x10 x11 c := by
    simp only [pieces, List.mem_cons, List.not_mem_nil, or_false] at hp
    rcases hp with hp | hp | hp | hp | hp | hp | hp | hp | hp | hp | hp <;> exact ⟨_, hp⟩
  obtain ⟨c, rfl⟩ := this
  exact piece_at h x9 x10 x11 c z

end

/-! ### The hidden rows -/

section
variable (x0 : Vec Ideal S512x1024 .f32) (x1 x2 : Vec Ideal S8x1024 .f32) (x3 : Vec Ideal S512x1024 .bf16)
  (x4 x5 : Vec Ideal S16x1024 .bf16) (x6 : Vec Ideal S1x6x1024 .f32) (x7 : Vec Ideal S1x1024 .f32)
  (x8 : Vec Ideal S1024x1024 .bf16) (p : BitVec 32)

/-- The hidden rows, with their halo; `p` is the tile's place in its sequence. -/
def hidden : FVec Ideal S520x1024 .bf16 :=
  k0_pay10 (F := Ideal) (k0_pay1 x6) (mixed x0 x1 x2 x3 x4 x5 x6 x8) (k0_pay7 p) (k0_pay8 x7)
    (k0_pay9 (k0_pay1 x6) (iota .tc S8x1 32 [0] iota_S8x1_d0_w32) (k0_pay2 x1 x2) k0_pay3 x4 x5 k0_pay4 k0_pay5 x3 x8 x0)

/-- The tile's own rows. -/
theorem hidden_mid (r : Fin 512) : hrow (hidden x0 x1 x2 x3 x4 x5 x6 x7 x8 p) ⟨8 + r.val, by omega⟩
    = hid (mdOf x6) (gOf x7) (woOf x8) (fun k => x0 (ix2 r k)) (fun k => x3 (ix2 r k)) := by
  have hp : k0_pay7 p (ix2 ⟨8 + r.val, by omega⟩ 0) = 1 := by
    simp only [k0_pay7]; unfold_payloads; pointwise
    have h : IntOp.cmpi CmpIPredicate.sge (BitVec.ofNat 32 (8 + r.val)) 8#32 = 1 := by
      revert r; decide +kernel
    rw [h]
    generalize IntOp.cmpi CmpIPredicate.eq (BitVec.ofNat 32 (8 + r.val)) (Scalar.select (Scalar.cmpi .sgt p 0#32) _ _) = a
    generalize IntOp.cmpi CmpIPredicate.eq (BitVec.ofNat 32 (8 + r.val)) (Scalar.select (Scalar.cmpi .slt p 0#32) _ _) = b
    revert a b; decide
  funext k
  refine (normed_at (Cert.TailIdeal.Gen.k0_pay2 x6) (mixed x0 x1 x2 x3 x4 x5 x6 x8) (k0_pay7 p) (Cert.TailIdeal.Gen.k0_pay9 x7) _
    ⟨8 + r.val, by omega⟩ k (squares_at x0 x1 x2 x3 x4 x5 x6 x8 _)).trans ?_
  rw [md_at, g_at, hp, mixed_mid]
  rfl

end

/-- The tile's place in its sequence, as the kernel computes it; which it is does not matter. -/
def place (i : BitVec 32) : BitVec 32 :=
  Scalar.select (Scalar.andi (Scalar.xori (Scalar.cmpi CmpIPredicate.slt (Scalar.remsi i 1#32) 0#32) 0#1)
    (Scalar.cmpi CmpIPredicate.ne (Scalar.remsi i 1#32) 0#32)) (Scalar.addi (Scalar.remsi i 1#32) 1#32) (Scalar.remsi i 1#32)

/-- The rows that leave, from the mixed rows and the hidden rows. -/
theorem out_at (X : FVec Ideal S520x1024 .f32) (h : FVec Ideal S520x1024 .bf16) (x6 : Vec Ideal S1x6x1024 .f32)
    (x9 : Vec Ideal S1024x5632 .bf16) (x10 : Vec Ideal S3x5632 .f32) (x11 : Vec Ideal S1x5632 .f32)
    (x12 : Vec Ideal S2816x1024 .bf16) (r : Fin 512) (n : Fin 1024) :
    k0_pay87 (F := Ideal) (k0_pay1 x6) X (fun j => actBlk h x9 x10 x11 j) x12 (ix2 r n)
      = leave (mdOf x6) (fun k c => x9 (ix2 k c)) (fun t c => x10 (ix2 t c)) (fun c => x11 (ix2 0 c))
          (fun j n => x12 (ix2 j n)) (fun k => X (ix2 ⟨8 + r.val, by omega⟩ k)) (prevRow h r)
          (hrow h ⟨8 + r.val, by omega⟩) (nextRow h r) n := by
  have e : k0_pay1 (F := Ideal) x6 (ix2 5 n) = mdOf x6 5 n := congrFun (congrFun (md_at x6) 5) n
  revert e
  generalize k0_pay1 (F := Ideal) x6 = y
  intro e
  simp only [k0_pay87]; unfold_payloads; pointwise
  rw [e]
  rfl

set_option maxHeartbeats 2000000 in
/-- The block of point `t`: the rows that leave. -/
theorem block_eq (m : (ℓ : Loc nD τ sig) → Buf (Elt Ideal) ℓ) (c : Dev nD) (t : Fin cfg0.N) :
    outsAt0 (F := Ideal) m c t =
      k0_pay87 (F := Ideal) (k0_pay1 (iblk m c 6 t))
        (mixed (iblk m c 0 t) (iblk m c 1 t) (iblk m c 2 t) (iblk m c 3 t) (iblk m c 4 t) (iblk m c 5 t) (iblk m c 6 t) (iblk m c 8 t))
        (fun j => actBlk (hidden (iblk m c 0 t) (iblk m c 1 t) (iblk m c 2 t) (iblk m c 3 t) (iblk m c 4 t) (iblk m c 5 t) (iblk m c 6 t)
          (iblk m c 7 t) (iblk m c 8 t) (place (BitVec.ofNat 32 (grid0.coords t 0).val))) (iblk m c 9 t) (iblk m c 10 t) (iblk m c 11 t) j)
        (iblk m c 12 t) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  frame_out
  rw [View.readCov_eq_canon']
  refine congrArg (fun z => k0_pay87 (F := Ideal) _ (mixed x0 x1 x2 x3 x4 x5 x6 x8) z x12) ?_
  funext j
  refine Eq.trans ?_ (canon_pieces _ _ _ _ j)
  refine congrArg₂ View.canon ?_ ?_
  · rfl
  · funext a; fin_cases a <;> apply Fin.ext
    · show 0 + 1 * (j 0).val = (j 0).val; omega
    · show 0 + 1 * (j 1).val = (j 1).val; omega

end Cert.TailCtxBlock
end
-- ==== Proof.TailCtxArray.lean ====
module

public import proofs.«01_k».proof.Proof.TailCtxBlock

/-! The context's whole output array as one function of its nine argument arrays. -/

@[expose] public section

set_option maxRecDepth 16384

noncomputable section

namespace Cert.TailCtxArray

open Idealize.ShloMosaic Idealize.ShloMosaic.TcCoe Idealize.SL.Sem
open Cert.TailCtxIdeal Cert.TailCtxIdeal.Gen Cert.TailMath Cert.TailCtxBlock
open Cert.TailBlock (hrow mdOf gOf woOf mixed mixed_mid)
open Idealize.ShloMosaic.Pipeline (Dat)

/-- The rows of sequence `b` of an array of eight sequences of 256 rows. -/
def rowsOf (a : (⟨2, ![2048, 1024]⟩ : Shape).Idx → EReal) (b : Fin 8) (s : Fin 256) (k : Fin 1024) : EReal :=
  a (ix2 ⟨256 * b.val + s.val, by omega⟩ k)

section
variable (a0 : Vec Ideal S2048x1024 .f32) (a1 : Vec Ideal S2048x1024 .bf16) (a2 : Vec Ideal S16x6x1024 .f32)
  (a3 : Vec Ideal S1024 .f32) (a4 : Vec Ideal S1024x1024 .f32) (a5 : Vec Ideal S1024x5632 .f32) (a6 : Vec Ideal S3x5632 .f32)
  (a7 : Vec Ideal S5632 .f32) (a8 : Vec Ideal S2816x1024 .f32)

/-- The block tail of sequence `b`, row `s`, of the argument arrays. -/
def tailAt (b : Fin 8) (s : Fin 256) : Fin 1024 → EReal :=
  tail (fun i k => a2 (ix3 8 i k)) (fun k => a3 (ix1 k)) (fun d k => a4 (ix2 d k)) (fun k c => a5 (ix2 k c))
    (fun t c => a6 (ix2 t c)) (fun c => a7 (ix1 c)) (fun j n => a8 (ix2 j n)) (rowsOf a0 b) (rowsOf a1 b) s

/-- The output array. -/
def result (y : S2048x1024.Idx) : EReal :=
  tailAt a0 a1 a2 a3 a4 a5 a6 a7 a8 ⟨(y 0).val / 256, by have : (y 0).val < 2048 := (y 0).isLt; omega⟩
    ⟨(y 0).val % 256, Nat.mod_lt _ (by omega)⟩ (y 1)
end

variable (m : (ℓ : Loc nD τ sig) → Buf (Elt Ideal) ℓ)

theorem point0 : ∀ t : Fin grid0.N, win0_0.index t = ![(grid0.coords t 0).val, 0] := by decide +kernel
theorem point3 : ∀ t : Fin grid0.N, win0_3.index t = ![(grid0.coords t 0).val, 0] := by decide +kernel
theorem point6 : ∀ t : Fin grid0.N, win0_6.index t = ![8, 0, 0] := by decide +kernel
theorem point7 : ∀ t : Fin grid0.N, win0_7.index t = ![0, 0] := by decide +kernel
theorem point8 : ∀ t : Fin grid0.N, win0_8.index t = ![0, 0] := by decide +kernel
theorem point9 : ∀ t : Fin grid0.N, win0_9.index t = ![0, 0] := by decide +kernel
theorem point10 : ∀ t : Fin grid0.N, win0_10.index t = ![0, 0] := by decide +kernel
theorem point11 : ∀ t : Fin grid0.N, win0_11.index t = ![0, 0] := by decide +kernel
theorem point12 : ∀ t : Fin grid0.N, win0_12.index t = ![0, 0] := by decide +kernel
theorem point13 : ∀ t : Fin grid0.N, win0_13.index t = ![(grid0.coords t 0).val, 0] := by decide +kernel

/-- The cast output weight is the weight. -/
theorem V_v0 (c : Dev nD) (d k : Fin 1024) :
    V m c main_v0 (ix2 d k) = m ((c : Thread nD τ).loc main_arg4) (ix2 d k) := by
  unfold V; after_results; rfl
/-- The cast wide weight is the weight. -/
theorem V_v1 (c : Dev nD) (d : Fin 1024) (k : Fin 5632) :
    V m c main_v1 (ix2 d k) = m ((c : Thread nD τ).loc main_arg5) (ix2 d k) := by
  unfold V; after_results; rfl
/-- The reshaped bias is the bias. -/
theorem V_v2 (c : Dev nD) (k : Fin 5632) :
    V m c main_v2 (ix2 0 k) = m ((c : Thread nD τ).loc main_arg7) (ix1 k) := by
  unfold V; after_results; pointwise
/-- The cast narrow weight is the weight. -/
theorem V_v3 (c : Dev nD) (d : Fin 2816) (k : Fin 1024) :
    V m c main_v3 (ix2 d k) = m ((c : Thread nD τ).loc main_arg8) (ix2 d k) := by
  unfold V; after_results; rfl
/-- The reshaped gain is the gain. -/
theorem V_v4 (c : Dev nD) (k : Fin 1024) :
    V m c main_v4 (ix2 0 k) = m ((c : Thread nD τ).loc main_arg3) (ix1 k) := by
  unfold V; after_results; pointwise

theorem tiles (t : Fin grid0.N) : (grid0.coords t 0).val < 4 := (grid0.coords t 0).isLt

/-- Window 0's block is the tile's rows. -/
theorem iblk0 (c : Dev nD) (t : Fin grid0.N) (r : Fin 512) (k : Fin 1024) : iblk m c 0 t (ix2 r k) = m ((c : Thread nD τ).loc main_arg0) (ix2 ⟨512 * (grid0.coords t 0).val + r.val, by have := tiles t; omega⟩ k) := by
  blk_simp [iblk]
  refine Eq.trans ?_ (congrFun (V_main_arg0 m c) (ix2 ⟨512 * (grid0.coords t 0).val + r.val, by have := tiles t; omega⟩ k))
  congr 1
  funext a
  fin_cases a <;> apply Fin.ext <;> blk_simp [point0] <;> dsimp <;> omega

/-- Window 3's block is the tile's rows of the attention. -/
theorem iblk3 (c : Dev nD) (t : Fin grid0.N) (r : Fin 512) (k : Fin 1024) : iblk m c 3 t (ix2 r k) = m ((c : Thread nD τ).loc main_arg1) (ix2 ⟨512 * (grid0.coords t 0).val + r.val, by have := tiles t; omega⟩ k) := by
  blk_simp [iblk]
  refine Eq.trans ?_ (congrFun (V_main_arg1 m c) (ix2 ⟨512 * (grid0.coords t 0).val + r.val, by have := tiles t; omega⟩ k))
  congr 1
  funext a
  fin_cases a <;> apply Fin.ext <;> blk_simp [point3] <;> dsimp <;> omega

/-- Window 6's block is the context's modulation. -/
theorem iblk6 (c : Dev nD) (t : Fin grid0.N) (i : Fin 6) (k : Fin 1024) : iblk m c 6 t (ix3 0 i k) = m ((c : Thread nD τ).loc main_arg2) (ix3 8 i k) := by
  blk_simp [iblk]
  refine Eq.trans ?_ (congrFun (V_main_arg2 m c) (ix3 8 i k))
  congr 1
  funext a
  fin_cases a <;> apply Fin.ext <;> blk_simp [point6] <;> dsimp <;> omega

/-- Window 7's block is the norm's gain. -/
theorem iblk7 (c : Dev nD) (t : Fin grid0.N) (k : Fin 1024) : iblk m c 7 t (ix2 0 k) = m ((c : Thread nD τ).loc main_arg3) (ix1 k) := by
  blk_simp [iblk]
  refine Eq.trans ?_ (V_v4 m c k)
  congr 1
  funext a
  fin_cases a <;> apply Fin.ext <;> blk_simp [point7] <;> dsimp <;> omega

/-- Window 8's block is the output weight. -/
theorem iblk8 (c : Dev nD) (t : Fin grid0.N) (d k : Fin 1024) : iblk m c 8 t (ix2 d k) = m ((c : Thread nD τ).loc main_arg4) (ix2 d k) := by
  blk_simp [iblk]
  refine Eq.trans ?_ (V_v0 m c d k)
  congr 1
  funext a
  fin_cases a <;> apply Fin.ext <;> blk_simp [point8] <;> dsimp <;> omega

/-- Window 9's block is the wide weight. -/
theorem iblk9 (c : Dev nD) (t : Fin grid0.N) (d : Fin 1024) (k : Fin 5632) : iblk m c 9 t (ix2 d k) = m ((c : Thread nD τ).loc main_arg5) (ix2 d k) := by
  blk_simp [iblk]
  refine Eq.trans ?_ (V_v1 m c d k)
  congr 1
  funext a
  fin_cases a <;> apply Fin.ext <;> blk_simp [point9] <;> dsimp <;> omega

/-- Window 10's block is the convolution's weight. -/
theorem iblk10 (c : Dev nD) (t : Fin grid0.N) (d : Fin 3) (k : Fin 5632) : iblk m c 10 t (ix2 d k) = m ((c : Thread nD τ).loc main_arg6) (ix2 d k) := by
  blk_simp [iblk]
  refine Eq.trans ?_ (congrFun (V_main_arg6 m c) (ix2 d k))
  congr 1
  funext a
  fin_cases a <;> apply Fin.ext <;> blk_simp [point10] <;> dsimp <;> omega

/-- Window 11's block is the convolution's bias. -/
theorem iblk11 (c : Dev nD) (t : Fin grid0.N) (k : Fin 5632) : iblk m c 11 t (ix2 0 k) = m ((c : Thread nD τ).loc main_arg7) (ix1 k) := by
  blk_simp [iblk]
  refine Eq.trans ?_ (V_v2 m c k)
  congr 1
  funext a
  fin_cases a <;> apply Fin.ext <;> blk_simp [point11] <;> dsimp <;> omega

/-- Window 12's block is the narrow weight. -/
theorem iblk12 (c : Dev nD) (t : Fin grid0.N) (d : Fin 2816) (k : Fin 1024) : iblk m c 12 t (ix2 d k) = m ((c : Thread nD τ).loc main_arg8) (ix2 d k) := by
  blk_simp [iblk]
  refine Eq.trans ?_ (V_v3 m c d k)
  congr 1
  funext a
  fin_cases a <;> apply Fin.ext <;> blk_simp [point12] <;> dsimp <;> omega

section
variable (md : Fin 6 → Fin 1024 → EReal) (g : Fin 1024 → EReal) (wo : Fin 1024 → Fin 1024 → EReal)
  (X O : Fin 8 → Fin 256 → Fin 1024 → EReal) (h : FVec Ideal S520x1024 .bf16) (i : Fin 4)
  (hm : ∀ r : Fin 512, hrow h ⟨8 + r.val, by omega⟩
    = hid md g wo (X ⟨2 * i.val + r.val / 256, by omega⟩ ⟨r.val % 256, Nat.mod_lt _ (by omega)⟩)
        (O ⟨2 * i.val + r.val / 256, by omega⟩ ⟨r.val % 256, Nat.mod_lt _ (by omega)⟩))
include hm

/-- The hidden row itself is its sequence's. -/
theorem mid_eq (r : Fin 512) : hrow h ⟨8 + r.val, by omega⟩
    = padded md g wo (X ⟨2 * i.val + r.val / 256, by omega⟩) (O ⟨2 * i.val + r.val / 256, by omega⟩) (r.val % 256 + 1) :=
  (hm r).trans (padded_mid md g wo _ _ ⟨r.val % 256, Nat.mod_lt _ (by omega)⟩).symm

/-- The row ahead of it is its sequence's, zero ahead of the first. -/
theorem prev_eq (r : Fin 512) : prevRow h r
    = padded md g wo (X ⟨2 * i.val + r.val / 256, by omega⟩) (O ⟨2 * i.val + r.val / 256, by omega⟩) (r.val % 256) := by
  by_cases hr : r.val % 256 = 0
  · rw [hr, padded_out _ _ _ _ _ _ (by omega)]
    funext k; rw [prevRow, if_pos hr]
  · have e : prevRow h r = hrow h ⟨8 + (r.val - 1), by omega⟩ := by
      funext k; rw [prevRow, if_neg hr]; congr 2; omega
    rw [e]
    refine (mid_eq md g wo X O h i hm ⟨r.val - 1, by omega⟩).trans ?_
    congr 1
    · congr 1; apply Fin.ext; dsimp only; omega
    · congr 1; apply Fin.ext; dsimp only; omega
    · dsimp only; omega

/-- The row after it is its sequence's, zero after the last. -/
theorem next_eq (r : Fin 512) : nextRow h r
    = padded md g wo (X ⟨2 * i.val + r.val / 256, by omega⟩) (O ⟨2 * i.val + r.val / 256, by omega⟩) (r.val % 256 + 2) := by
  by_cases hr : r.val % 256 = 255
  · rw [hr, padded_out _ _ _ _ _ _ (by omega)]
    funext k; rw [nextRow, if_pos hr]
  · have e : nextRow h r = hrow h ⟨8 + (r.val + 1), by omega⟩ := by
      funext k; rw [nextRow, if_neg hr]; congr 2; omega
    rw [e]
    refine (mid_eq md g wo X O h i hm ⟨r.val + 1, by omega⟩).trans ?_
    congr 1
    · congr 1; apply Fin.ext; dsimp only; omega
    · congr 1; apply Fin.ext; dsimp only; omega
    · dsimp only; omega
end

/-- The rows that leave a tile, from blocks that hold the tile's part of the arrays. -/
theorem rows_at (a0 : Vec Ideal S2048x1024 .f32) (a1 : Vec Ideal S2048x1024 .bf16) (a2 : Vec Ideal S16x6x1024 .f32)
    (a3 : Vec Ideal S1024 .f32) (a4 : Vec Ideal S1024x1024 .f32) (a5 : Vec Ideal S1024x5632 .f32) (a6 : Vec Ideal S3x5632 .f32)
    (a7 : Vec Ideal S5632 .f32) (a8 : Vec Ideal S2816x1024 .f32)
    (x0 : Vec Ideal S512x1024 .f32) (x1 x2 : Vec Ideal S8x1024 .f32) (x3 : Vec Ideal S512x1024 .bf16)
    (x4 x5 : Vec Ideal S16x1024 .bf16) (x6 : Vec Ideal S1x6x1024 .f32) (x7 : Vec Ideal S1x1024 .f32)
    (x8 : Vec Ideal S1024x1024 .bf16) (x9 : Vec Ideal S1024x5632 .bf16) (x10 : Vec Ideal S3x5632 .f32)
    (x11 : Vec Ideal S1x5632 .f32) (x12 : Vec Ideal S2816x1024 .bf16) (p : BitVec 32) (i : Fin 4)
    (h0 : ∀ (r : Fin 512) k, x0 (ix2 r k) = a0 (ix2 ⟨512 * i.val + r.val, by omega⟩ k))
    (h3 : ∀ (r : Fin 512) k, x3 (ix2 r k) = a1 (ix2 ⟨512 * i.val + r.val, by omega⟩ k))
    (h6 : ∀ j k, x6 (ix3 0 j k) = a2 (ix3 8 j k)) (h7 : ∀ k, x7 (ix2 0 k) = a3 (ix1 k))
    (h8 : ∀ d k, x8 (ix2 d k) = a4 (ix2 d k)) (h9 : ∀ d k, x9 (ix2 d k) = a5 (ix2 d k)) (h10 : ∀ d k, x10 (ix2 d k) = a6 (ix2 d k))
    (h11 : ∀ k, x11 (ix2 0 k) = a7 (ix1 k)) (h12 : ∀ d k, x12 (ix2 d k) = a8 (ix2 d k)) (r : Fin 512) (n : Fin 1024) :
    k0_pay87 (F := Ideal) (k0_pay1 x6) (mixed x0 x1 x2 x3 x4 x5 x6 x8)
        (fun j => actBlk (hidden x0 x1 x2 x3 x4 x5 x6 x7 x8 p) x9 x10 x11 j) x12 (ix2 r n) =
      tailAt a0 a1 a2 a3 a4 a5 a6 a7 a8 ⟨2 * i.val + r.val / 256, by omega⟩ ⟨r.val % 256, Nat.mod_lt _ (by omega)⟩ n := by
  rw [out_at]
  have e6 : mdOf x6 = fun j k => a2 (ix3 8 j k) := by funext j k; exact h6 j k
  have e7 : gOf x7 = fun k => a3 (ix1 k) := by funext k; exact h7 k
  have e8 : woOf x8 = fun d k => a4 (ix2 d k) := by funext d k; exact h8 d k
  have e0 : ∀ r : Fin 512, (fun k => x0 (ix2 r k))
      = rowsOf a0 ⟨2 * i.val + r.val / 256, by omega⟩ ⟨r.val % 256, Nat.mod_lt _ (by omega)⟩ :=
    fun r => by funext k; refine (h0 r k).trans ?_; unfold rowsOf; congr 2; apply Fin.ext; dsimp only; omega
  have e3 : ∀ r : Fin 512, (fun k => x3 (ix2 r k))
      = rowsOf a1 ⟨2 * i.val + r.val / 256, by omega⟩ ⟨r.val % 256, Nat.mod_lt _ (by omega)⟩ :=
    fun r => by funext k; refine (h3 r k).trans ?_; unfold rowsOf; congr 2; apply Fin.ext; dsimp only; omega
  have hm : ∀ r : Fin 512, hrow (hidden x0 x1 x2 x3 x4 x5 x6 x7 x8 p) ⟨8 + r.val, by omega⟩
      = hid (fun j k => a2 (ix3 8 j k)) (fun k => a3 (ix1 k)) (fun d k => a4 (ix2 d k))
          (rowsOf a0 ⟨2 * i.val + r.val / 256, by omega⟩ ⟨r.val % 256, Nat.mod_lt _ (by omega)⟩)
          (rowsOf a1 ⟨2 * i.val + r.val / 256, by omega⟩ ⟨r.val % 256, Nat.mod_lt _ (by omega)⟩) :=
    fun r => by rw [hidden_mid, e6, e7, e8, e0, e3]
  rw [prev_eq _ _ _ (rowsOf a0) (rowsOf a1) _ i hm, mid_eq _ _ _ (rowsOf a0) (rowsOf a1) _ i hm,
    next_eq _ _ _ (rowsOf a0) (rowsOf a1) _ i hm, mixed_mid, e6, e8, e0, e3]
  have e9 : (fun k c => x9 (ix2 k c)) = fun (k : Fin 1024) (c : Fin 5632) => a5 (ix2 k c) := by funext k c; exact h9 k c
  have e10 : (fun k c => x10 (ix2 k c)) = fun (k : Fin 3) (c : Fin 5632) => a6 (ix2 k c) := by funext k c; exact h10 k c
  have e11 : (fun c => x11 (ix2 0 c)) = fun (c : Fin 5632) => a7 (ix1 c) := by funext c; exact h11 c
  have e12 : (fun k c => x12 (ix2 k c)) = fun (k : Fin 2816) (c : Fin 1024) => a8 (ix2 k c) := by funext k c; exact h12 k c
  rw [e9, e10, e11, e12]
  rfl

/-- The tile's output, row by row. -/
theorem block_at (c : Dev nD) (t : Fin cfg0.N) (r : Fin 512) (n : Fin 1024) :
    outsAt0 (F := Ideal) m c t (ix2 r n) =
      tailAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        ⟨2 * (grid0.coords t 0).val + r.val / 256, by have := tiles t; omega⟩
        ⟨r.val % 256, Nat.mod_lt _ (by omega)⟩ n := by
  rw [block_eq]
  exact rows_at _ _ _ _ _ _ _ _ _ _ _ _ _ _ _ _ _ _ _ _ _ _ _ ⟨(grid0.coords t 0).val, tiles t⟩ (iblk0 m c t)
    (iblk3 m c t) (iblk6 m c t) (iblk7 m c t) (iblk8 m c t) (iblk9 m c t)
    (iblk10 m c t) (iblk11 m c t) (iblk12 m c t) r n

/-- The kernel's output array is `result` of its arguments. -/
theorem final (c : Dev nD) :
    (dats m 0 c).arrAt 13 cfg0.N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 13 _ (by decide +kernel) fun t hf y => ?_
  blk_simp
  rw [after0_13]
  change (⟨2, ![512, 1024]⟩ : Shape).Idx at y
  idx_vars y
  refine (block_at m c t y0 y1).trans ?_
  have ht := tiles t
  have h0 : y0.val < 512 := y0.isLt
  unfold result
  congr 1 <;> apply Fin.ext <;> blk_simp [point13] <;> dsimp <;> omega

end Cert.TailCtxArray
end
-- ==== Proof.TailCtxRef.lean ====
module

public import proofs.«01_k».proof.Proof.TailCtxArray
public import proofs.«01_k».proof.Proof.Gen.TailCtxRefIdeal.Run
public import proofs.«01_k».proof.Proof.Gen.TailCtxRefIdeal.Read
public import Idealize.ShloMosaic.Lib.Pointwise

/-! The context's reference's output array, operation by operation, is the same function of its arguments. -/

@[expose] public section

set_option maxRecDepth 2048

noncomputable section

namespace Cert.TailCtxRef

open Idealize.ShloMosaic
open Cert.TailCtxRefIdeal Cert.TailCtxRefIdeal.Gen Cert.TailCtxRefIdeal.Read Cert.TailMath Cert.TailCtxArray

variable (a0 : Vec Ideal S2048x1024 .f32) (a1 : Vec Ideal S2048x1024 .bf16) (a2 : Vec Ideal S16x6x1024 .f32)
  (a3 : Vec Ideal S1024 .f32) (a4 : Vec Ideal S1024x1024 .f32) (a5 : Vec Ideal S1024x5632 .f32) (a6 : Vec Ideal S3x5632 .f32)
  (a7 : Vec Ideal S5632 .f32) (a8 : Vec Ideal S2816x1024 .f32)

/-- The context's modulation rows. -/
abbrev mdR (i : Fin 6) (k : Fin 1024) : EReal := a2 (ix3 8 i k)
/-- The output weight. -/
abbrev woR (d k : Fin 1024) : EReal := a4 (ix2 d k)
/-- The norm's gain. -/
abbrev gR (k : Fin 1024) : EReal := a3 (ix1 k)
/-- The wide weight. -/
abbrev wuR (k : Fin 1024) (c : Fin 5632) : EReal := a5 (ix2 k c)
/-- The convolution's weight. -/
abbrev cwR (t : Fin 3) (c : Fin 5632) : EReal := a6 (ix2 t c)
/-- The convolution's bias. -/
abbrev cbR (c : Fin 5632) : EReal := a7 (ix1 c)
/-- The narrow weight. -/
abbrev wdR (j : Fin 2816) (n : Fin 1024) : EReal := a8 (ix2 j n)

theorem x0_at (b : Fin 8) (s : Fin 256) (k : Fin 1024) : val_main_v0 (F := Ideal) a0 (ix3 b s k) = rowsOf a0 b s k := by
  unfold val_main_v0 rowsOf; pointwise
  congr 2; apply Fin.ext; dsimp; omega

theorem o2_at (b : Fin 8) (s : Fin 256) (k : Fin 1024) : val_main_v2 (F := Ideal) a1 (ix3 b s k) = rowsOf a1 b s k := by
  unfold val_main_v2 val_main_v1 rowsOf; pointwise
  congr 2; apply Fin.ext; dsimp; omega

theorem o3_at (b : Fin 8) (s : Fin 256) (k : Fin 1024) :
    val_main_v3 (F := Ideal) a1 a4 (ix3 b s k) = ∑ d, rowsOf a1 b s d * woR a4 d k := by
  simp only [← o2_at]
  unfold val_main_v3
  generalize val_main_v2 (F := Ideal) a1 = y
  pointwise

/-- The context's modulation rows. -/
theorem m5 (i : Fin 6) (k : Fin 1024) : val_main_v5 (F := Ideal) a2 (ix2 i k) = mdR a2 i k := by
  unfold val_main_v5 val_main_v4; pointwise
theorem m22 (b : Fin 8) (s : Fin 256) (k : Fin 1024) : val_main_v9 (F := Ideal) a2 (ix3 b s k) = mdR a2 2 k := by
  rw [← m5]; unfold val_main_v9 val_main_v8 val_main_v7 val_main_v6; generalize val_main_v5 (F := Ideal) a2 = y; pointwise
theorem m42 (b : Fin 8) (s : Fin 256) (k : Fin 1024) : val_main_v35 (F := Ideal) a2 (ix3 b s k) = mdR a2 3 k := by
  rw [← m5]; unfold val_main_v35 val_main_v34 val_main_v33 val_main_v32; generalize val_main_v5 (F := Ideal) a2 = y; pointwise
theorem m40 (b : Fin 8) (s : Fin 256) (k : Fin 1024) : val_main_v30 (F := Ideal) a2 (ix3 b s k) = 1 + mdR a2 4 k := by
  rw [← m5]
  unfold val_main_v30 val_main_v29 val_main_v28 val_main_v27 val_main_v26 val_main_v25 val_main_cst_2
  generalize val_main_v5 (F := Ideal) a2 = y
  pointwise
theorem m74 (b : Fin 8) (s : Fin 256) (k : Fin 1024) : val_main_v70 (F := Ideal) a2 (ix3 b s k) = mdR a2 5 k := by
  rw [← m5]; unfold val_main_v70 val_main_v69 val_main_v38 val_main_v37; generalize val_main_v5 (F := Ideal) a2 = y; pointwise
theorem g36 (b : Fin 8) (s : Fin 256) (k : Fin 1024) : val_main_v23 (F := Ideal) a3 (ix3 b s k) = gR a3 k := by
  unfold val_main_v23 val_main_v22; pointwise

/-- The row after the attention. -/
abbrev mixR (b : Fin 8) (s : Fin 256) : Fin 1024 → EReal := mix (mdR a2) (woR a4) (rowsOf a0 b s) (rowsOf a1 b s)

theorem x24 (b : Fin 8) (s : Fin 256) (k : Fin 1024) : val_main_v11 (F := Ideal) a0 a1 a2 a4 (ix3 b s k) = mixR a0 a1 a2 a4 b s k := by
  rw [val_main_v11_apply, val_main_v10_apply, x0_at, m22, o3_at]; rfl

theorem q26 (b : Fin 8) (s : Fin 256) : val_main_v13 (F := Ideal) a0 a1 a2 a4 (ix2 b s)
    = ∑ j, mixR a0 a1 a2 a4 b s j * mixR a0 a1 a2 a4 b s j := by
  simp only [← x24]
  unfold val_main_v13 val_main_v12 val_main_cst
  generalize val_main_v11 (F := Ideal) a0 a1 a2 a4 = y
  pointwise

theorem r33 (b : Fin 8) (s : Fin 256) (k : Fin 1024) : val_main_v20 (F := Ideal) a0 a1 a2 a4 (ix3 b s k)
    = Ideal.rsqrt (Ideal.div (∑ j, mixR a0 a1 a2 a4 b s j * mixR a0 a1 a2 a4 b s j) (Ideal.ofBits FTy.f32 0x44800000#32)
      + Ideal.ofBits FTy.f32 0x358637BD#32) := by
  rw [← q26]
  unfold val_main_v20 val_main_v19 val_main_v18 val_main_v16 val_main_v14 val_main_v15 val_main_cst_0 val_main_v17 val_main_cst_1
  generalize val_main_v13 (F := Ideal) a0 a1 a2 a4 = y
  pointwise

/-- The hidden row. -/
abbrev hidR (b : Fin 8) (s : Fin 256) : Fin 1024 → EReal :=
  hid (mdR a2) (gR a3) (woR a4) (rowsOf a0 b s) (rowsOf a1 b s)

theorem h43 (b : Fin 8) (s : Fin 256) (k : Fin 1024) :
    val_main_v36 (F := Ideal) a0 a1 a2 a3 a4 (ix3 b s k) = hidR a0 a1 a2 a3 a4 b s k := by
  rw [val_main_v36_apply, val_main_v31_apply, val_main_v24_apply, val_main_v21_apply, m42, m40, g36, r33, x24]
  rfl

theorem u44 (b : Fin 8) (s : Fin 256) (c : Fin 5632) :
    val_main_v39 (F := Ideal) a0 a1 a2 a3 a4 a5 (ix3 b s c) = up (wuR a5) (hidR a0 a1 a2 a3 a4 b s) c := by
  unfold up
  simp only [← h43]
  unfold val_main_v39
  generalize val_main_v36 (F := Ideal) a0 a1 a2 a3 a4 = y
  pointwise

/-- The hidden rows with zeros around them. -/
abbrev padR (b : Fin 8) (i : ℕ) : Fin 1024 → EReal := padded (mdR a2) (gR a3) (woR a4) (rowsOf a0 b) (rowsOf a1 b) i

theorem u45 (b : Fin 8) (i : Fin 258) (c : Fin 5632) :
    val_main_v40 (F := Ideal) a0 a1 a2 a3 a4 a5 (ix3 b i c) = up (wuR a5) (padR a0 a1 a2 a3 a4 b i.val) c := by
  have hh : val_main_v40 (F := Ideal) a0 a1 a2 a3 a4 a5 (ix3 b i c)
      = if h : 1 ≤ i.val ∧ i.val ≤ 256 then val_main_v39 (F := Ideal) a0 a1 a2 a3 a4 a5 (ix3 b ⟨i.val - 1, by omega⟩ c) else 0 := by
    unfold val_main_v40 val_main_call0_v0 val_main_c
    generalize val_main_v39 (F := Ideal) a0 a1 a2 a3 a4 a5 = y
    pointwise
    have hz : (FloatOps.sitofp FTy.f32 (0#32) : Ideal FTy.f32) = (0 : EReal) := by
      simp [FloatOps.sitofp]
    rw [hz]
    by_cases h : 1 ≤ i.val ∧ i.val ≤ 256
    · rw [dif_pos h, dif_pos ⟨h.1, by omega⟩]
    · rw [dif_neg h, dif_neg (by omega)]
  rw [hh]
  by_cases h : 1 ≤ i.val ∧ i.val ≤ 256
  · rw [dif_pos h, u44]
    congr 1
    refine (padded_mid _ _ _ _ _ ⟨i.val - 1, by omega⟩).symm.trans ?_
    show padded _ _ _ _ _ (i.val - 1 + 1) = _
    rw [Nat.sub_add_cancel h.1]
  · rw [dif_neg h, padR, padded_out _ _ _ _ _ _ h, up_zero]

theorem u46 (b : Fin 8) (s : Fin 256) (c : Fin 5632) : val_main_v41 (F := Ideal) a0 a1 a2 a3 a4 a5 (ix3 b s c)
    = val_main_v40 (F := Ideal) a0 a1 a2 a3 a4 a5 (ix3 b ⟨s.val, by omega⟩ c) := by
  unfold val_main_v41; generalize val_main_v40 (F := Ideal) a0 a1 a2 a3 a4 a5 = y; pointwise
theorem u55 (b : Fin 8) (s : Fin 256) (c : Fin 5632) : val_main_v50 (F := Ideal) a0 a1 a2 a3 a4 a5 (ix3 b s c)
    = val_main_v40 (F := Ideal) a0 a1 a2 a3 a4 a5 (ix3 b ⟨s.val + 1, by omega⟩ c) := by
  unfold val_main_v50; generalize val_main_v40 (F := Ideal) a0 a1 a2 a3 a4 a5 = y; pointwise
  congr 2; apply Fin.ext; dsimp; omega
theorem u62 (b : Fin 8) (s : Fin 256) (c : Fin 5632) : val_main_v57 (F := Ideal) a0 a1 a2 a3 a4 a5 (ix3 b s c)
    = val_main_v40 (F := Ideal) a0 a1 a2 a3 a4 a5 (ix3 b ⟨s.val + 2, by omega⟩ c) := by
  unfold val_main_v57; generalize val_main_v40 (F := Ideal) a0 a1 a2 a3 a4 a5 = y; pointwise
  congr 2; apply Fin.ext; dsimp; omega

theorem w50 (b : Fin 8) (s : Fin 256) (c : Fin 5632) : val_main_v45 (F := Ideal) a6 (ix3 b s c) = cwR a6 0 c := by
  unfold val_main_v45 val_main_v44 val_main_v43 val_main_v42; pointwise
theorem w59 (b : Fin 8) (s : Fin 256) (c : Fin 5632) : val_main_v54 (F := Ideal) a6 (ix3 b s c) = cwR a6 1 c := by
  unfold val_main_v54 val_main_v53 val_main_v52 val_main_v51; pointwise
theorem w66 (b : Fin 8) (s : Fin 256) (c : Fin 5632) : val_main_v61 (F := Ideal) a6 (ix3 b s c) = cwR a6 2 c := by
  unfold val_main_v61 val_main_v60 val_main_v59 val_main_v58; pointwise
theorem b53 (b : Fin 8) (s : Fin 256) (c : Fin 5632) : val_main_v48 (F := Ideal) a7 (ix3 b s c) = cbR a7 c := by
  unfold val_main_v48 val_main_v47; pointwise

/-- The convolution. -/
theorem c68 (b : Fin 8) (s : Fin 256) (c : Fin 5632) : val_main_v63 (F := Ideal) a0 a1 a2 a3 a4 a5 a6 a7 (ix3 b s c)
    = conv (wuR a5) (cwR a6) (cbR a7) (padR a0 a1 a2 a3 a4 b s.val) (padR a0 a1 a2 a3 a4 b (s.val + 1))
        (padR a0 a1 a2 a3 a4 b (s.val + 2)) c := by
  rw [val_main_v63_apply, val_main_v56_apply, val_main_v49_apply, val_main_v46_apply, val_main_v55_apply, val_main_v62_apply,
    u46, u55, u62, u45, u45, u45, w50, w59, w66, b53]
  rfl

theorem c69 (b : Fin 8) (s : Fin 256) (j : Fin 2816) : val_main_v64 (F := Ideal) a0 a1 a2 a3 a4 a5 a6 a7 (ix3 b s j)
    = val_main_v63 (F := Ideal) a0 a1 a2 a3 a4 a5 a6 a7 (ix3 b s ⟨j.val, by omega⟩) := by
  unfold val_main_v64; generalize val_main_v63 (F := Ideal) a0 a1 a2 a3 a4 a5 a6 a7 = y; pointwise
theorem c70 (b : Fin 8) (s : Fin 256) (j : Fin 2816) : val_main_v65 (F := Ideal) a0 a1 a2 a3 a4 a5 a6 a7 (ix3 b s j)
    = val_main_v63 (F := Ideal) a0 a1 a2 a3 a4 a5 a6 a7 (ix3 b s ⟨2816 + j.val, by omega⟩) := by
  unfold val_main_v65; generalize val_main_v63 (F := Ideal) a0 a1 a2 a3 a4 a5 a6 a7 = y; pointwise

theorem l5 (b : Fin 8) (s : Fin 256) (j : Fin 2816) : val_main_call1_v5 (F := Ideal) a0 a1 a2 a3 a4 a5 a6 a7 (ix3 b s j)
    = Ideal.div 1 (1 + Ideal.exp (-val_main_v64 (F := Ideal) a0 a1 a2 a3 a4 a5 a6 a7 (ix3 b s j))) := by
  unfold val_main_call1_v5 val_main_call1_v4 val_main_call1_cst_0 val_main_call1_v3 val_main_call1_v2 val_main_call1_cst
    val_main_call1_v1 val_main_call1_v0
  generalize val_main_v64 (F := Ideal) a0 a1 a2 a3 a4 a5 a6 a7 = y
  pointwise

/-- The activation. -/
theorem t72 (b : Fin 8) (s : Fin 256) (j : Fin 2816) : val_main_v67 (F := Ideal) a0 a1 a2 a3 a4 a5 a6 a7 (ix3 b s j)
    = act (wuR a5) (cwR a6) (cbR a7) (padR a0 a1 a2 a3 a4 b s.val) (padR a0 a1 a2 a3 a4 b (s.val + 1))
        (padR a0 a1 a2 a3 a4 b (s.val + 2)) j := by
  rw [val_main_v67_apply, val_main_v66_apply, l5, c69, c70, c68, c68]
  show _ * Ideal.div 1 _ * _ = _
  rw [mul_logistic]
  rfl

theorem d73 (b : Fin 8) (s : Fin 256) (n : Fin 1024) : val_main_v68 (F := Ideal) a0 a1 a2 a3 a4 a5 a6 a7 a8 (ix3 b s n)
    = ∑ j, act (wuR a5) (cwR a6) (cbR a7) (padR a0 a1 a2 a3 a4 b s.val) (padR a0 a1 a2 a3 a4 b (s.val + 1))
        (padR a0 a1 a2 a3 a4 b (s.val + 2)) j * wdR a8 j n := by
  simp only [← t72]
  unfold val_main_v68
  generalize val_main_v67 (F := Ideal) a0 a1 a2 a3 a4 a5 a6 a7 = y
  pointwise

theorem x76 (b : Fin 8) (s : Fin 256) (n : Fin 1024) : val_main_v72 (F := Ideal) a0 a1 a2 a3 a4 a5 a6 a7 a8 (ix3 b s n)
    = tailAt a0 a1 a2 a3 a4 a5 a6 a7 a8 b s n := by
  rw [val_main_v72_apply, val_main_v71_apply, m74, d73, x24]
  rfl

/-- The reference's output array is `result` of its arguments. -/
theorem result_eq : val_main_v73 (F := Ideal) a0 a1 a2 a3 a4 a5 a6 a7 a8 = result a0 a1 a2 a3 a4 a5 a6 a7 a8 := by
  funext y
  change (⟨2, ![2048, 1024]⟩ : Shape).Idx at y
  idx_vars y
  refine Eq.trans ?_ (x76 a0 a1 a2 a3 a4 a5 a6 a7 a8 ⟨y0.val / 256, by omega⟩ ⟨y0.val % 256, Nat.mod_lt _ (by omega)⟩ y1)
  unfold val_main_v73
  generalize val_main_v72 (F := Ideal) a0 a1 a2 a3 a4 a5 a6 a7 a8 = z
  pointwise

end Cert.TailCtxRef
end
-- ==== Proof.TailCtxClaims.lean ====
module

public import proofs.«01_k».proof.Defs
public import proofs.«01_k».proof.Proof.Gen.TailCtx.Frame
public import proofs.«01_k».proof.Proof.TailCtxRef

/-! The claims about the context's block tail. -/

@[expose] public section

set_option maxRecDepth 16384

noncomputable section

namespace Cert.TailCtxClaims

open Idealize.ShloMosaic Idealize.ShloMosaic.TcCoe Idealize.SL.Sem

/-- The context's block tail as written runs to its end and leaves its arguments as they were. -/
theorem frame_p : Cert.quiescent_TailCtx := fun m ρ _ => Cert.TailCtx.Gen.frame m ρ

/-- So does the context's block tail read at the extended reals. -/
theorem frame_pi : Cert.quiescent_TailCtxIdeal := fun m ρ _ => Cert.TailCtxIdeal.Gen.frame m ρ

/-- Its reference runs to its end and leaves its arguments as they were. -/
theorem frame_ri : Cert.quiescent_TailCtxRefIdeal := fun m ρ _ =>
  (θ_run _ _ _).mono (fun r h => ⟨fun c => (h c).2, sem_eq_zero_of_no_sems (by decide) r.2⟩)
    (Cert.TailCtxRefIdeal.Value.run m ρ)

section
open Cert.TailCtxIdeal Cert.TailCtxIdeal.Gen Cert.TailCtxArray

/-- The context's block tail runs, ends with `result` of its arguments in the output, and leaves the arguments alone. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run _ _ _).mono (fun _ hr c => ⟨(hr c).1.trans (final m c), (hr c).2⟩)
    (Cert.TailCtxIdeal.Value.run_blocks m ρ)
end

/-- The context's block tail and its reference end with equal results. -/
theorem algebraic : Cert.algebraic_TailCtxIdeal_TailCtxRefIdeal := by
  intro m ρ m' ρ' _ hag
  refine ⟨_, kernel_run m ρ, (θ_run _ _ _).mono (fun r h c => ⟨(h c).1.trans ?_, (h c).2⟩) (Cert.TailCtxRefIdeal.Value.run m' ρ')⟩
  obtain ⟨e0, e1, e2, e3, e4, e5, e6, e7, e8⟩ := hag c
  rw [Cert.TailCtxRefIdeal.Read.val_main_v73_eq, e0, e1, e2, e3, e4, e5, e6, e7, e8]
  exact TailCtxRef.result_eq _ _ _ _ _ _ _ _ _

end Cert.TailCtxClaims
end
-- ==== Proof.lean ====
module

public import proofs.«01_k».proof.Defs
public import proofs.«01_k».proof.Proof.AttnAClaims
public import proofs.«01_k».proof.Proof.ProjAClaims
public import proofs.«01_k».proof.Proof.AttnCClaims
public import proofs.«01_k».proof.Proof.AttnDClaims
public import proofs.«01_k».proof.Proof.TailClaims
public import proofs.«01_k».proof.Proof.TailFinalClaims
public import proofs.«01_k».proof.Proof.TailCtxClaims

/-! The certificate: every claim, and the side conditions the programs state. -/

@[expose] public section

noncomputable section

namespace Cert.Proof

open Idealize.ShloMosaic Idealize.SL.Sem

/-- All the claims together. -/
theorem claim : Cert.Claim := ⟨Cert.AttnC.Gen.facts, Cert.AttnCIdeal.Gen.facts, Cert.AttnCRefIdeal.Gen.facts,
  Cert.AttnD.Gen.facts, Cert.AttnDIdeal.Gen.facts, Cert.AttnDRefIdeal.Gen.facts,
  Cert.Tail.Gen.facts, Cert.TailIdeal.Gen.facts, Cert.TailRefIdeal.Gen.facts,
  Cert.TailFinal.Gen.facts, Cert.TailFinalIdeal.Gen.facts, Cert.TailFinalRefIdeal.Gen.facts,
  Cert.TailCtx.Gen.facts, Cert.TailCtxIdeal.Gen.facts, Cert.TailCtxRefIdeal.Gen.facts,
  Cert.AttnA.Gen.facts, Cert.AttnAIdeal.Gen.facts, Cert.AttnARefIdeal.Gen.facts,
  Cert.ProjA.Gen.facts, Cert.ProjAIdeal.Gen.facts, Cert.ProjARefIdeal.Gen.facts,
  Cert.AttnCClaims.preFacts, Cert.AttnDClaims.preFacts, Cert.AttnAClaims.preFacts,
  AttnCClaims.frame_p, AttnCClaims.frame_pi, AttnCClaims.frame_pi_pre, AttnCClaims.frame_ri, AttnCClaims.frame_ri_pre,
  AttnDClaims.frame_p, AttnDClaims.frame_pi, AttnDClaims.frame_pi_pre, AttnDClaims.frame_ri, AttnDClaims.frame_ri_pre,
  TailClaims.frame_p, TailClaims.frame_pi, TailClaims.frame_ri,
  TailFinalClaims.frame_p, TailFinalClaims.frame_pi, TailFinalClaims.frame_ri,
  TailCtxClaims.frame_p, TailCtxClaims.frame_pi, TailCtxClaims.frame_ri,
  AttnAClaims.frame_p, AttnAClaims.frame_pi, AttnAClaims.frame_pi_pre, AttnAClaims.frame_ri, AttnAClaims.frame_ri_pre,
  ProjAClaims.frame_p, ProjAClaims.frame_pi, ProjAClaims.frame_ri,
  trivial, AttnCClaims.algebraic, trivial, AttnDClaims.algebraic, trivial, TailClaims.algebraic,
  trivial, TailFinalClaims.algebraic, trivial, TailCtxClaims.algebraic,
  trivial, AttnAClaims.algebraic,
  trivial, ProjAClaims.algebraic⟩

end Cert.Proof

end
